-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Near (m : (ℓ : Loc Cert.Near.nD Cert.Near.τ Cert.Near.sig) → Buf (Elt Bits) ℓ) : Prop :=
  True

def Pre_NearIdeal (m : (ℓ : Loc Cert.NearIdeal.nD Cert.NearIdeal.τ Cert.NearIdeal.sig) → Buf (Elt Ideal) ℓ) : Prop :=
  True

def Pre_NearReferenceIdeal (m : (ℓ : Loc Cert.NearReferenceIdeal.nD Cert.NearReferenceIdeal.τ Cert.NearReferenceIdeal.sig) → Buf (Elt Ideal) ℓ) : Prop :=
  True

def Pre_Gather [hPre_rows_in_table : Cert.Pre_rows_in_table.Facts] (m : (ℓ : Loc Cert.Gather.nD Cert.Gather.τ Cert.Gather.sig) → Buf (Elt Bits) ℓ) : Prop :=
  ∀ c : Dev Cert.Gather.nD,
    (Cert.Pre_rows_in_table.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_rows_in_table : Cert.Pre_rows_in_table.Facts] (m : (ℓ : Loc Cert.GatherIdeal.nD Cert.GatherIdeal.τ Cert.GatherIdeal.sig) → Buf (Elt Ideal) ℓ) : Prop :=
  ∀ c : Dev Cert.GatherIdeal.nD,
    (Cert.Pre_rows_in_table.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_rows_in_table [hPre_rows_in_table : Cert.Pre_rows_in_table.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_rows_in_table.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableReferenceIdeal (m : (ℓ : Loc Cert.TableReferenceIdeal.nD Cert.TableReferenceIdeal.τ Cert.TableReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0))
      ∧ r.2.sem = fun _ => 0)

def quiescent_Near [hNear : Cert.Near.Facts] : Prop :=
  ∀ (m : (ℓ : Loc Cert.Near.nD Cert.Near.τ Cert.Near.sig) → Buf (Elt Bits) ℓ) (g : Dev Cert.Near.nD → PrngReg), Pre_Near m →
    θ_run (Cert.Near.defs (F := Bits)) (onTc (τ := Cert.Near.τ) (Cert.Near.main (F := Bits))) ⟨m, fun _ => 0, g⟩ (fun r => (∀ c : Dev Cert.Near.nD,
      r.2.mem ((c.tc : Thread Cert.Near.nD Cert.Near.τ).loc Cert.Near.main_arg0) = m ((c.tc : Thread Cert.Near.nD Cert.Near.τ).loc Cert.Near.main_arg0)
      ∧ r.2.mem ((c.tc : Thread Cert.Near.nD Cert.Near.τ).loc Cert.Near.main_arg1) = m ((c.tc : Thread Cert.Near.nD Cert.Near.τ).loc Cert.Near.main_arg1))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ r.2.sem = fun _ => 0)

def quiescent_NearReferenceIdeal [hNearReferenceIdeal : Cert.NearReferenceIdeal.Facts] : Prop :=
  ∀ (m : (ℓ : Loc Cert.NearReferenceIdeal.nD Cert.NearReferenceIdeal.τ Cert.NearReferenceIdeal.sig) → Buf (Elt Ideal) ℓ) (g : Dev Cert.NearReferenceIdeal.nD → PrngReg), Pre_NearReferenceIdeal m →
    θ_run (Cert.NearReferenceIdeal.defs (F := Ideal)) (onTc (τ := Cert.NearReferenceIdeal.τ) (Cert.NearReferenceIdeal.main (F := Ideal))) ⟨m, fun _ => 0, g⟩ (fun r => (∀ c : Dev Cert.NearReferenceIdeal.nD,
      r.2.mem ((c.tc : Thread Cert.NearReferenceIdeal.nD Cert.NearReferenceIdeal.τ).loc Cert.NearReferenceIdeal.main_arg0) = m ((c.tc : Thread Cert.NearReferenceIdeal.nD Cert.NearReferenceIdeal.τ).loc Cert.NearReferenceIdeal.main_arg0)
      ∧ r.2.mem ((c.tc : Thread Cert.NearReferenceIdeal.nD Cert.NearReferenceIdeal.τ).loc Cert.NearReferenceIdeal.main_arg1) = m ((c.tc : Thread Cert.NearReferenceIdeal.nD Cert.NearReferenceIdeal.τ).loc Cert.NearReferenceIdeal.main_arg1))
      ∧ r.2.sem = fun _ => 0)

def quiescent_Gather [hGather : Cert.Gather.Facts] [hPre_rows_in_table : Cert.Pre_rows_in_table.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_rows_in_table : Cert.Pre_rows_in_table.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_rows_in_table [hGatherReferenceIdeal : Cert.GatherReferenceIdeal.Facts] [hPre_rows_in_table : Cert.Pre_rows_in_table.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_rows_in_table m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1)
      ∧ r.2.mem ((c.tc : Thread Cert.Table.nD Cert.Table.τ).loc Cert.Table.main_arg2) = m ((c.tc : Thread Cert.Table.nD Cert.Table.τ).loc Cert.Table.main_arg2))
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      r.2.mem ((c.tc : Thread Cert.TableIdeal.nD Cert.TableIdeal.τ).loc Cert.TableIdeal.main_arg0) = m ((c.tc : Thread Cert.TableIdeal.nD Cert.TableIdeal.τ).loc Cert.TableIdeal.main_arg0)
      ∧ r.2.mem ((c.tc : Thread Cert.TableIdeal.nD Cert.TableIdeal.τ).loc Cert.TableIdeal.main_arg1) = m ((c.tc : Thread Cert.TableIdeal.nD Cert.TableIdeal.τ).loc Cert.TableIdeal.main_arg1)
      ∧ r.2.mem ((c.tc : Thread Cert.TableIdeal.nD Cert.TableIdeal.τ).loc Cert.TableIdeal.main_arg2) = m ((c.tc : Thread Cert.TableIdeal.nD Cert.TableIdeal.τ).loc Cert.TableIdeal.main_arg2))
      ∧ r.2.sem = fun _ => 0)

def quiescent_TableReferenceIdeal [hTableReferenceIdeal : Cert.TableReferenceIdeal.Facts] : Prop :=
  ∀ (m : (ℓ : Loc Cert.TableReferenceIdeal.nD Cert.TableReferenceIdeal.τ Cert.TableReferenceIdeal.sig) → Buf (Elt Ideal) ℓ) (g : Dev Cert.TableReferenceIdeal.nD → PrngReg), Pre_TableReferenceIdeal m →
    θ_run (Cert.TableReferenceIdeal.defs (F := Ideal)) (onTc (τ := Cert.TableReferenceIdeal.τ) (Cert.TableReferenceIdeal.main (F := Ideal))) ⟨m, fun _ => 0, g⟩ (fun r => (∀ c : Dev Cert.TableReferenceIdeal.nD,
      r.2.mem ((c.tc : Thread Cert.TableReferenceIdeal.nD Cert.TableReferenceIdeal.τ).loc Cert.TableReferenceIdeal.main_arg0) = m ((c.tc : Thread Cert.TableReferenceIdeal.nD Cert.TableReferenceIdeal.τ).loc Cert.TableReferenceIdeal.main_arg0)
      ∧ r.2.mem ((c.tc : Thread Cert.TableReferenceIdeal.nD Cert.TableReferenceIdeal.τ).loc Cert.TableReferenceIdeal.main_arg1) = m ((c.tc : Thread Cert.TableReferenceIdeal.nD Cert.TableReferenceIdeal.τ).loc Cert.TableReferenceIdeal.main_arg1)
      ∧ r.2.mem ((c.tc : Thread Cert.TableReferenceIdeal.nD Cert.TableReferenceIdeal.τ).loc Cert.TableReferenceIdeal.main_arg2) = m ((c.tc : Thread Cert.TableReferenceIdeal.nD Cert.TableReferenceIdeal.τ).loc Cert.TableReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)) →
    ∃ (v0 : (c : Dev Cert.SampleIdeal.nD) → Buf (Elt Ideal) ((c.tc : Thread Cert.SampleIdeal.nD Cert.SampleIdeal.τ).loc Cert.SampleIdeal.main_v0)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v0) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v13) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0))

def preserves_Near_NearIdeal : Prop :=
  True

def algebraic_NearIdeal_NearReferenceIdeal [hNearIdeal : Cert.NearIdeal.Facts] [hNearReferenceIdeal : Cert.NearReferenceIdeal.Facts] : Prop :=
  ∀ (m : (ℓ : Loc Cert.NearIdeal.nD Cert.NearIdeal.τ Cert.NearIdeal.sig) → Buf (Elt Ideal) ℓ) (g : Dev Cert.NearIdeal.nD → PrngReg)
    (m' : (ℓ : Loc Cert.NearReferenceIdeal.nD Cert.NearReferenceIdeal.τ Cert.NearReferenceIdeal.sig) → Buf (Elt Ideal) ℓ) (g' : Dev Cert.NearReferenceIdeal.nD → PrngReg), Pre_NearIdeal m →
    (∀ c : Dev Cert.NearIdeal.nD,
      m' ((c.tc : Thread Cert.NearReferenceIdeal.nD Cert.NearReferenceIdeal.τ).loc Cert.NearReferenceIdeal.main_arg0) = m ((c.tc : Thread Cert.NearIdeal.nD Cert.NearIdeal.τ).loc Cert.NearIdeal.main_arg0)
      ∧ m' ((c.tc : Thread Cert.NearReferenceIdeal.nD Cert.NearReferenceIdeal.τ).loc Cert.NearReferenceIdeal.main_arg1) = m ((c.tc : Thread Cert.NearIdeal.nD Cert.NearIdeal.τ).loc Cert.NearIdeal.main_arg1)) →
    ∃ (v0 : (c : Dev Cert.NearIdeal.nD) → Buf (Elt Ideal) ((c.tc : Thread Cert.NearIdeal.nD Cert.NearIdeal.τ).loc Cert.NearIdeal.main_v0)),
      θ_run (Cert.NearIdeal.defs (F := Ideal)) (onTc (τ := Cert.NearIdeal.τ) (Cert.NearIdeal.main (F := Ideal))) ⟨m, fun _ => 0, g⟩ (fun r => ∀ c : Dev Cert.NearIdeal.nD,
          r.2.mem ((c.tc : Thread Cert.NearIdeal.nD Cert.NearIdeal.τ).loc Cert.NearIdeal.main_v0) = v0 c
          ∧ r.2.mem ((c.tc : Thread Cert.NearIdeal.nD Cert.NearIdeal.τ).loc Cert.NearIdeal.main_arg0) = m ((c.tc : Thread Cert.NearIdeal.nD Cert.NearIdeal.τ).loc Cert.NearIdeal.main_arg0)
          ∧ r.2.mem ((c.tc : Thread Cert.NearIdeal.nD Cert.NearIdeal.τ).loc Cert.NearIdeal.main_arg1) = m ((c.tc : Thread Cert.NearIdeal.nD Cert.NearIdeal.τ).loc Cert.NearIdeal.main_arg1))
      ∧ θ_run (Cert.NearReferenceIdeal.defs (F := Ideal)) (onTc (τ := Cert.NearReferenceIdeal.τ) (Cert.NearReferenceIdeal.main (F := Ideal))) ⟨m', fun _ => 0, g'⟩ (fun r => ∀ c : Dev Cert.NearReferenceIdeal.nD,
          r.2.mem ((c.tc : Thread Cert.NearReferenceIdeal.nD Cert.NearReferenceIdeal.τ).loc Cert.NearReferenceIdeal.main_v34) = v0 c
          ∧ r.2.mem ((c.tc : Thread Cert.NearReferenceIdeal.nD Cert.NearReferenceIdeal.τ).loc Cert.NearReferenceIdeal.main_arg0) = m' ((c.tc : Thread Cert.NearReferenceIdeal.nD Cert.NearReferenceIdeal.τ).loc Cert.NearReferenceIdeal.main_arg0)
          ∧ r.2.mem ((c.tc : Thread Cert.NearReferenceIdeal.nD Cert.NearReferenceIdeal.τ).loc Cert.NearReferenceIdeal.main_arg1) = m' ((c.tc : Thread Cert.NearReferenceIdeal.nD Cert.NearReferenceIdeal.τ).loc Cert.NearReferenceIdeal.main_arg1))

def preserves_Gather_GatherIdeal : Prop :=
  True

def algebraic_GatherIdeal_GatherReferenceIdeal [hGatherIdeal : Cert.GatherIdeal.Facts] [hGatherReferenceIdeal : Cert.GatherReferenceIdeal.Facts] [hPre_rows_in_table : Cert.Pre_rows_in_table.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v6) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def preserves_Table_TableIdeal : Prop :=
  True

def algebraic_TableIdeal_TableReferenceIdeal [hTableIdeal : Cert.TableIdeal.Facts] [hTableReferenceIdeal : Cert.TableReferenceIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableReferenceIdeal.nD Cert.TableReferenceIdeal.τ Cert.TableReferenceIdeal.sig) → Buf (Elt Ideal) ℓ) (g' : Dev Cert.TableReferenceIdeal.nD → PrngReg), Pre_TableIdeal m →
    (∀ c : Dev Cert.TableIdeal.nD,
      m' ((c.tc : Thread Cert.TableReferenceIdeal.nD Cert.TableReferenceIdeal.τ).loc Cert.TableReferenceIdeal.main_arg0) = m ((c.tc : Thread Cert.TableIdeal.nD Cert.TableIdeal.τ).loc Cert.TableIdeal.main_arg0)
      ∧ m' ((c.tc : Thread Cert.TableReferenceIdeal.nD Cert.TableReferenceIdeal.τ).loc Cert.TableReferenceIdeal.main_arg1) = m ((c.tc : Thread Cert.TableIdeal.nD Cert.TableIdeal.τ).loc Cert.TableIdeal.main_arg1)
      ∧ m' ((c.tc : Thread Cert.TableReferenceIdeal.nD Cert.TableReferenceIdeal.τ).loc Cert.TableReferenceIdeal.main_arg2) = m ((c.tc : Thread Cert.TableIdeal.nD Cert.TableIdeal.τ).loc Cert.TableIdeal.main_arg2)) →
    ∃ (v0 : (c : Dev Cert.TableIdeal.nD) → Buf (Elt Ideal) ((c.tc : Thread Cert.TableIdeal.nD Cert.TableIdeal.τ).loc Cert.TableIdeal.main_v2)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v2) = v0 c
          ∧ r.2.mem ((c.tc : Thread Cert.TableIdeal.nD Cert.TableIdeal.τ).loc Cert.TableIdeal.main_arg0) = m ((c.tc : Thread Cert.TableIdeal.nD Cert.TableIdeal.τ).loc Cert.TableIdeal.main_arg0)
          ∧ r.2.mem ((c.tc : Thread Cert.TableIdeal.nD Cert.TableIdeal.τ).loc Cert.TableIdeal.main_arg1) = m ((c.tc : Thread Cert.TableIdeal.nD Cert.TableIdeal.τ).loc Cert.TableIdeal.main_arg1)
          ∧ r.2.mem ((c.tc : Thread Cert.TableIdeal.nD Cert.TableIdeal.τ).loc Cert.TableIdeal.main_arg2) = m ((c.tc : Thread Cert.TableIdeal.nD Cert.TableIdeal.τ).loc Cert.TableIdeal.main_arg2))
      ∧ θ_run (Cert.TableReferenceIdeal.defs (F := Ideal)) (onTc (τ := Cert.TableReferenceIdeal.τ) (Cert.TableReferenceIdeal.main (F := Ideal))) ⟨m', fun _ => 0, g'⟩ (fun r => ∀ c : Dev Cert.TableReferenceIdeal.nD,
          r.2.mem ((c.tc : Thread Cert.TableReferenceIdeal.nD Cert.TableReferenceIdeal.τ).loc Cert.TableReferenceIdeal.main_v4) = v0 c
          ∧ r.2.mem ((c.tc : Thread Cert.TableReferenceIdeal.nD Cert.TableReferenceIdeal.τ).loc Cert.TableReferenceIdeal.main_arg0) = m' ((c.tc : Thread Cert.TableReferenceIdeal.nD Cert.TableReferenceIdeal.τ).loc Cert.TableReferenceIdeal.main_arg0)
          ∧ r.2.mem ((c.tc : Thread Cert.TableReferenceIdeal.nD Cert.TableReferenceIdeal.τ).loc Cert.TableReferenceIdeal.main_arg1) = m' ((c.tc : Thread Cert.TableReferenceIdeal.nD Cert.TableReferenceIdeal.τ).loc Cert.TableReferenceIdeal.main_arg1)
          ∧ r.2.mem ((c.tc : Thread Cert.TableReferenceIdeal.nD Cert.TableReferenceIdeal.τ).loc Cert.TableReferenceIdeal.main_arg2) = m' ((c.tc : Thread Cert.TableReferenceIdeal.nD Cert.TableReferenceIdeal.τ).loc Cert.TableReferenceIdeal.main_arg2))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleReferenceIdeal : Cert.SampleReferenceIdeal.Facts) (hNear : Cert.Near.Facts) (hNearIdeal : Cert.NearIdeal.Facts) (hNearReferenceIdeal : Cert.NearReferenceIdeal.Facts) (hGather : Cert.Gather.Facts) (hGatherIdeal : Cert.GatherIdeal.Facts) (hGatherReferenceIdeal : Cert.GatherReferenceIdeal.Facts) (hTable : Cert.Table.Facts) (hTableIdeal : Cert.TableIdeal.Facts) (hTableReferenceIdeal : Cert.TableReferenceIdeal.Facts) (hPre_finite_inputs : Cert.Pre_finite_inputs.Facts) (hPre_rows_in_table : Cert.Pre_rows_in_table.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Sample (hSample := hSample)
    ∧ quiescent_SampleIdeal (hSampleIdeal := hSampleIdeal)
    ∧ quiescent_SampleReferenceIdeal (hSampleReferenceIdeal := hSampleReferenceIdeal)
    ∧ quiescent_Near (hNear := hNear)
    ∧ quiescent_NearIdeal (hNearIdeal := hNearIdeal)
    ∧ quiescent_NearReferenceIdeal (hNearReferenceIdeal := hNearReferenceIdeal)
    ∧ quiescent_Gather (hGather := hGather) (hPre_rows_in_table := hPre_rows_in_table)
    ∧ quiescent_GatherIdeal (hGatherIdeal := hGatherIdeal) (hPre_rows_in_table := hPre_rows_in_table)
    ∧ quiescent_GatherReferenceIdeal (hGatherReferenceIdeal := hGatherReferenceIdeal)
    ∧ quiescent_GatherReferenceIdeal_pre_rows_in_table (hGatherReferenceIdeal := hGatherReferenceIdeal) (hPre_rows_in_table := hPre_rows_in_table)
    ∧ quiescent_Table (hTable := hTable)
    ∧ quiescent_TableIdeal (hTableIdeal := hTableIdeal)
    ∧ quiescent_TableReferenceIdeal (hTableReferenceIdeal := hTableReferenceIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Sample_SampleIdeal
    ∧ algebraic_SampleIdeal_SampleReferenceIdeal (hSampleIdeal := hSampleIdeal) (hSampleReferenceIdeal := hSampleReferenceIdeal)
    ∧ preserves_Near_NearIdeal
    ∧ algebraic_NearIdeal_NearReferenceIdeal (hNearIdeal := hNearIdeal) (hNearReferenceIdeal := hNearReferenceIdeal)
    ∧ preserves_Gather_GatherIdeal
    ∧ algebraic_GatherIdeal_GatherReferenceIdeal (hGatherIdeal := hGatherIdeal) (hGatherReferenceIdeal := hGatherReferenceIdeal) (hPre_rows_in_table := hPre_rows_in_table)
    ∧ preserves_Table_TableIdeal
    ∧ algebraic_TableIdeal_TableReferenceIdeal (hTableIdeal := hTableIdeal) (hTableReferenceIdeal := hTableReferenceIdeal)
-- ==== Pre_finite_inputs.lean ====
abbrev S2x3x8192 : Shape := ⟨3, ![2, 3, 8192]⟩
abbrev S2x128x8192 : Shape := ⟨3, ![2, 128, 8192]⟩
abbrev S131x128 : Shape := ⟨2, ![131, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S_ : Shape := ⟨0, ![]⟩

class Facts : Prop where
  bcast_S_S2x3x8192 : S_.BroadcastsInDim S2x3x8192 (![] : Fin 0 → Fin S2x3x8192.rank)
  reducesTo_S2x3x8192_S_d0_1_2 : S2x3x8192.ReducesTo [0, 1, 2] S_
  h_S_ : 0 < S_.numel
  bcast_S_S2x128x8192 : S_.BroadcastsInDim S2x128x8192 (![] : Fin 0 → Fin S2x128x8192.rank)
  reducesTo_S2x128x8192_S_d0_1_2 : S2x128x8192.ReducesTo [0, 1, 2] S_
  bcast_S_S131x128 : S_.BroadcastsInDim S131x128 (![] : Fin 0 → Fin S131x128.rank)
  reducesTo_S131x128_S_d0_1 : S131x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_arg12 : FVec F S256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S128 .f32) (main_arg8 : FVec F S128 .f32) (main_arg9 : FVec F S128 .f32) (main_arg10 : FVec F S128x256 .f32) (main_arg11 : FVec F S256 .f32) (main_arg12 : FVec F S256 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg11 main_arg12 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x256 .f32) (main_arg11 : FVec F S256 .f32) (main_arg12 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x3x8192 .f32) (main_arg1 : FVec F S2x128x8192 .f32) (main_arg2 : FVec F S131x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x256 .f32) (main_arg11 : FVec F S256 .f32) (main_arg12 : FVec F S256 .f32) (main_arg13 : FVec F S256 .f32) : IVec S_ 1 :=
  let main_v0 : FVec F S2x3x8192 .f32 := Host.absf main_arg0
  let main_cst : FVec F S_ .f32 := constant S_ .f32 0x7F800000#32
  let main_v1 : FVec F S2x3x8192 .f32 := broadcastInDim S2x3x8192 ![] bcast_S_S2x3x8192 main_cst
  let main_v2 : IVec S2x3x8192 1 := cmpf .olt main_v0 main_v1
  let main_c : IVec S_ 1 := constantI S_ 1 1#1
  let main_v3 : IVec S_ 1 := (fun x v => Host.reduce IntOp.andi x v reducesTo_S2x3x8192_S_d0_1_2 h_S_) main_v2 main_c
  let main_v4 : FVec F S2x128x8192 .f32 := Host.absf main_arg1
  let main_cst_0 : FVec F S_ .f32 := constant S_ .f32 0x7F800000#32
  let main_v5 : FVec F S2x128x8192 .f32 := broadcastInDim S2x128x8192 ![] bcast_S_S2x128x8192 main_cst_0
  let main_v6 : IVec S2x128x8192 1 := cmpf .olt main_v4 main_v5
  let main_c_1 : IVec S_ 1 := constantI S_ 1 1#1
  let main_v7 : IVec S_ 1 := (fun x v => Host.reduce IntOp.andi x v reducesTo_S2x128x8192_S_d0_1_2 h_S_) main_v6 main_c_1
  let main_v8 : IVec S_ 1 := andi main_v3 main_v7
  let main_v9 : FVec F S131x128 .f32 := Host.absf main_arg2
  let main_cst_2 : FVec F S_ .f32 := constant S_ .f32 0x7F800000#32
  let main_v10 : FVec F S131x128 .f32 := broadcastInDim S131x128 ![] bcast_S_S131x128 main_cst_2
  let main_v11 : IVec S131x128 1 := cmpf .olt main_v9 main_v10
  let main_c_3 : IVec S_ 1 := constantI S_ 1 1#1
  let main_v12 : IVec S_ 1 := (fun x v => Host.reduce IntOp.andi x v reducesTo_S131x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Pre_rows_in_table.lean ====
abbrev S16384x128 : Shape := ⟨2, ![16384, 128]⟩
abbrev S65536 : Shape := ⟨1, ![65536]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : FVec F S16384x128 .f32) (main_arg1 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 16384#32
  let main_v2 : IVec S65536 32 := broadcastInDim S65536 ![] bcast_S_S65536 main_c_0
  let main_v3 : IVec S65536 1 := cmpi .slt main_arg1 main_v2
  let main_v4 : IVec S65536 1 := andi main_v1 main_v3
  main_v4
-- ==== Kernel.lean ====
abbrev S2x3x8192 : Shape := ⟨3, ![2, 3, 8192]⟩
abbrev S2x128x8192 : Shape := ⟨3, ![2, 128, 8192]⟩
abbrev S131x128 : Shape := ⟨2, ![131, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S2x3x1024 : Shape := ⟨3, ![2, 3, 1024]⟩
abbrev S1x3x8192 : Shape := ⟨3, ![1, 3, 8192]⟩
abbrev S1x3x1024 : Shape := ⟨3, ![1, 3, 1024]⟩
abbrev S3x8192 : Shape := ⟨2, ![3, 8192]⟩
abbrev S3x1 : Shape := ⟨2, ![3, 1]⟩
abbrev S8192 : Shape := ⟨1, ![8192]⟩
abbrev S1x8192 : Shape := ⟨2, ![1, 8192]⟩
abbrev S1x1024 : Shape := ⟨2, ![1, 1024]⟩
abbrev S3x1024 : Shape := ⟨2, ![3, 1024]⟩
abbrev S1x1x8192 : Shape := ⟨3, ![1, 1, 8192]⟩
abbrev S1 : Shape := ⟨1, ![1]⟩
abbrev S1x1x1 : Shape := ⟨3, ![1, 1, 1]⟩
abbrev S3 : Shape := ⟨1, ![3]⟩
abbrev S3x128 : Shape := ⟨2, ![3, 128]⟩
abbrev S2x8192x128 : Shape := ⟨3, ![2, 8192, 128]⟩
abbrev S1x128x8192 : Shape := ⟨3, ![1, 128, 8192]⟩
abbrev S1x8192x128 : Shape := ⟨3, ![1, 8192, 128]⟩
abbrev S128x8192 : Shape := ⟨2, ![128, 8192]⟩
abbrev S8192x128 : Shape := ⟨2, ![8192, 128]⟩
abbrev S2x1024x32 : Shape := ⟨3, ![2, 1024, 32]⟩
abbrev S1x3x128 : Shape := ⟨3, ![1, 3, 128]⟩
abbrev S1x128x32 : Shape := ⟨3, ![1, 128, 32]⟩
abbrev S1x128 : Shape := ⟨2, ![1, 128]⟩
abbrev S128x1 : Shape := ⟨2, ![128, 1]⟩
abbrev S128x32 : Shape := ⟨2, ![128, 32]⟩
abbrev S16384x128 : Shape := ⟨2, ![16384, 128]⟩
abbrev S65536 : Shape := ⟨1, ![65536]⟩
abbrev S65536x128 : Shape := ⟨2, ![65536, 128]⟩
abbrev S_ : Shape := ⟨0, ![]⟩
abbrev S2x1024x3 : Shape := ⟨3, ![2, 1024, 3]⟩
abbrev S2048x3 : Shape := ⟨2, ![2048, 3]⟩
abbrev S2048x32x128 : Shape := ⟨3, ![2048, 32, 128]⟩
abbrev S256x32x128 : Shape := ⟨3, ![256, 32, 128]⟩
abbrev S256x3 : Shape := ⟨2, ![256, 3]⟩
abbrev S256x128 : Shape := ⟨2, ![256, 128]⟩
abbrev S256x1x128 : Shape := ⟨3, ![256, 1, 128]⟩
abbrev S32x128 : Shape := ⟨2, ![32, 128]⟩
abbrev S4096x128 : Shape := ⟨2, ![4096, 128]⟩
abbrev S1x256 : Shape := ⟨2, ![1, 256]⟩
abbrev S65536x256 : Shape := ⟨2, ![65536, 256]⟩
abbrev S4096x256 : Shape := ⟨2, ![4096, 256]⟩
abbrev S2x1024x32x256 : Shape := ⟨4, ![2, 1024, 32, 256]⟩
abbrev S2x256x1024 : Shape := ⟨3, ![2, 256, 1024]⟩
abbrev S1x256x32x256 : Shape := ⟨4, ![1, 256, 32, 256]⟩
abbrev S1x256x256 : Shape := ⟨3, ![1, 256, 256]⟩
abbrev S1x1x256 : Shape := ⟨3, ![1, 1, 256]⟩
abbrev S256x32x256 : Shape := ⟨3, ![256, 32, 256]⟩
abbrev S256x256 : Shape := ⟨2, ![256, 256]⟩

abbrev nBuf : Table → Nat
  | .hbm => 47
  | .local .tc .vmem => 60
  | .local .scVector .vmem => 2
  | _ => 0

abbrev bufTy : (tb : Table) → Fin (nBuf tb) → BufTy
  | .hbm, ⟨0, _⟩ => ⟨S2x3x8192, .f32⟩
  | .hbm, ⟨1, _⟩ => ⟨S2x128x8192, .f32⟩
  | .hbm, ⟨2, _⟩ => ⟨S131x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S2x3x1024, .f32⟩
  | .hbm, ⟨15, _⟩ => ⟨S3x128, .f32⟩
  | .hbm, ⟨16, _⟩ => ⟨S128x128, .f32⟩
  | .hbm, ⟨17, _⟩ => ⟨S2x8192x128, .f32⟩
  | .hbm, ⟨18, _⟩ => ⟨S2x1024x32, .i32⟩
  | .hbm, ⟨19, _⟩ => ⟨S16384x128, .f32⟩
  | .hbm, ⟨20, _⟩ => ⟨S65536, .i32⟩
  | .hbm, ⟨21, _⟩ => ⟨S65536x128, .f32⟩
  | .hbm, ⟨22, _⟩ => ⟨S2x1024x3, .f32⟩
  | .hbm, ⟨23, _⟩ => ⟨S2048x3, .f32⟩
  | .hbm, ⟨24, _⟩ => ⟨S2048x32x128, .f32⟩
  | .hbm, ⟨25, _⟩ => ⟨S3x128, .f32⟩
  | .hbm, ⟨26, _⟩ => ⟨S1x128, .f32⟩
  | .hbm, ⟨27, _⟩ => ⟨S2048x32x128, .f32⟩
  | .hbm, ⟨28, _⟩ => ⟨S1x128, .f32⟩
  | .hbm, ⟨29, _⟩ => ⟨S1x128, .f32⟩
  | .hbm, ⟨30, _⟩ => ⟨S65536x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S65536x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x256, .f32⟩
  | .hbm, ⟨40, _⟩ => ⟨S65536x256, .f32⟩
  | .hbm, ⟨41, _⟩ => ⟨S1x256, .f32⟩
  | .hbm, ⟨42, _⟩ => ⟨S1x256, .f32⟩
  | .hbm, ⟨43, _⟩ => ⟨S2x1024x32x256, .f32⟩
  | .hbm, ⟨44, _⟩ => ⟨S1x256, .f32⟩
  | .hbm, ⟨45, _⟩ => ⟨S1x256, .f32⟩
  | .hbm, ⟨46, _⟩ => ⟨S2x256x1024, .f32⟩
  | .local .tc .vmem, ⟨0, _⟩ => ⟨S1x3x8192, .f32⟩
  | .local .tc .vmem, ⟨1, _⟩ => ⟨S1x3x8192, .f32⟩
  | .local .tc .vmem, ⟨2, _⟩ => ⟨S1x3x1024, .f32⟩
  | .local .tc .vmem, ⟨3, _⟩ => ⟨S1x3x1024, .f32⟩
  | .local .tc .vmem, ⟨4, _⟩ => ⟨S1x3x8192, .f32⟩
  | .local .tc .vmem, ⟨5, _⟩ => ⟨S1x3x8192, .f32⟩
  | .local .tc .vmem, ⟨6, _⟩ => ⟨S1x128x8192, .f32⟩
  | .local .tc .vmem, ⟨7, _⟩ => ⟨S1x128x8192, .f32⟩
  | .local .tc .vmem, ⟨8, _⟩ => ⟨S3x128, .f32⟩
  | .local .tc .vmem, ⟨9, _⟩ => ⟨S128x128, .f32⟩
  | .local .tc .vmem, ⟨10, _⟩ => ⟨S1x8192x128, .f32⟩
  | .local .tc .vmem, ⟨11, _⟩ => ⟨S1x8192x128, .f32⟩
  | .local .tc .vmem, ⟨12, _⟩ => ⟨S1x3x128, .f32⟩
  | .local .tc .vmem, ⟨13, _⟩ => ⟨S1x3x128, .f32⟩
  | .local .tc .vmem, ⟨14, _⟩ => ⟨S1x3x8192, .f32⟩
  | .local .tc .vmem, ⟨15, _⟩ => ⟨S1x3x8192, .f32⟩
  | .local .tc .vmem, ⟨16, _⟩ => ⟨S1x128x32, .i32⟩
  | .local .tc .vmem, ⟨17, _⟩ => ⟨S1x128x32, .i32⟩
  | .local .tc .vmem, ⟨18, _⟩ => ⟨S256x32x128, .f32⟩
  | .local .tc .vmem, ⟨19, _⟩ => ⟨S256x32x128, .f32⟩
  | .local .tc .vmem, ⟨20, _⟩ => ⟨S256x3, .f32⟩
  | .local .tc .vmem, ⟨21, _⟩ => ⟨S256x3, .f32⟩
  | .local .tc .vmem, ⟨22, _⟩ => ⟨S3x128, .f32⟩
  | .local .tc .vmem, ⟨23, _⟩ => ⟨S1x128, .f32⟩
  | .local .tc .vmem, ⟨24, _⟩ => ⟨S256x32x128, .f32⟩
  | .local .tc .vmem, ⟨25, _⟩ => ⟨S256x32x128, .f32⟩
  | .local .tc .vmem, ⟨26, _⟩ => ⟨S1x128, .f32⟩
  | .local .tc .vmem, ⟨27, _⟩ => ⟨S1x128, .f32⟩
  | .local .tc .vmem, ⟨28, _⟩ => ⟨S4096x128, .f32⟩
  | .local .tc .vmem, ⟨29, _⟩ => ⟨S4096x128, .f32⟩
  | .local .tc .vmem, ⟨30, _⟩ => ⟨S1x128, .f32⟩
  | .local .tc .vmem, ⟨31, _⟩ => ⟨S1x128, .f32⟩
  | .local .tc .vmem, ⟨32, _⟩ => ⟨S1x128, .f32⟩
  | .local .tc .vmem, ⟨33, _⟩ => ⟨S1x128, .f32⟩
  | .local .tc .vmem, ⟨34, _⟩ => ⟨S128x128, .f32⟩
  | .local .tc .vmem, ⟨35, _⟩ => ⟨S1x128, .f32⟩
  | .local .tc .vmem, ⟨36, _⟩ => ⟨S4096x128, .f32⟩
  | .local .tc .vmem, ⟨37, _⟩ => ⟨S4096x128, .f32⟩
  | .local .tc .vmem, ⟨38, _⟩ => ⟨S1x128, .f32⟩
  | .local .tc .vmem, ⟨39, _⟩ => ⟨S1x128, .f32⟩
  | .local .tc .vmem, ⟨40, _⟩ => ⟨S4096x128, .f32⟩
  | .local .tc .vmem, ⟨41, _⟩ => ⟨S4096x128, .f32⟩
  | .local .tc .vmem, ⟨42, _⟩ => ⟨S1x128, .f32⟩
  | .local .tc .vmem, ⟨43, _⟩ => ⟨S1x128, .f32⟩
  | .local .tc .vmem, ⟨44, _⟩ => ⟨S1x128, .f32⟩
  | .local .tc .vmem, ⟨45, _⟩ => ⟨S1x128, .f32⟩
  | .local .tc .vmem, ⟨46, _⟩ => ⟨S128x256, .f32⟩
  | .local .tc .vmem, ⟨47, _⟩ => ⟨S1x256, .f32⟩
  | .local .tc .vmem, ⟨48, _⟩ => ⟨S4096x256, .f32⟩
  | .local .tc .vmem, ⟨49, _⟩ => ⟨S4096x256, .f32⟩
  | .local .tc .vmem, ⟨50, _⟩ => ⟨S1x256, .f32⟩
  | .local .tc .vmem, ⟨51, _⟩ => ⟨S1x256, .f32⟩
  | .local .tc .vmem, ⟨52, _⟩ => ⟨S1x256x32x256, .f32⟩
  | .local .tc .vmem, ⟨53, _⟩ => ⟨S1x256x32x256, .f32⟩
  | .local .tc .vmem, ⟨54, _⟩ => ⟨S1x256, .f32⟩
  | .local .tc .vmem, ⟨55, _⟩ => ⟨S1x256, .f32⟩
  | .local .tc .vmem, ⟨56, _⟩ => ⟨S1x256, .f32⟩
  | .local .tc .vmem, ⟨57, _⟩ => ⟨S1x256, .f32⟩
  | .local .tc .vmem, ⟨58, _⟩ => ⟨S1x256x256, .f32⟩
  | .local .tc .vmem, ⟨59, _⟩ => ⟨S1x256x256, .f32⟩
  | .local .scVector .vmem, ⟨0, _⟩ => ⟨S128, .i32⟩
  | .local .scVector .vmem, ⟨1, _⟩ => ⟨S128x128, .f32⟩
  | _, _ => ⟨S2x3x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTables nBuf rfl bufTy 4 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v22_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v5_scv : Ref sig .scVector := ⟨.hbm, 19, rfl⟩
abbrev main_v6_scv : Ref sig .scVector := ⟨.hbm, 20, rfl⟩
abbrev main_v7_scv : Ref sig .scVector := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg4_1 : Ref sig .tc := ⟨.vmem, 25, rfl⟩
abbrev cc4_stg5_0 : Ref sig .tc := ⟨.vmem, 26, rfl⟩
abbrev cc4_stg6_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg6_0 : Ref sig .tc := ⟨.vmem, 35, rfl⟩
abbrev cc5_stg7_0 : Ref sig .tc := ⟨.vmem, 36, rfl⟩
abbrev cc5_stg7_1 : Ref sig .tc := ⟨.vmem, 37, rfl⟩
abbrev cc5_stg8_0 : Ref sig .tc := ⟨.vmem, 38, rfl⟩
abbrev cc5_stg9_0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg5_0 : Ref sig .tc := ⟨.vmem, 46, rfl⟩
abbrev cc6_stg6_0 : Ref sig .tc := ⟨.vmem, 47, rfl⟩
abbrev cc6_stg7_0 : Ref sig .tc := ⟨.vmem, 48, rfl⟩
abbrev cc6_stg7_1 : Ref sig .tc := ⟨.vmem, 49, rfl⟩
abbrev cc6_stg8_0 : Ref sig .tc := ⟨.vmem, 50, rfl⟩
abbrev cc6_stg9_0 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg5_1 : Ref sig .tc := ⟨.vmem, 59, rfl⟩
abbrev cc3_scratch0 : Ref sig .scVector := ⟨.vmem, 0, rfl⟩
abbrev cc3_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem3_0 : DmaSem sig := 26
abbrev cc4_sem4_0 : DmaSem sig := 27
abbrev cc4_sem4_1 : DmaSem sig := 28
abbrev cc4_sem5_0 : DmaSem sig := 29
abbrev cc4_sem6_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem7_0 : DmaSem sig := 39
abbrev cc5_sem7_1 : DmaSem sig := 40
abbrev cc5_sem8_0 : DmaSem sig := 41
abbrev cc5_sem9_0 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem7_0 : DmaSem sig := 51
abbrev cc6_sem7_1 : DmaSem sig := 52
abbrev cc6_sem8_0 : DmaSem sig := 53
abbrev cc6_sem9_0 : DmaSem sig := 54
abbrev cc7_sem0_0 : DmaSem sig := 55
abbrev cc7_sem0_1 : DmaSem sig := 56
abbrev cc7_sem1_0 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem5_1 : DmaSem sig := 62
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

@[reducible] def k0_t1_loop : Scf.Loop 32 :=
  let c1_i32 : BitVec 32 := 1#32
  let c1023_i32 : BitVec 32 := 1023#32
  let v18 : BitVec 32 := Scalar.addi c1_i32 c1023_i32
  let c1_i32_3 : BitVec 32 := 1#32
  ⟨c1_i32, v18, c1_i32_3⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x8192x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x3x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x3x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x128x32 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 16], ![false, false]⟩

@[reducible] def k3_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k3_off1 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg8 : BitVec 32 := Scf.iv c0_i32_0 c1_i32 k3_t1
  let c128_i32 : BitVec 32 := 128#32
  let v4 : BitVec 32 := Scalar.muli arg8 c128_i32
  let v5 : BitVec 32 := Scalar.addi v2 v4
  ![v5.toNat]
def k3_off2 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg8 : BitVec 32 := Scf.iv c0_i32_0 c1_i32 k3_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid4 : Pipeline.Grid := ⟨1, ![8], ![false]⟩

def k4_cond1 (i : grid4.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_15 : BitVec 32 := 0#32
  let v24 : BitVec 1 := Scalar.cmpi .ne v23 c0_i32_15
  v24

def k4_cond2 (i : grid4.Coords) : BitVec 1 :=
  let arg0 : BitVec 32 := BitVec.ofNat 32 (i 0).val
  let c0_i32_16 : BitVec 32 := 0#32
  let v25 : BitVec 1 := Scalar.cmpi .ne arg0 c0_i32_16
  let v26 : BitVec 32 := Scalar.extui v25
  let c0_i32_17 : BitVec 32 := 0#32
  let v27 : BitVec 1 := Scalar.cmpi .ne v26 c0_i32_17
  v27

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x32x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S3x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x32x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![16], ![false]⟩

def k5_cond1 (i : grid5.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_22 : BitVec 32 := 0#32
  let v44 : BitVec 1 := Scalar.cmpi .ne v43 c0_i32_22
  v44

def k5_cond2 (i : grid5.Coords) : BitVec 1 :=
  let arg0 : BitVec 32 := BitVec.ofNat 32 (i 0).val
  let c0_i32_23 : BitVec 32 := 0#32
  let v45 : BitVec 1 := Scalar.cmpi .ne arg0 c0_i32_23
  let v46 : BitVec 32 := Scalar.extui v45
  let c0_i32_24 : BitVec 32 := 0#32
  let v47 : BitVec 1 := Scalar.cmpi .ne v46 c0_i32_24
  v47

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4096x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev grid6 : Pipeline.Grid := ⟨1, ![16], ![false]⟩

def k6_cond1 (i : grid6.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_22 : BitVec 32 := 0#32
  let v44 : BitVec 1 := Scalar.cmpi .ne v43 c0_i32_22
  v44

def k6_cond2 (i : grid6.Coords) : BitVec 1 :=
  let arg0 : BitVec 32 := BitVec.ofNat 32 (i 0).val
  let c0_i32_23 : BitVec 32 := 0#32
  let v45 : BitVec 1 := Scalar.cmpi .ne arg0 c0_i32_23
  let v46 : BitVec 32 := Scalar.extui v45
  let c0_i32_24 : BitVec 32 := 0#32
  let v47 : BitVec 1 := Scalar.cmpi .ne v46 c0_i32_24
  v47

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S4096x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4096x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S1x256 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x256 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev grid7 : Pipeline.Grid := ⟨2, ![2, 4], ![false, false]⟩

def cc7_transform_0 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage7_0 : Fin 2 → Memref sig .tc .vmem S1x256x32x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 2 → Memref sig .tc .vmem S1x256x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x3x8192 : Shape := ⟨3, ![2, 3, 8192]⟩
abbrev S2x128x8192 : Shape := ⟨3, ![2, 128, 8192]⟩
abbrev S131x128 : Shape := ⟨2, ![131, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S2x8192x3 : Shape := ⟨3, ![2, 8192, 3]⟩
abbrev S2x1x3 : Shape := ⟨3, ![2, 1, 3]⟩
abbrev S_ : Shape := ⟨0, ![]⟩
abbrev S2x8192 : Shape := ⟨2, ![2, 8192]⟩
abbrev S1023x2 : Shape := ⟨2, ![1023, 2]⟩
abbrev S2x1 : Shape := ⟨2, ![2, 1]⟩
abbrev S2 : Shape := ⟨1, ![2]⟩
abbrev S2x1x1 : Shape := ⟨3, ![2, 1, 1]⟩
abbrev S1 : Shape := ⟨1, ![1]⟩
abbrev S1x1x1 : Shape := ⟨3, ![1, 1, 1]⟩
abbrev S1x2 : Shape := ⟨2, ![1, 2]⟩
abbrev S1024x2 : Shape := ⟨2, ![1024, 2]⟩
abbrev S2x1024 : Shape := ⟨2, ![2, 1024]⟩
abbrev S2x1024x1 : Shape := ⟨3, ![2, 1024, 1]⟩
abbrev S2x1024x3 : Shape := ⟨3, ![2, 1024, 3]⟩
abbrev S2x1x8192 : Shape := ⟨3, ![2, 1, 8192]⟩
abbrev S2x1024x8192 : Shape := ⟨3, ![2, 1024, 8192]⟩
abbrev S8192 : Shape := ⟨1, ![8192]⟩
abbrev S1x1x8192 : Shape := ⟨3, ![1, 1, 8192]⟩
abbrev S2x1024x32 : Shape := ⟨3, ![2, 1024, 32]⟩
abbrev S2x1024x32x1 : Shape := ⟨4, ![2, 1024, 32, 1]⟩
abbrev S2x1024x32x3 : Shape := ⟨4, ![2, 1024, 32, 3]⟩
abbrev S2x1024x1x3 : Shape := ⟨4, ![2, 1024, 1, 3]⟩
abbrev S2x8192x128 : Shape := ⟨3, ![2, 8192, 128]⟩
abbrev S2x1024x32x128 : Shape := ⟨4, ![2, 1024, 32, 128]⟩
abbrev S2x1024x32x131 : Shape := ⟨4, ![2, 1024, 32, 131]⟩
abbrev S1x1x1x128 : Shape := ⟨4, ![1, 1, 1, 128]⟩
abbrev S2x1024x32x256 : Shape := ⟨4, ![2, 1024, 32, 256]⟩
abbrev S1x1x1x256 : Shape := ⟨4, ![1, 1, 1, 256]⟩
abbrev S2x3x1024 : Shape := ⟨3, ![2, 3, 1024]⟩
abbrev S2x1024x256 : Shape := ⟨3, ![2, 1024, 256]⟩
abbrev S2x256x1024 : Shape := ⟨3, ![2, 256, 1024]⟩

abbrev nBuf : Space → Nat
  | .hbm => 317
  | .vmem => 0
  | .smem => 0
  | _ => 0

abbrev hbmTy0_0 (i : Nat) : BufTy := match i % 128 with
  | 0 => ⟨S2x3x8192, .f32⟩
  | 1 => ⟨S2x128x8192, .f32⟩
  | 2 => ⟨S131x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x256, .f32⟩
  | 11 => ⟨S256, .f32⟩
  | 12 => ⟨S256, .f32⟩
  | 13 => ⟨S256, .f32⟩
  | 14 => ⟨S2x8192x3, .f32⟩
  | 15 => ⟨S2x1x3, .f32⟩
  | 16 => ⟨S2x8192x3, .f32⟩
  | 17 => ⟨S2x8192x3, .f32⟩
  | 18 => ⟨S2x8192x3, .f32⟩
  | 19 => ⟨S_, .f32⟩
  | 20 => ⟨S2x8192, .f32⟩
  | 21 => ⟨S_, .i32⟩
  | 22 => ⟨S1023x2, .i32⟩
  | 23 => ⟨S_, .i32⟩
  | 24 => ⟨S2x8192x3, .f32⟩
  | 25 => ⟨S_, .i32⟩
  | 26 => ⟨S2x8192, .f32⟩
  | 27 => ⟨S1023x2, .i32⟩
  | 28 => ⟨S_, .i32⟩
  | 29 => ⟨S_, .i1⟩
  | 30 => ⟨S2x1, .f32⟩
  | 31 => ⟨S2x1, .i32⟩
  | 32 => ⟨S2, .i32⟩
  | 33 => ⟨S2x1x1, .i32⟩
  | 34 => ⟨S_, .i32⟩
  | 35 => ⟨S2x1x1, .i32⟩
  | 36 => ⟨S2x1x1, .i1⟩
  | 37 => ⟨S_, .i32⟩
  | 38 => ⟨S2x1x1, .i32⟩
  | 39 => ⟨S2x1x1, .i32⟩
  | 40 => ⟨S2x1x1, .i32⟩
  | 41 => ⟨S1, .i32⟩
  | 42 => ⟨S_, .i32⟩
  | 43 => ⟨S2x1x1, .i32⟩
  | 44 => ⟨S2x1x1, .i1⟩
  | 45 => ⟨S1x1x1, .i32⟩
  | 46 => ⟨S2x1x1, .i32⟩
  | 47 => ⟨S2x1x1, .i1⟩
  | 48 => ⟨S2x1x1, .i1⟩
  | 49 => ⟨S_, .i1⟩
  | 50 => ⟨S2x1, .i1⟩
  | 51 => ⟨S2x1x3, .f32⟩
  | 52 => ⟨S2x1x3, .i1⟩
  | 53 => ⟨S_, .f32⟩
  | 54 => ⟨S2x1x3, .f32⟩
  | 55 => ⟨S2x1x3, .f32⟩
  | 56 => ⟨S2x8192x3, .f32⟩
  | 57 => ⟨S2x8192x3, .f32⟩
  | 58 => ⟨S2x8192x3, .f32⟩
  | 59 => ⟨S_, .f32⟩
  | 60 => ⟨S2x8192, .f32⟩
  | 61 => ⟨S2x8192, .f32⟩
  | 62 => ⟨S1x2, .i32⟩
  | 63 => ⟨S_, .i32⟩
  | 64 => ⟨S1023x2, .i32⟩
  | 65 => ⟨S_, .i32⟩
  | 66 => ⟨S_, .i32⟩
  | 67 => ⟨S_, .i32⟩
  | 68 => ⟨S1x2, .i32⟩
  | 69 => ⟨S1024x2, .i32⟩
  | 70 => ⟨S2x1024, .i32⟩
  | 71 => ⟨S2x1024x1, .i32⟩
  | 72 => ⟨S_, .i32⟩
  | 73 => ⟨S2x1024x1, .i32⟩
  | 74 => ⟨S2x1024x1, .i1⟩
  | 75 => ⟨S_, .i32⟩
  | 76 => ⟨S2x1024x1, .i32⟩
  | 77 => ⟨S2x1024x1, .i32⟩
  | 78 => ⟨S2x1024x1, .i32⟩
  | 79 => ⟨S1, .i32⟩
  | 80 => ⟨S_, .i32⟩
  | 81 => ⟨S2x1024x1, .i32⟩
  | 82 => ⟨S2x1024x1, .i1⟩
  | 83 => ⟨S1x1x1, .i32⟩
  | 84 => ⟨S2x1024x1, .i32⟩
  | 85 => ⟨S2x1024x1, .i1⟩
  | 86 => ⟨S2x1024x1, .i1⟩
  | 87 => ⟨S_, .i1⟩
  | 88 => ⟨S2x1024, .i1⟩
  | 89 => ⟨S2x1024x3, .f32⟩
  | 90 => ⟨S2x1024x3, .i1⟩
  | 91 => ⟨S_, .f32⟩
  | 92 => ⟨S2x1024x3, .f32⟩
  | 93 => ⟨S2x1024x3, .f32⟩
  | 94 => ⟨S2x1024x3, .f32⟩
  | 95 => ⟨S_, .f32⟩
  | 96 => ⟨S2x1024, .f32⟩
  | 97 => ⟨S2x1024x1, .f32⟩
  | 98 => ⟨S2x8192x3, .f32⟩
  | 99 => ⟨S_, .f32⟩
  | 100 => ⟨S2x8192, .f32⟩
  | 101 => ⟨S2x1x8192, .f32⟩
  | 102 => ⟨S2x1024x8192, .f32⟩
  | 103 => ⟨S2x1024x8192, .f32⟩
  | 104 => ⟨S2x1024x8192, .f32⟩
  | 105 => ⟨S2x1024x8192, .f32⟩
  | 106 => ⟨S_, .f32⟩
  | 107 => ⟨S2x1024x8192, .f32⟩
  | 108 => ⟨S2x1024x8192, .f32⟩
  | 109 => ⟨S2x1024x8192, .f32⟩
  | 110 => ⟨S_, .f32⟩
  | 111 => ⟨S2x1024x8192, .f32⟩
  | 112 => ⟨S2x1024x8192, .i1⟩
  | 113 => ⟨S8192, .i32⟩
  | 114 => ⟨S1x1x8192, .i32⟩
  | 115 => ⟨S_, .i32⟩
  | 116 => ⟨S_, .i32⟩
  | 117 => ⟨S2x1024x8192, .i32⟩
  | 118 => ⟨S2x1024x8192, .i32⟩
  | 119 => ⟨S2x1024x8192, .i32⟩
  | 120 => ⟨S2x1024x8192, .i32⟩
  | 121 => ⟨S2x1024x32, .i32⟩
  | 122 => ⟨S2x1024x32, .i32⟩
  | 123 => ⟨S2x1024x32, .i32⟩
  | 124 => ⟨S2x1024x1, .i32⟩
  | 125 => ⟨S_, .i32⟩
  | 126 => ⟨S2x1024x1, .i32⟩
  | 127 => ⟨S2x1024x1, .i1⟩
  | _ => ⟨S2x3x8192, .f32⟩

abbrev hbmTy0_1 (i : Nat) : BufTy := match i % 128 with
  | 0 => ⟨S_, .i32⟩
  | 1 => ⟨S_, .i32⟩
  | 2 => ⟨S2x1024x1, .i32⟩
  | 3 => ⟨S2x1024x1, .i32⟩
  | 4 => ⟨S_, .i32⟩
  | 5 => ⟨S2x1024x32, .i32⟩
  | 6 => ⟨S2x1024x32, .i1⟩
  | 7 => ⟨S2x1024x32, .i32⟩
  | 8 => ⟨S2x1024x32, .i32⟩
  | 9 => ⟨S_, .i32⟩
  | 10 => ⟨S2x1024x32, .i32⟩
  | 11 => ⟨S2x1024x32, .i1⟩
  | 12 => ⟨S_, .i32⟩
  | 13 => ⟨S2x1024x32, .i32⟩
  | 14 => ⟨S2x1024x32, .i32⟩
  | 15 => ⟨S2x1024x32, .i32⟩
  | 16 => ⟨S2x1024x32x1, .i32⟩
  | 17 => ⟨S2x1024x32x3, .f32⟩
  | 18 => ⟨S2x1024x1x3, .f32⟩
  | 19 => ⟨S2x1024x32x3, .f32⟩
  | 20 => ⟨S2x1024x32x3, .f32⟩
  | 21 => ⟨S2x8192x128, .f32⟩
  | 22 => ⟨S_, .i32⟩
  | 23 => ⟨S2x1024x32, .i32⟩
  | 24 => ⟨S2x1024x32, .i1⟩
  | 25 => ⟨S_, .i32⟩
  | 26 => ⟨S2x1024x32, .i32⟩
  | 27 => ⟨S2x1024x32, .i32⟩
  | 28 => ⟨S2x1024x32, .i32⟩
  | 29 => ⟨S2x1024x32x1, .i32⟩
  | 30 => ⟨S2x1024x32x128, .f32⟩
  | 31 => ⟨S2x1024x32x131, .f32⟩
  | 32 => ⟨S2x1024x32x128, .f32⟩
  | 33 => ⟨S1x1x1x128, .f32⟩
  | 34 => ⟨S2x1024x32x128, .f32⟩
  | 35 => ⟨S2x1024x32x128, .f32⟩
  | 36 => ⟨S_, .f32⟩
  | 37 => ⟨S128, .f32⟩
  | 38 => ⟨S1x1x1x128, .f32⟩
  | 39 => ⟨S_, .f32⟩
  | 40 => ⟨S1x1x1x128, .f32⟩
  | 41 => ⟨S1x1x1x128, .f32⟩
  | 42 => ⟨S_, .i32⟩
  | 43 => ⟨S_, .f32⟩
  | 44 => ⟨S128, .f32⟩
  | 45 => ⟨S1x1x1x128, .f32⟩
  | 46 => ⟨S_, .f32⟩
  | 47 => ⟨S1x1x1x128, .f32⟩
  | 48 => ⟨S1x1x1x128, .f32⟩
  | 49 => ⟨S2x1024x32x128, .f32⟩
  | 50 => ⟨S2x1024x32x128, .f32⟩
  | 51 => ⟨S2x1024x32x128, .f32⟩
  | 52 => ⟨S_, .f32⟩
  | 53 => ⟨S_, .f32⟩
  | 54 => ⟨S_, .f32⟩
  | 55 => ⟨S_, .f32⟩
  | 56 => ⟨S128, .f32⟩
  | 57 => ⟨S1x1x1x128, .f32⟩
  | 58 => ⟨S1x1x1x128, .f32⟩
  | 59 => ⟨S1x1x1x128, .f32⟩
  | 60 => ⟨S_, .f32⟩
  | 61 => ⟨S_, .i1⟩
  | 62 => ⟨S_, .f32⟩
  | 63 => ⟨S_, .f32⟩
  | 64 => ⟨S1x1x1x128, .f32⟩
  | 65 => ⟨S1x1x1x128, .f32⟩
  | 66 => ⟨S2x1024x32x128, .f32⟩
  | 67 => ⟨S2x1024x32x128, .f32⟩
  | 68 => ⟨S_, .f32⟩
  | 69 => ⟨S1x1x1x128, .f32⟩
  | 70 => ⟨S1x1x1x128, .f32⟩
  | 71 => ⟨S1x1x1x128, .f32⟩
  | 72 => ⟨S2x1024x32x128, .f32⟩
  | 73 => ⟨S2x1024x32x128, .f32⟩
  | 74 => ⟨S1x1x1x128, .f32⟩
  | 75 => ⟨S2x1024x32x128, .f32⟩
  | 76 => ⟨S2x1024x32x128, .f32⟩
  | 77 => ⟨S1x1x1x128, .f32⟩
  | 78 => ⟨S2x1024x32x128, .f32⟩
  | 79 => ⟨S2x1024x32x128, .f32⟩
  | 80 => ⟨S_, .f32⟩
  | 81 => ⟨S2x1024x32x128, .f32⟩
  | 82 => ⟨S2x1024x32x128, .f32⟩
  | 83 => ⟨S2x1024x32x128, .f32⟩
  | 84 => ⟨S1x1x1x128, .f32⟩
  | 85 => ⟨S2x1024x32x128, .f32⟩
  | 86 => ⟨S2x1024x32x128, .f32⟩
  | 87 => ⟨S_, .f32⟩
  | 88 => ⟨S128, .f32⟩
  | 89 => ⟨S1x1x1x128, .f32⟩
  | 90 => ⟨S_, .f32⟩
  | 91 => ⟨S1x1x1x128, .f32⟩
  | 92 => ⟨S1x1x1x128, .f32⟩
  | 93 => ⟨S_, .i32⟩
  | 94 => ⟨S_, .f32⟩
  | 95 => ⟨S128, .f32⟩
  | 96 => ⟨S1x1x1x128, .f32⟩
  | 97 => ⟨S_, .f32⟩
  | 98 => ⟨S1x1x1x128, .f32⟩
  | 99 => ⟨S1x1x1x128, .f32⟩
  | 100 => ⟨S2x1024x32x128, .f32⟩
  | 101 => ⟨S2x1024x32x128, .f32⟩
  | 102 => ⟨S2x1024x32x128, .f32⟩
  | 103 => ⟨S_, .f32⟩
  | 104 => ⟨S_, .f32⟩
  | 105 => ⟨S_, .f32⟩
  | 106 => ⟨S_, .f32⟩
  | 107 => ⟨S128, .f32⟩
  | 108 => ⟨S1x1x1x128, .f32⟩
  | 109 => ⟨S1x1x1x128, .f32⟩
  | 110 => ⟨S1x1x1x128, .f32⟩
  | 111 => ⟨S_, .f32⟩
  | 112 => ⟨S_, .i1⟩
  | 113 => ⟨S_, .f32⟩
  | 114 => ⟨S_, .f32⟩
  | 115 => ⟨S1x1x1x128, .f32⟩
  | 116 => ⟨S1x1x1x128, .f32⟩
  | 117 => ⟨S2x1024x32x128, .f32⟩
  | 118 => ⟨S2x1024x32x128, .f32⟩
  | 119 => ⟨S_, .f32⟩
  | 120 => ⟨S1x1x1x128, .f32⟩
  | 121 => ⟨S1x1x1x128, .f32⟩
  | 122 => ⟨S1x1x1x128, .f32⟩
  | 123 => ⟨S2x1024x32x128, .f32⟩
  | 124 => ⟨S2x1024x32x128, .f32⟩
  | 125 => ⟨S1x1x1x128, .f32⟩
  | 126 => ⟨S2x1024x32x128, .f32⟩
  | 127 => ⟨S2x1024x32x128, .f32⟩
  | _ => ⟨S2x3x8192, .f32⟩

abbrev hbmTy0_2 (i : Nat) : BufTy := match i % 128 with
  | 0 => ⟨S1x1x1x128, .f32⟩
  | 1 => ⟨S2x1024x32x128, .f32⟩
  | 2 => ⟨S2x1024x32x128, .f32⟩
  | 3 => ⟨S_, .f32⟩
  | 4 => ⟨S2x1024x32x128, .f32⟩
  | 5 => ⟨S2x1024x32x128, .f32⟩
  | 6 => ⟨S2x1024x32x256, .f32⟩
  | 7 => ⟨S1x1x1x256, .f32⟩
  | 8 => ⟨S2x1024x32x256, .f32⟩
  | 9 => ⟨S2x1024x32x256, .f32⟩
  | 10 => ⟨S_, .f32⟩
  | 11 => ⟨S256, .f32⟩
  | 12 => ⟨S1x1x1x256, .f32⟩
  | 13 => ⟨S_, .f32⟩
  | 14 => ⟨S1x1x1x256, .f32⟩
  | 15 => ⟨S1x1x1x256, .f32⟩
  | 16 => ⟨S_, .i32⟩
  | 17 => ⟨S_, .f32⟩
  | 18 => ⟨S256, .f32⟩
  | 19 => ⟨S1x1x1x256, .f32⟩
  | 20 => ⟨S_, .f32⟩
  | 21 => ⟨S1x1x1x256, .f32⟩
  | 22 => ⟨S1x1x1x256, .f32⟩
  | 23 => ⟨S2x1024x32x256, .f32⟩
  | 24 => ⟨S2x1024x32x256, .f32⟩
  | 25 => ⟨S2x1024x32x256, .f32⟩
  | 26 => ⟨S_, .f32⟩
  | 27 => ⟨S_, .f32⟩
  | 28 => ⟨S_, .f32⟩
  | 29 => ⟨S_, .f32⟩
  | 30 => ⟨S256, .f32⟩
  | 31 => ⟨S1x1x1x256, .f32⟩
  | 32 => ⟨S1x1x1x256, .f32⟩
  | 33 => ⟨S1x1x1x256, .f32⟩
  | 34 => ⟨S_, .f32⟩
  | 35 => ⟨S_, .i1⟩
  | 36 => ⟨S_, .f32⟩
  | 37 => ⟨S_, .f32⟩
  | 38 => ⟨S1x1x1x256, .f32⟩
  | 39 => ⟨S1x1x1x256, .f32⟩
  | 40 => ⟨S2x1024x32x256, .f32⟩
  | 41 => ⟨S2x1024x32x256, .f32⟩
  | 42 => ⟨S_, .f32⟩
  | 43 => ⟨S1x1x1x256, .f32⟩
  | 44 => ⟨S1x1x1x256, .f32⟩
  | 45 => ⟨S1x1x1x256, .f32⟩
  | 46 => ⟨S2x1024x32x256, .f32⟩
  | 47 => ⟨S2x1024x32x256, .f32⟩
  | 48 => ⟨S1x1x1x256, .f32⟩
  | 49 => ⟨S2x1024x32x256, .f32⟩
  | 50 => ⟨S2x1024x32x256, .f32⟩
  | 51 => ⟨S1x1x1x256, .f32⟩
  | 52 => ⟨S2x1024x32x256, .f32⟩
  | 53 => ⟨S2x1024x32x256, .f32⟩
  | 54 => ⟨S_, .f32⟩
  | 55 => ⟨S2x1024x32x256, .f32⟩
  | 56 => ⟨S2x1024x32x256, .f32⟩
  | 57 => ⟨S2x3x1024, .f32⟩
  | 58 => ⟨S_, .f32⟩
  | 59 => ⟨S2x1024x256, .f32⟩
  | 60 => ⟨S2x256x1024, .f32⟩
  | _ => ⟨S2x3x8192, .f32⟩

abbrev hbmTy (i : Nat) : BufTy := match i / 128 with
  | 0 => hbmTy0_0 i
  | 1 => hbmTy0_1 i
  | 2 => hbmTy0_2 i
  | _ => ⟨S2x3x8192, .f32⟩

abbrev bufTy : (tb : Table) → Fin (tcTables nBuf tb) → BufTy
  | .hbm, ⟨i, _⟩ => hbmTy i
  | _, _ => ⟨S2x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_0 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev main_v7_3 : Ref sig .tc := ⟨.hbm, 27, rfl⟩
abbrev main_while0c_c_30 : Ref sig .tc := ⟨.hbm, 28, rfl⟩
abbrev main_while0c_v131 : Ref sig .tc := ⟨.hbm, 29, rfl⟩
abbrev main_while0b_values_30 : Ref sig .tc := ⟨.hbm, 30, rfl⟩
abbrev main_while0b_indices_31 : Ref sig .tc := ⟨.hbm, 31, rfl⟩
abbrev main_while0b_v131 : Ref sig .tc := ⟨.hbm, 32, rfl⟩
abbrev main_while0b_v132 : Ref sig .tc := ⟨.hbm, 33, rfl⟩
abbrev main_while0b_call0_c : Ref sig .tc := ⟨.hbm, 34, rfl⟩
abbrev main_while0b_call0_v0 : Ref sig .tc := ⟨.hbm, 35, rfl⟩
abbrev main_while0b_call0_v1 : Ref sig .tc := ⟨.hbm, 36, rfl⟩
abbrev main_while0b_call0_c_0 : Ref sig .tc := ⟨.hbm, 37, rfl⟩
abbrev main_while0b_call0_v2 : Ref sig .tc := ⟨.hbm, 38, rfl⟩
abbrev main_while0b_call0_v3 : Ref sig .tc := ⟨.hbm, 39, rfl⟩
abbrev main_while0b_call0_v4 : Ref sig .tc := ⟨.hbm, 40, rfl⟩
abbrev main_while0b_call0_c_1 : Ref sig .tc := ⟨.hbm, 41, rfl⟩
abbrev main_while0b_call0_c_2 : Ref sig .tc := ⟨.hbm, 42, rfl⟩
abbrev main_while0b_call0_v5 : Ref sig .tc := ⟨.hbm, 43, rfl⟩
abbrev main_while0b_call0_v6 : Ref sig .tc := ⟨.hbm, 44, rfl⟩
abbrev main_while0b_call0_v7 : Ref sig .tc := ⟨.hbm, 45, rfl⟩
abbrev main_while0b_call0_v8 : Ref sig .tc := ⟨.hbm, 46, rfl⟩
abbrev main_while0b_call0_v9 : Ref sig .tc := ⟨.hbm, 47, rfl⟩
abbrev main_while0b_call0_v10 : Ref sig .tc := ⟨.hbm, 48, rfl⟩
abbrev main_while0b_call0_c_3 : Ref sig .tc := ⟨.hbm, 49, rfl⟩
abbrev main_while0b_call0_v11 : Ref sig .tc := ⟨.hbm, 50, rfl⟩
abbrev main_while0b_call0_v12 : Ref sig .tc := ⟨.hbm, 51, rfl⟩
abbrev main_while0b_call0_v13 : Ref sig .tc := ⟨.hbm, 52, rfl⟩
abbrev main_while0b_call0_cst : Ref sig .tc := ⟨.hbm, 53, rfl⟩
abbrev main_while0b_call0_v14 : Ref sig .tc := ⟨.hbm, 54, rfl⟩
abbrev main_while0b_v133 : Ref sig .tc := ⟨.hbm, 55, rfl⟩
abbrev main_while0b_v134 : Ref sig .tc := ⟨.hbm, 56, rfl⟩
abbrev main_while0b_v135 : Ref sig .tc := ⟨.hbm, 57, rfl⟩
abbrev main_while0b_v136 : Ref sig .tc := ⟨.hbm, 58, rfl⟩
abbrev main_while0b_cst_32 : Ref sig .tc := ⟨.hbm, 59, rfl⟩
abbrev main_while0b_v137 : Ref sig .tc := ⟨.hbm, 60, rfl⟩
abbrev main_while0b_v138 : Ref sig .tc := ⟨.hbm, 61, rfl⟩
abbrev main_while0b_call1_v0 : Ref sig .tc := ⟨.hbm, 62, rfl⟩
abbrev main_while0b_call1_c : Ref sig .tc := ⟨.hbm, 63, rfl⟩
abbrev main_while0b_v139 : Ref sig .tc := ⟨.hbm, 64, rfl⟩
abbrev main_while0b_c_33 : Ref sig .tc := ⟨.hbm, 65, rfl⟩
abbrev main_while0b_v140 : Ref sig .tc := ⟨.hbm, 66, rfl⟩
abbrev main_c_1 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_1 : Ref sig .tc := ⟨.hbm, 79, rfl⟩
abbrev main_call2_c_2 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_c_3 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_cst : Ref sig .tc := ⟨.hbm, 91, rfl⟩
abbrev main_call2_v14 : Ref sig .tc := ⟨.hbm, 92, rfl⟩
abbrev main_v12 : Ref sig .tc := ⟨.hbm, 93, rfl⟩
abbrev main_v13 : Ref sig .tc := ⟨.hbm, 94, rfl⟩
abbrev main_cst_2 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_cst_3 : Ref sig .tc := ⟨.hbm, 99, rfl⟩
abbrev main_v17 : Ref sig .tc := ⟨.hbm, 100, rfl⟩
abbrev main_v18 : Ref sig .tc := ⟨.hbm, 101, rfl⟩
abbrev main_v19 : Ref sig .tc := ⟨.hbm, 102, rfl⟩
abbrev main_v20 : Ref sig .tc := ⟨.hbm, 103, rfl⟩
abbrev main_v21 : Ref sig .tc := ⟨.hbm, 104, rfl⟩
abbrev main_v22 : Ref sig .tc := ⟨.hbm, 105, rfl⟩
abbrev main_cst_4 : Ref sig .tc := ⟨.hbm, 106, rfl⟩
abbrev main_v23 : Ref sig .tc := ⟨.hbm, 107, rfl⟩
abbrev main_v24 : Ref sig .tc := ⟨.hbm, 108, rfl⟩
abbrev main_v25 : Ref sig .tc := ⟨.hbm, 109, rfl⟩
abbrev main_cst_5 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_v29 : Ref sig .tc := ⟨.hbm, 114, rfl⟩
abbrev main_c_6 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v30 : Ref sig .tc := ⟨.hbm, 119, rfl⟩
abbrev main_v31 : Ref sig .tc := ⟨.hbm, 120, rfl⟩
abbrev main_values : Ref sig .tc := ⟨.hbm, 121, rfl⟩
abbrev main_indices : Ref sig .tc := ⟨.hbm, 122, rfl⟩
abbrev main_v32 : Ref sig .tc := ⟨.hbm, 123, rfl⟩
abbrev main_v33 : Ref sig .tc := ⟨.hbm, 124, rfl⟩
abbrev main_c_7 : Ref sig .tc := ⟨.hbm, 125, rfl⟩
abbrev main_v34 : Ref sig .tc := ⟨.hbm, 126, rfl⟩
abbrev main_v35 : Ref sig .tc := ⟨.hbm, 127, rfl⟩
abbrev main_c_8 : Ref sig .tc := ⟨.hbm, 128, rfl⟩
abbrev main_call4_v0 : Ref sig .tc := ⟨.hbm, 129, rfl⟩
abbrev main_call4_v1 : Ref sig .tc := ⟨.hbm, 130, rfl⟩
abbrev main_v36 : Ref sig .tc := ⟨.hbm, 131, rfl⟩
abbrev main_c_9 : Ref sig .tc := ⟨.hbm, 132, rfl⟩
abbrev main_v37 : Ref sig .tc := ⟨.hbm, 133, rfl⟩
abbrev main_v38 : Ref sig .tc := ⟨.hbm, 134, rfl⟩
abbrev main_call5_v0 : Ref sig .tc := ⟨.hbm, 135, rfl⟩
abbrev main_v39 : Ref sig .tc := ⟨.hbm, 136, rfl⟩
abbrev main_c_10 : Ref sig .tc := ⟨.hbm, 137, rfl⟩
abbrev main_v40 : Ref sig .tc := ⟨.hbm, 138, rfl⟩
abbrev main_v41 : Ref sig .tc := ⟨.hbm, 139, rfl⟩
abbrev main_c_11 : Ref sig .tc := ⟨.hbm, 140, rfl⟩
abbrev main_v42 : Ref sig .tc := ⟨.hbm, 141, rfl⟩
abbrev main_v43 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_c_12 : Ref sig .tc := ⟨.hbm, 150, rfl⟩
abbrev main_v51 : Ref sig .tc := ⟨.hbm, 151, rfl⟩
abbrev main_v52 : Ref sig .tc := ⟨.hbm, 152, rfl⟩
abbrev main_c_13 : Ref sig .tc := ⟨.hbm, 153, rfl⟩
abbrev main_v53 : Ref sig .tc := ⟨.hbm, 154, rfl⟩
abbrev main_v54 : Ref sig .tc := ⟨.hbm, 155, rfl⟩
abbrev main_v55 : Ref sig .tc := ⟨.hbm, 156, rfl⟩
abbrev main_v56 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_cst_14 : Ref sig .tc := ⟨.hbm, 164, rfl⟩
abbrev main_v63 : Ref sig .tc := ⟨.hbm, 165, rfl⟩
abbrev main_v64 : Ref sig .tc := ⟨.hbm, 166, rfl⟩
abbrev main_cst_15 : Ref sig .tc := ⟨.hbm, 167, rfl⟩
abbrev main_v65 : Ref sig .tc := ⟨.hbm, 168, rfl⟩
abbrev main_v66 : Ref sig .tc := ⟨.hbm, 169, rfl⟩
abbrev main_c_16 : Ref sig .tc := ⟨.hbm, 170, rfl⟩
abbrev main_call6_cst : Ref sig .tc := ⟨.hbm, 171, rfl⟩
abbrev main_call6_v0 : Ref sig .tc := ⟨.hbm, 172, rfl⟩
abbrev main_call6_v1 : Ref sig .tc := ⟨.hbm, 173, rfl⟩
abbrev main_call6_cst_0 : Ref sig .tc := ⟨.hbm, 174, rfl⟩
abbrev main_call6_v2 : Ref sig .tc := ⟨.hbm, 175, rfl⟩
abbrev main_call6_v3 : Ref sig .tc := ⟨.hbm, 176, rfl⟩
abbrev main_call6_v4 : Ref sig .tc := ⟨.hbm, 177, rfl⟩
abbrev main_call6_v5 : Ref sig .tc := ⟨.hbm, 178, rfl⟩
abbrev main_call6_v6 : Ref sig .tc := ⟨.hbm, 179, rfl⟩
abbrev main_call6_v7 : Ref sig .tc := ⟨.hbm, 180, rfl⟩
abbrev main_call6_cst_1 : Ref sig .tc := ⟨.hbm, 181, rfl⟩
abbrev main_call6_v8 : Ref sig .tc := ⟨.hbm, 182, rfl⟩
abbrev main_call6_cst_2 : Ref sig .tc := ⟨.hbm, 183, rfl⟩
abbrev main_call6_v9 : Ref sig .tc := ⟨.hbm, 184, rfl⟩
abbrev main_call6_v10 : Ref sig .tc := ⟨.hbm, 185, rfl⟩
abbrev main_call6_v11 : Ref sig .tc := ⟨.hbm, 186, rfl⟩
abbrev main_call6_v12 : Ref sig .tc := ⟨.hbm, 187, rfl⟩
abbrev main_call6_cst_3 : Ref sig .tc := ⟨.hbm, 188, rfl⟩
abbrev main_call6_v13 : Ref sig .tc := ⟨.hbm, 189, rfl⟩
abbrev main_call6_cst_4 : Ref sig .tc := ⟨.hbm, 190, rfl⟩
abbrev main_call6_call0_v0 : Ref sig .tc := ⟨.hbm, 191, rfl⟩
abbrev main_call6_call0_v1 : Ref sig .tc := ⟨.hbm, 192, rfl⟩
abbrev main_v67 : Ref sig .tc := ⟨.hbm, 193, rfl⟩
abbrev main_v68 : Ref sig .tc := ⟨.hbm, 194, rfl⟩
abbrev main_v69 : Ref sig .tc := ⟨.hbm, 195, rfl⟩
abbrev main_cst_17 : Ref sig .tc := ⟨.hbm, 196, rfl⟩
abbrev main_v70 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_v74 : Ref sig .tc := ⟨.hbm, 201, rfl⟩
abbrev main_v75 : Ref sig .tc := ⟨.hbm, 202, rfl⟩
abbrev main_v76 : Ref sig .tc := ⟨.hbm, 203, rfl⟩
abbrev main_v77 : Ref sig .tc := ⟨.hbm, 204, rfl⟩
abbrev main_v78 : Ref sig .tc := ⟨.hbm, 205, rfl⟩
abbrev main_v79 : Ref sig .tc := ⟨.hbm, 206, rfl⟩
abbrev main_v80 : Ref sig .tc := ⟨.hbm, 207, rfl⟩
abbrev main_call7_cst : Ref sig .tc := ⟨.hbm, 208, rfl⟩
abbrev main_call7_v0 : Ref sig .tc := ⟨.hbm, 209, rfl⟩
abbrev main_v81 : Ref sig .tc := ⟨.hbm, 210, rfl⟩
abbrev main_v82 : Ref sig .tc := ⟨.hbm, 211, rfl⟩
abbrev main_v83 : Ref sig .tc := ⟨.hbm, 212, rfl⟩
abbrev main_v84 : Ref sig .tc := ⟨.hbm, 213, rfl⟩
abbrev main_v85 : Ref sig .tc := ⟨.hbm, 214, rfl⟩
abbrev main_cst_18 : Ref sig .tc := ⟨.hbm, 215, rfl⟩
abbrev main_v86 : Ref sig .tc := ⟨.hbm, 216, rfl⟩
abbrev main_v87 : Ref sig .tc := ⟨.hbm, 217, rfl⟩
abbrev main_cst_19 : Ref sig .tc := ⟨.hbm, 218, rfl⟩
abbrev main_v88 : Ref sig .tc := ⟨.hbm, 219, rfl⟩
abbrev main_v89 : Ref sig .tc := ⟨.hbm, 220, rfl⟩
abbrev main_c_20 : Ref sig .tc := ⟨.hbm, 221, rfl⟩
abbrev main_call8_cst : Ref sig .tc := ⟨.hbm, 222, rfl⟩
abbrev main_call8_v0 : Ref sig .tc := ⟨.hbm, 223, rfl⟩
abbrev main_call8_v1 : Ref sig .tc := ⟨.hbm, 224, rfl⟩
abbrev main_call8_cst_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_v6 : Ref sig .tc := ⟨.hbm, 230, rfl⟩
abbrev main_call8_v7 : Ref sig .tc := ⟨.hbm, 231, rfl⟩
abbrev main_call8_cst_1 : Ref sig .tc := ⟨.hbm, 232, rfl⟩
abbrev main_call8_v8 : Ref sig .tc := ⟨.hbm, 233, rfl⟩
abbrev main_call8_cst_2 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_v12 : Ref sig .tc := ⟨.hbm, 238, rfl⟩
abbrev main_call8_cst_3 : Ref sig .tc := ⟨.hbm, 239, rfl⟩
abbrev main_call8_v13 : Ref sig .tc := ⟨.hbm, 240, rfl⟩
abbrev main_call8_cst_4 : Ref sig .tc := ⟨.hbm, 241, rfl⟩
abbrev main_call8_call0_v0 : Ref sig .tc := ⟨.hbm, 242, rfl⟩
abbrev main_call8_call0_v1 : Ref sig .tc := ⟨.hbm, 243, rfl⟩
abbrev main_v90 : Ref sig .tc := ⟨.hbm, 244, rfl⟩
abbrev main_v91 : Ref sig .tc := ⟨.hbm, 245, rfl⟩
abbrev main_v92 : Ref sig .tc := ⟨.hbm, 246, rfl⟩
abbrev main_cst_21 : Ref sig .tc := ⟨.hbm, 247, rfl⟩
abbrev main_v93 : Ref sig .tc := ⟨.hbm, 248, rfl⟩
abbrev main_v94 : Ref sig .tc := ⟨.hbm, 249, rfl⟩
abbrev main_v95 : Ref sig .tc := ⟨.hbm, 250, rfl⟩
abbrev main_v96 : Ref sig .tc := ⟨.hbm, 251, rfl⟩
abbrev main_v97 : Ref sig .tc := ⟨.hbm, 252, rfl⟩
abbrev main_v98 : Ref sig .tc := ⟨.hbm, 253, rfl⟩
abbrev main_v99 : Ref sig .tc := ⟨.hbm, 254, rfl⟩
abbrev main_v100 : Ref sig .tc := ⟨.hbm, 255, rfl⟩
abbrev main_v101 : Ref sig .tc := ⟨.hbm, 256, rfl⟩
abbrev main_v102 : Ref sig .tc := ⟨.hbm, 257, rfl⟩
abbrev main_v103 : Ref sig .tc := ⟨.hbm, 258, rfl⟩
abbrev main_call9_cst : Ref sig .tc := ⟨.hbm, 259, rfl⟩
abbrev main_call9_v0 : Ref sig .tc := ⟨.hbm, 260, rfl⟩
abbrev main_v104 : Ref sig .tc := ⟨.hbm, 261, rfl⟩
abbrev main_v105 : Ref sig .tc := ⟨.hbm, 262, rfl⟩
abbrev main_v106 : Ref sig .tc := ⟨.hbm, 263, rfl⟩
abbrev main_v107 : Ref sig .tc := ⟨.hbm, 264, rfl⟩
abbrev main_v108 : Ref sig .tc := ⟨.hbm, 265, rfl⟩
abbrev main_cst_22 : Ref sig .tc := ⟨.hbm, 266, rfl⟩
abbrev main_v109 : Ref sig .tc := ⟨.hbm, 267, rfl⟩
abbrev main_v110 : Ref sig .tc := ⟨.hbm, 268, rfl⟩
abbrev main_cst_23 : Ref sig .tc := ⟨.hbm, 269, rfl⟩
abbrev main_v111 : Ref sig .tc := ⟨.hbm, 270, rfl⟩
abbrev main_v112 : Ref sig .tc := ⟨.hbm, 271, rfl⟩
abbrev main_c_24 : Ref sig .tc := ⟨.hbm, 272, rfl⟩
abbrev main_call10_cst : Ref sig .tc := ⟨.hbm, 273, rfl⟩
abbrev main_call10_v0 : Ref sig .tc := ⟨.hbm, 274, rfl⟩
abbrev main_call10_v1 : Ref sig .tc := ⟨.hbm, 275, rfl⟩
abbrev main_call10_cst_0 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_call10_v5 : Ref sig .tc := ⟨.hbm, 280, rfl⟩
abbrev main_call10_v6 : Ref sig .tc := ⟨.hbm, 281, rfl⟩
abbrev main_call10_v7 : Ref sig .tc := ⟨.hbm, 282, rfl⟩
abbrev main_call10_cst_1 : Ref sig .tc := ⟨.hbm, 283, rfl⟩
abbrev main_call10_v8 : Ref sig .tc := ⟨.hbm, 284, rfl⟩
abbrev main_call10_cst_2 : Ref sig .tc := ⟨.hbm, 285, rfl⟩
abbrev main_call10_v9 : Ref sig .tc := ⟨.hbm, 286, rfl⟩
abbrev main_call10_v10 : Ref sig .tc := ⟨.hbm, 287, rfl⟩
abbrev main_call10_v11 : Ref sig .tc := ⟨.hbm, 288, rfl⟩
abbrev main_call10_v12 : Ref sig .tc := ⟨.hbm, 289, rfl⟩
abbrev main_call10_cst_3 : Ref sig .tc := ⟨.hbm, 290, rfl⟩
abbrev main_call10_v13 : Ref sig .tc := ⟨.hbm, 291, rfl⟩
abbrev main_call10_cst_4 : Ref sig .tc := ⟨.hbm, 292, rfl⟩
abbrev main_call10_call0_v0 : Ref sig .tc := ⟨.hbm, 293, rfl⟩
abbrev main_call10_call0_v1 : Ref sig .tc := ⟨.hbm, 294, rfl⟩
abbrev main_v113 : Ref sig .tc := ⟨.hbm, 295, rfl⟩
abbrev main_v114 : Ref sig .tc := ⟨.hbm, 296, rfl⟩
abbrev main_v115 : Ref sig .tc := ⟨.hbm, 297, rfl⟩
abbrev main_cst_25 : Ref sig .tc := ⟨.hbm, 298, rfl⟩
abbrev main_v116 : Ref sig .tc := ⟨.hbm, 299, rfl⟩
abbrev main_v117 : Ref sig .tc := ⟨.hbm, 300, rfl⟩
abbrev main_v118 : Ref sig .tc := ⟨.hbm, 301, rfl⟩
abbrev main_v119 : Ref sig .tc := ⟨.hbm, 302, rfl⟩
abbrev main_v120 : Ref sig .tc := ⟨.hbm, 303, rfl⟩
abbrev main_v121 : Ref sig .tc := ⟨.hbm, 304, rfl⟩
abbrev main_v122 : Ref sig .tc := ⟨.hbm, 305, rfl⟩
abbrev main_v123 : Ref sig .tc := ⟨.hbm, 306, rfl⟩
abbrev main_v124 : Ref sig .tc := ⟨.hbm, 307, rfl⟩
abbrev main_v125 : Ref sig .tc := ⟨.hbm, 308, rfl⟩
abbrev main_v126 : Ref sig .tc := ⟨.hbm, 309, rfl⟩
abbrev main_call11_cst : Ref sig .tc := ⟨.hbm, 310, rfl⟩
abbrev main_call11_v0 : Ref sig .tc := ⟨.hbm, 311, rfl⟩
abbrev main_v127 : Ref sig .tc := ⟨.hbm, 312, rfl⟩
abbrev main_v128 : Ref sig .tc := ⟨.hbm, 313, rfl⟩
abbrev main_cst_26 : Ref sig .tc := ⟨.hbm, 314, rfl⟩
abbrev main_v129 : Ref sig .tc := ⟨.hbm, 315, rfl⟩
abbrev main_v130 : Ref sig .tc := ⟨.hbm, 316, rfl⟩

abbrev nD : Nat := 1
abbrev τ : Topo := Topo.v7x

variable {F : FTy → Type} [FloatOps F]

abbrev main_while0_count : Scf.Loop 32 := ⟨0#32, 1023#32, 1#32⟩
-- ==== Sample.lean ====
abbrev S2x3x8192 : Shape := ⟨3, ![2, 3, 8192]⟩
abbrev S2x3x1024 : Shape := ⟨3, ![2, 3, 1024]⟩
abbrev S1x3x8192 : Shape := ⟨3, ![1, 3, 8192]⟩
abbrev S1x3x1024 : Shape := ⟨3, ![1, 3, 1024]⟩
abbrev S3x8192 : Shape := ⟨2, ![3, 8192]⟩
abbrev S3x1 : Shape := ⟨2, ![3, 1]⟩
abbrev S8192 : Shape := ⟨1, ![8192]⟩
abbrev S1x8192 : Shape := ⟨2, ![1, 8192]⟩
abbrev S1x1024 : Shape := ⟨2, ![1, 1024]⟩
abbrev S3x1024 : Shape := ⟨2, ![3, 1024]⟩
abbrev S1x1x8192 : Shape := ⟨3, ![1, 1, 8192]⟩
abbrev S1 : Shape := ⟨1, ![1]⟩
abbrev S1x1x1 : Shape := ⟨3, ![1, 1, 1]⟩
abbrev S3 : Shape := ⟨1, ![3]⟩

abbrev nBuf : Space → Nat
  | .hbm => 2
  | .vmem => 4
  | .smem => 0
  | _ => 0

abbrev bufTy : (tb : Table) → Fin (tcTables nBuf tb) → BufTy
  | .hbm, ⟨0, _⟩ => ⟨S2x3x8192, .f32⟩
  | .hbm, ⟨1, _⟩ => ⟨S2x3x1024, .f32⟩
  | .local _ .vmem, ⟨0, _⟩ => ⟨S1x3x8192, .f32⟩
  | .local _ .vmem, ⟨1, _⟩ => ⟨S1x3x8192, .f32⟩
  | .local _ .vmem, ⟨2, _⟩ => ⟨S1x3x1024, .f32⟩
  | .local _ .vmem, ⟨3, _⟩ => ⟨S1x3x1024, .f32⟩
  | _, _ => ⟨S2x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

@[reducible] def k0_t1_loop : Scf.Loop 32 :=
  let c1_i32 : BitVec 32 := 1#32
  let c1023_i32 : BitVec 32 := 1023#32
  let v18 : BitVec 32 := Scalar.addi c1_i32 c1023_i32
  let c1_i32_3 : BitVec 32 := 1#32
  ⟨c1_i32, v18, c1_i32_3⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SampleReferenceIdeal.lean ====
abbrev S2x3x8192 : Shape := ⟨3, ![2, 3, 8192]⟩
abbrev S2x8192x3 : Shape := ⟨3, ![2, 8192, 3]⟩
abbrev S2x1x3 : Shape := ⟨3, ![2, 1, 3]⟩
abbrev S_ : Shape := ⟨0, ![]⟩
abbrev S2x8192 : Shape := ⟨2, ![2, 8192]⟩
abbrev S1023x2 : Shape := ⟨2, ![1023, 2]⟩
abbrev S2x1 : Shape := ⟨2, ![2, 1]⟩
abbrev S2 : Shape := ⟨1, ![2]⟩
abbrev S2x1x1 : Shape := ⟨3, ![2, 1, 1]⟩
abbrev S1 : Shape := ⟨1, ![1]⟩
abbrev S1x1x1 : Shape := ⟨3, ![1, 1, 1]⟩
abbrev S1x2 : Shape := ⟨2, ![1, 2]⟩
abbrev S1024x2 : Shape := ⟨2, ![1024, 2]⟩
abbrev S2x1024 : Shape := ⟨2, ![2, 1024]⟩
abbrev S2x1024x1 : Shape := ⟨3, ![2, 1024, 1]⟩
abbrev S2x1024x3 : Shape := ⟨3, ![2, 1024, 3]⟩
abbrev S2x3x1024 : Shape := ⟨3, ![2, 3, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x3x8192, .f32⟩
  | .hbm, ⟨1, _⟩ => ⟨S2x8192x3, .f32⟩
  | .hbm, ⟨2, _⟩ => ⟨S2x1x3, .f32⟩
  | .hbm, ⟨3, _⟩ => ⟨S2x8192x3, .f32⟩
  | .hbm, ⟨4, _⟩ => ⟨S2x8192x3, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S_, .i32⟩
  | .hbm, ⟨9, _⟩ => ⟨S1023x2, .i32⟩
  | .hbm, ⟨10, _⟩ => ⟨S_, .i32⟩
  | .hbm, ⟨11, _⟩ => ⟨S2x8192x3, .f32⟩
  | .hbm, ⟨12, _⟩ => ⟨S_, .i32⟩
  | .hbm, ⟨13, _⟩ => ⟨S2x8192, .f32⟩
  | .hbm, ⟨14, _⟩ => ⟨S1023x2, .i32⟩
  | .hbm, ⟨15, _⟩ => ⟨S_, .i32⟩
  | .hbm, ⟨16, _⟩ => ⟨S_, .i1⟩
  | .hbm, ⟨17, _⟩ => ⟨S2x1, .f32⟩
  | .hbm, ⟨18, _⟩ => ⟨S2x1, .i32⟩
  | .hbm, ⟨19, _⟩ => ⟨S2, .i32⟩
  | .hbm, ⟨20, _⟩ => ⟨S2x1x1, .i32⟩
  | .hbm, ⟨21, _⟩ => ⟨S_, .i32⟩
  | .hbm, ⟨22, _⟩ => ⟨S2x1x1, .i32⟩
  | .hbm, ⟨23, _⟩ => ⟨S2x1x1, .i1⟩
  | .hbm, ⟨24, _⟩ => ⟨S_, .i32⟩
  | .hbm, ⟨25, _⟩ => ⟨S2x1x1, .i32⟩
  | .hbm, ⟨26, _⟩ => ⟨S2x1x1, .i32⟩
  | .hbm, ⟨27, _⟩ => ⟨S2x1x1, .i32⟩
  | .hbm, ⟨28, _⟩ => ⟨S1, .i32⟩
  | .hbm, ⟨29, _⟩ => ⟨S_, .i32⟩
  | .hbm, ⟨30, _⟩ => ⟨S2x1x1, .i32⟩
  | .hbm, ⟨31, _⟩ => ⟨S2x1x1, .i1⟩
  | .hbm, ⟨32, _⟩ => ⟨S1x1x1, .i32⟩
  | .hbm, ⟨33, _⟩ => ⟨S2x1x1, .i32⟩
  | .hbm, ⟨34, _⟩ => ⟨S2x1x1, .i1⟩
  | .hbm, ⟨35, _⟩ => ⟨S2x1x1, .i1⟩
  | .hbm, ⟨36, _⟩ => ⟨S_, .i1⟩
  | .hbm, ⟨37, _⟩ => ⟨S2x1, .i1⟩
  | .hbm, ⟨38, _⟩ => ⟨S2x1x3, .f32⟩
  | .hbm, ⟨39, _⟩ => ⟨S2x1x3, .i1⟩
  | .hbm, ⟨40, _⟩ => ⟨S_, .f32⟩
  | .hbm, ⟨41, _⟩ => ⟨S2x1x3, .f32⟩
  | .hbm, ⟨42, _⟩ => ⟨S2x1x3, .f32⟩
  | .hbm, ⟨43, _⟩ => ⟨S2x8192x3, .f32⟩
  | .hbm, ⟨44, _⟩ => ⟨S2x8192x3, .f32⟩
  | .hbm, ⟨45, _⟩ => ⟨S2x8192x3, .f32⟩
  | .hbm, ⟨46, _⟩ => ⟨S_, .f32⟩
  | .hbm, ⟨47, _⟩ => ⟨S2x8192, .f32⟩
  | .hbm, ⟨48, _⟩ => ⟨S2x8192, .f32⟩
  | .hbm, ⟨49, _⟩ => ⟨S1x2, .i32⟩
  | .hbm, ⟨50, _⟩ => ⟨S_, .i32⟩
  | .hbm, ⟨51, _⟩ => ⟨S1023x2, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x2, .i32⟩
  | .hbm, ⟨56, _⟩ => ⟨S1024x2, .i32⟩
  | .hbm, ⟨57, _⟩ => ⟨S2x1024, .i32⟩
  | .hbm, ⟨58, _⟩ => ⟨S2x1024x1, .i32⟩
  | .hbm, ⟨59, _⟩ => ⟨S_, .i32⟩
  | .hbm, ⟨60, _⟩ => ⟨S2x1024x1, .i32⟩
  | .hbm, ⟨61, _⟩ => ⟨S2x1024x1, .i1⟩
  | .hbm, ⟨62, _⟩ => ⟨S_, .i32⟩
  | .hbm, ⟨63, _⟩ => ⟨S2x1024x1, .i32⟩
  | .hbm, ⟨64, _⟩ => ⟨S2x1024x1, .i32⟩
  | .hbm, ⟨65, _⟩ => ⟨S2x1024x1, .i32⟩
  | .hbm, ⟨66, _⟩ => ⟨S1, .i32⟩
  | .hbm, ⟨67, _⟩ => ⟨S_, .i32⟩
  | .hbm, ⟨68, _⟩ => ⟨S2x1024x1, .i32⟩
  | .hbm, ⟨69, _⟩ => ⟨S2x1024x1, .i1⟩
  | .hbm, ⟨70, _⟩ => ⟨S1x1x1, .i32⟩
  | .hbm, ⟨71, _⟩ => ⟨S2x1024x1, .i32⟩
  | .hbm, ⟨72, _⟩ => ⟨S2x1024x1, .i1⟩
  | .hbm, ⟨73, _⟩ => ⟨S2x1024x1, .i1⟩
  | .hbm, ⟨74, _⟩ => ⟨S_, .i1⟩
  | .hbm, ⟨75, _⟩ => ⟨S2x1024, .i1⟩
  | .hbm, ⟨76, _⟩ => ⟨S2x1024x3, .f32⟩
  | .hbm, ⟨77, _⟩ => ⟨S2x1024x3, .i1⟩
  | .hbm, ⟨78, _⟩ => ⟨S_, .f32⟩
  | .hbm, ⟨79, _⟩ => ⟨S2x1024x3, .f32⟩
  | .hbm, ⟨80, _⟩ => ⟨S2x1024x3, .f32⟩
  | .hbm, ⟨81, _⟩ => ⟨S2x3x1024, .f32⟩
  | _, _ => ⟨S2x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_c_0 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_while0c_c_5 : Ref sig .tc := ⟨.hbm, 15, rfl⟩
abbrev main_while0c_v14 : Ref sig .tc := ⟨.hbm, 16, rfl⟩
abbrev main_while0b_values : Ref sig .tc := ⟨.hbm, 17, rfl⟩
abbrev main_while0b_indices : Ref sig .tc := ⟨.hbm, 18, rfl⟩
abbrev main_while0b_v14 : Ref sig .tc := ⟨.hbm, 19, rfl⟩
abbrev main_while0b_v15 : Ref sig .tc := ⟨.hbm, 20, rfl⟩
abbrev main_while0b_call0_c : Ref sig .tc := ⟨.hbm, 21, rfl⟩
abbrev main_while0b_call0_v0 : Ref sig .tc := ⟨.hbm, 22, rfl⟩
abbrev main_while0b_call0_v1 : Ref sig .tc := ⟨.hbm, 23, rfl⟩
abbrev main_while0b_call0_c_0 : Ref sig .tc := ⟨.hbm, 24, rfl⟩
abbrev main_while0b_call0_v2 : Ref sig .tc := ⟨.hbm, 25, rfl⟩
abbrev main_while0b_call0_v3 : Ref sig .tc := ⟨.hbm, 26, rfl⟩
abbrev main_while0b_call0_v4 : Ref sig .tc := ⟨.hbm, 27, rfl⟩
abbrev main_while0b_call0_c_1 : Ref sig .tc := ⟨.hbm, 28, rfl⟩
abbrev main_while0b_call0_c_2 : Ref sig .tc := ⟨.hbm, 29, rfl⟩
abbrev main_while0b_call0_v5 : Ref sig .tc := ⟨.hbm, 30, rfl⟩
abbrev main_while0b_call0_v6 : Ref sig .tc := ⟨.hbm, 31, rfl⟩
abbrev main_while0b_call0_v7 : Ref sig .tc := ⟨.hbm, 32, rfl⟩
abbrev main_while0b_call0_v8 : Ref sig .tc := ⟨.hbm, 33, rfl⟩
abbrev main_while0b_call0_v9 : Ref sig .tc := ⟨.hbm, 34, rfl⟩
abbrev main_while0b_call0_v10 : Ref sig .tc := ⟨.hbm, 35, rfl⟩
abbrev main_while0b_call0_c_3 : Ref sig .tc := ⟨.hbm, 36, rfl⟩
abbrev main_while0b_call0_v11 : Ref sig .tc := ⟨.hbm, 37, rfl⟩
abbrev main_while0b_call0_v12 : Ref sig .tc := ⟨.hbm, 38, rfl⟩
abbrev main_while0b_call0_v13 : Ref sig .tc := ⟨.hbm, 39, rfl⟩
abbrev main_while0b_call0_cst : Ref sig .tc := ⟨.hbm, 40, rfl⟩
abbrev main_while0b_call0_v14 : Ref sig .tc := ⟨.hbm, 41, rfl⟩
abbrev main_while0b_v16 : Ref sig .tc := ⟨.hbm, 42, rfl⟩
abbrev main_while0b_v17 : Ref sig .tc := ⟨.hbm, 43, rfl⟩
abbrev main_while0b_v18 : Ref sig .tc := ⟨.hbm, 44, rfl⟩
abbrev main_while0b_v19 : Ref sig .tc := ⟨.hbm, 45, rfl⟩
abbrev main_while0b_cst_5 : Ref sig .tc := ⟨.hbm, 46, rfl⟩
abbrev main_while0b_v20 : Ref sig .tc := ⟨.hbm, 47, rfl⟩
abbrev main_while0b_v21 : Ref sig .tc := ⟨.hbm, 48, rfl⟩
abbrev main_while0b_call1_v0 : Ref sig .tc := ⟨.hbm, 49, rfl⟩
abbrev main_while0b_call1_c : Ref sig .tc := ⟨.hbm, 50, rfl⟩
abbrev main_while0b_v22 : Ref sig .tc := ⟨.hbm, 51, rfl⟩
abbrev main_while0b_c_6 : Ref sig .tc := ⟨.hbm, 52, rfl⟩
abbrev main_while0b_v23 : Ref sig .tc := ⟨.hbm, 53, rfl⟩
abbrev main_c_1 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_c_2 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_c_3 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v12 : Ref sig .tc := ⟨.hbm, 80, rfl⟩
abbrev main_v13 : Ref sig .tc := ⟨.hbm, 81, rfl⟩

abbrev nD : Nat := 1
abbrev τ : Topo := Topo.v7x

variable {F : FTy → Type} [FloatOps F]

abbrev main_while0_count : Scf.Loop 32 := ⟨0#32, 1023#32, 1#32⟩
-- ==== Near.lean ====
abbrev S2x3x1024 : Shape := ⟨3, ![2, 3, 1024]⟩
abbrev S2x3x8192 : Shape := ⟨3, ![2, 3, 8192]⟩
abbrev S2x1024x32 : Shape := ⟨3, ![2, 1024, 32]⟩
abbrev S1x3x128 : Shape := ⟨3, ![1, 3, 128]⟩
abbrev S1x3x8192 : Shape := ⟨3, ![1, 3, 8192]⟩
abbrev S1x128x32 : Shape := ⟨3, ![1, 128, 32]⟩
abbrev S3x8192 : Shape := ⟨2, ![3, 8192]⟩
abbrev S3x128 : Shape := ⟨2, ![3, 128]⟩
abbrev S128x8192 : Shape := ⟨2, ![128, 8192]⟩
abbrev S128 : Shape := ⟨1, ![128]⟩
abbrev S1x128 : Shape := ⟨2, ![1, 128]⟩
abbrev S128x1 : Shape := ⟨2, ![128, 1]⟩
abbrev S8192 : Shape := ⟨1, ![8192]⟩
abbrev S1x8192 : Shape := ⟨2, ![1, 8192]⟩
abbrev S128x32 : Shape := ⟨2, ![128, 32]⟩

abbrev nBuf : Space → Nat
  | .hbm => 3
  | .vmem => 6
  | .smem => 0
  | _ => 0

abbrev bufTy : (tb : Table) → Fin (tcTables nBuf tb) → BufTy
  | .hbm, ⟨0, _⟩ => ⟨S2x3x1024, .f32⟩
  | .hbm, ⟨1, _⟩ => ⟨S2x3x8192, .f32⟩
  | .hbm, ⟨2, _⟩ => ⟨S2x1024x32, .i32⟩
  | .local _ .vmem, ⟨0, _⟩ => ⟨S1x3x128, .f32⟩
  | .local _ .vmem, ⟨1, _⟩ => ⟨S1x3x128, .f32⟩
  | .local _ .vmem, ⟨2, _⟩ => ⟨S1x3x8192, .f32⟩
  | .local _ .vmem, ⟨3, _⟩ => ⟨S1x3x8192, .f32⟩
  | .local _ .vmem, ⟨4, _⟩ => ⟨S1x128x32, .i32⟩
  | .local _ .vmem, ⟨5, _⟩ => ⟨S1x128x32, .i32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NearReferenceIdeal.lean ====
abbrev S2x3x1024 : Shape := ⟨3, ![2, 3, 1024]⟩
abbrev S2x3x8192 : Shape := ⟨3, ![2, 3, 8192]⟩
abbrev S2x1024x3 : Shape := ⟨3, ![2, 1024, 3]⟩
abbrev S2x8192x3 : Shape := ⟨3, ![2, 8192, 3]⟩
abbrev S_ : Shape := ⟨0, ![]⟩
abbrev S2x1024 : Shape := ⟨2, ![2, 1024]⟩
abbrev S2x1024x1 : Shape := ⟨3, ![2, 1024, 1]⟩
abbrev S2x8192 : Shape := ⟨2, ![2, 8192]⟩
abbrev S2x1x8192 : Shape := ⟨3, ![2, 1, 8192]⟩
abbrev S2x1024x8192 : Shape := ⟨3, ![2, 1024, 8192]⟩
abbrev S8192 : Shape := ⟨1, ![8192]⟩
abbrev S1x1x8192 : Shape := ⟨3, ![1, 1, 8192]⟩
abbrev S2x1024x32 : Shape := ⟨3, ![2, 1024, 32]⟩
abbrev S2 : Shape := ⟨1, ![2]⟩
abbrev S2x1x1 : Shape := ⟨3, ![2, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x3x1024, .f32⟩
  | .hbm, ⟨1, _⟩ => ⟨S2x3x8192, .f32⟩
  | .hbm, ⟨2, _⟩ => ⟨S2x1024x3, .f32⟩
  | .hbm, ⟨3, _⟩ => ⟨S2x8192x3, .f32⟩
  | .hbm, ⟨4, _⟩ => ⟨S2x1024x3, .f32⟩
  | .hbm, ⟨5, _⟩ => ⟨S_, .f32⟩
  | .hbm, ⟨6, _⟩ => ⟨S2x1024, .f32⟩
  | .hbm, ⟨7, _⟩ => ⟨S2x1024x1, .f32⟩
  | .hbm, ⟨8, _⟩ => ⟨S2x8192x3, .f32⟩
  | .hbm, ⟨9, _⟩ => ⟨S_, .f32⟩
  | .hbm, ⟨10, _⟩ => ⟨S2x8192, .f32⟩
  | .hbm, ⟨11, _⟩ => ⟨S2x1x8192, .f32⟩
  | .hbm, ⟨12, _⟩ => ⟨S2x1024x8192, .f32⟩
  | .hbm, ⟨13, _⟩ => ⟨S2x1024x8192, .f32⟩
  | .hbm, ⟨14, _⟩ => ⟨S2x1024x8192, .f32⟩
  | .hbm, ⟨15, _⟩ => ⟨S2x1024x8192, .f32⟩
  | .hbm, ⟨16, _⟩ => ⟨S_, .f32⟩
  | .hbm, ⟨17, _⟩ => ⟨S2x1024x8192, .f32⟩
  | .hbm, ⟨18, _⟩ => ⟨S2x1024x8192, .f32⟩
  | .hbm, ⟨19, _⟩ => ⟨S2x1024x8192, .f32⟩
  | .hbm, ⟨20, _⟩ => ⟨S_, .f32⟩
  | .hbm, ⟨21, _⟩ => ⟨S2x1024x8192, .f32⟩
  | .hbm, ⟨22, _⟩ => ⟨S2x1024x8192, .i1⟩
  | .hbm, ⟨23, _⟩ => ⟨S8192, .i32⟩
  | .hbm, ⟨24, _⟩ => ⟨S1x1x8192, .i32⟩
  | .hbm, ⟨25, _⟩ => ⟨S_, .i32⟩
  | .hbm, ⟨26, _⟩ => ⟨S_, .i32⟩
  | .hbm, ⟨27, _⟩ => ⟨S2x1024x8192, .i32⟩
  | .hbm, ⟨28, _⟩ => ⟨S2x1024x8192, .i32⟩
  | .hbm, ⟨29, _⟩ => ⟨S2x1024x8192, .i32⟩
  | .hbm, ⟨30, _⟩ => ⟨S2x1024x8192, .i32⟩
  | .hbm, ⟨31, _⟩ => ⟨S2x1024x32, .i32⟩
  | .hbm, ⟨32, _⟩ => ⟨S2x1024x32, .i32⟩
  | .hbm, ⟨33, _⟩ => ⟨S2x1024x32, .i32⟩
  | .hbm, ⟨34, _⟩ => ⟨S2x1024x1, .i32⟩
  | .hbm, ⟨35, _⟩ => ⟨S_, .i32⟩
  | .hbm, ⟨36, _⟩ => ⟨S2x1024x1, .i32⟩
  | .hbm, ⟨37, _⟩ => ⟨S2x1024x1, .i1⟩
  | .hbm, ⟨38, _⟩ => ⟨S_, .i32⟩
  | .hbm, ⟨39, _⟩ => ⟨S_, .i32⟩
  | .hbm, ⟨40, _⟩ => ⟨S2x1024x1, .i32⟩
  | .hbm, ⟨41, _⟩ => ⟨S2x1024x1, .i32⟩
  | .hbm, ⟨42, _⟩ => ⟨S_, .i32⟩
  | .hbm, ⟨43, _⟩ => ⟨S2x1024x32, .i32⟩
  | .hbm, ⟨44, _⟩ => ⟨S2x1024x32, .i1⟩
  | .hbm, ⟨45, _⟩ => ⟨S2x1024x32, .i32⟩
  | .hbm, ⟨46, _⟩ => ⟨S2x1024x32, .i32⟩
  | .hbm, ⟨47, _⟩ => ⟨S2, .i32⟩
  | .hbm, ⟨48, _⟩ => ⟨S2x1x1, .i32⟩
  | .hbm, ⟨49, _⟩ => ⟨S_, .i32⟩
  | .hbm, ⟨50, _⟩ => ⟨S2x1x1, .i32⟩
  | .hbm, ⟨51, _⟩ => ⟨S2x1x1, .i32⟩
  | .hbm, ⟨52, _⟩ => ⟨S2x1024x32, .i32⟩
  | .hbm, ⟨53, _⟩ => ⟨S2x1024x32, .i32⟩
  | _, _ => ⟨S2x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_v20 : Ref sig .tc := ⟨.hbm, 30, rfl⟩
abbrev main_values : Ref sig .tc := ⟨.hbm, 31, rfl⟩
abbrev main_indices : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_call2_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Gather.lean ====
abbrev S16384x128 : Shape := ⟨2, ![16384, 128]⟩
abbrev S65536 : Shape := ⟨1, ![65536]⟩
abbrev S65536x128 : Shape := ⟨2, ![65536, 128]⟩
abbrev S128 : Shape := ⟨1, ![128]⟩
abbrev S128x128 : Shape := ⟨2, ![128, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S16384x128, .f32⟩
  | .hbm, ⟨1, _⟩ => ⟨S65536, .i32⟩
  | .hbm, ⟨2, _⟩ => ⟨S65536x128, .f32⟩
  | .local .scVector .vmem, ⟨0, _⟩ => ⟨S128, .i32⟩
  | .local .scVector .vmem, ⟨1, _⟩ => ⟨S128x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S16384x128 : Shape := ⟨2, ![16384, 128]⟩
abbrev S65536 : Shape := ⟨1, ![65536]⟩
abbrev S_ : Shape := ⟨0, ![]⟩
abbrev S65536x1 : Shape := ⟨2, ![65536, 1]⟩
abbrev S65536x128 : Shape := ⟨2, ![65536, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S65536x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Table.lean ====
abbrev S2x3x8192 : Shape := ⟨3, ![2, 3, 8192]⟩
abbrev S2x128x8192 : Shape := ⟨3, ![2, 128, 8192]⟩
abbrev S131x128 : Shape := ⟨2, ![131, 128]⟩
abbrev S3x128 : Shape := ⟨2, ![3, 128]⟩
abbrev S128x128 : Shape := ⟨2, ![128, 128]⟩
abbrev S2x8192x128 : Shape := ⟨3, ![2, 8192, 128]⟩
abbrev S1x3x8192 : Shape := ⟨3, ![1, 3, 8192]⟩
abbrev S1x128x8192 : Shape := ⟨3, ![1, 128, 8192]⟩
abbrev S1x8192x128 : Shape := ⟨3, ![1, 8192, 128]⟩
abbrev S3x8192 : Shape := ⟨2, ![3, 8192]⟩
abbrev S128x8192 : Shape := ⟨2, ![128, 8192]⟩
abbrev S8192x128 : Shape := ⟨2, ![8192, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x3x8192, .f32⟩
  | .hbm, ⟨1, _⟩ => ⟨S2x128x8192, .f32⟩
  | .hbm, ⟨2, _⟩ => ⟨S131x128, .f32⟩
  | .hbm, ⟨3, _⟩ => ⟨S3x128, .f32⟩
  | .hbm, ⟨4, _⟩ => ⟨S128x128, .f32⟩
  | .hbm, ⟨5, _⟩ => ⟨S2x8192x128, .f32⟩
  | .local _ .vmem, ⟨0, _⟩ => ⟨S1x3x8192, .f32⟩
  | .local _ .vmem, ⟨1, _⟩ => ⟨S1x3x8192, .f32⟩
  | .local _ .vmem, ⟨2, _⟩ => ⟨S1x128x8192, .f32⟩
  | .local _ .vmem, ⟨3, _⟩ => ⟨S1x128x8192, .f32⟩
  | .local _ .vmem, ⟨4, _⟩ => ⟨S3x128, .f32⟩
  | .local _ .vmem, ⟨5, _⟩ => ⟨S128x128, .f32⟩
  | .local _ .vmem, ⟨6, _⟩ => ⟨S1x8192x128, .f32⟩
  | .local _ .vmem, ⟨7, _⟩ => ⟨S1x8192x128, .f32⟩
  | _, _ => ⟨S2x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== TableReferenceIdeal.lean ====
abbrev S2x3x8192 : Shape := ⟨3, ![2, 3, 8192]⟩
abbrev S2x128x8192 : Shape := ⟨3, ![2, 128, 8192]⟩
abbrev S131x128 : Shape := ⟨2, ![131, 128]⟩
abbrev S128x128 : Shape := ⟨2, ![128, 128]⟩
abbrev S2x8192x128 : Shape := ⟨3, ![2, 8192, 128]⟩
abbrev S3x128 : Shape := ⟨2, ![3, 128]⟩

abbrev nBuf : Space → Nat
  | .hbm => 8
  | .vmem => 0
  | .smem => 0
  | _ => 0

abbrev bufTy : (tb : Table) → Fin (tcTables nBuf tb) → BufTy
  | .hbm, ⟨0, _⟩ => ⟨S2x3x8192, .f32⟩
  | .hbm, ⟨1, _⟩ => ⟨S2x128x8192, .f32⟩
  | .hbm, ⟨2, _⟩ => ⟨S131x128, .f32⟩
  | .hbm, ⟨3, _⟩ => ⟨S128x128, .f32⟩
  | .hbm, ⟨4, _⟩ => ⟨S2x8192x128, .f32⟩
  | .hbm, ⟨5, _⟩ => ⟨S3x128, .f32⟩
  | .hbm, ⟨6, _⟩ => ⟨S2x8192x128, .f32⟩
  | .hbm, ⟨7, _⟩ => ⟨S2x8192x128, .f32⟩
  | _, _ => ⟨S2x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Shares.lean ====
/-
  A share cut into equal leaves by halving it again and again, and what the arrays of the gather are cut into: the rows
  of the result in thirty-two blocks, one to a tile.
-/
module

public import Idealize.ShloMosaic.Lib.SparseCore.Quiescent
public import Idealize.ShloMosaic.Rules.PointsTo

@[expose] public section

noncomputable section

namespace Cert.Proof.Shares

open Idealize.ShloMosaic
open Idealize.SL Idealize.SL.RA Idealize.SL.BI
open scoped Idealize.SL.BI
open Idealize.SL.BI.BIBase Idealize.SL.BI.Laws

/-- The share of the task whose number has the given binary digits, the lowest first: a left or a right half at each digit. -/
def cut (q : PosShare TreeShare) : (n : ℕ) → ℕ → PosShare TreeShare
  | 0, _ => q
  | n + 1, i => cut (if i % 2 = 0 then q.left else q.right) n (i / 2)

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Holding elements at a share is holding them at both its halves. -/
theorem pointsTo_halves {ℓ : Loc nD τ sig} (I : Finset (Idx ℓ)) (f : Buf Val ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- Holding elements at a share is holding them at each of the `2 ^ n` shares it is cut into. -/
theorem pointsTo_cut {ℓ : Loc nD τ sig} (I : Finset (Idx ℓ)) (f : Buf Val ℓ) (n : ℕ) :
    ∀ q : PosShare TreeShare, (ℓ ↦[I]{q} f : sProp 𝕄) = bigSep (Finset.range (2 ^ n)) fun i => ℓ ↦[I]{cut q n i} f := by
  induction n with
  | zero => intro q; rw [pow_zero, Finset.range_one, bigSep_singleton]; rfl
  | succ n ih =>
    intro q
    have hsplit : Finset.range (2 ^ (n + 1)) = (Finset.range (2 ^ n)).image (fun i => 2 * i) ∪ (Finset.range (2 ^ n)).image (fun i => 2 * i + 1) := by
      ext i
      simp only [Finset.mem_range, Finset.mem_union, Finset.mem_image]
      constructor
      · intro h
        rcases Nat.mod_two_eq_zero_or_one i with h2 | h2
        · exact Or.inl ⟨i / 2, by rw [pow_succ] at h; omega, by omega⟩
        · exact Or.inr ⟨i / 2, by rw [pow_succ] at h; omega, by omega⟩
      · rintro (⟨a, ha, rfl⟩ | ⟨a, ha, rfl⟩) <;> rw [pow_succ] <;> omega
    have hdis : Disjoint ((Finset.range (2 ^ n)).image (fun i => 2 * i)) ((Finset.range (2 ^ n)).image (fun i => 2 * i + 1)) := by
      rw [Finset.disjoint_left]
      intro x hx hy
      simp only [Finset.mem_image] at hx hy
      obtain ⟨a, _, rfl⟩ := hx
      obtain ⟨b, _, hb⟩ := hy
      omega
    rw [pointsTo_halves, ih q.left, ih q.right, hsplit, BI.bigSep_union hdis,
      SparseCore.bigSep_image_of_injOn (fun a _ b _ h => by simpa using h), SparseCore.bigSep_image_of_injOn (fun a _ b _ h => by simpa using h)]
    congr 1
    · refine bigSep_congr fun i _ => ?_
      rw [show cut q (n + 1) (2 * i) = cut q.left n i by
        rw [cut, if_pos (by omega), show 2 * i / 2 = i by omega]]
    · refine bigSep_congr fun i _ => ?_
      rw [show cut q (n + 1) (2 * i + 1) = cut q.right n i by
        rw [cut, if_neg (by omega), show (2 * i + 1) / 2 = i by omega]]

end Cert.Proof.Shares

end
-- ==== Proof.Ground.lean ====
/-
  The program as its launch sees it, and one step of the TensorCore through a kernel region: the arrays' contents before
  and after it, while the core still owes the SparseCores their later starts.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionArraysS
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Tail

open Cert.KernelIdeal Cert.KernelIdeal.Gen

open Idealize.ShloMosaic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat BodyObligationLoose RegionSeg afterRegion)

variable {F : FTy → Type}

/-! ## The program as the launch theorem sees it -/

abbrev ΛP : Labels := Pipeline.Sig Λ₀ (Fin 7) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The ghost state: the handshakes' rounds, the pipelines' cells, the transfers' counters. -/
abbrev UU : Type := UH × (UR sig nD τ × Counters)

local notation "𝕄" => MT nD τ sig (HIx 1) (Elt F) ℕ UU ℕ

abbrev EH : Emb UH (MT nD τ sig (HIx 1) (Elt F) ℕ UU ℕ) := embL

def EP : Emb (UR sig nD τ) (MT nD τ sig (HIx 1) (Elt F) ℕ UU ℕ) :=
  (Emb.inl : Emb (UR sig nD τ) (UR sig nD τ × Counters)).trans embR

instance EP_landsIn : (EP : Emb (UR sig nD τ) 𝕄).LandsIn (upEmb : UEmb _ 𝕄) := by unfold EP; infer_instance

/-- No pipeline prefetches a table. -/
abbrev adm : (p : Fin 7) → (pcfgs (F := F) p).Adm := fun p => (cfgs p).toPCfg_adm

/-! ## A region's step -/

/-- The waits a core may have recorded before SparseCore call `n`. -/
def known (n : ℕ) (c : Dev nD) : Set (SemLoc sig × HIx 1) := {q | (K (F := F)).lev (T c, q.1) q.2 ≤ 8 * n}

/-- What a core holds between two operations of the program, `n` SparseCore calls done: the region boundary, the buffers, the
    generator's register, and what it owes. -/
def state (n : ℕ) (d : Dev nD) (V : Valuation τ sig (Elt F)) : sProp 𝕄 :=
  iprop(boundary (T d) ∗ StableHlo.held (T d) (Pipeline.ucRefs τ sig) V ∗ (∃ r, prngReg d r)
    ∗ ∃ W, ⌜(K (F := F)).WBelow (T d) W (8 * n)⌝ ∗ owes (T d) ((K (F := F)).Otc d n) W)

section Region

variable [FloatOps F] (p : Fin 7) (n : ℕ)
  (pdats : (p : Fin 7) → (c : Dev nD) → Dat τ (Elt F) (HIx 1) ℕ UU ℕ (cfgs p) c)

/-- The region of call `p` as a record: entered and left with the buffers held. -/
def region (kit : Pipeline.PLaunchFacts (nD := nD) (τ := τ) (pcfgs (F := F)) p)
    (hbody : ∀ c, BodyObligationLoose (pdats p c) defs₀ 𝒱₀ none Set.univ)
    (howed : ∀ c t, (pdats p c).owed t = (K (F := F)).Otc c n) (hrec : ∀ c t, (pdats p c).recorded t = known (F := F) n c)
    (hshare : ∀ c w, (pdats p c).share w = fullShare)
    (hin : ∀ c, iprop(Pipeline.scopedRest (pcfgs (F := F) p).spec c ∗ (∃ r, prngReg c r)) ⊢ (pdats p c).Φ 0)
    (hout : ∀ c, (pdats p c).Φ (Fin.last (cfgs p).N) ⊢ iprop(Pipeline.scopedRest (pcfgs (F := F) p).spec c ∗ (∃ r, prngReg c r)))
    (W : Dev nD → Valuation τ sig (Elt F))
    (hW : ∀ c w, (pdats p c).arrAt w 0 = W c (Proc.devRef .tc (Pipeline.arrRef (pcfgs (F := F) p).spec w))) :
    RegionSeg (pcfgs (F := F)) adm pdats none defs₀ 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) adm) pdats none p c 0 ((K (F := F)).Otc c n) (howed c)
    (fun _ _ => Finset.mem_univ _) (fun _ _ => le_refl _)
    (fun g i h => ⟨Finset.mem_univ _, lt_of_lt_of_le (Nat.succ_pos _) (SparseCore.Cfg.lev_of_Otc_pos h)⟩)
  pre c := iprop(StableHlo.held (T c) (Pipeline.arrRefs (pcfgs (F := F) p).spec) (W c) ∗ (∃ r, prngReg c r)
    ∗ StableHlo.held (T c) (Pipeline.ucRefs τ sig \ Pipeline.arrRefs (pcfgs (F := F) p).spec) (W c)
    ∗ ∃ Wd, ⌜(K (F := F)).WBelow (T c) Wd (8 * n)⌝ ∗ owes (T c) ((K (F := F)).Otc c n) Wd)
  post c := iprop(StableHlo.held (T c) (Pipeline.arrRefs (pcfgs (F := F) p).spec) (afterRegion (pdats p c) (W c)) ∗ (∃ r, prngReg c r)
    ∗ StableHlo.held (T c) (Pipeline.ucRefs τ sig \ Pipeline.arrRefs (pcfgs (F := F) p).spec) (W c)
    ∗ ∃ Wd, ⌜(K (F := F)).WBelow (T c) Wd (8 * n)⌝ ∗ owes (T c) ((K (F := F)).Otc c n) Wd)
  X c := iprop(∃ r, prngReg c r)
  Y c := iprop(∃ r, prngReg c r)
  Z c := StableHlo.held (T c) (Pipeline.ucRefs τ sig \ Pipeline.arrRefs (pcfgs (F := F) p).spec) (W c)
  hentry c := by
    rw [Pipeline.ownSems0_none, Pipeline.prefHeld_of_none _ rfl,
      ← Pipeline.arrays_held (pcfgs (F := F)) adm pdats p kit c (hshare c) ((pdats p c).arrAt · 0) (W c) (hW c)]
    iintro ⟨⟨Ha, HX, HR, %Wd, %hWd, HO⟩, -, -⟩
    imodintro
    isplitl [Ha]; · iexact Ha
    isplitr; · iempintro
    isplitl [HO]
    · unfold Pipeline.Dat.owesAt Pipeline.owesWithin Pipeline.Dat.bound
      rw [howed c 0, hrec c 0]
      iexists Wd; isplitr; · ipureintro; exact fun q hq => Or.inl (hWd q hq)
      iexact HO
    isplitl [HX]; · iexact HX
    iexact HR
  hin c := (show _ ⊢ iprop(Pipeline.scopedRest (pcfgs (F := F) p).spec c ∗ (∃ r, prngReg c r)) from by
    iintro ⟨HX, -, Hr⟩
    isplitl [Hr]; · iexact Hr
    iexact HX).trans (hin c)
  hout c := (hout c).trans (by
    rw [Pipeline.ownSems0_none]
    iintro ⟨Hr, HY⟩
    isplitl [HY]; · iexact HY
    isplitr; · iempintro
    iexact Hr)
  hexit c := by
    rw [← Pipeline.arrays_held (pcfgs (F := F)) adm pdats p kit c (hshare c) ((pdats p c).arrAt · (cfgs p).N) (afterRegion (pdats p c) (W c))
      (fun w => (Pipeline.afterRegion_arr (pdats p c) (W c) kit.win.arr_inj w).symm)]
    iintro ⟨Ha, HO, HY, HR⟩
    imodintro
    isplitl [Ha]; · iexact Ha
    isplitl [HY]; · iexact HY
    isplitl [HR]; · iexact HR
    unfold Pipeline.Dat.owesAt Pipeline.owesWithin Pipeline.Dat.bound
    rw [howed c (Fin.last _), hrec c (Fin.last _)]
    icases HO with ⟨%Wd, %hWd, HO⟩; iexists Wd
    isplitr
    · ipureintro
      intro q hq
      rcases hWd hq with h | ⟨w, s, e⟩
      · exact h
      · rw [e]; exact Nat.zero_le _
    iexact HO

/-- The TensorCore through the region of call `p`: from its state before it to its state after it. -/
theorem region_step (kit : Pipeline.PLaunchFacts (nD := nD) (τ := τ) (pcfgs (F := F)) p)
    (hbody : ∀ c, BodyObligationLoose (pdats p c) defs₀ 𝒱₀ none Set.univ)
    (howed : ∀ c t, (pdats p c).owed t = (K (F := F)).Otc c n) (hrec : ∀ c t, (pdats p c).recorded t = known (F := F) n c)
    (hshare : ∀ c w, (pdats p c).share w = fullShare)
    (hin : ∀ c, iprop(Pipeline.scopedRest (pcfgs (F := F) p).spec c ∗ (∃ r, prngReg c r)) ⊢ (pdats p c).Φ 0)
    (hout : ∀ c, (pdats p c).Φ (Fin.last (cfgs p).N) ⊢ iprop(Pipeline.scopedRest (pcfgs (F := F) p).spec c ∗ (∃ r, prngReg c r)))
    (W : Dev nD → Valuation τ sig (Elt F))
    (hW : ∀ c w, (pdats p c).arrAt w 0 = W c (Proc.devRef .tc (Pipeline.arrRef (pcfgs (F := F) p).spec w)))
    (hS : Pipeline.arrRefs (τ := τ) (pcfgs (F := F) p).spec ⊆ Pipeline.ucRefs τ sig) (d : Dev nD)
    [∀ e, Nonempty (Elt F e)] {Q : PUnit → sProp 𝕄} :
    iprop((state n d (afterRegion (pdats p d) (W d)) -∗ Q ⟨⟩)
        ∗ state n d (W d) ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  refine BI.Entails.trans ?_ ((K (F := F)).wp_liftProg (D (F := F)) 𝒱 (T d) Set.univ none
    (.op (.customCall (Pipeline.entry p) ()) .ret) Q)
  refine BI.Entails.trans ?_ (RegionSeg.wp (pcfgs (F := F)) adm pdats none cellOf_inj EP defs₀ 𝒱₀ (K (F := F)).L (K (F := F)).lev
    (region p n pdats kit hbody howed hrec hshare hin hout W hW) d none (fun _ h => nomatch h) _ Q)
  unfold state
  rw [StableHlo.held_sub_split (T d) hS (W d), StableHlo.held_sub_split (T d) hS (afterRegion (pdats p d) (W d)),
    StableHlo.held_congr (T d) (S := Pipeline.ucRefs τ sig \ Pipeline.arrRefs (pcfgs (F := F) p).spec) (V := afterRegion (pdats p d) (W d)) (V' := W d)
      (Pipeline.afterRegion_off (pdats p d) (W d) (Pipeline.ucRefs τ sig))]
  show (_ : sProp 𝕄) ⊢ iprop((iprop(boundary (T d) ∗ StableHlo.held (T d) (Pipeline.arrRefs (pcfgs (F := F) p).spec) (afterRegion (pdats p d) (W d)) ∗ (∃ r, prngReg d r)
      ∗ StableHlo.held (T d) (Pipeline.ucRefs τ sig \ Pipeline.arrRefs (pcfgs (F := F) p).spec) (W d)
      ∗ ∃ Wd, ⌜(K (F := F)).WBelow (T d) Wd (8 * n)⌝ ∗ owes (T d) ((K (F := F)).Otc d n) Wd)
        -∗ wp frame (wpE (D (F := F)) 𝒱 (T d) none) Set.univ (Prog.ret PUnit.unit) Q)
    ∗ boundary (T d) ∗ (StableHlo.held (T d) (Pipeline.arrRefs (pcfgs (F := F) p).spec) (W d) ∗ (∃ r, prngReg d r)
      ∗ StableHlo.held (T d) (Pipeline.ucRefs τ sig \ Pipeline.arrRefs (pcfgs (F := F) p).spec) (W d)
      ∗ ∃ Wd, ⌜(K (F := F)).WBelow (T d) Wd (8 * n)⌝ ∗ owes (T d) ((K (F := F)).Otc d n) Wd)
    ∗ levAts (K (F := F)).L (K (F := F)).lev
    ∗ Pipeline.cellsGhost (Pipeline.pin (pcfgs (F := F)) adm) EP p d ∗ Pipeline.toksInit (Pipeline.pin (pcfgs (F := F)) adm) EP p d)
  iintro ⟨Hk, ⟨Hb, ⟨Ha, Hu⟩, Hp, HO⟩, HL, Hg, Ht⟩
  isplitl [Hk]
  · iintro ⟨Hb, Ha, Hp, Hu, HO⟩
    rw [wp_ret]
    imodintro
    iapply Hk
    isplitl [Hb]; · iexact Hb
    isplitl [Ha Hu]
    · isplitl [Ha]; · iexact Ha
      iexact Hu
    isplitl [Hp]; · iexact Hp
    iexact HO
  isplitl [Hb]; · iexact Hb
  isplitl [Ha Hp Hu HO]
  · isplitl [Ha]; · iexact Ha
    isplitl [Hp]; · iexact Hp
    isplitl [Hu]; · iexact Hu
    iexact HO
  isplitl [HL]; · iexact HL
  isplitl [Hg]; · iexact Hg
  iexact Ht

end Region

end Cert.Proof.Tail

end
-- ==== Proof.Tile.lean ====
/-
  The gather kernel on one tile of the SparseCores. Tile `s` of SparseCore `c` has number `2 s + c`; it fetches sixteen
  chunks of 128 row numbers, gathers the 128 rows they name out of the table, and writes them to its 2048 rows of the
  result. The run is over any float values, and carries what the tile has written: after `k` chunks its first `128 k` rows
  of the result are the table's rows that the row numbers name.
-/
module

public import proofs.«01_k».proof.Defs
public import proofs.«01_k».proof.Proof.Shares
public import proofs.«01_k».proof.Proof.Ground
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Tail

open Cert.KernelIdeal Cert.KernelIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

/-- The list of row numbers is as long as the buffer has rows. -/
theorem rows_num : S128.numel = S128x128.size gathers_S16384x128_S128x128.axis' := by decide

abbrev tLoc (d : Dev nD) : Loc nD τ sig := (SparseCore.T d).loc main_v5
abbrev iLoc (d : Dev nD) : Loc nD τ sig := (SparseCore.T d).loc main_v6
abbrev oLoc (d : Dev nD) : Loc nD τ sig := (SparseCore.T d).loc main_v7

abbrev tV : Memref Cert.KernelIdeal.sig Kind.scVector Space.hbm Cert.KernelIdeal.S16384x128 EltTy.f32 := Memref.whole Cert.KernelIdeal.main_v5_scv
abbrev iV : Memref Cert.KernelIdeal.sig Kind.scVector Space.hbm Cert.KernelIdeal.S65536 EltTy.i32 := Memref.whole Cert.KernelIdeal.main_v6_scv
abbrev oV : Memref Cert.KernelIdeal.sig Kind.scVector Space.hbm Cert.KernelIdeal.S65536x128 EltTy.f32 := Memref.whole Cert.KernelIdeal.main_v7_scv
abbrev sV : Memref Cert.KernelIdeal.sig Kind.scVector Space.vmem Cert.KernelIdeal.S128 EltTy.i32 := Memref.whole Cert.KernelIdeal.cc3_scratch0
abbrev rV : Memref Cert.KernelIdeal.sig Kind.scVector Space.vmem Cert.KernelIdeal.S128x128 EltTy.f32 := Memref.whole Cert.KernelIdeal.cc3_scratch1

/-! ## The gathered rows -/

/-- Row `y 0` of the gathered array: the table's row that word `y 0` names, a word past the table naming its last row. -/
def rowsOf {e : EltTy} (t : S16384x128.Idx → Elt F e) (ix : S65536.Idx → BitVec 32) : S65536x128.Idx → Elt F e := fun y =>
  t (ix2 (n0 := 16384) (n1 := 128) ⟨min (ix (ix1 (n := 65536) (y 0))).toNat 16383, by omega⟩ (y 1))

/-- The rows of the result that tile number `w` writes. -/
def tileSet (w : ℕ) : Finset S65536x128.Idx := Finset.univ.filter fun y => (y 0).val / 2048 = w

/-- Every row number is in the table. -/
def PreOK : Prop := ∀ (d : Dev nD) (j : S65536.Idx), (m (iLoc d) j : BitVec 32).toNat < 16384

abbrev gath (d : Dev nD) : Buf (Elt F) (oLoc d) := rowsOf (F := F) (e := .f32) (m (tLoc d)) (m (iLoc d))

/-! ## The task -/

section Tile

variable (d : Dev nD) (L : grid3.Coords)

abbrev cV (L : grid3.Coords) : Fin τ.nSC := (L 0).castLE hcore3
abbrev jV (L : grid3.Coords) : Fin τ.nSub := (L 1).castLE hsub3

/-- The tile's number. -/
abbrev wid (L : grid3.Coords) : ℕ := 2 * (L 1).val + (L 0).val

/-- Trip `k`'s chunk of the row numbers, its chunk of the result, and all of the table, as the task addresses them. -/
abbrev iChunk (L : grid3.Coords) (k : Fin k3_t1_loop.trips) : Memref sig .scVector .hbm S128 .i32 :=
  (iV).slice (Rect.unit (s := S65536) (k3_off1 L k) S128.size (k3_off1_inb L k)) (fun _ => rfl)
abbrev oChunk (L : grid3.Coords) (k : Fin k3_t1_loop.trips) : Memref sig .scVector .hbm S128x128 .f32 :=
  (oV).slice (Rect.unit (s := S65536x128) (k3_off2 L k) S128x128.size (k3_off2_inb L k)) (fun _ => rfl)
abbrev tAll : Memref sig .scVector .hbm S16384x128 .f32 :=
  (tV).slice (Rect.unit (s := S16384x128) ![0, 0] S16384x128.size inb_S16384x128_S16384x128_0_0) (fun _ => rfl)

theorem trips_eq : k3_t1_loop.trips = 16 := by decide

/-- Element `j` of the chunk of row numbers is word `4096 s + 2048 c + 128 k + j` of them. -/
theorem iChunk_emb (k : Fin k3_t1_loop.trips) (j : S128.Idx) :
    (((iChunk L k).view.emb j : S65536.Idx) 0).val = 2048 * wid L + 128 * k.val + (j 0).val := by
  show ((Rect.unit (s := S65536) (k3_off1 L k) S128.size (k3_off1_inb L k)).emb j 0).val = _
  have h : ∀ a, ((Rect.unit (s := S65536) (k3_off1 L k) S128.size (k3_off1_inb L k)).emb j a).val = (k3_off1 L k) a + 1 * (j a).val := fun a => rfl
  rw [h, k3_off1_eq]
  show (4096 * (L 1).val + 2048 * (L 0).val + 128 * k.val) + 1 * (j 0).val = _
  unfold wid; omega

/-- Element `(j, l)` of the chunk of the result is its row `4096 s + 2048 c + 128 k + j`, column `l`. -/
theorem oChunk_emb_row (k : Fin k3_t1_loop.trips) (j : S128x128.Idx) :
    (((oChunk L k).view.emb j : S65536x128.Idx) 0).val = 2048 * wid L + 128 * k.val + (j 0).val := by
  have h : ∀ a, ((Rect.unit (s := S65536x128) (k3_off2 L k) S128x128.size (k3_off2_inb L k)).emb j a).val = (k3_off2 L k) a + 1 * (j a).val := fun a => rfl
  show ((Rect.unit (s := S65536x128) (k3_off2 L k) S128x128.size (k3_off2_inb L k)).emb j 0).val = _
  rw [h, k3_off2_eq]
  show (4096 * (L 1).val + 2048 * (L 0).val + 128 * k.val) + 1 * (j 0).val = _
  unfold wid; omega
theorem oChunk_emb_col (k : Fin k3_t1_loop.trips) (j : S128x128.Idx) :
    (((oChunk L k).view.emb j : S65536x128.Idx) 1).val = (j 1).val := by
  have h : ∀ a, ((Rect.unit (s := S65536x128) (k3_off2 L k) S128x128.size (k3_off2_inb L k)).emb j a).val = (k3_off2 L k) a + 1 * (j a).val := fun a => rfl
  show ((Rect.unit (s := S65536x128) (k3_off2 L k) S128x128.size (k3_off2_inb L k)).emb j 1).val = _
  rw [h, k3_off2_eq]
  show 0 + 1 * (j 1).val = _
  omega

/-- The chunk's elements are the rows from `2048 w + 128 k`, 128 of them. -/
theorem mem_oChunk (k : Fin k3_t1_loop.trips) (y : S65536x128.Idx) :
    y ∈ (oChunk L k).view.set ↔ 2048 * wid L + 128 * k.val ≤ (y 0).val ∧ (y 0).val < 2048 * wid L + 128 * k.val + 128 := by
  constructor
  · intro h
    obtain ⟨j, -, rfl⟩ := Finset.mem_map.mp h
    rw [oChunk_emb_row]
    have := (j 0).isLt
    change (j 0).val < 128 at this
    omega
  · rintro ⟨h1, h2⟩
    refine Finset.mem_map.mpr ⟨ix2 (n0 := 128) (n1 := 128) ⟨(y 0).val - (2048 * wid L + 128 * k.val), by omega⟩ (y 1), Finset.mem_univ _, ?_⟩
    funext a
    apply Fin.ext
    match a with
    | 0 => rw [oChunk_emb_row]; show _ + ((y 0).val - (2048 * wid L + 128 * k.val)) = _; omega
    | 1 => rw [oChunk_emb_col]

theorem oChunk_subset (k : Fin k3_t1_loop.trips) : (oChunk L k).view.set ⊆ tileSet (wid L) := by
  intro y hy
  rw [mem_oChunk] at hy
  have hk : k.val < 16 := trips_eq ▸ k.isLt
  simp only [tileSet, Finset.mem_filter, Finset.mem_univ, true_and]
  omega

variable [FloatOps F]

theorem pts_iV (q : PosShare TreeShare) (f : Buf (Elt F) (iLoc d)) :
    ((iV).view.loc (V d (cV L) (jV L)) ↦{q} f : sProp 𝕄) = iLoc d ↦{q} f := rfl
theorem pts_tV (q : PosShare TreeShare) (f : Buf (Elt F) (tLoc d)) :
    ((tV).view.loc (V d (cV L) (jV L)) ↦{q} f : sProp 𝕄) = tLoc d ↦{q} f := rfl
theorem pts_oV (S : Finset (Idx (oLoc d))) (f : Buf (Elt F) (oLoc d)) :
    ((oV).view.loc (V d (cV L) (jV L)) ↦[S]{fullShare} f : sProp 𝕄) = oLoc d ↦[S]{fullShare} f := rfl

abbrev cAcell (d : Dev nD) (c : Fin τ.nSC) (i : Fin τ.nSub) : GSem nD τ sig := (V d c i, .dma cc3_scoped0.sem)
abbrev cBcell (d : Dev nD) (c : Fin τ.nSC) (i : Fin τ.nSub) : GSem nD τ sig := (V d c i, .dma cc3_scratch2.sem)
abbrev cCcell (d : Dev nD) (c : Fin τ.nSC) (i : Fin τ.nSub) : GSem nD τ sig := (V d c i, .dma cc3_scoped1.sem)

/-- The table at this tile's share of it. -/
abbrev qw (L : grid3.Coords) : PosShare TreeShare := cut fullShare 5 (wid L)

/-- The first `128 k` rows of the tile's block hold the gathered rows. -/
def Done (f : Buf (Elt F) (oLoc d)) (k : ℕ) : Prop := ∀ y ∈ tileSet (wid L), (y 0).val < 2048 * wid L + 128 * k → f y = gath m d y

/-- Before trip `k`. -/
def inv (O : CellTallies nD τ sig (HIx 1)) (W : Waits sig (HIx 1)) (k : ℕ) (_ : Unit) : sProp 𝕄 :=
  iprop(Transfers.MayWaits (V d (cV L) (jV L)) (default : HIx 1) O
    ∗ ((tV).view.loc (V d (cV L) (jV L)) ↦{qw L} m (tLoc d))
    ∗ ((iV).view.loc (V d (cV L) (jV L)) ↦{qw L} m (iLoc d))
    ∗ (∃ f, ⌜Done m d L f k⌝ ∗ ((oV).view.loc (V d (cV L) (jV L)) ↦[tileSet (wid L)]{fullShare} f))
    ∗ (∃ f, (sV).view.loc (V d (cV L) (jV L)) ↦{fullShare} f)
    ∗ (∃ f, (rV).view.loc (V d (cV L) (jV L)) ↦{fullShare} f)
    ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

/-- What the fetch leaves in the list: word `j` of the chunk of row numbers. -/
theorem list_val (k : Fin k3_t1_loop.trips) (j : S128.Idx) :
    (iChunk L k).view.read (Elt F) (m (iLoc d)) j = m (iLoc d) (ix1 (n := 65536) (((iChunk L k).view.emb j : S65536.Idx) 0)) := by
  refine ((View.read_apply _ _).trans (cast_eq _ _)).trans ?_
  exact congrArg (m (iLoc d)) (eq_ix1 (n := 65536) _)

theorem tAll_read (f : Buf (Elt F) (tLoc d)) : (tAll).view.read (Elt F) f = f := by
  funext j
  refine ((View.read_apply _ _).trans (cast_eq _ _)).trans ?_
  refine congrArg f ?_
  funext a
  apply Fin.ext
  have h : ∀ a, ((Rect.unit (s := S16384x128) ![0, 0] S16384x128.size inb_S16384x128_S16384x128_0_0).emb j a).val = (![0, 0] : Fin 2 → ℕ) a + 1 * (j a).val := fun a => rfl
  show ((Rect.unit (s := S16384x128) ![0, 0] S16384x128.size inb_S16384x128_S16384x128_0_0).emb j a).val = _
  rw [h]
  match a with
  | 0 => show 0 + 1 * _ = _; omega
  | 1 => show 0 + 1 * _ = _; omega

/-- The gathered chunk is the chunk of the gathered rows. -/
theorem chunk_val (hpre : PreOK m) (k : Fin k3_t1_loop.trips) (ls : S128.Idx → Elt F .i32)
    (hls : ls = (iChunk L k).view.read (Elt F) (m (iLoc d))) (hn : S128.numel = S128x128.size gathers_S16384x128_S128x128.axis')
    (hin : ∀ x, (ls x).toNat < S16384x128.size gathers_S16384x128_S128x128.axis) (j : S128x128.Idx) :
    SparseCore.gatherPayload (F := F) (e := .f32) gathers_S16384x128_S128x128 ((tAll).view.read (Elt F) (m (tLoc d)))
        (SparseCore.rows ls hn hin) j = gath m d ((oChunk L k).view.emb j) := by
  rw [tAll_read]
  unfold SparseCore.gatherPayload gath rowsOf
  refine congrArg (m (tLoc d)) ?_
  have hw : ∀ x : S128.Idx, (x 0).val = (j 0).val → (ls x).toNat
      = min (BitVec.toNat (w := 32) (m (iLoc d) (ix1 (n := 65536) (((oChunk L k).view.emb j : S65536x128.Idx) 0)))) 16383 := by
    intro x hx
    have e : (((iChunk L k).view.emb x : S65536.Idx) 0) = (((oChunk L k).view.emb j : S65536x128.Idx) 0) :=
      Fin.ext (by rw [iChunk_emb, oChunk_emb_row, hx])
    rw [hls, list_val, e]
    have := hpre d (ix1 (n := 65536) (((oChunk L k).view.emb j : S65536x128.Idx) 0))
    omega
  funext a
  apply Fin.ext
  match a with
  | 0 =>
    refine (congrArg Fin.val (Shape.Gathers.idx_axis gathers_S16384x128_S128x128 (SparseCore.rows ls hn hin) j)).trans ?_
    unfold SparseCore.rows
    refine hw _ ?_
    refine (Shape.rowMajor_val_one (d := ![128]) _).symm.trans ?_
    rw [Equiv.apply_symm_apply]
    rfl
  | 1 =>
    refine (Shape.Gathers.idx_of_ne gathers_S16384x128_S128x128 (SparseCore.rows ls hn hin) j 1 (by decide)).trans ?_
    exact (oChunk_emb_col L k j).symm

/-- The rows written at trip `k` added to those written before. -/
theorem done_succ (k : Fin k3_t1_loop.trips) (f : Buf (Elt F) (oLoc d)) (hf : Done m d L f k.val)
    (w : S128x128.Idx → Elt F .f32) (hw : ∀ j, w j = gath m d ((oChunk L k).view.emb j)) :
    Done m d L ((oChunk L k).view.write (Elt F) f w Finset.univ) (k.val + 1) := by
  intro y hy hlt
  by_cases hm : y ∈ (oChunk L k).view.set
  · obtain ⟨j, -, rfl⟩ := Finset.mem_map.mp hm
    refine (View.write_emb_of_mem _ _ (Finset.mem_univ j)).trans ?_
    exact (cast_eq _ _).trans (hw j)
  · rw [View.write_of_not_mem _ _ _ (by rw [View.setOn_univ]; exact hm)]
    refine hf y hy ?_
    rw [mem_oChunk] at hm
    simp only [tileSet, Finset.mem_filter, Finset.mem_univ, true_and] at hy
    omega

set_option maxHeartbeats 4000000 in
/-- One trip: a chunk of row numbers fetched, the rows they name gathered, the rows written out. -/
theorem trip (hpre : PreOK m) (O : CellTallies nD τ sig (HIx 1)) (W : Waits sig (HIx 1)) (k : Fin k3_t1_loop.trips) (u : Unit) :
    inv m d L O W k.val u ⊢ wp frame (wpE (defs₀ (F := F)) 𝒱₀ (V d (cV L) (jV L)) none) Set.univ
      (k3_t1_body L tV (Memref.isWhole_whole _) iV (Memref.isWhole_whole _) oV (Memref.isWhole_whole _)
            sV (Memref.isWhole_whole _) rV (Memref.isWhole_whole _) cc3_scratch2 cc3_scoped0 cc3_scoped1 k u)
      (inv m d L O W (k.val + 1)) := by
  unfold inv k3_t1_body
  iintro ⟨#Hmw, Ht, Hi, ⟨%fo, %hfo, Ho⟩, ⟨%fs, Hs⟩, ⟨%fr, Hr⟩, HA, HB, HC, %W', %hW', HO⟩
  ihave Hos := (pointsTo_split_subset (q := fullShare) (f := fo) (oChunk_subset L k)).1 $$ Ho
  icases Hos with ⟨Hoc', Hor⟩
  ihave Hoc := (Entails.of_eq (show (oLoc d ↦[(oChunk L k).view.set]{fullShare} fo : sProp 𝕄)
      = (oChunk L k).view.loc (V d (cV L) (jV L)) ↦[(oChunk L k).view.set]{fullShare} fo from rfl)) $$ Hoc'
  sl_exec
  ihave Hts := (pointsTo_split_subset (q := qw L) (f := m (tLoc d)) (S := Finset.univ) (Finset.subset_univ (tAll).view.set)).1 $$ Ht
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr
  ihave Hs'' := (Entails.of_eq (show ((sV).view.loc (V d (cV L) (jV L)) ↦{fullShare} View.write (Elt F) (sV).view fs (trip.sl.dma0 m d L k) Finset.univ : sProp 𝕄)
      = (sV).view.loc (V d (cV L) (jV L)) ↦[(sV).view.set]{fullShare} trip.sl.dma0 m d L k
      by rw [hss, View.write_whole_univ])) $$ Hs
  have hN : ∀ h : S16384x128.Gathers 0 S128x128, ∑ j, ((rV).slice (S128x128.rowRect h.axis' j) (S128x128.stride_rowRect h.axis' j)).view.dmaCredit
      = (rV).view.dmaCredit := by decide
  have hin : ∀ x, ((sV).view.read (Elt F) (trip.sl.dma0 m d L k) x).toNat < S16384x128.size gathers_S16384x128_S128x128.axis := by
    intro x
    simp only [Memref.view_whole, View.read_whole]
    rw [show trip.sl.dma0 m d L k = (iChunk L k).view.read (Elt F) (m (iLoc d)) from rfl, list_val]
    exact hpre d _
  iapply (SparseCore.wp_indirectGatherLocal countersEmb 𝒱₀ (V d (cV L) (jV L)) none (hg := gathers_S16384x128_S128x128) (default : HIx 1)
      (rV).view.dmaCredit (hN _) (by decide) hin) $$ [Hts Hr'' Hs'' HB]
  · isplitl [Hts]; · iexact Hts
    isplitl [Hr'']; · iexact Hr''
    isplitl [Hs'']; · iexact Hs''
    iexact HB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc3_scratch2.sem)) $$ Hmw
  iintro ⟨⟨Hr', Hts, Hs'⟩, HB, HO⟩
  ihave Ht := (pointsTo_split_subset (q := qw L) (f := m (tLoc d)) (S := Finset.univ) (Finset.subset_univ (tAll).view.set)).2 $$ [Hts Htr]; · isplitl [Hts] <;> iassumption
  -- the row buffer holds the chunk of the gathered rows
  obtain ⟨gr, hgr, hgr'⟩ : ∃ gr : S128x128.Idx → Elt F .f32, (∀ j, gr j = gath m d ((oChunk L k).view.emb j)) ∧
      gr = SparseCore.gatherPayload (F := F) (e := .f32) gathers_S16384x128_S128x128 ((tAll).view.read (Elt F) (m (tLoc d)))
        (SparseCore.rows (View.read (Elt F) (sV).view (trip.sl.dma0 m d L k)) rows_num hin) :=
    ⟨_, chunk_val m d L hpre k _ rfl _ hin, rfl⟩
  ihave Hr3 := (Entails.of_eq (show ((rV).view.loc (V d (cV L) (jV L)) ↦[(rV).view.set]{fullShare} View.write (Elt F) (rV).view fr
        (SparseCore.gatherPayload (F := F) (e := .f32) gathers_S16384x128_S128x128 ((tAll).view.read (Elt F) (m (tLoc d)))
        (SparseCore.rows (View.read (Elt F) (sV).view (trip.sl.dma0 m d L k)) rows_num hin)) Finset.univ : sProp 𝕄)
      = (rV).view.loc (V d (cV L) (jV L)) ↦{fullShare} gr by rw [hrs, ← hgr', View.write_whole_univ])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitr; · iexact Hmw
  isplitl [Ht]; · iexact Ht
  isplitl [Hi]; · iexact Hi
  isplitl [Hoc Hor]
  · iexists ((oChunk L k).view.write (Elt F) fo gr Finset.univ)
    isplitr
    · ipureintro; exact done_succ m d L k fo hfo gr hgr
    · iapply (pointsTo_split_subset (q := fullShare) (f := (oChunk L k).view.write (Elt F) fo gr Finset.univ) (oChunk_subset L k)).2
      isplitl [Hoc]
      · iapply (Entails.of_eq (show ((oChunk L k).view.loc (V d (cV L) (jV L)) ↦[(oChunk L k).view.set]{fullShare}
            (oChunk L k).view.writes (Elt F) fo [⟨Rect.whole S128x128, gr⟩] : sProp 𝕄)
            = oLoc d ↦[(oChunk L k).view.set]{fullShare} (oChunk L k).view.write (Elt F) fo gr Finset.univ from
              pointsTo_congr fun i hi => by
                obtain ⟨j, -, rfl⟩ := Finset.mem_map.mp hi
                rw [View.writes_singleton]
                have e : (oChunk L k).view.emb j = ((oChunk L k).view.slice (Rect.whole S128x128)).emb j := by
                  show _ = (oChunk L k).view.emb ((Rect.whole S128x128).emb j)
                  exact congrArg _ (funext fun a => Fin.ext (by show (j a).val = 0 + 1 * (j a).val; omega))
                refine Eq.trans ?_ (View.write_emb_of_mem (v := (oChunk L k).view) fo gr (Finset.mem_univ j)).symm
                rw [e]
                exact View.write_emb_of_mem (v := (oChunk L k).view.slice (Rect.whole S128x128)) fo gr (Finset.mem_univ j)))
        iexact Hoc
      · iapply (Entails.of_eq (show (oLoc d ↦[tileSet (wid L) \ (oChunk L k).view.set]{fullShare} fo : sProp 𝕄)
            = oLoc d ↦[tileSet (wid L) \ (oChunk L k).view.set]{fullShare} (oChunk L k).view.write (Elt F) fo gr Finset.univ from
              pointsTo_congr fun i hi => (View.write_of_not_mem _ _ _ (by
                rw [View.setOn_univ]; exact (Finset.mem_sdiff.mp hi).2)).symm))
        iexact Hor
  isplitl [Hs3]; · iexists _; iexact Hs3
  isplitl [Hr3]; · iexists _; iexact Hr3
  isplitl [HA]; · iexact HA
  isplitl [HB]; · iexact HB
  isplitl [HC]; · iexact HC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The tile's own buffers and semaphores -/

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc3_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc3_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc3_scoped1.sem : SemLoc sig).isScoped .scVector = true; decide⟩⟩⟩)]

theorem ownBufs_V :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

/-- What a task is given, and what it brings back: its shares of the table and of the row numbers, and its block of the
    result, first at what the launch found there, then at the gathered rows. -/
abbrev tPts (d : Dev nD) (w : ℕ) : sProp 𝕄 := tLoc d ↦{cut fullShare 5 w} m (tLoc d)
abbrev iPts (d : Dev nD) (w : ℕ) : sProp 𝕄 := iLoc d ↦{cut fullShare 5 w} m (iLoc d)
abbrev oPts (d : Dev nD) (w : ℕ) (f : Buf (Elt F) (oLoc d)) : sProp 𝕄 := oLoc d ↦[tileSet w]{fullShare} f

set_option maxHeartbeats 4000000 in
/-- The task on tile `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tPts m d (wid L) ∗ iPts m d (wid L) ∗ oPts d (wid L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_gk L tV (Memref.isWhole_whole _) iV (Memref.isWhole_whole _) oV (Memref.isWhole_whole _)
            sV (Memref.isWhole_whole _) rV (Memref.isWhole_whole _) cc3_scratch2 cc3_scoped0 cc3_scoped1)
          fun _ => iprop((tPts m d (wid L) ∗ iPts m d (wid L) ∗ oPts d (wid L) (gath m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_gk_eq_skeleton]; unfold cc3_gk_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv m d L O W) $$ [Ht Hi Ho Hs Hr HsemA HsemB HsemC HO Hmw]
  case region =>
    intro k u
    exact trip m d L hpre O W k u
  · unfold inv
    isplitl [Hmw]; · iexact Hmw
    isplitl [Ht]; · iexact Ht
    isplitl [Hi]; · iexact Hi
    isplitl [Ho]
    · iexists (m (oLoc d)); isplitr
      · ipureintro
        intro y hy hlt
        simp only [tileSet, Finset.mem_filter, Finset.mem_univ, true_and] at hy
        omega
      · iexact Ho
    isplitl [Hs]; · iexists fs; iexact Hs
    isplitl [Hr]; · iexists fr; iexact Hr
    isplitl [HsemA]; · iexact HsemA
    isplitl [HsemB]; · iexact HsemB
    isplitl [HsemC]; · iexact HsemC
    iexists W; isplitr
    · ipureintro; exact fun p hp => .inl hp
    · iexact HO
  unfold inv
  iintro %_ ⟨-, Ht, Hi, ⟨%fo, %hfo, Ho⟩, ⟨%fs, Hs⟩, ⟨%fr, Hr⟩, HsemA, HsemB, HsemC, %W', %hW', HO⟩
  have hfo' : Done m d L fo 16 := by rw [← trips_eq]; exact hfo
  sl_exec
  sl_step
  isplitl [Ht Hi Ho]
  · isplitl [Ht]; · iexact Ht
    isplitl [Hi]; · iexact Hi
    iapply (Entails.of_eq (show ((oV).view.loc (V d (cV L) (jV L)) ↦[tileSet (wid L)]{fullShare} fo : sProp 𝕄)
      = oLoc d ↦[tileSet (wid L)]{fullShare} gath m d from pointsTo_congr fun y hy => hfo' y hy (by
        simp only [tileSet, Finset.mem_filter, Finset.mem_univ, true_and] at hy
        omega)))
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.Tail

end
-- ==== Proof.Dealt.lean ====
/-
  The gather's handshakes: the table, the row numbers and the result dealt to the thirty-two tiles and joined again.
-/
module

public import proofs.«01_k».proof.Proof.Tile

@[expose] public section

noncomputable section

namespace Cert.Proof.Tail

open Cert.KernelIdeal Cert.KernelIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry -/

/-- One task's operands before it, and after it. -/
abbrev goP (d : Dev nD) (w : ℕ) : sProp 𝕄 := iprop(tPts m d w ∗ iPts m d w ∗ oPts d w (m (oLoc d)))
abbrev tdP (d : Dev nD) (w : ℕ) : sProp 𝕄 := iprop(tPts m d w ∗ iPts m d w ∗ oPts d w (gath m d))

/-- A SparseCore takes its sixteen tasks' operands, task `i` of core `c` being tile number `2 i + c`. -/
def P : (K (F := F)).Pay (nD := nD) (Val := Elt F) (Name := ℕ) (U := UU) where
  st := fun q d c => match q with | 0 => bigSep Finset.univ fun i : Fin ((K (F := F)).nSub 0) => goP m d (2 * i.val + c.val)
  dn := fun q d c => match q with | 0 => bigSep Finset.univ fun i : Fin ((K (F := F)).nSub 0) => tdP m d (2 * i.val + c.val)
  go := fun q d c i => match q with | 0 => goP m d (2 * i.val + c.val)
  td := fun q d c i => match q with | 0 => tdP m d (2 * i.val + c.val)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goP m d (2 * i.val + c.val)))
  dn q d c := match q with
    | 0 => (inferInstance : BI.Storable (upEmb : UEmb _ 𝕄) (bigSep Finset.univ fun i : Fin ((K (F := F)).nSub 0) => tdP m d (2 * i.val + c.val)))
  go q d c i := match q with
    | 0 => (inferInstance : BI.Storable (upEmb : UEmb _ 𝕄) (goP m d (2 * i.val + c.val)))
  td q d c i := match q with
    | 0 => (inferInstance : BI.Storable (upEmb : UEmb _ 𝕄) (tdP m d (2 * i.val + c.val)))

/-! ## The obligation -/

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_gk (coordsV c s)
          tV (Memref.isWhole_whole _) iV (Memref.isWhole_whole _) oV (Memref.isWhole_whole _)
          sV (Memref.isWhole_whole _) rV (Memref.isWhole_whole _) cc3_scratch2 cc3_scoped0 cc3_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid3.bound 0 ∧ ((K (F := F)).sub 0 i).val < grid3.bound 1 := ⟨c.isLt, i.isLt⟩
  change _ ⊢ wp _ _ _ (Pipeline.liftProg (defs₀ (F := F) (.scVector ((K (F := F)).core 0 c) ((K (F := F)).sub 0 i)) 3 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-- The sequencer hands its tasks what it was given, and their results back. -/
theorem vecSplit : (K (F := F)).VecSplit' (P m) 0 := by
  intro d c
  show (bigSep Finset.univ fun i : Fin ((K (F := F)).nSub 0) => goP m d (2 * i.val + c.val)) ⊢ |={Set.univ}=> iprop(
      (bigSep Finset.univ fun i : Fin ((K (F := F)).nSub 0) => goP m d (2 * i.val + c.val))
      ∗ ((bigSep Finset.univ fun i : Fin ((K (F := F)).nSub 0) => tdP m d (2 * i.val + c.val))
          -∗ (bigSep Finset.univ fun i : Fin ((K (F := F)).nSub 0) => tdP m d (2 * i.val + c.val))))
  iintro H; imodintro
  isplitl [H]; · iexact H
  iintro H; iexact H

/-! ## The whole arrays dealt to the tiles -/

/-- The tiles' numbers are those below 32, core by core. -/
theorem tiles_eq (Φ : ℕ → sProp 𝕄) :
    (bigSep (Finset.range 32) Φ) = bigSep Finset.univ fun c : Fin ((K (F := F)).nCore 0) => bigSep Finset.univ fun i : Fin ((K (F := F)).nSub 0) => Φ (2 * i.val + c.val) := by
  have e : (Finset.range 32) = ((Finset.univ : Finset (Fin 2)) ×ˢ (Finset.univ : Finset (Fin 16))).image (fun p => 2 * p.2.val + p.1.val) := by decide
  rw [e, SparseCore.bigSep_image_of_injOn (f := fun p : Fin 2 × Fin 16 => 2 * p.2.val + p.1.val) (fun a _ b _ h => by
    have h' : 2 * a.2.val + a.1.val = 2 * b.2.val + b.1.val := h
    have ha := a.1.isLt; have hb := b.1.isLt
    exact Prod.ext (Fin.ext (by omega)) (Fin.ext (by omega))), SparseCore.bigSep_product]

/-- The result's rows are its thirty-two blocks'. -/
theorem oPts_tiles (d : Dev nD) (f : Buf (Elt F) (oLoc d)) :
    (oLoc d ↦{fullShare} f : sProp 𝕄) = bigSep (Finset.range 32) fun w => oPts d w f := by
  have hc : (Finset.range 32).biUnion tileSet = Finset.univ := by
    ext y
    simp only [tileSet, Finset.mem_biUnion, Finset.mem_range, Finset.mem_filter, Finset.mem_univ, true_and, iff_true]
    refine ⟨(y 0).val / 2048, ?_, rfl⟩
    have : (y 0).val < 65536 := (y 0).isLt
    omega
  have hd : ∀ w ∈ Finset.range 32, ∀ w' ∈ Finset.range 32, w ≠ w' → Disjoint (tileSet w) (tileSet w') := by
    intro w _ w' _ h
    rw [Finset.disjoint_left]
    intro y h1 h2
    simp only [tileSet, Finset.mem_filter, Finset.mem_univ, true_and] at h1 h2
    exact h (h1.symm.trans h2)
  unfold oPts
  rw [← pointsTo_biUnion (Finset.range 32) (ℓ := oLoc d) tileSet hd, hc]

theorem deal (d : Dev nD) (f : Buf (Elt F) (oLoc d)) :
    iprop((tLoc d ↦{fullShare} m (tLoc d)) ∗ (iLoc d ↦{fullShare} m (iLoc d)) ∗ oLoc d ↦{fullShare} f)
      = (bigSep Finset.univ fun c : Fin ((K (F := F)).nCore 0) => bigSep Finset.univ fun i : Fin ((K (F := F)).nSub 0) =>
          iprop(tPts m d (2 * i.val + c.val) ∗ iPts m d (2 * i.val + c.val) ∗ oPts d (2 * i.val + c.val) f) : sProp 𝕄) := by
  rw [← tiles_eq (F := F) (fun w => iprop(tPts m d w ∗ iPts m d w ∗ oPts d w f)), bigSep_sep', bigSep_sep', oPts_tiles,
    pointsTo_cut Finset.univ (m (tLoc d)) 5 fullShare, pointsTo_cut Finset.univ (m (iLoc d)) 5 fullShare]
  rfl

end Cert.Proof.Tail

end
-- ==== Proof.CallSample.lean ====
/- The sampling call: what its body leaves, and that it runs. -/
module

public import proofs.«01_k».proof.Proof.Ground
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Tail

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev VO0_1 : View sig .tc .vmem S1x3x1024 .f32 := (Memref.whole cc0_stg1_0 : Memref sig .tc .vmem S1x3x1024 .f32).view
abbrev ms0_0 (t : Fin cfg0.N) : Memref sig .tc .vmem S1x3x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)

set_option maxHeartbeats 1000000 in
noncomputable def kernelRun0_A (c : Dev nD) (i : grid0.Coords) (arg1 : Memref sig .tc .vmem S1x3x8192 .f32) (harg1 : arg1.IsWhole) (arg2 : Memref sig .tc .vmem S1x3x1024 .f32) (harg2 : arg2.IsWhole)
    (x0 : Vec F S1x3x8192 .f32) :
    { L1 : List (View.Piece (Elt F) S1x3x1024 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0__fps_body i arg1 harg1 arg2 harg2) K } := by
  refine ⟨?_, fun E K => ?run⟩
  case run =>
    simp only [cc0__fps_body_eq_skeleton]; unfold cc0__fps_body_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

theorem cover0_A_1 (c : Dev nD) (i : grid0.Coords) (arg1 : Memref sig .tc .vmem S1x3x8192 .f32) (harg1 : arg1.IsWhole) (arg2 : Memref sig .tc .vmem S1x3x1024 .f32) (harg2 : arg2.IsWhole)
    (x0 : Vec F S1x3x8192 .f32) (y : S1x3x1024.Idx) :
    ∃ pc ∈ (kernelRun0_A c i arg1 harg1 arg2 harg2 x0).1, y ∈ pc.1.set :=
  View.cover_of_tiledL (kernelRun0_A c i arg1 harg1 arg2 harg2 x0).1 S1x3x1024.size (by sl_kernel_rfl) y

def out0_A_1 (c : Dev nD) (i : grid0.Coords) (arg1 : Memref sig .tc .vmem S1x3x8192 .f32) (harg1 : arg1.IsWhole) (arg2 : Memref sig .tc .vmem S1x3x1024 .f32) (harg2 : arg2.IsWhole)
    (x0 : Vec F S1x3x8192 .f32) : Vec F S1x3x1024 .f32 :=
  VO0_1.read (Elt F) (VO0_1.writes (Elt F) VO0_1.junk (kernelRun0_A c i arg1 harg1 arg2 harg2 x0).1)

def outsAt0 (c : Dev nD) (t : Fin cfg0.N) : Vec F S1x3x1024 .f32 :=
  out0_A_1 c (grid0.coords t) (ms0_0 t) (hs0_0 t) (ms0_1 t) (hs0_1 t) (iblk0 V c 0 t)

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => (outsAt0 V c t)
  Φ _ := iprop(Pipeline.scopedRest spec0 c ∗ (∃ r, prngReg c r))
  q _ := fullShare
  owed _ := (Tail.K (F := F)).Otc c 0
  recorded _ := known (F := F) 0 c

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt none t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt none t.succ
    ∗ owns (c : Thread nD τ) (ms0_0 t) fullShare ((dat0 V c).after 0 t)
    ∗ owns (c : Thread nD τ) (ms0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt none t.succ = (dat0 V c).owesAt none t.castSucc from rfl,
    after0_0, after0_1]
  unfold outsAt0
  unfold out0_A_1
  iintro ⟨HΦ, Ho, ⟨%d0, H0⟩, ⟨%d1, H1⟩⟩
  iapply ((kernelRun0_A c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_A_1 c _ _ _ _ _ _)

theorem defs₀_row0 (t : Fin cfg0.N) :
    defs₀ (F := F) .tc cfg0.body (cfg0.bodyArgs t (cfg0.slots t)) = bodyAt0 t := by
  rfl

theorem body_obligation0 (c : Dev nD) : BodyObligation (dat0 (F := F) V c) (defs₀ (F := F)) Variants.none none Set.univ := fun t => by
  rw [bigSep_W0, bigSep_W0, defs₀_row0]
  exact triple_restated (sound_body0 V c t) rfl .rfl fun _ => .rfl

end Cert.Proof.Tail

end
-- ==== Proof.CallTable.lean ====
/- The table call: what its body leaves, and that it runs. -/
module

public import proofs.«01_k».proof.Proof.Ground
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Tail

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) (HIx 1) ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x3x8192 := Rect.unit (s := S1x3x8192) ![0, 0, 0] S1x3x8192.size inb_S1x3x8192_S1x3x8192_0_0_0
abbrev r1_1 : Rect S1x128x8192 := Rect.unit (s := S1x128x8192) ![0, 0, 0] S1x128x8192.size inb_S1x128x8192_S1x128x8192_0_0_0
abbrev r1_2 : Rect S128x128 := Rect.unit (s := S128x128) ![0, 0] S128x128.size inb_S128x128_S128x128_0_0
abbrev r1_3 : Rect S3x128 := Rect.unit (s := S3x128) ![0, 0] S3x128.size inb_S3x128_S3x128_0_0
abbrev r1_4 : Rect S1x8192x128 := Rect.unit (s := S1x8192x128) ![0, 0, 0] S1x8192x128.size inb_S1x8192x128_S1x8192x128_0_0_0

def out1_4 (x0 : Vec F S1x3x8192 .f32) (x1 : Vec F S1x128x8192 .f32) (x2 : Vec F S3x128 .f32) (x3 : Vec F S128x128 .f32) : Vec F S1x8192x128 .f32 :=
  View.canon [⟨r1_4, k1_pay1 (View.ld x0 r1_0) (View.ld x1 r1_1) (View.ld x3 r1_2) (View.ld x2 r1_3)⟩]

theorem cover1_4 (p0 : Vec F S1x8192x128 .f32) (y : S1x8192x128.Idx) :
    ∃ pc ∈ ([⟨r1_4, p0⟩] : List (View.Piece (Elt F) S1x8192x128 .f32)), y ∈ pc.1.set :=
  View.cover_of_tiled [⟨r1_4, p0⟩] S1x8192x128.size (by rfl) y

set_option maxHeartbeats 1000000 in
theorem sound_kernel1 (c : Dev nD) (E : Set ℕ) (i : grid1.Coords) (arg1 : Memref sig .tc .vmem S1x3x8192 .f32) (harg1 : arg1.IsWhole) (arg2 : Memref sig .tc .vmem S1x128x8192 .f32) (harg2 : arg2.IsWhole) (arg3 : Memref sig .tc .vmem S3x128 .f32) (harg3 : arg3.IsWhole) (arg4 : Memref sig .tc .vmem S128x128 .f32) (harg4 : arg4.IsWhole) (arg5 : Memref sig .tc .vmem S1x8192x128 .f32) (harg5 : arg5.IsWhole)
    (x0 : Vec F S1x3x8192 .f32) (x1 : Vec F S1x128x8192 .f32) (x2 : Vec F S3x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__pmat_body i arg1 harg1 arg2 harg2 arg3 harg3 arg4 harg4 arg5 harg5) K := by
  simp only [cc1__pmat_body_eq_skeleton]; unfold cc1__pmat_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := iprop(Pipeline.scopedRest spec1 c ∗ (∃ r, prngReg c r))
  q _ := fullShare
  owed _ := (Tail.K (F := F)).Otc c 0
  recorded _ := known (F := F) 0 c

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt none t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt none t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt none t.succ = (dat1 V c).owesAt none t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  rfl

theorem body_obligation1 (c : Dev nD) : BodyObligation (dat1 (F := F) V c) (defs₀ (F := F)) Variants.none none Set.univ := fun t => by
  rw [bigSep_W1, bigSep_W1, defs₀_row1]
  exact triple_restated (sound_body1 V c t) rfl .rfl fun _ => .rfl

end Cert.Proof.Tail

end
-- ==== Proof.CallNear.lean ====
/- The ball query call: what its body leaves, and that it runs. -/
module

public import proofs.«01_k».proof.Proof.Ground
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Tail

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x3x8192 := Rect.unit (s := S1x3x8192) ![0, 0, 0] S1x3x8192.size inb_S1x3x8192_S1x3x8192_0_0_0
abbrev r2_1 : Rect S1x3x128 := Rect.unit (s := S1x3x128) ![0, 0, 0] S1x3x128.size inb_S1x3x128_S1x3x128_0_0_0
abbrev r2_2 : Rect S1x128x32 := Rect.unit (s := S1x128x32) ![0, 0, 0] S1x128x32.size inb_S1x128x32_S1x128x32_0_0_0

def k2_pay87 (i : grid2.Coords) (x0 : Vec F S1x3x128 .f32) (x1 : Vec F S1x3x8192 .f32) : FVec F S128x1 .f32 :=
  k2_pay3 (View.ld x1 r2_0) (View.ld x0 r2_1)
def k2_pay88 (i : grid2.Coords) (x0 : Vec F S1x3x128 .f32) (x1 : Vec F S1x3x8192 .f32) : FVec F S128x8192 .f32 :=
  k2_pay6 (View.ld x1 r2_0) (View.ld x0 r2_1)
def k2_pay89 (i : grid2.Coords) (x0 : Vec F S1x3x128 .f32) (x1 : Vec F S1x3x8192 .f32) : IVec S128x8192 1 :=
  k2_pay8 (View.ld x1 r2_0) (View.ld x0 r2_1)
def k2_pay90 (i : grid2.Coords) (x0 : Vec F S1x3x128 .f32) (x1 : Vec F S1x3x8192 .f32) : FVec F S128x8192 .f32 :=
  k2_pay23 (k2_pay88 i x0 x1) (k2_pay89 i x0 x1) (Scalar.ofBits .f32 0x46000000#32)
def k2_pay91 (i : grid2.Coords) (x0 : Vec F S1x3x128 .f32) (x1 : Vec F S1x3x8192 .f32) : FVec F S128 .f32 :=
  k2_pay24 (k2_pay88 i x0 x1) (k2_pay89 i x0 x1) (Scalar.ofBits .f32 0x46000000#32)
def k2_pay92 (i : grid2.Coords) (x0 : Vec F S1x3x128 .f32) (x1 : Vec F S1x3x8192 .f32) : FVec F S128x8192 .f32 :=
  k2_pay38 (k2_pay90 i x0 x1) (k2_pay91 i x0 x1)
def k2_pay93 (i : grid2.Coords) (x0 : Vec F S1x3x128 .f32) (x1 : Vec F S1x3x8192 .f32) : IVec S128x8192 1 :=
  k2_pay40 (k2_pay90 i x0 x1) (k2_pay91 i x0 x1)
def k2_pay94 (i : grid2.Coords) (x0 : Vec F S1x3x128 .f32) (x1 : Vec F S1x3x8192 .f32) : FVec F S128x8192 .f32 :=
  k2_pay55 (k2_pay92 i x0 x1) (k2_pay93 i x0 x1) (Scalar.ofBits .f32 0x46000000#32)
def k2_pay95 (i : grid2.Coords) (x0 : Vec F S1x3x128 .f32) (x1 : Vec F S1x3x8192 .f32) : FVec F S128 .f32 :=
  k2_pay56 (k2_pay92 i x0 x1) (k2_pay93 i x0 x1) (Scalar.ofBits .f32 0x46000000#32)
def k2_pay96 (i : grid2.Coords) (x0 : Vec F S1x3x128 .f32) (x1 : Vec F S1x3x8192 .f32) : FVec F S128x1 .f32 :=
  k2_pay69 (k2_pay87 i x0 x1)

def out2_2 (i : grid2.Coords) (x0 : Vec F S1x3x128 .f32) (x1 : Vec F S1x3x8192 .f32) : Vec F S1x128x32 .i32 :=
  View.canon [⟨r2_2, k2_pay1 (BitVec.ofNat 32 (i 0).val) (k2_pay86 (k2_pay39 (k2_pay90 i x0 x1) (k2_pay91 i x0 x1)) (k2_pay42 (k2_pay92 i x0 x1) (k2_pay93 i x0 x1) (Scalar.ofBits .f32 0x46000000#32)) (k2_pay44 (k2_pay92 i x0 x1) (k2_pay93 i x0 x1) (Scalar.ofBits .f32 0x46000000#32)) (k2_pay46 (k2_pay92 i x0 x1) (k2_pay93 i x0 x1) (Scalar.ofBits .f32 0x46000000#32)) (k2_pay48 (k2_pay92 i x0 x1) (k2_pay93 i x0 x1) (Scalar.ofBits .f32 0x46000000#32)) (k2_pay50 (k2_pay92 i x0 x1) (k2_pay93 i x0 x1) (Scalar.ofBits .f32 0x46000000#32)) (k2_pay52 (k2_pay92 i x0 x1) (k2_pay93 i x0 x1) (Scalar.ofBits .f32 0x46000000#32)) (k2_pay54 (k2_pay92 i x0 x1) (k2_pay93 i x0 x1) (Scalar.ofBits .f32 0x46000000#32)) (k2_pay57 (k2_pay95 i x0 x1)) (k2_pay59 (k2_pay94 i x0 x1) (k2_pay95 i x0 x1)) (k2_pay61 (k2_pay94 i x0 x1) (k2_pay95 i x0 x1)) (k2_pay63 (k2_pay94 i x0 x1) (k2_pay95 i x0 x1)) (k2_pay65 (k2_pay94 i x0 x1) (k2_pay95 i x0 x1)) (k2_pay67 (k2_pay94 i x0 x1) (k2_pay95 i x0 x1)) (k2_pay68 (k2_pay94 i x0 x1) (k2_pay95 i x0 x1)) (k2_pay96 i x0 x1) (k2_pay70 (k2_pay87 i x0 x1) (k2_pay5 (View.ld x1 r2_0) (View.ld x0 r2_1))) (k2_pay71 (k2_pay7 (View.ld x1 r2_0) (View.ld x0 r2_1)) (k2_pay96 i x0 x1) (Scalar.ofBits .f32 0x46000000#32)) (k2_pay72 (k2_pay10 (k2_pay88 i x0 x1) (k2_pay89 i x0 x1) (Scalar.ofBits .f32 0x46000000#32)) (k2_pay96 i x0 x1)) (k2_pay73 (k2_pay12 (k2_pay88 i x0 x1) (k2_pay89 i x0 x1) (Scalar.ofBits .f32 0x46000000#32)) (k2_pay96 i x0 x1)) (k2_pay74 (k2_pay14 (k2_pay88 i x0 x1) (k2_pay89 i x0 x1) (Scalar.ofBits .f32 0x46000000#32)) (k2_pay96 i x0 x1)) (k2_pay75 (k2_pay16 (k2_pay88 i x0 x1) (k2_pay89 i x0 x1) (Scalar.ofBits .f32 0x46000000#32)) (k2_pay96 i x0 x1)) (k2_pay76 (k2_pay18 (k2_pay88 i x0 x1) (k2_pay89 i x0 x1) (Scalar.ofBits .f32 0x46000000#32)) (k2_pay96 i x0 x1)) (k2_pay77 (k2_pay20 (k2_pay88 i x0 x1) (k2_pay89 i x0 x1) (Scalar.ofBits .f32 0x46000000#32)) (k2_pay96 i x0 x1)) (k2_pay78 (k2_pay22 (k2_pay88 i x0 x1) (k2_pay89 i x0 x1) (Scalar.ofBits .f32 0x46000000#32)) (k2_pay96 i x0 x1)) (k2_pay79 (k2_pay25 (k2_pay91 i x0 x1)) (k2_pay96 i x0 x1)) (k2_pay80 (k2_pay27 (k2_pay90 i x0 x1) (k2_pay91 i x0 x1)) (k2_pay96 i x0 x1)) (k2_pay81 (k2_pay29 (k2_pay90 i x0 x1) (k2_pay91 i x0 x1)) (k2_pay96 i x0 x1)) (k2_pay82 (k2_pay31 (k2_pay90 i x0 x1) (k2_pay91 i x0 x1)) (k2_pay96 i x0 x1)) (k2_pay83 (k2_pay33 (k2_pay90 i x0 x1) (k2_pay91 i x0 x1)) (k2_pay96 i x0 x1)) (k2_pay84 (k2_pay35 (k2_pay90 i x0 x1) (k2_pay91 i x0 x1)) (k2_pay96 i x0 x1)) (k2_pay85 (k2_pay37 (k2_pay90 i x0 x1) (k2_pay91 i x0 x1)) (k2_pay96 i x0 x1)) (Scalar.ofBits .f32 0x46000000#32))⟩]

theorem cover2_2 (p0 : Vec F S1x128x32 .i32) (y : S1x128x32.Idx) :
    ∃ pc ∈ ([⟨r2_2, p0⟩] : List (View.Piece (Elt F) S1x128x32 .i32)), y ∈ pc.1.set :=
  View.cover_of_tiled [⟨r2_2, p0⟩] S1x128x32.size (by rfl) y

set_option maxHeartbeats 1000000 in
theorem sound_kernel2 (c : Dev nD) (E : Set ℕ) (i : grid2.Coords) (arg2 : Memref sig .tc .vmem S1x3x128 .f32) (harg2 : arg2.IsWhole) (arg3 : Memref sig .tc .vmem S1x3x8192 .f32) (harg3 : arg3.IsWhole) (arg4 : Memref sig .tc .vmem S1x128x32 .i32) (harg4 : arg4.IsWhole)
    (x0 : Vec F S1x3x128 .f32) (x1 : Vec F S1x3x8192 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 i x0 x1)) -∗ K ⟨⟩))
      ⊢ wp frame (wpE (defs₀ (F := F)) Variants.none c none) E (cc2__bq_body i arg2 harg2 arg3 harg3 arg4 harg4) K := by
  simp only [cc2__bq_body_eq_skeleton]; unfold cc2__bq_body_skel
  simp only [k2_part1_eq_skeleton, k2_part2_eq_skeleton, k2_part3_eq_skeleton, k2_part4_eq_skeleton, k2_part5_eq_skeleton, k2_part6_eq_skeleton, k2_part7_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover2_2 _)).trans ?_
  rfl

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := iprop(Pipeline.scopedRest spec2 c ∗ (∃ r, prngReg c r))
  q _ := fullShare
  owed _ := (Tail.K (F := F)).Otc c 0
  recorded _ := known (F := F) 0 c

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (grid2.coords t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt none t.succ = (dat2 V c).owesAt none t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  rfl

theorem body_obligation2 (c : Dev nD) : BodyObligation (dat2 (F := F) V c) (defs₀ (F := F)) Variants.none none Set.univ := fun t => by
  rw [bigSep_W2, bigSep_W2, defs₀_row2]
  exact triple_restated (sound_body2 V c t) rfl .rfl fun _ => .rfl

end Cert.Proof.Tail

end
-- ==== Proof.LayerFirst.lean ====
/- The first layer: what its body leaves, and that it runs. -/
module

public import proofs.«01_k».proof.Proof.Ground
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Tail

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := k4_cond1 i = 1#1
theorem hcond4_0 : ∀ t : Fin cfg4.N, cond4_0 (grid4.coords t) ↔ t.val % 8 = 0 :=
  (fun t => by
    have ht : t.val < 8 := Nat.lt_of_lt_of_eq t.isLt N_4
    have e0 : (grid4.coords t 0).val = t.val / 1 % 8 := Pipeline.Grid.coords_val t 0 (by decide) rfl
    simp only [cond4_0, k4_cond1, e0]
    word_cmp
   : ∀ t : Fin grid4.N, cond4_0 (grid4.coords t) ↔ t.val % 8 = 0)

abbrev cond4_1 (i : grid4.Coords) : Prop := k4_cond2 i = 1#1
theorem hcond4_1 : ∀ t : Fin cfg4.N, cond4_1 (grid4.coords t) ↔ 1 ≤ t.val :=
  (fun t => by
    have ht : t.val < 8 := Nat.lt_of_lt_of_eq t.isLt N_4
    have e0 : (grid4.coords t 0).val = t.val / 1 % 8 := Pipeline.Grid.coords_val t 0 (by decide) rfl
    simp only [cond4_1, k4_cond2, e0]
    word_cmp
   : ∀ t : Fin grid4.N, cond4_1 (grid4.coords t) ↔ 1 ≤ t.val)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
def freshTab4_5 : ℕ → Bool
  | 0 => true
  | n + 1 => (0x80 : ℕ).testBit n
theorem freshTab4_5_step : ∀ t : Fin cfg4.N,
    freshTab4_5 (t.val + 1) = ((cfg4.win 5).flush t || (cfg4.idle 5 (cfg4.grid.coords t) && freshTab4_5 t.val)) := by decide +kernel
theorem fresh4_5_eq (t : Fin cfg4.N) : cfg4.fresh 5 t.val = freshTab4_5 t.val :=
  Pipeline.Cfg.fresh_tab cfg4 5 freshTab4_5 rfl freshTab4_5_step t.val (Nat.le_of_lt t.isLt)
theorem liveAt4_5_A : ∀ t : Fin cfg4.N, cond4_0 (grid4.coords t) → ¬cond4_1 (grid4.coords t) → cfg4.idle 5 (grid4.coords t) = false := by decide +kernel
theorem liveAt4_5_B : ∀ t : Fin cfg4.N, ¬cond4_0 (grid4.coords t) → cond4_1 (grid4.coords t) → cfg4.idle 5 (grid4.coords t) = false := by decide +kernel
theorem notFresh4_5_B : ∀ t : Fin cfg4.N, ¬cond4_0 (grid4.coords t) → cond4_1 (grid4.coords t) → cfg4.fresh 5 t.val = false := by
  intro t; rw [fresh4_5_eq t]; revert t; decide +kernel
def freshTab4_6 : ℕ → Bool
  | 0 => true
  | n + 1 => (0x80 : ℕ).testBit n
theorem freshTab4_6_step : ∀ t : Fin cfg4.N,
    freshTab4_6 (t.val + 1) = ((cfg4.win 6).flush t || (cfg4.idle 6 (cfg4.grid.coords t) && freshTab4_6 t.val)) := by decide +kernel
theorem fresh4_6_eq (t : Fin cfg4.N) : cfg4.fresh 6 t.val = freshTab4_6 t.val :=
  Pipeline.Cfg.fresh_tab cfg4 6 freshTab4_6 rfl freshTab4_6_step t.val (Nat.le_of_lt t.isLt)
theorem liveAt4_6_A : ∀ t : Fin cfg4.N, cond4_0 (grid4.coords t) → ¬cond4_1 (grid4.coords t) → cfg4.idle 6 (grid4.coords t) = false := by decide +kernel
theorem liveAt4_6_B : ∀ t : Fin cfg4.N, ¬cond4_0 (grid4.coords t) → cond4_1 (grid4.coords t) → cfg4.idle 6 (grid4.coords t) = false := by decide +kernel
theorem notFresh4_6_B : ∀ t : Fin cfg4.N, ¬cond4_0 (grid4.coords t) → cond4_1 (grid4.coords t) → cfg4.fresh 6 t.val = false := by
  intro t; rw [fresh4_6_eq t]; revert t; decide +kernel

abbrev VO4_4 : View sig .tc .vmem S256x32x128 .f32 := (Memref.whole cc4_stg4_0 : Memref sig .tc .vmem S256x32x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
abbrev ms4_0 (t : Fin cfg4.N) : Memref sig .tc .vmem S256x32x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S256x3 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S3x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S256x32x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)

section
variable (c : Dev nD) (i : grid4.Coords) (arg1 : Memref sig .tc .vmem S256x32x128 .f32) (harg1 : arg1.IsWhole) (arg2 : Memref sig .tc .vmem S256x3 .f32) (harg2 : arg2.IsWhole) (arg3 : Memref sig .tc .vmem S3x128 .f32) (harg3 : arg3.IsWhole) (arg4 : Memref sig .tc .vmem S1x128 .f32) (harg4 : arg4.IsWhole) (arg5 : Memref sig .tc .vmem S256x32x128 .f32) (harg5 : arg5.IsWhole) (arg6 : Memref sig .tc .vmem S1x128 .f32) (harg6 : arg6.IsWhole) (arg7 : Memref sig .tc .vmem S1x128 .f32) (harg7 : arg7.IsWhole)

section
variable (hc0 : cond4_0 i) (hc1 : ¬cond4_1 i)
  (x0 : Vec F S256x32x128 .f32) (x1 : Vec F S256x3 .f32) (x2 : Vec F S3x128 .f32) (x3 : Vec F S1x128 .f32)

set_option maxHeartbeats 1000000 in
noncomputable def kernelRun4_A :
    Σ' (L4 : List (View.Piece (Elt F) S256x32x128 .f32)), Σ' (L5 : List (View.Piece (Elt F) S1x128 .f32)), { L6 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc4__l1_body i arg1 harg1 arg2 harg2 arg3 harg3 arg4 harg4 arg5 harg5 arg6 harg6 arg7 harg7) K } := by
  refine ⟨?_, ?_, ?_, fun E K => ?run⟩
  case run =>
    simp only [cc4__l1_body_eq_skeleton]; unfold cc4__l1_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

theorem cover4_A_4 (y : S256x32x128.Idx) :
    ∃ pc ∈ (kernelRun4_A c i arg1 harg1 arg2 harg2 arg3 harg3 arg4 harg4 arg5 harg5 arg6 harg6 arg7 harg7 hc0 hc1 x0 x1 x2 x3).1, y ∈ pc.1.set :=
  View.cover_of_tiledL (kernelRun4_A c i arg1 harg1 arg2 harg2 arg3 harg3 arg4 harg4 arg5 harg5 arg6 harg6 arg7 harg7 hc0 hc1 x0 x1 x2 x3).1 S256x32x128.size (by sl_kernel_rfl) y

def out4_A_4 : Vec F S256x32x128 .f32 :=
  VO4_4.read (Elt F) (VO4_4.writes (Elt F) VO4_4.junk (kernelRun4_A c i arg1 harg1 arg2 harg2 arg3 harg3 arg4 harg4 arg5 harg5 arg6 harg6 arg7 harg7 hc0 hc1 x0 x1 x2 x3).1)

theorem cover4_A_5 (y : S1x128.Idx) :
    ∃ pc ∈ (kernelRun4_A c i arg1 harg1 arg2 harg2 arg3 harg3 arg4 harg4 arg5 harg5 arg6 harg6 arg7 harg7 hc0 hc1 x0 x1 x2 x3).2.1, y ∈ pc.1.set :=
  View.cover_of_tiledL (kernelRun4_A c i arg1 harg1 arg2 harg2 arg3 harg3 arg4 harg4 arg5 harg5 arg6 harg6 arg7 harg7 hc0 hc1 x0 x1 x2 x3).2.1 S1x128.size (by sl_kernel_rfl) y

def out4_A_5 : Vec F S1x128 .f32 :=
  VO4_5.read (Elt F) (VO4_5.writes (Elt F) VO4_5.junk (kernelRun4_A c i arg1 harg1 arg2 harg2 arg3 harg3 arg4 harg4 arg5 harg5 arg6 harg6 arg7 harg7 hc0 hc1 x0 x1 x2 x3).2.1)

theorem cover4_A_6 (y : S1x128.Idx) :
    ∃ pc ∈ (kernelRun4_A c i arg1 harg1 arg2 harg2 arg3 harg3 arg4 harg4 arg5 harg5 arg6 harg6 arg7 harg7 hc0 hc1 x0 x1 x2 x3).2.2.1, y ∈ pc.1.set :=
  View.cover_of_tiledL (kernelRun4_A c i arg1 harg1 arg2 harg2 arg3 harg3 arg4 harg4 arg5 harg5 arg6 harg6 arg7 harg7 hc0 hc1 x0 x1 x2 x3).2.2.1 S1x128.size (by sl_kernel_rfl) y

def out4_A_6 : Vec F S1x128 .f32 :=
  VO4_6.read (Elt F) (VO4_6.writes (Elt F) VO4_6.junk (kernelRun4_A c i arg1 harg1 arg2 harg2 arg3 harg3 arg4 harg4 arg5 harg5 arg6 harg6 arg7 harg7 hc0 hc1 x0 x1 x2 x3).2.2.1)

end

section
variable (hc0 : ¬cond4_0 i) (hc1 : cond4_1 i)
  (x0 : Vec F S256x32x128 .f32) (x1 : Vec F S256x3 .f32) (x2 : Vec F S3x128 .f32) (x3 : Vec F S1x128 .f32) (xo5 : Vec F S1x128 .f32) (xo6 : Vec F S1x128 .f32)

set_option maxHeartbeats 1000000 in
noncomputable def kernelRun4_B :
    Σ' (L4 : List (View.Piece (Elt F) S256x32x128 .f32)), Σ' (L5 : List (View.Piece (Elt F) S1x128 .f32)), { L6 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc4__l1_body i arg1 harg1 arg2 harg2 arg3 harg3 arg4 harg4 arg5 harg5 arg6 harg6 arg7 harg7) K } := by
  refine ⟨?_, ?_, ?_, fun E K => ?run⟩
  case run =>
    simp only [cc4__l1_body_eq_skeleton]; unfold cc4__l1_body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

theorem cover4_B_4 (y : S256x32x128.Idx) :
    ∃ pc ∈ (kernelRun4_B c i arg1 harg1 arg2 harg2 arg3 harg3 arg4 harg4 arg5 harg5 arg6 harg6 arg7 harg7 hc0 hc1 x0 x1 x2 x3 xo5 xo6).1, y ∈ pc.1.set :=
  View.cover_of_tiledL (kernelRun4_B c i arg1 harg1 arg2 harg2 arg3 harg3 arg4 harg4 arg5 harg5 arg6 harg6 arg7 harg7 hc0 hc1 x0 x1 x2 x3 xo5 xo6).1 S256x32x128.size (by sl_kernel_rfl) y

def out4_B_4 : Vec F S256x32x128 .f32 :=
  VO4_4.read (Elt F) (VO4_4.writes (Elt F) VO4_4.junk (kernelRun4_B c i arg1 harg1 arg2 harg2 arg3 harg3 arg4 harg4 arg5 harg5 arg6 harg6 arg7 harg7 hc0 hc1 x0 x1 x2 x3 xo5 xo6).1)

theorem cover4_B_5 (y : S1x128.Idx) :
    ∃ pc ∈ (kernelRun4_B c i arg1 harg1 arg2 harg2 arg3 harg3 arg4 harg4 arg5 harg5 arg6 harg6 arg7 harg7 hc0 hc1 x0 x1 x2 x3 xo5 xo6).2.1, y ∈ pc.1.set :=
  View.cover_of_tiledL (kernelRun4_B c i arg1 harg1 arg2 harg2 arg3 harg3 arg4 harg4 arg5 harg5 arg6 harg6 arg7 harg7 hc0 hc1 x0 x1 x2 x3 xo5 xo6).2.1 S1x128.size (by sl_kernel_rfl) y

def out4_B_5 : Vec F S1x128 .f32 :=
  VO4_5.read (Elt F) (VO4_5.writes (Elt F) VO4_5.junk (kernelRun4_B c i arg1 harg1 arg2 harg2 arg3 harg3 arg4 harg4 arg5 harg5 arg6 harg6 arg7 harg7 hc0 hc1 x0 x1 x2 x3 xo5 xo6).2.1)

theorem cover4_B_6 (y : S1x128.Idx) :
    ∃ pc ∈ (kernelRun4_B c i arg1 harg1 arg2 harg2 arg3 harg3 arg4 harg4 arg5 harg5 arg6 harg6 arg7 harg7 hc0 hc1 x0 x1 x2 x3 xo5 xo6).2.2.1, y ∈ pc.1.set :=
  View.cover_of_tiledL (kernelRun4_B c i arg1 harg1 arg2 harg2 arg3 harg3 arg4 harg4 arg5 harg5 arg6 harg6 arg7 harg7 hc0 hc1 x0 x1 x2 x3 xo5 xo6).2.2.1 S1x128.size (by sl_kernel_rfl) y

def out4_B_6 : Vec F S1x128 .f32 :=
  VO4_6.read (Elt F) (VO4_6.writes (Elt F) VO4_6.junk (kernelRun4_B c i arg1 harg1 arg2 harg2 arg3 harg3 arg4 harg4 arg5 harg5 arg6 harg6 arg7 harg7 hc0 hc1 x0 x1 x2 x3 xo5 xo6).2.2.1)

end

end

/-- What the first point leaves. -/
def first4 (c : Dev nD) (t : Fin cfg4.N) (h0 : t.val % 8 = 0) (h1 : ¬1 ≤ t.val) : Vec F S256x32x128 .f32 × Vec F S1x128 .f32 × Vec F S1x128 .f32 :=
  (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (fun h => h1 ((hcond4_1 t).mp h)) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (fun h => h1 ((hcond4_1 t).mp h)) (iblk4 V c 0 t) (iblk4 V c 1 t) (iblk4 V c 2 t) (iblk4 V c 3 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (fun h => h1 ((hcond4_1 t).mp h)) (iblk4 V c 0 t) (iblk4 V c 1 t) (iblk4 V c 2 t) (iblk4 V c 3 t))

/-- What a later point leaves over what the points before it left. -/
def later4 (c : Dev nD) (t : Fin cfg4.N) (h0 : ¬t.val % 8 = 0) (h1 : 1 ≤ t.val) (o : Vec F S256x32x128 .f32 × Vec F S1x128 .f32 × Vec F S1x128 .f32) : Vec F S256x32x128 .f32 × Vec F S1x128 .f32 × Vec F S1x128 .f32 :=
  (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) ((hcond4_1 t).mpr h1) (iblk4 V c 0 t) (iblk4 V c 1 t) (iblk4 V c 2 t) (iblk4 V c 3 t) o.2.1 o.2.2, out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) ((hcond4_1 t).mpr h1) (iblk4 V c 0 t) (iblk4 V c 1 t) (iblk4 V c 2 t) (iblk4 V c 3 t) o.2.1 o.2.2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) ((hcond4_1 t).mpr h1) (iblk4 V c 0 t) (iblk4 V c 1 t) (iblk4 V c 2 t) (iblk4 V c 3 t) o.2.1 o.2.2)

def outsAt4 (c : Dev nD) : (n : ℕ) → n < cfg4.N → Vec F S256x32x128 .f32 × Vec F S1x128 .f32 × Vec F S1x128 .f32
  | 0, hn => first4 V c ⟨0, hn⟩ (Nat.zero_mod _) (Nat.not_succ_le_zero 0)
  | n + 1, hn => later4 V c ⟨n + 1, hn⟩ (by have hN : n + 1 < 8 := lt_of_lt_of_eq hn (show cfg4.N = 8 from N_4); dsimp only; omega) (Nat.succ_le_succ (Nat.zero_le n)) (outsAt4 c n (Nat.lt_of_succ_lt hn))

theorem outsAt4_A (c : Dev nD) (t : Fin cfg4.N) (h0 : t.val % 8 = 0) (h1 : ¬1 ≤ t.val) :
    outsAt4 V c t.val t.isLt = first4 V c t h0 h1 := by
  obtain ⟨n, hn⟩ := t
  cases n with
  | zero => exact rfl
  | succ n => exact absurd (Nat.succ_le_succ (Nat.zero_le n)) h1

theorem outsAt4_B (c : Dev nD) (t : Fin cfg4.N) (h0 : ¬t.val % 8 = 0) (h1 : 1 ≤ t.val) :
    outsAt4 V c t.val t.isLt = later4 V c t h0 h1 (outsAt4 V c (t.val - 1) (Nat.lt_of_le_of_lt (Nat.sub_le _ _) t.isLt)) := by
  obtain ⟨n, hn⟩ := t
  cases n with
  | zero => exact absurd (Nat.zero_mod _) h0
  | succ n => exact rfl

def dat4 (c : Dev nD) : Dat τ (Elt F) (HIx 1) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2
  Φ _ := iprop(Pipeline.scopedRest spec4 c ∗ (∃ r, prngReg c r))
  q _ := fullShare
  owed _ := (Tail.K (F := F)).Otc c 1
  recorded _ := known (F := F) 1 c

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2 := by dsimp only [dat4]

theorem before4_0 (c : Dev nD) (t : Fin cfg4.N) (d) : (dat4 V c).before 0 t d = iblk4 V c 0 t :=
  (Dat.before_in_eq_fetched _ 0 rfl (fun _ => rfl) (fun _ _ _ => rfl) (fun t => by rw [after4_0]; rfl) t d).trans rfl
theorem before4_1 (c : Dev nD) (t : Fin cfg4.N) (d) : (dat4 V c).before 1 t d = iblk4 V c 1 t :=
  (Dat.before_in_eq_fetched _ 1 rfl (fun _ => rfl) (fun _ _ _ => rfl) (fun t => by rw [after4_1]; rfl) t d).trans rfl
theorem before4_2 (c : Dev nD) (t : Fin cfg4.N) (d) : (dat4 V c).before 2 t d = iblk4 V c 2 t :=
  (Dat.before_in_eq_fetched _ 2 rfl (fun _ => rfl) (fun _ _ _ => rfl) (fun t => by rw [after4_2]; rfl) t d).trans rfl
theorem before4_3 (c : Dev nD) (t : Fin cfg4.N) (d) : (dat4 V c).before 3 t d = iblk4 V c 3 t :=
  (Dat.before_in_eq_fetched _ 3 rfl (fun _ => rfl) (fun _ _ _ => rfl) (fun t => by rw [after4_3]; rfl) t d).trans rfl

theorem hcarry4_5 (c : Dev nD) : ∀ (t : Fin cfg4.N) (_ : t.val ≠ 0), cfg4.idle 5 (grid4.coords t) = true → cfg4.fresh 5 t.val = false →
    (dat4 V c).after 5 t = (dat4 V c).after 5 ⟨t.val - 1, by omega⟩ := by
  intro t _ hi _
  have hN : t.val < 8 := lt_of_lt_of_eq t.isLt (show cfg4.N = 8 from N_4)
  rw [after4_5, after4_5]
  by_cases h0 : t.val % 8 = 0
  · by_cases h1 : 1 ≤ t.val
    · exfalso; omega
    · rw [liveAt4_5_A t ((hcond4_0 t).mpr h0) (fun h => h1 ((hcond4_1 t).mp h))] at hi
      exact absurd hi Bool.false_ne_true
  · by_cases h1 : 1 ≤ t.val
    · rw [liveAt4_5_B t (fun h => h0 ((hcond4_0 t).mp h)) ((hcond4_1 t).mpr h1)] at hi
      exact absurd hi Bool.false_ne_true
    · exfalso; omega

theorem hcarry4_6 (c : Dev nD) : ∀ (t : Fin cfg4.N) (_ : t.val ≠ 0), cfg4.idle 6 (grid4.coords t) = true → cfg4.fresh 6 t.val = false →
    (dat4 V c).after 6 t = (dat4 V c).after 6 ⟨t.val - 1, by omega⟩ := by
  intro t _ hi _
  have hN : t.val < 8 := lt_of_lt_of_eq t.isLt (show cfg4.N = 8 from N_4)
  rw [after4_6, after4_6]
  by_cases h0 : t.val % 8 = 0
  · by_cases h1 : 1 ≤ t.val
    · exfalso; omega
    · rw [liveAt4_6_A t ((hcond4_0 t).mpr h0) (fun h => h1 ((hcond4_1 t).mp h))] at hi
      exact absurd hi Bool.false_ne_true
  · by_cases h1 : 1 ≤ t.val
    · rw [liveAt4_6_B t (fun h => h0 ((hcond4_0 t).mp h)) ((hcond4_1 t).mpr h1)] at hi
      exact absurd hi Bool.false_ne_true
    · exfalso; omega
theorem before4_5_B (c : Dev nD) (t : Fin cfg4.N) (h0 : ¬t.val % 8 = 0) (h1 : 1 ≤ t.val) (d) :
    (dat4 V c).before 5 t d = (outsAt4 V c (t.val - 1) (Nat.lt_of_le_of_lt (Nat.sub_le _ _) t.isLt)).2.1 := by
  rw [Dat.before_out_traj _ 5 rfl (fun _ _ => rfl) (hcarry4_5 V c) t.val t rfl d,
    if_neg (by rw [notFresh4_5_B t (fun h => h0 ((hcond4_0 t).mp h)) ((hcond4_1 t).mpr h1)]; exact Bool.false_ne_true)]
  dsimp only [dat4]
theorem before4_6_B (c : Dev nD) (t : Fin cfg4.N) (h0 : ¬t.val % 8 = 0) (h1 : 1 ≤ t.val) (d) :
    (dat4 V c).before 6 t d = (outsAt4 V c (t.val - 1) (Nat.lt_of_le_of_lt (Nat.sub_le _ _) t.isLt)).2.2 := by
  rw [Dat.before_out_traj _ 6 rfl (fun _ _ => rfl) (hcarry4_6 V c) t.val t rfl d,
    if_neg (by rw [notFresh4_6_B t (fun h => h0 ((hcond4_0 t).mp h)) ((hcond4_1 t).mpr h1)]; exact Bool.false_ne_true)]
  dsimp only [dat4]

def bodyPre4 (c : Dev nD) (t : Fin cfg4.N) : sProp 𝕄 :=
  iprop((dat4 V c).Φ t.castSucc ∗ (dat4 V c).owesAt none t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt none t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

theorem leaves4 (c : Dev nD) (t : Fin cfg4.N) (w : Fin cfg4.W) (h : cfg4.idle w (grid4.coords t) = false) :
    (dat4 V c).leavesExact w t = owns (c : Thread nD τ) ((cfg4.win w).stage (cfg4.slots t w)) fullShare ((dat4 V c).after w t) := by
  unfold Dat.leavesExact; rw [h]

set_option maxHeartbeats 800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt none t.succ = (dat4 V c).owesAt none t.castSucc from rfl]
  have hN : t.val < 8 := lt_of_lt_of_eq t.isLt (show cfg4.N = 8 from N_4)
  by_cases h0 : t.val % 8 = 0
  · by_cases h1 : 1 ≤ t.val
    · exfalso; omega
    · rw [leaves4 V c t 0 (liveAt4_0 t), after4_0]
      rw [leaves4 V c t 1 (liveAt4_1 t), after4_1]
      rw [leaves4 V c t 2 (liveAt4_2 t), after4_2]
      rw [leaves4 V c t 3 (liveAt4_3 t), after4_3]
      rw [leaves4 V c t 4 (liveAt4_4 t), after4_4]
      rw [leaves4 V c t 5 (liveAt4_5_A t ((hcond4_0 t).mpr h0) (fun h => h1 ((hcond4_1 t).mp h))), after4_5]
      rw [leaves4 V c t 6 (liveAt4_6_A t ((hcond4_0 t).mpr h0) (fun h => h1 ((hcond4_1 t).mp h))), after4_6]
      rw [outsAt4_A V c t h0 h1]
      unfold first4 out4_A_4 out4_A_5 out4_A_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun4_A c (grid4.coords t) _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_A_4 c _ _ _ _ _ _ _ _ _ _ _ _ _ _ _ _ _ _ _ _ _)
      isplitl [H5]
      · unfold owns; iexists _; isplitr
        swap; · iexact H5
        ipureintro; exact View.read_writes_of_cover _ _ _ _ _ (cover4_A_5 c _ _ _ _ _ _ _ _ _ _ _ _ _ _ _ _ _ _ _ _ _)
      unfold owns; iexists _; isplitr
      swap; · iexact H6
      ipureintro; exact View.read_writes_of_cover _ _ _ _ _ (cover4_A_6 c _ _ _ _ _ _ _ _ _ _ _ _ _ _ _ _ _ _ _ _ _)
  · by_cases h1 : 1 ≤ t.val
    · rw [leaves4 V c t 0 (liveAt4_0 t), after4_0]
      rw [leaves4 V c t 1 (liveAt4_1 t), after4_1]
      rw [leaves4 V c t 2 (liveAt4_2 t), after4_2]
      rw [leaves4 V c t 3 (liveAt4_3 t), after4_3]
      rw [leaves4 V c t 4 (liveAt4_4 t), after4_4]
      rw [leaves4 V c t 5 (liveAt4_5_B t (fun h => h0 ((hcond4_0 t).mp h)) ((hcond4_1 t).mpr h1)), after4_5]
      rw [leaves4 V c t 6 (liveAt4_6_B t (fun h => h0 ((hcond4_0 t).mp h)) ((hcond4_1 t).mpr h1)), after4_6]
      rw [outsAt4_B V c t h0 h1]
      simp only [before4_5_B V c t h0 h1, before4_6_B V c t h0 h1]
      unfold later4 out4_B_4 out4_B_5 out4_B_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      iintro ⟨H0, H1, H2, H3, ⟨%e4, H4⟩, ⟨%e5, H5⟩, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _ _)
      isplitl [H5]
      · unfold owns; iexists _; isplitr
        swap; · iexact H5
        ipureintro; exact View.read_writes_of_cover _ _ _ _ _ (cover4_B_5 c _ _ _ _ _ _ _ _ _ _ _ _ _ _ _ _ _ _ _ _ _ _ _)
      unfold owns; iexists _; isplitr
      swap; · iexact H6
      ipureintro; exact View.read_writes_of_cover _ _ _ _ _ (cover4_B_6 c _ _ _ _ _ _ _ _ _ _ _ _ _ _ _ _ _ _ _ _ _ _ _)
    · exfalso; omega

theorem defs₀_row4 (t : Fin cfg4.N) :
    defs₀ (F := F) .tc cfg4.body (cfg4.bodyArgs t (cfg4.slots t)) = bodyAt4 t := by
  rfl

theorem body_obligation4 (c : Dev nD) : BodyObligation (dat4 (F := F) V c) (defs₀ (F := F)) Variants.none none Set.univ := fun t => by
  rw [bigSep_W4, bigSep_W4, defs₀_row4]
  exact triple_restated (sound_body4 V c t) rfl .rfl fun _ => .rfl

end Cert.Proof.Tail

end
-- ==== Proof.LayerSecond.lean ====
/- The second layer: what its body leaves, and that it runs. -/
module

public import proofs.«01_k».proof.Proof.Ground
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Tail

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev cond5_0 (i : grid5.Coords) : Prop := k5_cond1 i = 1#1
theorem hcond5_0 : ∀ t : Fin cfg5.N, cond5_0 (grid5.coords t) ↔ t.val % 16 = 0 :=
  (fun t => by
    have ht : t.val < 16 := Nat.lt_of_lt_of_eq t.isLt N_5
    have e0 : (grid5.coords t 0).val = t.val / 1 % 16 := Pipeline.Grid.coords_val t 0 (by decide) rfl
    simp only [cond5_0, k5_cond1, e0]
    word_cmp
   : ∀ t : Fin grid5.N, cond5_0 (grid5.coords t) ↔ t.val % 16 = 0)

abbrev cond5_1 (i : grid5.Coords) : Prop := k5_cond2 i = 1#1
theorem hcond5_1 : ∀ t : Fin cfg5.N, cond5_1 (grid5.coords t) ↔ 1 ≤ t.val :=
  (fun t => by
    have ht : t.val < 16 := Nat.lt_of_lt_of_eq t.isLt N_5
    have e0 : (grid5.coords t 0).val = t.val / 1 % 16 := Pipeline.Grid.coords_val t 0 (by decide) rfl
    simp only [cond5_1, k5_cond2, e0]
    word_cmp
   : ∀ t : Fin grid5.N, cond5_1 (grid5.coords t) ↔ 1 ≤ t.val)

theorem liveAt5_0 : ∀ t : Fin cfg5.N, cfg5.idle 0 (grid5.coords t) = false := fun _ => rfl
theorem liveAt5_1 : ∀ t : Fin cfg5.N, cfg5.idle 1 (grid5.coords t) = false := fun _ => rfl
theorem liveAt5_2 : ∀ t : Fin cfg5.N, cfg5.idle 2 (grid5.coords t) = false := fun _ => rfl
theorem liveAt5_3 : ∀ t : Fin cfg5.N, cfg5.idle 3 (grid5.coords t) = false := fun _ => rfl
theorem liveAt5_4 : ∀ t : Fin cfg5.N, cfg5.idle 4 (grid5.coords t) = false := fun _ => rfl
theorem liveAt5_5 : ∀ t : Fin cfg5.N, cfg5.idle 5 (grid5.coords t) = false := fun _ => rfl
theorem liveAt5_6 : ∀ t : Fin cfg5.N, cfg5.idle 6 (grid5.coords t) = false := fun _ => rfl
theorem liveAt5_7 : ∀ t : Fin cfg5.N, cfg5.idle 7 (grid5.coords t) = false := fun _ => rfl
def freshTab5_8 : ℕ → Bool
  | 0 => true
  | n + 1 => (0x8000 : ℕ).testBit n
theorem freshTab5_8_step : ∀ t : Fin cfg5.N,
    freshTab5_8 (t.val + 1) = ((cfg5.win 8).flush t || (cfg5.idle 8 (cfg5.grid.coords t) && freshTab5_8 t.val)) := by decide +kernel
theorem fresh5_8_eq (t : Fin cfg5.N) : cfg5.fresh 8 t.val = freshTab5_8 t.val :=
  Pipeline.Cfg.fresh_tab cfg5 8 freshTab5_8 rfl freshTab5_8_step t.val (Nat.le_of_lt t.isLt)
theorem liveAt5_8_A : ∀ t : Fin cfg5.N, cond5_0 (grid5.coords t) → ¬cond5_1 (grid5.coords t) → cfg5.idle 8 (grid5.coords t) = false := by decide +kernel
theorem liveAt5_8_B : ∀ t : Fin cfg5.N, ¬cond5_0 (grid5.coords t) → cond5_1 (grid5.coords t) → cfg5.idle 8 (grid5.coords t) = false := by decide +kernel
theorem notFresh5_8_B : ∀ t : Fin cfg5.N, ¬cond5_0 (grid5.coords t) → cond5_1 (grid5.coords t) → cfg5.fresh 8 t.val = false := by
  intro t; rw [fresh5_8_eq t]; revert t; decide +kernel
def freshTab5_9 : ℕ → Bool
  | 0 => true
  | n + 1 => (0x8000 : ℕ).testBit n
theorem freshTab5_9_step : ∀ t : Fin cfg5.N,
    freshTab5_9 (t.val + 1) = ((cfg5.win 9).flush t || (cfg5.idle 9 (cfg5.grid.coords t) && freshTab5_9 t.val)) := by decide +kernel
theorem fresh5_9_eq (t : Fin cfg5.N) : cfg5.fresh 9 t.val = freshTab5_9 t.val :=
  Pipeline.Cfg.fresh_tab cfg5 9 freshTab5_9 rfl freshTab5_9_step t.val (Nat.le_of_lt t.isLt)
theorem liveAt5_9_A : ∀ t : Fin cfg5.N, cond5_0 (grid5.coords t) → ¬cond5_1 (grid5.coords t) → cfg5.idle 9 (grid5.coords t) = false := by decide +kernel
theorem liveAt5_9_B : ∀ t : Fin cfg5.N, ¬cond5_0 (grid5.coords t) → cond5_1 (grid5.coords t) → cfg5.idle 9 (grid5.coords t) = false := by decide +kernel
theorem notFresh5_9_B : ∀ t : Fin cfg5.N, ¬cond5_0 (grid5.coords t) → cond5_1 (grid5.coords t) → cfg5.fresh 9 t.val = false := by
  intro t; rw [fresh5_9_eq t]; revert t; decide +kernel

abbrev VO5_7 : View sig .tc .vmem S4096x128 .f32 := (Memref.whole cc5_stg7_0 : Memref sig .tc .vmem S4096x128 .f32).view
abbrev VO5_8 : View sig .tc .vmem S1x128 .f32 := (Memref.whole cc5_stg8_0 : Memref sig .tc .vmem S1x128 .f32).view
abbrev VO5_9 : View sig .tc .vmem S1x128 .f32 := (Memref.whole cc5_stg9_0 : Memref sig .tc .vmem S1x128 .f32).view
abbrev ms5_0 (t : Fin cfg5.N) : Memref sig .tc .vmem S4096x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S4096x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x128 .f32 := win5_9.stage (cfg5.slots t 9)
abbrev hs5_9 (t : Fin cfg5.N) : (ms5_9 t).IsWhole := hstage5_9 ((cfg5.slots t 9).cast nbuf5_9)

section
variable (c : Dev nD) (i : grid5.Coords) (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4096x128 .f32) (harg8 : arg8.IsWhole) (arg9 : Memref sig .tc .vmem S1x128 .f32) (harg9 : arg9.IsWhole) (arg10 : Memref sig .tc .vmem S1x128 .f32) (harg10 : arg10.IsWhole)

section
variable (hc0 : cond5_0 i) (hc1 : ¬cond5_1 i)
  (x0 : Vec F S4096x128 .f32) (x1 : Vec F S1x128 .f32) (x2 : Vec F S1x128 .f32) (x3 : Vec F S1x128 .f32) (x4 : Vec F S1x128 .f32) (x5 : Vec F S128x128 .f32) (x6 : Vec F S1x128 .f32)

set_option maxHeartbeats 1000000 in
noncomputable def kernelRun5_A :
    Σ' (L7 : List (View.Piece (Elt F) S4096x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc5__l23_body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc5__l23_body_eq_skeleton]; unfold cc5__l23_body_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

theorem cover5_A_7 (y : S4096x128.Idx) :
    ∃ pc ∈ (kernelRun5_A c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 arg9 harg9 arg10 harg10 hc0 hc1 x0 x1 x2 x3 x4 x5 x6).1 S4096x128.size (by sl_kernel_rfl) y

def out5_A_7 : Vec F S4096x128 .f32 :=
  VO5_7.read (Elt F) (VO5_7.writes (Elt F) VO5_7.junk (kernelRun5_A c i arg1 harg1 arg2 harg2 arg3 harg3 arg4 harg4 arg5 harg5 arg6 harg6 arg7 harg7 arg8 harg8 arg9 harg9 arg10 harg10 hc0 hc1 x0 x1 x2 x3 x4 x5 x6).1)

theorem cover5_A_8 (y : S1x128.Idx) :
    ∃ pc ∈ (kernelRun5_A c i arg1 harg1 arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun5_A c i arg1 harg1 arg2 harg2 arg3 harg3 arg4 harg4 arg5 harg5 arg6 harg6 arg7 harg7 arg8 harg8 arg9 harg9 arg10 harg10 hc0 hc1 x0 x1 x2 x3 x4 x5 x6).2.1 S1x128.size (by sl_kernel_rfl) y

def out5_A_8 : Vec F S1x128 .f32 :=
  VO5_8.read (Elt F) (VO5_8.writes (Elt F) VO5_8.junk (kernelRun5_A c i arg1 harg1 arg2 harg2 arg3 harg3 arg4 harg4 arg5 harg5 arg6 harg6 arg7 harg7 arg8 harg8 arg9 harg9 arg10 harg10 hc0 hc1 x0 x1 x2 x3 x4 x5 x6).2.1)

theorem cover5_A_9 (y : S1x128.Idx) :
    ∃ pc ∈ (kernelRun5_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun5_A c i arg1 harg1 arg2 harg2 arg3 harg3 arg4 harg4 arg5 harg5 arg6 harg6 arg7 harg7 arg8 harg8 arg9 harg9 arg10 harg10 hc0 hc1 x0 x1 x2 x3 x4 x5 x6).2.2.1 S1x128.size (by sl_kernel_rfl) y

def out5_A_9 : Vec F S1x128 .f32 :=
  VO5_9.read (Elt F) (VO5_9.writes (Elt F) VO5_9.junk (kernelRun5_A c i arg1 harg1 arg2 harg2 arg3 harg3 arg4 harg4 arg5 harg5 arg6 harg6 arg7 harg7 arg8 harg8 arg9 harg9 arg10 harg10 hc0 hc1 x0 x1 x2 x3 x4 x5 x6).2.2.1)

end

section
variable (hc0 : ¬cond5_0 i) (hc1 : cond5_1 i)
  (x0 : Vec F S4096x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32)

set_option maxHeartbeats 1000000 in
noncomputable def kernelRun5_B :
    Σ' (L7 : List (View.Piece (Elt F) S4096x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc5__l23_body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc5__l23_body_eq_skeleton]; unfold cc5__l23_body_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

theorem cover5_B_7 (y : S4096x128.Idx) :
    ∃ pc ∈ (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).1, y ∈ pc.1.set :=
  View.cover_of_tiledL (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).1 S4096x128.size (by sl_kernel_rfl) y

def out5_B_7 : Vec F S4096x128 .f32 :=
  VO5_7.read (Elt F) (VO5_7.writes (Elt F) VO5_7.junk (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).1)

theorem cover5_B_8 (y : S1x128.Idx) :
    ∃ pc ∈ (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).2.1, y ∈ pc.1.set :=
  View.cover_of_tiledL (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).2.1 S1x128.size (by sl_kernel_rfl) y

def out5_B_8 : Vec F S1x128 .f32 :=
  VO5_8.read (Elt F) (VO5_8.writes (Elt F) VO5_8.junk (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).2.1)

theorem cover5_B_9 (y : S1x128.Idx) :
    ∃ pc ∈ (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).2.2.1, y ∈ pc.1.set :=
  View.cover_of_tiledL (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).2.2.1 S1x128.size (by sl_kernel_rfl) y

def out5_B_9 : Vec F S1x128 .f32 :=
  VO5_9.read (Elt F) (VO5_9.writes (Elt F) VO5_9.junk (kernelRun5_B c i arg1 harg1 arg2 harg2 arg3 harg3 arg4 harg4 arg5 harg5 arg6 harg6 arg7 harg7 arg8 harg8 arg9 harg9 arg10 harg10 hc0 hc1 x0 x1 x2 x3 x4 x5 x6 xo8 xo9).2.2.1)

end

end

/-- What the first point leaves. -/
def first5 (c : Dev nD) (t : Fin cfg5.N) (h0 : t.val % 16 = 0) (h1 : ¬1 ≤ t.val) : Vec F S4096x128 .f32 × Vec F S1x128 .f32 × Vec F S1x128 .f32 :=
  (out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t), out5_A_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t), out5_A_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))

/-- What a later point leaves over what the points before it left. -/
def later5 (c : Dev nD) (t : Fin cfg5.N) (h0 : ¬t.val % 16 = 0) (h1 : 1 ≤ t.val) (o : Vec F S4096x128 .f32 × Vec F S1x128 .f32 × Vec F S1x128 .f32) : Vec F S4096x128 .f32 × Vec F S1x128 .f32 × Vec F S1x128 .f32 :=
  (out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) o.2.1 o.2.2, out5_B_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) o.2.1 o.2.2, out5_B_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) o.2.1 o.2.2)

def outsAt5 (c : Dev nD) : (n : ℕ) → n < cfg5.N → Vec F S4096x128 .f32 × Vec F S1x128 .f32 × Vec F S1x128 .f32
  | 0, hn => first5 V c ⟨0, hn⟩ (Nat.zero_mod _) (Nat.not_succ_le_zero 0)
  | n + 1, hn => later5 V c ⟨n + 1, hn⟩ (by have hN : n + 1 < 16 := lt_of_lt_of_eq hn (show cfg5.N = 16 from N_5); dsimp only; omega) (Nat.succ_le_succ (Nat.zero_le n)) (outsAt5 c n (Nat.lt_of_succ_lt hn))

theorem outsAt5_A (c : Dev nD) (t : Fin cfg5.N) (h0 : t.val % 16 = 0) (h1 : ¬1 ≤ t.val) :
    outsAt5 V c t.val t.isLt = first5 V c t h0 h1 := by
  obtain ⟨n, hn⟩ := t
  cases n with
  | zero => exact rfl
  | succ n => exact absurd (Nat.succ_le_succ (Nat.zero_le n)) h1

theorem outsAt5_B (c : Dev nD) (t : Fin cfg5.N) (h0 : ¬t.val % 16 = 0) (h1 : 1 ≤ t.val) :
    outsAt5 V c t.val t.isLt = later5 V c t h0 h1 (outsAt5 V c (t.val - 1) (Nat.lt_of_le_of_lt (Nat.sub_le _ _) t.isLt)) := by
  obtain ⟨n, hn⟩ := t
  cases n with
  | zero => exact absurd (Nat.zero_mod _) h0
  | succ n => exact rfl

def dat5 (c : Dev nD) : Dat τ (Elt F) (HIx 1) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => (outsAt5 V c t.val t.isLt).1
    | ⟨8, _⟩ => (outsAt5 V c t.val t.isLt).2.1
    | ⟨9, _⟩ => (outsAt5 V c t.val t.isLt).2.2
  Φ _ := iprop(Pipeline.scopedRest spec5 c ∗ (∃ r, prngReg c r))
  q _ := fullShare
  owed _ := (Tail.K (F := F)).Otc c 1
  recorded _ := known (F := F) 1 c

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = (outsAt5 V c t.val t.isLt).1 := by dsimp only [dat5]
theorem after5_8 (c : Dev nD) (t : Fin cfg5.N) : (dat5 V c).after 8 t = (outsAt5 V c t.val t.isLt).2.1 := by dsimp only [dat5]
theorem after5_9 (c : Dev nD) (t : Fin cfg5.N) : (dat5 V c).after 9 t = (outsAt5 V c t.val t.isLt).2.2 := by dsimp only [dat5]

theorem before5_0 (c : Dev nD) (t : Fin cfg5.N) (d) : (dat5 V c).before 0 t d = iblk5 V c 0 t :=
  (Dat.before_in_eq_fetched _ 0 rfl (fun _ => rfl) (fun _ _ _ => rfl) (fun t => by rw [after5_0]; rfl) t d).trans rfl
theorem before5_1 (c : Dev nD) (t : Fin cfg5.N) (d) : (dat5 V c).before 1 t d = iblk5 V c 1 t :=
  (Dat.before_in_eq_fetched _ 1 rfl (fun _ => rfl) (fun _ _ _ => rfl) (fun t => by rw [after5_1]; rfl) t d).trans rfl
theorem before5_2 (c : Dev nD) (t : Fin cfg5.N) (d) : (dat5 V c).before 2 t d = iblk5 V c 2 t :=
  (Dat.before_in_eq_fetched _ 2 rfl (fun _ => rfl) (fun _ _ _ => rfl) (fun t => by rw [after5_2]; rfl) t d).trans rfl
theorem before5_3 (c : Dev nD) (t : Fin cfg5.N) (d) : (dat5 V c).before 3 t d = iblk5 V c 3 t :=
  (Dat.before_in_eq_fetched _ 3 rfl (fun _ => rfl) (fun _ _ _ => rfl) (fun t => by rw [after5_3]; rfl) t d).trans rfl
theorem before5_4 (c : Dev nD) (t : Fin cfg5.N) (d) : (dat5 V c).before 4 t d = iblk5 V c 4 t :=
  (Dat.before_in_eq_fetched _ 4 rfl (fun _ => rfl) (fun _ _ _ => rfl) (fun t => by rw [after5_4]; rfl) t d).trans rfl
theorem before5_5 (c : Dev nD) (t : Fin cfg5.N) (d) : (dat5 V c).before 5 t d = iblk5 V c 5 t :=
  (Dat.before_in_eq_fetched _ 5 rfl (fun _ => rfl) (fun _ _ _ => rfl) (fun t => by rw [after5_5]; rfl) t d).trans rfl
theorem before5_6 (c : Dev nD) (t : Fin cfg5.N) (d) : (dat5 V c).before 6 t d = iblk5 V c 6 t :=
  (Dat.before_in_eq_fetched _ 6 rfl (fun _ => rfl) (fun _ _ _ => rfl) (fun t => by rw [after5_6]; rfl) t d).trans rfl

theorem hcarry5_8 (c : Dev nD) : ∀ (t : Fin cfg5.N) (_ : t.val ≠ 0), cfg5.idle 8 (grid5.coords t) = true → cfg5.fresh 8 t.val = false →
    (dat5 V c).after 8 t = (dat5 V c).after 8 ⟨t.val - 1, by omega⟩ := by
  intro t _ hi _
  have hN : t.val < 16 := lt_of_lt_of_eq t.isLt (show cfg5.N = 16 from N_5)
  rw [after5_8, after5_8]
  by_cases h0 : t.val % 16 = 0
  · by_cases h1 : 1 ≤ t.val
    · exfalso; omega
    · rw [liveAt5_8_A t ((hcond5_0 t).mpr h0) (fun h => h1 ((hcond5_1 t).mp h))] at hi
      exact absurd hi Bool.false_ne_true
  · by_cases h1 : 1 ≤ t.val
    · rw [liveAt5_8_B t (fun h => h0 ((hcond5_0 t).mp h)) ((hcond5_1 t).mpr h1)] at hi
      exact absurd hi Bool.false_ne_true
    · exfalso; omega

theorem hcarry5_9 (c : Dev nD) : ∀ (t : Fin cfg5.N) (_ : t.val ≠ 0), cfg5.idle 9 (grid5.coords t) = true → cfg5.fresh 9 t.val = false →
    (dat5 V c).after 9 t = (dat5 V c).after 9 ⟨t.val - 1, by omega⟩ := by
  intro t _ hi _
  have hN : t.val < 16 := lt_of_lt_of_eq t.isLt (show cfg5.N = 16 from N_5)
  rw [after5_9, after5_9]
  by_cases h0 : t.val % 16 = 0
  · by_cases h1 : 1 ≤ t.val
    · exfalso; omega
    · rw [liveAt5_9_A t ((hcond5_0 t).mpr h0) (fun h => h1 ((hcond5_1 t).mp h))] at hi
      exact absurd hi Bool.false_ne_true
  · by_cases h1 : 1 ≤ t.val
    · rw [liveAt5_9_B t (fun h => h0 ((hcond5_0 t).mp h)) ((hcond5_1 t).mpr h1)] at hi
      exact absurd hi Bool.false_ne_true
    · exfalso; omega
theorem before5_8_B (c : Dev nD) (t : Fin cfg5.N) (h0 : ¬t.val % 16 = 0) (h1 : 1 ≤ t.val) (d) :
    (dat5 V c).before 8 t d = (outsAt5 V c (t.val - 1) (Nat.lt_of_le_of_lt (Nat.sub_le _ _) t.isLt)).2.1 := by
  rw [Dat.before_out_traj _ 8 rfl (fun _ _ => rfl) (hcarry5_8 V c) t.val t rfl d,
    if_neg (by rw [notFresh5_8_B t (fun h => h0 ((hcond5_0 t).mp h)) ((hcond5_1 t).mpr h1)]; exact Bool.false_ne_true)]
  dsimp only [dat5]
theorem before5_9_B (c : Dev nD) (t : Fin cfg5.N) (h0 : ¬t.val % 16 = 0) (h1 : 1 ≤ t.val) (d) :
    (dat5 V c).before 9 t d = (outsAt5 V c (t.val - 1) (Nat.lt_of_le_of_lt (Nat.sub_le _ _) t.isLt)).2.2 := by
  rw [Dat.before_out_traj _ 9 rfl (fun _ _ => rfl) (hcarry5_9 V c) t.val t rfl d,
    if_neg (by rw [notFresh5_9_B t (fun h => h0 ((hcond5_0 t).mp h)) ((hcond5_1 t).mpr h1)]; exact Bool.false_ne_true)]
  dsimp only [dat5]

def bodyPre5 (c : Dev nD) (t : Fin cfg5.N) : sProp 𝕄 :=
  iprop((dat5 V c).Φ t.castSucc ∗ (dat5 V c).owesAt none t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

def bodyPost5 (c : Dev nD) (t : Fin cfg5.N) : sProp 𝕄 :=
  iprop((dat5 V c).Φ t.succ ∗ (dat5 V c).owesAt none t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t)

theorem leaves5 (c : Dev nD) (t : Fin cfg5.N) (w : Fin cfg5.W) (h : cfg5.idle w (grid5.coords t) = false) :
    (dat5 V c).leavesExact w t = owns (c : Thread nD τ) ((cfg5.win w).stage (cfg5.slots t w)) fullShare ((dat5 V c).after w t) := by
  unfold Dat.leavesExact; rw [h]

set_option maxHeartbeats 1600000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt none t.succ = (dat5 V c).owesAt none t.castSucc from rfl]
  have hN : t.val < 16 := lt_of_lt_of_eq t.isLt (show cfg5.N = 16 from N_5)
  by_cases h0 : t.val % 16 = 0
  · by_cases h1 : 1 ≤ t.val
    · exfalso; omega
    · rw [leaves5 V c t 0 (liveAt5_0 t), after5_0]
      rw [leaves5 V c t 1 (liveAt5_1 t), after5_1]
      rw [leaves5 V c t 2 (liveAt5_2 t), after5_2]
      rw [leaves5 V c t 3 (liveAt5_3 t), after5_3]
      rw [leaves5 V c t 4 (liveAt5_4 t), after5_4]
      rw [leaves5 V c t 5 (liveAt5_5 t), after5_5]
      rw [leaves5 V c t 6 (liveAt5_6 t), after5_6]
      rw [leaves5 V c t 7 (liveAt5_7 t), after5_7]
      rw [leaves5 V c t 8 (liveAt5_8_A t ((hcond5_0 t).mpr h0) (fun h => h1 ((hcond5_1 t).mp h))), after5_8]
      rw [leaves5 V c t 9 (liveAt5_9_A t ((hcond5_0 t).mpr h0) (fun h => h1 ((hcond5_1 t).mp h))), after5_9]
      rw [outsAt5_A V c t h0 h1]
      unfold first5 out5_A_7 out5_A_8 out5_A_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun5_A c (grid5.coords t) _ _ _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      iintro ⟨H0, H1, H2, H3, H4, H5, H6, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover5_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover5_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover5_A_9 c _ _ _ _ _ _ _ _ _ _ _ _ _ _ _ _ _ _ _ _ _ _ _ _ _ _ _ _ _ _)
  · by_cases h1 : 1 ≤ t.val
    · rw [leaves5 V c t 0 (liveAt5_0 t), after5_0]
      rw [leaves5 V c t 1 (liveAt5_1 t), after5_1]
      rw [leaves5 V c t 2 (liveAt5_2 t), after5_2]
      rw [leaves5 V c t 3 (liveAt5_3 t), after5_3]
      rw [leaves5 V c t 4 (liveAt5_4 t), after5_4]
      rw [leaves5 V c t 5 (liveAt5_5 t), after5_5]
      rw [leaves5 V c t 6 (liveAt5_6 t), after5_6]
      rw [leaves5 V c t 7 (liveAt5_7 t), after5_7]
      rw [leaves5 V c t 8 (liveAt5_8_B t (fun h => h0 ((hcond5_0 t).mp h)) ((hcond5_1 t).mpr h1)), after5_8]
      rw [leaves5 V c t 9 (liveAt5_9_B t (fun h => h0 ((hcond5_0 t).mp h)) ((hcond5_1 t).mpr h1)), after5_9]
      rw [outsAt5_B V c t h0 h1]
      simp only [before5_8_B V c t h0 h1, before5_9_B V c t h0 h1]
      unfold later5 out5_B_7 out5_B_8 out5_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun5_B c (grid5.coords t) _ _ _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      iintro ⟨H0, H1, H2, H3, H4, H5, H6, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover5_B_7 c _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover5_B_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover5_B_9 c _ _ _ _ _ _ _ _ _ _ _ _ _ _ _ _ _ _ _ _ _ _ _ _ _ _ _ _ _ _ _ _)
    · exfalso; omega

theorem defs₀_row5 (t : Fin cfg5.N) :
    defs₀ (F := F) .tc cfg5.body (cfg5.bodyArgs t (cfg5.slots t)) = bodyAt5 t := by
  rfl

theorem body_obligation5 (c : Dev nD) : BodyObligation (dat5 (F := F) V c) (defs₀ (F := F)) Variants.none none Set.univ := fun t => by
  rw [bigSep_W5, bigSep_W5, defs₀_row5]
  exact triple_restated (sound_body5 V c t) rfl .rfl fun _ => .rfl

end Cert.Proof.Tail

end
-- ==== Proof.LayerThird.lean ====
/- The third layer: what its body leaves, and that it runs. -/
module

public import proofs.«01_k».proof.Proof.Ground
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Tail

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := k6_cond1 i = 1#1
theorem hcond6_0 : ∀ t : Fin cfg6.N, cond6_0 (grid6.coords t) ↔ t.val % 16 = 0 :=
  (fun t => by
    have ht : t.val < 16 := Nat.lt_of_lt_of_eq t.isLt N_6
    have e0 : (grid6.coords t 0).val = t.val / 1 % 16 := Pipeline.Grid.coords_val t 0 (by decide) rfl
    simp only [cond6_0, k6_cond1, e0]
    word_cmp
   : ∀ t : Fin grid6.N, cond6_0 (grid6.coords t) ↔ t.val % 16 = 0)

abbrev cond6_1 (i : grid6.Coords) : Prop := k6_cond2 i = 1#1
theorem hcond6_1 : ∀ t : Fin cfg6.N, cond6_1 (grid6.coords t) ↔ 1 ≤ t.val :=
  (fun t => by
    have ht : t.val < 16 := Nat.lt_of_lt_of_eq t.isLt N_6
    have e0 : (grid6.coords t 0).val = t.val / 1 % 16 := Pipeline.Grid.coords_val t 0 (by decide) rfl
    simp only [cond6_1, k6_cond2, e0]
    word_cmp
   : ∀ t : Fin grid6.N, cond6_1 (grid6.coords t) ↔ 1 ≤ t.val)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
theorem liveAt6_5 : ∀ t : Fin cfg6.N, cfg6.idle 5 (grid6.coords t) = false := fun _ => rfl
theorem liveAt6_6 : ∀ t : Fin cfg6.N, cfg6.idle 6 (grid6.coords t) = false := fun _ => rfl
theorem liveAt6_7 : ∀ t : Fin cfg6.N, cfg6.idle 7 (grid6.coords t) = false := fun _ => rfl
def freshTab6_8 : ℕ → Bool
  | 0 => true
  | n + 1 => (0x8000 : ℕ).testBit n
theorem freshTab6_8_step : ∀ t : Fin cfg6.N,
    freshTab6_8 (t.val + 1) = ((cfg6.win 8).flush t || (cfg6.idle 8 (cfg6.grid.coords t) && freshTab6_8 t.val)) := by decide +kernel
theorem fresh6_8_eq (t : Fin cfg6.N) : cfg6.fresh 8 t.val = freshTab6_8 t.val :=
  Pipeline.Cfg.fresh_tab cfg6 8 freshTab6_8 rfl freshTab6_8_step t.val (Nat.le_of_lt t.isLt)
theorem liveAt6_8_A : ∀ t : Fin cfg6.N, cond6_0 (grid6.coords t) → ¬cond6_1 (grid6.coords t) → cfg6.idle 8 (grid6.coords t) = false := by decide +kernel
theorem liveAt6_8_B : ∀ t : Fin cfg6.N, ¬cond6_0 (grid6.coords t) → cond6_1 (grid6.coords t) → cfg6.idle 8 (grid6.coords t) = false := by decide +kernel
theorem notFresh6_8_B : ∀ t : Fin cfg6.N, ¬cond6_0 (grid6.coords t) → cond6_1 (grid6.coords t) → cfg6.fresh 8 t.val = false := by
  intro t; rw [fresh6_8_eq t]; revert t; decide +kernel
def freshTab6_9 : ℕ → Bool
  | 0 => true
  | n + 1 => (0x8000 : ℕ).testBit n
theorem freshTab6_9_step : ∀ t : Fin cfg6.N,
    freshTab6_9 (t.val + 1) = ((cfg6.win 9).flush t || (cfg6.idle 9 (cfg6.grid.coords t) && freshTab6_9 t.val)) := by decide +kernel
theorem fresh6_9_eq (t : Fin cfg6.N) : cfg6.fresh 9 t.val = freshTab6_9 t.val :=
  Pipeline.Cfg.fresh_tab cfg6 9 freshTab6_9 rfl freshTab6_9_step t.val (Nat.le_of_lt t.isLt)
theorem liveAt6_9_A : ∀ t : Fin cfg6.N, cond6_0 (grid6.coords t) → ¬cond6_1 (grid6.coords t) → cfg6.idle 9 (grid6.coords t) = false := by decide +kernel
theorem liveAt6_9_B : ∀ t : Fin cfg6.N, ¬cond6_0 (grid6.coords t) → cond6_1 (grid6.coords t) → cfg6.idle 9 (grid6.coords t) = false := by decide +kernel
theorem notFresh6_9_B : ∀ t : Fin cfg6.N, ¬cond6_0 (grid6.coords t) → cond6_1 (grid6.coords t) → cfg6.fresh 9 t.val = false := by
  intro t; rw [fresh6_9_eq t]; revert t; decide +kernel

abbrev VO6_7 : View sig .tc .vmem S4096x256 .f32 := (Memref.whole cc6_stg7_0 : Memref sig .tc .vmem S4096x256 .f32).view
abbrev VO6_8 : View sig .tc .vmem S1x256 .f32 := (Memref.whole cc6_stg8_0 : Memref sig .tc .vmem S1x256 .f32).view
abbrev VO6_9 : View sig .tc .vmem S1x256 .f32 := (Memref.whole cc6_stg9_0 : Memref sig .tc .vmem S1x256 .f32).view
abbrev ms6_0 (t : Fin cfg6.N) : Memref sig .tc .vmem S4096x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S128x256 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x256 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S4096x256 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x256 .f32 := win6_8.stage (cfg6.slots t 8)
abbrev hs6_8 (t : Fin cfg6.N) : (ms6_8 t).IsWhole := hstage6_8 ((cfg6.slots t 8).cast nbuf6_8)
abbrev ms6_9 (t : Fin cfg6.N) : Memref sig .tc .vmem S1x256 .f32 := win6_9.stage (cfg6.slots t 9)
abbrev hs6_9 (t : Fin cfg6.N) : (ms6_9 t).IsWhole := hstage6_9 ((cfg6.slots t 9).cast nbuf6_9)

section
variable (c : Dev nD) (i : grid6.Coords) (arg1 : Memref sig .tc .vmem S4096x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S4096x256 .f32) (harg8 : arg8.IsWhole) (arg9 : Memref sig .tc .vmem S1x256 .f32) (harg9 : arg9.IsWhole) (arg10 : Memref sig .tc .vmem S1x256 .f32) (harg10 : arg10.IsWhole)

section
variable (hc0 : cond6_0 i) (hc1 : ¬cond6_1 i)
  (x0 : Vec F S4096x128 .f32) (x1 : Vec F S1x128 .f32) (x2 : Vec F S1x128 .f32) (x3 : Vec F S1x128 .f32) (x4 : Vec F S1x128 .f32) (x5 : Vec F S128x256 .f32) (x6 : Vec F S1x256 .f32)

set_option maxHeartbeats 1000000 in
noncomputable def kernelRun6_A :
    Σ' (L7 : List (View.Piece (Elt F) S4096x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc6__l23_body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc6__l23_body_eq_skeleton]; unfold cc6__l23_body_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

theorem cover6_A_7 (y : S4096x256.Idx) :
    ∃ pc ∈ (kernelRun6_A c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun6_A c i arg1 harg1 arg2 harg2 arg3 harg3 arg4 harg4 arg5 harg5 arg6 harg6 arg7 harg7 arg8 harg8 arg9 harg9 arg10 harg10 hc0 hc1 x0 x1 x2 x3 x4 x5 x6).1 S4096x256.size (by sl_kernel_rfl) y

def out6_A_7 : Vec F S4096x256 .f32 :=
  VO6_7.read (Elt F) (VO6_7.writes (Elt F) VO6_7.junk (kernelRun6_A c i arg1 harg1 arg2 harg2 arg3 harg3 arg4 harg4 arg5 harg5 arg6 harg6 arg7 harg7 arg8 harg8 arg9 harg9 arg10 harg10 hc0 hc1 x0 x1 x2 x3 x4 x5 x6).1)

theorem cover6_A_8 (y : S1x256.Idx) :
    ∃ pc ∈ (kernelRun6_A c i arg1 harg1 arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 hc1 x0 x1 x2 x3 x4 x5 x6).2.1 S1x256.size (by sl_kernel_rfl) y

def out6_A_8 : Vec F S1x256 .f32 :=
  VO6_8.read (Elt F) (VO6_8.writes (Elt F) VO6_8.junk (kernelRun6_A c i arg1 harg1 arg2 harg2 arg3 harg3 arg4 harg4 arg5 harg5 arg6 harg6 arg7 harg7 arg8 harg8 arg9 harg9 arg10 harg10 hc0 hc1 x0 x1 x2 x3 x4 x5 x6).2.1)

theorem cover6_A_9 (y : S1x256.Idx) :
    ∃ pc ∈ (kernelRun6_A c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL (kernelRun6_A c i arg1 harg1 arg2 harg2 arg3 harg3 arg4 harg4 arg5 harg5 arg6 harg6 arg7 harg7 arg8 harg8 arg9 harg9 arg10 harg10 hc0 hc1 x0 x1 x2 x3 x4 x5 x6).2.2.1 S1x256.size (by sl_kernel_rfl) y

def out6_A_9 : Vec F S1x256 .f32 :=
  VO6_9.read (Elt F) (VO6_9.writes (Elt F) VO6_9.junk (kernelRun6_A c i arg1 harg1 arg2 harg2 arg3 harg3 arg4 harg4 arg5 harg5 arg6 harg6 arg7 harg7 arg8 harg8 arg9 harg9 arg10 harg10 hc0 hc1 x0 x1 x2 x3 x4 x5 x6).2.2.1)

end

section
variable (hc0 : ¬cond6_0 i) (hc1 : cond6_1 i)
  (x0 : Vec F S4096x128 .f32) (x1 : Vec F S1x128 .f32) (x2 : Vec F S1x128 .f32) (x3 : Vec F S1x128 .f32) (x4 : Vec F S1x128 .f32) (x5 : Vec F S128x256 .f32) (x6 : Vec F S1x256 .f32) (xo8 : Vec F S1x256 .f32) (xo9 : Vec F S1x256 .f32)

set_option maxHeartbeats 1000000 in
noncomputable def kernelRun6_B :
    Σ' (L7 : List (View.Piece (Elt F) S4096x256 .f32)), Σ' (L8 : List (View.Piece (Elt F) S1x256 .f32)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc6__l23_body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc6__l23_body_eq_skeleton]; unfold cc6__l23_body_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

theorem cover6_B_7 (y : S4096x256.Idx) :
    ∃ pc ∈ (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).1, y ∈ pc.1.set :=
  View.cover_of_tiledL (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).1 S4096x256.size (by sl_kernel_rfl) y

def out6_B_7 : Vec F S4096x256 .f32 :=
  VO6_7.read (Elt F) (VO6_7.writes (Elt F) VO6_7.junk (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).1)

theorem cover6_B_8 (y : S1x256.Idx) :
    ∃ pc ∈ (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).2.1 S1x256.size (by sl_kernel_rfl) y

def out6_B_8 : Vec F S1x256 .f32 :=
  VO6_8.read (Elt F) (VO6_8.writes (Elt F) VO6_8.junk (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).2.1)

theorem cover6_B_9 (y : S1x256.Idx) :
    ∃ pc ∈ (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).2.2.1, y ∈ pc.1.set :=
  View.cover_of_tiledL (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).2.2.1 S1x256.size (by sl_kernel_rfl) y

def out6_B_9 : Vec F S1x256 .f32 :=
  VO6_9.read (Elt F) (VO6_9.writes (Elt F) VO6_9.junk (kernelRun6_B c i arg1 harg1 arg2 harg2 arg3 harg3 arg4 harg4 arg5 harg5 arg6 harg6 arg7 harg7 arg8 harg8 arg9 harg9 arg10 harg10 hc0 hc1 x0 x1 x2 x3 x4 x5 x6 xo8 xo9).2.2.1)

end

end

/-- What the first point leaves. -/
def first6 (c : Dev nD) (t : Fin cfg6.N) (h0 : t.val % 16 = 0) (h1 : ¬1 ≤ t.val) : Vec F S4096x256 .f32 × Vec F S1x256 .f32 × Vec F S1x256 .f32 :=
  (out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t), out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t), out6_A_9 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t))

/-- What a later point leaves over what the points before it left. -/
def later6 (c : Dev nD) (t : Fin cfg6.N) (h0 : ¬t.val % 16 = 0) (h1 : 1 ≤ t.val) (o : Vec F S4096x256 .f32 × Vec F S1x256 .f32 × Vec F S1x256 .f32) : Vec F S4096x256 .f32 × Vec F S1x256 .f32 × Vec F S1x256 .f32 :=
  (out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) o.2.1 o.2.2, out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) o.2.1 o.2.2, out6_B_9 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (ms6_9 t) (hs6_9 t) (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) o.2.1 o.2.2)

def outsAt6 (c : Dev nD) : (n : ℕ) → n < cfg6.N → Vec F S4096x256 .f32 × Vec F S1x256 .f32 × Vec F S1x256 .f32
  | 0, hn => first6 V c ⟨0, hn⟩ (Nat.zero_mod _) (Nat.not_succ_le_zero 0)
  | n + 1, hn => later6 V c ⟨n + 1, hn⟩ (by have hN : n + 1 < 16 := lt_of_lt_of_eq hn (show cfg6.N = 16 from N_6); dsimp only; omega) (Nat.succ_le_succ (Nat.zero_le n)) (outsAt6 c n (Nat.lt_of_succ_lt hn))

theorem outsAt6_A (c : Dev nD) (t : Fin cfg6.N) (h0 : t.val % 16 = 0) (h1 : ¬1 ≤ t.val) :
    outsAt6 V c t.val t.isLt = first6 V c t h0 h1 := by
  obtain ⟨n, hn⟩ := t
  cases n with
  | zero => exact rfl
  | succ n => exact absurd (Nat.succ_le_succ (Nat.zero_le n)) h1

theorem outsAt6_B (c : Dev nD) (t : Fin cfg6.N) (h0 : ¬t.val % 16 = 0) (h1 : 1 ≤ t.val) :
    outsAt6 V c t.val t.isLt = later6 V c t h0 h1 (outsAt6 V c (t.val - 1) (Nat.lt_of_le_of_lt (Nat.sub_le _ _) t.isLt)) := by
  obtain ⟨n, hn⟩ := t
  cases n with
  | zero => exact absurd (Nat.zero_mod _) h0
  | succ n => exact rfl

def dat6 (c : Dev nD) : Dat τ (Elt F) (HIx 1) ℕ UU ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => (outsAt6 V c t.val t.isLt).1
    | ⟨8, _⟩ => (outsAt6 V c t.val t.isLt).2.1
    | ⟨9, _⟩ => (outsAt6 V c t.val t.isLt).2.2
  Φ _ := iprop(Pipeline.scopedRest spec6 c ∗ (∃ r, prngReg c r))
  q _ := fullShare
  owed _ := (Tail.K (F := F)).Otc c 1
  recorded _ := known (F := F) 1 c

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = (outsAt6 V c t.val t.isLt).1 := by dsimp only [dat6]
theorem after6_8 (c : Dev nD) (t : Fin cfg6.N) : (dat6 V c).after 8 t = (outsAt6 V c t.val t.isLt).2.1 := by dsimp only [dat6]
theorem after6_9 (c : Dev nD) (t : Fin cfg6.N) : (dat6 V c).after 9 t = (outsAt6 V c t.val t.isLt).2.2 := by dsimp only [dat6]

theorem before6_0 (c : Dev nD) (t : Fin cfg6.N) (d) : (dat6 V c).before 0 t d = iblk6 V c 0 t :=
  (Dat.before_in_eq_fetched _ 0 rfl (fun _ => rfl) (fun _ _ _ => rfl) (fun t => by rw [after6_0]; rfl) t d).trans rfl
theorem before6_1 (c : Dev nD) (t : Fin cfg6.N) (d) : (dat6 V c).before 1 t d = iblk6 V c 1 t :=
  (Dat.before_in_eq_fetched _ 1 rfl (fun _ => rfl) (fun _ _ _ => rfl) (fun t => by rw [after6_1]; rfl) t d).trans rfl
theorem before6_2 (c : Dev nD) (t : Fin cfg6.N) (d) : (dat6 V c).before 2 t d = iblk6 V c 2 t :=
  (Dat.before_in_eq_fetched _ 2 rfl (fun _ => rfl) (fun _ _ _ => rfl) (fun t => by rw [after6_2]; rfl) t d).trans rfl
theorem before6_3 (c : Dev nD) (t : Fin cfg6.N) (d) : (dat6 V c).before 3 t d = iblk6 V c 3 t :=
  (Dat.before_in_eq_fetched _ 3 rfl (fun _ => rfl) (fun _ _ _ => rfl) (fun t => by rw [after6_3]; rfl) t d).trans rfl
theorem before6_4 (c : Dev nD) (t : Fin cfg6.N) (d) : (dat6 V c).before 4 t d = iblk6 V c 4 t :=
  (Dat.before_in_eq_fetched _ 4 rfl (fun _ => rfl) (fun _ _ _ => rfl) (fun t => by rw [after6_4]; rfl) t d).trans rfl
theorem before6_5 (c : Dev nD) (t : Fin cfg6.N) (d) : (dat6 V c).before 5 t d = iblk6 V c 5 t :=
  (Dat.before_in_eq_fetched _ 5 rfl (fun _ => rfl) (fun _ _ _ => rfl) (fun t => by rw [after6_5]; rfl) t d).trans rfl
theorem before6_6 (c : Dev nD) (t : Fin cfg6.N) (d) : (dat6 V c).before 6 t d = iblk6 V c 6 t :=
  (Dat.before_in_eq_fetched _ 6 rfl (fun _ => rfl) (fun _ _ _ => rfl) (fun t => by rw [after6_6]; rfl) t d).trans rfl

theorem hcarry6_8 (c : Dev nD) : ∀ (t : Fin cfg6.N) (_ : t.val ≠ 0), cfg6.idle 8 (grid6.coords t) = true → cfg6.fresh 8 t.val = false →
    (dat6 V c).after 8 t = (dat6 V c).after 8 ⟨t.val - 1, by omega⟩ := by
  intro t _ hi _
  have hN : t.val < 16 := lt_of_lt_of_eq t.isLt (show cfg6.N = 16 from N_6)
  rw [after6_8, after6_8]
  by_cases h0 : t.val % 16 = 0
  · by_cases h1 : 1 ≤ t.val
    · exfalso; omega
    · rw [liveAt6_8_A t ((hcond6_0 t).mpr h0) (fun h => h1 ((hcond6_1 t).mp h))] at hi
      exact absurd hi Bool.false_ne_true
  · by_cases h1 : 1 ≤ t.val
    · rw [liveAt6_8_B t (fun h => h0 ((hcond6_0 t).mp h)) ((hcond6_1 t).mpr h1)] at hi
      exact absurd hi Bool.false_ne_true
    · exfalso; omega

theorem hcarry6_9 (c : Dev nD) : ∀ (t : Fin cfg6.N) (_ : t.val ≠ 0), cfg6.idle 9 (grid6.coords t) = true → cfg6.fresh 9 t.val = false →
    (dat6 V c).after 9 t = (dat6 V c).after 9 ⟨t.val - 1, by omega⟩ := by
  intro t _ hi _
  have hN : t.val < 16 := lt_of_lt_of_eq t.isLt (show cfg6.N = 16 from N_6)
  rw [after6_9, after6_9]
  by_cases h0 : t.val % 16 = 0
  · by_cases h1 : 1 ≤ t.val
    · exfalso; omega
    · rw [liveAt6_9_A t ((hcond6_0 t).mpr h0) (fun h => h1 ((hcond6_1 t).mp h))] at hi
      exact absurd hi Bool.false_ne_true
  · by_cases h1 : 1 ≤ t.val
    · rw [liveAt6_9_B t (fun h => h0 ((hcond6_0 t).mp h)) ((hcond6_1 t).mpr h1)] at hi
      exact absurd hi Bool.false_ne_true
    · exfalso; omega
theorem before6_8_B (c : Dev nD) (t : Fin cfg6.N) (h0 : ¬t.val % 16 = 0) (h1 : 1 ≤ t.val) (d) :
    (dat6 V c).before 8 t d = (outsAt6 V c (t.val - 1) (Nat.lt_of_le_of_lt (Nat.sub_le _ _) t.isLt)).2.1 := by
  rw [Dat.before_out_traj _ 8 rfl (fun _ _ => rfl) (hcarry6_8 V c) t.val t rfl d,
    if_neg (by rw [notFresh6_8_B t (fun h => h0 ((hcond6_0 t).mp h)) ((hcond6_1 t).mpr h1)]; exact Bool.false_ne_true)]
  dsimp only [dat6]
theorem before6_9_B (c : Dev nD) (t : Fin cfg6.N) (h0 : ¬t.val % 16 = 0) (h1 : 1 ≤ t.val) (d) :
    (dat6 V c).before 9 t d = (outsAt6 V c (t.val - 1) (Nat.lt_of_le_of_lt (Nat.sub_le _ _) t.isLt)).2.2 := by
  rw [Dat.before_out_traj _ 9 rfl (fun _ _ => rfl) (hcarry6_9 V c) t.val t rfl d,
    if_neg (by rw [notFresh6_9_B t (fun h => h0 ((hcond6_0 t).mp h)) ((hcond6_1 t).mpr h1)]; exact Bool.false_ne_true)]
  dsimp only [dat6]

def bodyPre6 (c : Dev nD) (t : Fin cfg6.N) : sProp 𝕄 :=
  iprop((dat6 V c).Φ t.castSucc ∗ (dat6 V c).owesAt none t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d))
    ∗ (∃ d, owns (c : Thread nD τ) (ms6_9 t) fullShare ((dat6 V c).before 9 t d)))

def bodyPost6 (c : Dev nD) (t : Fin cfg6.N) : sProp 𝕄 :=
  iprop((dat6 V c).Φ t.succ ∗ (dat6 V c).owesAt none t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t
    ∗ (dat6 V c).leavesExact 9 t)

theorem leaves6 (c : Dev nD) (t : Fin cfg6.N) (w : Fin cfg6.W) (h : cfg6.idle w (grid6.coords t) = false) :
    (dat6 V c).leavesExact w t = owns (c : Thread nD τ) ((cfg6.win w).stage (cfg6.slots t w)) fullShare ((dat6 V c).after w t) := by
  unfold Dat.leavesExact; rw [h]

set_option maxHeartbeats 1600000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt none t.succ = (dat6 V c).owesAt none t.castSucc from rfl]
  have hN : t.val < 16 := lt_of_lt_of_eq t.isLt (show cfg6.N = 16 from N_6)
  by_cases h0 : t.val % 16 = 0
  · by_cases h1 : 1 ≤ t.val
    · exfalso; omega
    · rw [leaves6 V c t 0 (liveAt6_0 t), after6_0]
      rw [leaves6 V c t 1 (liveAt6_1 t), after6_1]
      rw [leaves6 V c t 2 (liveAt6_2 t), after6_2]
      rw [leaves6 V c t 3 (liveAt6_3 t), after6_3]
      rw [leaves6 V c t 4 (liveAt6_4 t), after6_4]
      rw [leaves6 V c t 5 (liveAt6_5 t), after6_5]
      rw [leaves6 V c t 6 (liveAt6_6 t), after6_6]
      rw [leaves6 V c t 7 (liveAt6_7 t), after6_7]
      rw [leaves6 V c t 8 (liveAt6_8_A t ((hcond6_0 t).mpr h0) (fun h => h1 ((hcond6_1 t).mp h))), after6_8]
      rw [leaves6 V c t 9 (liveAt6_9_A t ((hcond6_0 t).mpr h0) (fun h => h1 ((hcond6_1 t).mp h))), after6_9]
      rw [outsAt6_A V c t h0 h1]
      unfold first6 out6_A_7 out6_A_8 out6_A_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun6_A c (grid6.coords t) _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t) (iblk6 V c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      iintro ⟨H0, H1, H2, H3, H4, H5, H6, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover6_A_7 c _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover6_A_8 c _ _ _ _ _ _ _ _ _ _ _ _ _ _ _ _ _ _ _ _ _ _ _ _ _ _ _ _ _ _)
      unfold owns; iexists _; isplitr
      swap; · iexact H9
      ipureintro; exact View.read_writes_of_cover _ _ _ _ _ (cover6_A_9 c _ _ _ _ _ _ _ _ _ _ _ _ _ _ _ _ _ _ _ _ _ _ _ _ _ _ _ _ _ _)
  · by_cases h1 : 1 ≤ t.val
    · rw [leaves6 V c t 0 (liveAt6_0 t), after6_0]
      rw [leaves6 V c t 1 (liveAt6_1 t), after6_1]
      rw [leaves6 V c t 2 (liveAt6_2 t), after6_2]
      rw [leaves6 V c t 3 (liveAt6_3 t), after6_3]
      rw [leaves6 V c t 4 (liveAt6_4 t), after6_4]
      rw [leaves6 V c t 5 (liveAt6_5 t), after6_5]
      rw [leaves6 V c t 6 (liveAt6_6 t), after6_6]
      rw [leaves6 V c t 7 (liveAt6_7 t), after6_7]
      rw [leaves6 V c t 8 (liveAt6_8_B t (fun h => h0 ((hcond6_0 t).mp h)) ((hcond6_1 t).mpr h1)), after6_8]
      rw [leaves6 V c t 9 (liveAt6_9_B t (fun h => h0 ((hcond6_0 t).mp h)) ((hcond6_1 t).mpr h1)), after6_9]
      rw [outsAt6_B V c t h0 h1]
      simp only [before6_8_B V c t h0 h1, before6_9_B V c t h0 h1]
      unfold later6 out6_B_7 out6_B_8 out6_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun6_B c (grid6.coords t) _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) (iblk6 V c 6 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      iintro ⟨H0, H1, H2, H3, H4, H5, H6, ⟨%e7, H7⟩, ⟨%e8, H8⟩, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover6_B_7 c _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover6_B_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover6_B_9 c _ _ _ _ _ _ _ _ _ _ _ _ _ _ _ _ _ _ _ _ _ _ _ _ _ _ _ _ _ _ _ _)
    · exfalso; omega

theorem defs₀_row6 (t : Fin cfg6.N) :
    defs₀ (F := F) .tc cfg6.body (cfg6.bodyArgs t (cfg6.slots t)) = bodyAt6 t := by
  rfl

theorem body_obligation6 (c : Dev nD) : BodyObligation (dat6 (F := F) V c) (defs₀ (F := F)) Variants.none none Set.univ := fun t => by
  rw [bigSep_W6, bigSep_W6, defs₀_row6]
  exact triple_restated (sound_body6 V c t) rfl .rfl fun _ => .rfl

end Cert.Proof.Tail

end
-- ==== Proof.LayerLast.lean ====
/- The last call: what its body leaves, and that it runs. -/
module

public import proofs.«01_k».proof.Proof.Ground
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Proof.Tail

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig (HIx 1) (Elt F) ℕ UU ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) (HIx 1) ℕ UU ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) (HIx 1) ℕ UU ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) (HIx 1) ℕ UU ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) (HIx 1) ℕ UU ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) (HIx 1) ℕ UU ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S1x256 := Rect.unit (s := S1x256) ![0, 0] S1x256.size inb_S1x256_S1x256_0_0
abbrev r7_1 : Rect S1x256x32x256 := Rect.unit (s := S1x256x32x256) ![0, 0, 0, 0] S1x256x32x256.size inb_S1x256x32x256_S1x256x32x256_0_0_0_0
abbrev r7_2 : Rect S1x256x256 := Rect.unit (s := S1x256x256) ![0, 0, 0] S1x256x256.size inb_S1x256x256_S1x256x256_0_0_0

def out7_5 (x0 : Vec F S1x256x32x256 .f32) (x1 : Vec F S1x256 .f32) (x2 : Vec F S1x256 .f32) (x3 : Vec F S1x256 .f32) (x4 : Vec F S1x256 .f32) : Vec F S1x256x256 .f32 :=
  View.canon [⟨r7_2, k7_pay1 (k7_pay2 (View.ld x1 r7_0) (View.ld x2 r7_0) (View.ld x3 r7_0) (View.ld x4 r7_0) (View.ld x3 r7_0) (View.ld x0 r7_1))⟩]

theorem cover7_5 (p0 : Vec F S1x256x256 .f32) (y : S1x256x256.Idx) :
    ∃ pc ∈ ([⟨r7_2, p0⟩] : List (View.Piece (Elt F) S1x256x256 .f32)), y ∈ pc.1.set :=
  View.cover_of_tiled [⟨r7_2, p0⟩] S1x256x256.size (by rfl) y

set_option maxHeartbeats 1000000 in
theorem sound_kernel7 (c : Dev nD) (E : Set ℕ) (i : grid7.Coords) (arg2 : Memref sig .tc .vmem S1x256x32x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256x256 .f32) (harg7 : arg7.IsWhole)
    (x0 : Vec F S1x256x32x256 .f32) (x1 : Vec F S1x256 .f32) (x2 : Vec F S1x256 .f32) (x3 : Vec F S1x256 .f32) (x4 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out7_5 x0 x1 x2 x3 x4)) -∗ K ⟨⟩))
      ⊢ wp frame (wpE (defs₀ (F := F)) Variants.none c none) E (cc7__l4_body i arg2 harg2 arg3 harg3 arg4 harg4 arg5 harg5 arg6 harg6 arg7 harg7) K := by
  simp only [cc7__l4_body_eq_skeleton]; unfold cc7__l4_body_skel
  simp only [k7_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

def dat7 (c : Dev nD) : Dat τ (Elt F) (HIx 1) ℕ UU ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := iprop(Pipeline.scopedRest spec7 c ∗ (∃ r, prngReg c r))
  q _ := fullShare
  owed _ := (Tail.K (F := F)).Otc c 1
  recorded _ := known (F := F) 1 c

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

def bodyPre7 (c : Dev nD) (t : Fin cfg7.N) : sProp 𝕄 :=
  iprop((dat7 V c).Φ t.castSucc ∗ (dat7 V c).owesAt none t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt none t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt none t.succ = (dat7 V c).owesAt none t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ (grid7.coords t) _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row7 (t : Fin cfg7.N) :
    defs₀ (F := F) .tc cfg7.body (cfg7.bodyArgs t (cfg7.slots t)) = bodyAt7 t := by
  rfl

theorem body_obligation7 (c : Dev nD) : BodyObligation (dat7 (F := F) V c) (defs₀ (F := F)) Variants.none none Set.univ := fun t => by
  rw [bigSep_W7, bigSep_W7, defs₀_row7]
  exact triple_restated (sound_body7 V c t) rfl .rfl fun _ => .rfl

end Cert.Proof.Tail

end
-- ==== Proof.Joined.lean ====
/- The program's operations and calls one after another: what memory holds between them, and the run. -/
module

public import proofs.«01_k».proof.Proof.Dealt
public import proofs.«01_k».proof.Proof.CallSample
public import proofs.«01_k».proof.Proof.CallTable
public import proofs.«01_k».proof.Proof.CallNear
public import proofs.«01_k».proof.Proof.LayerFirst
public import proofs.«01_k».proof.Proof.LayerSecond
public import proofs.«01_k».proof.Proof.LayerThird
public import proofs.«01_k».proof.Proof.LayerLast
public import Idealize.ShloMosaic.Lib.Pipeline.RegionArraysS

@[expose] public section

set_option maxRecDepth 16384

noncomputable section

namespace Cert.Proof.Tail

open Idealize.ShloMosaic Idealize.ShloMosaic.TcCoe Idealize.ShloMosaic.Tactic
open Idealize.ShloMosaic.SparseCore (S T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat afterRegion)
open Cert.KernelIdeal Cert.KernelIdeal.Gen

variable {F : FTy → Type} [FloatOps F]

local notation "𝕄" => MT nD τ sig (HIx 1) (Elt F) ℕ UU ℕ

variable (m : (ℓ : Loc nD τ sig) → Buf (Elt F) ℓ) (ρ : Dev nD → PrngReg)

/-! ### The host operations -/

/-- The host operations before call 1, in order. -/
abbrev hostOps0 : List (HloOp τ sig (Elt F)) :=
  [  ]
theorem hostOps0_sub : (hostOps0 : List (HloOp τ sig (Elt F))).Forall fun op => op.bufs ⊆ StableHlo.tcRefs τ sig := trivial
theorem hostOps0_fresh : (hostOps0 : List (HloOp τ sig (Elt F))).Forall fun op => op.fresh = ∅ := trivial
abbrev hostOps0_W : List (Ref sig .tc) := []
theorem hostOps0_writes : (hostOps0 : List (HloOp τ sig (Elt F))).Forall fun op => op.writes ⊆ (hostOps0_W.map (Proc.devRef (τ := τ) .tc)).toFinset := trivial

/-- The host operations before call 2, in order. -/
abbrev hostOps1 : List (HloOp τ sig (Elt F)) :=
  [ StableHlo.unary main_arg2 main_v1 ((extractStridedSlice S3x128 ![0, 0] · slices_S131x128_S3x128_0_0) : (⟨S131x128, .f32⟩ : BufTy).Contents (Elt F) → (⟨S3x128, .f32⟩ : BufTy).Contents (Elt F)),
    StableHlo.unary main_arg2 main_v2 ((extractStridedSlice S128x128 ![3, 0] · slices_S131x128_S128x128_3_0) : (⟨S131x128, .f32⟩ : BufTy).Contents (Elt F) → (⟨S128x128, .f32⟩ : BufTy).Contents (Elt F)) ]
theorem hostOps1_sub : (hostOps1 : List (HloOp τ sig (Elt F))).Forall fun op => op.bufs ⊆ StableHlo.tcRefs τ sig :=
  ⟨StableHlo.unary_bufs_sub .., StableHlo.unary_bufs_sub ..⟩
theorem hostOps1_fresh : (hostOps1 : List (HloOp τ sig (Elt F))).Forall fun op => op.fresh = ∅ := by
  simp only [List.Forall]; repeat' constructor
abbrev hostOps1_W : List (Ref sig .tc) := [main_v1, main_v2]
theorem hostOps1_writes : (hostOps1 : List (HloOp τ sig (Elt F))).Forall fun op => op.writes ⊆ (hostOps1_W.map (Proc.devRef (τ := τ) .tc)).toFinset :=
  StableHlo.forall_writes_sub_of_map rfl

/-- The host operations before call 3, in order. -/
abbrev hostOps2 : List (HloOp τ sig (Elt F)) :=
  [  ]
theorem hostOps2_sub : (hostOps2 : List (HloOp τ sig (Elt F))).Forall fun op => op.bufs ⊆ StableHlo.tcRefs τ sig := trivial
theorem hostOps2_fresh : (hostOps2 : List (HloOp τ sig (Elt F))).Forall fun op => op.fresh = ∅ := trivial
abbrev hostOps2_W : List (Ref sig .tc) := []
theorem hostOps2_writes : (hostOps2 : List (HloOp τ sig (Elt F))).Forall fun op => op.writes ⊆ (hostOps2_W.map (Proc.devRef (τ := τ) .tc)).toFinset := trivial

/-- The host operations before call 4, in order. -/
abbrev hostOps3 : List (HloOp τ sig (Elt F)) :=
  [ StableHlo.reshape main_v3 main_v5 (rfl : (.f32 : EltTy) = .f32) shapeCasts_S2x8192x128_S16384x128,
    StableHlo.reshape main_v4 main_v6 (rfl : (.i32 : EltTy) = .i32) shapeCasts_S2x1024x32_S65536 ]
theorem hostOps3_sub : (hostOps3 : List (HloOp τ sig (Elt F))).Forall fun op => op.bufs ⊆ StableHlo.tcRefs τ sig :=
  ⟨StableHlo.reshape_bufs_sub .., StableHlo.reshape_bufs_sub ..⟩
theorem hostOps3_fresh : (hostOps3 : List (HloOp τ sig (Elt F))).Forall fun op => op.fresh = ∅ := by
  simp only [List.Forall]; repeat' constructor
abbrev hostOps3_W : List (Ref sig .tc) := [main_v5, main_v6]
theorem hostOps3_writes : (hostOps3 : List (HloOp τ sig (Elt F))).Forall fun op => op.writes ⊆ (hostOps3_W.map (Proc.devRef (τ := τ) .tc)).toFinset :=
  StableHlo.forall_writes_sub_of_map rfl

/-- The host operations before call 5, in order. -/
abbrev hostOps4 : List (HloOp τ sig (Elt F)) :=
  [ StableHlo.unary main_v0 main_v8 ((transpose S2x1024x3 [0, 2, 1] · transposes_S2x3x1024_S2x1024x3_0_2_1) : (⟨S2x3x1024, .f32⟩ : BufTy).Contents (Elt F) → (⟨S2x1024x3, .f32⟩ : BufTy).Contents (Elt F)),
    StableHlo.reshape main_v8 main_v9 (rfl : (.f32 : EltTy) = .f32) shapeCasts_S2x1024x3_S2048x3,
    StableHlo.reshape main_v7 main_v10 (rfl : (.f32 : EltTy) = .f32) shapeCasts_S65536x128_S2048x32x128,
    StableHlo.unary main_arg2 main_v11 ((extractStridedSlice S3x128 ![0, 0] · slices_S131x128_S3x128_0_0) : (⟨S131x128, .f32⟩ : BufTy).Contents (Elt F) → (⟨S3x128, .f32⟩ : BufTy).Contents (Elt F)),
    StableHlo.reshape main_arg3 main_v12 (rfl : (.f32 : EltTy) = .f32) shapeCasts_S128_S1x128 ]
theorem hostOps4_sub : (hostOps4 : List (HloOp τ sig (Elt F))).Forall fun op => op.bufs ⊆ StableHlo.tcRefs τ sig :=
  ⟨StableHlo.unary_bufs_sub .., StableHlo.reshape_bufs_sub .., StableHlo.reshape_bufs_sub .., StableHlo.unary_bufs_sub .., StableHlo.reshape_bufs_sub ..⟩
theorem hostOps4_fresh : (hostOps4 : List (HloOp τ sig (Elt F))).Forall fun op => op.fresh = ∅ := by
  simp only [List.Forall]; repeat' constructor
abbrev hostOps4_W : List (Ref sig .tc) := [main_v8, main_v9, main_v10, main_v11, main_v12]
theorem hostOps4_writes : (hostOps4 : List (HloOp τ sig (Elt F))).Forall fun op => op.writes ⊆ (hostOps4_W.map (Proc.devRef (τ := τ) .tc)).toFinset :=
  StableHlo.forall_writes_sub_of_map rfl

/-- The host operations before call 6, in order. -/
abbrev hostOps5 : List (HloOp τ sig (Elt F)) :=
  [ StableHlo.reshape main_v13_0 main_v14 (rfl : (.f32 : EltTy) = .f32) shapeCasts_S2048x32x128_S65536x128,
    StableHlo.reshape main_arg4 main_v15 (rfl : (.f32 : EltTy) = .f32) shapeCasts_S128_S1x128,
    StableHlo.reshape main_arg5 main_v16 (rfl : (.f32 : EltTy) = .f32) shapeCasts_S128_S1x128,
    StableHlo.reshape main_arg7 main_v17 (rfl : (.f32 : EltTy) = .f32) shapeCasts_S128_S1x128 ]
theorem hostOps5_sub : (hostOps5 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
theorem hostOps5_fresh : (hostOps5 : List (HloOp τ sig (Elt F))).Forall fun op => op.fresh = ∅ := by
  simp only [List.Forall]; repeat' constructor
abbrev hostOps5_W : List (Ref sig .tc) := [main_v14, main_v15, main_v16, main_v17]
theorem hostOps5_writes : (hostOps5 : List (HloOp τ sig (Elt F))).Forall fun op => op.writes ⊆ (hostOps5_W.map (Proc.devRef (τ := τ) .tc)).toFinset :=
  StableHlo.forall_writes_sub_of_map rfl

/-- The host operations before call 7, in order. -/
abbrev hostOps6 : List (HloOp τ sig (Elt F)) :=
  [ StableHlo.reshape main_arg8 main_v19 (rfl : (.f32 : EltTy) = .f32) shapeCasts_S128_S1x128,
    StableHlo.reshape main_arg9 main_v20 (rfl : (.f32 : EltTy) = .f32) shapeCasts_S128_S1x128,
    StableHlo.reshape main_arg11 main_v21 (rfl : (.f32 : EltTy) = .f32) shapeCasts_S256_S1x256 ]
theorem hostOps6_sub : (hostOps6 : List (HloOp τ sig (Elt F))).Forall fun op => op.bufs ⊆ StableHlo.tcRefs τ sig :=
  ⟨StableHlo.reshape_bufs_sub .., StableHlo.reshape_bufs_sub .., StableHlo.reshape_bufs_sub ..⟩
theorem hostOps6_fresh : (hostOps6 : List (HloOp τ sig (Elt F))).Forall fun op => op.fresh = ∅ := by
  simp only [List.Forall]; repeat' constructor
abbrev hostOps6_W : List (Ref sig .tc) := [main_v19, main_v20, main_v21]
theorem hostOps6_writes : (hostOps6 : List (HloOp τ sig (Elt F))).Forall fun op => op.writes ⊆ (hostOps6_W.map (Proc.devRef (τ := τ) .tc)).toFinset :=
  StableHlo.forall_writes_sub_of_map rfl

/-- The host operations before call 8, in order. -/
abbrev hostOps7 : List (HloOp τ sig (Elt F)) :=
  [ StableHlo.reshape main_v22_0 main_v23 (rfl : (.f32 : EltTy) = .f32) shapeCasts_S65536x256_S2x1024x32x256,
    StableHlo.reshape main_arg12 main_v24 (rfl : (.f32 : EltTy) = .f32) shapeCasts_S256_S1x256,
    StableHlo.reshape main_arg13 main_v25 (rfl : (.f32 : EltTy) = .f32) shapeCasts_S256_S1x256 ]
theorem hostOps7_sub : (hostOps7 : List (HloOp τ sig (Elt F))).Forall fun op => op.bufs ⊆ StableHlo.tcRefs τ sig :=
  ⟨StableHlo.reshape_bufs_sub .., StableHlo.reshape_bufs_sub .., StableHlo.reshape_bufs_sub ..⟩
theorem hostOps7_fresh : (hostOps7 : List (HloOp τ sig (Elt F))).Forall fun op => op.fresh = ∅ := by
  simp only [List.Forall]; repeat' constructor
abbrev hostOps7_W : List (Ref sig .tc) := [main_v23, main_v24, main_v25]
theorem hostOps7_writes : (hostOps7 : List (HloOp τ sig (Elt F))).Forall fun op => op.writes ⊆ (hostOps7_W.map (Proc.devRef (τ := τ) .tc)).toFinset :=
  StableHlo.forall_writes_sub_of_map rfl

/-! ### Memory between the calls -/

/-- A device's memory read at a core's own references. -/
abbrev own (W : Dev nD → Valuation τ sig (Elt F)) (c : Dev nD) (b : Ref sig .tc) : Buf (Elt F) ((c : Thread nD τ).loc b) := W c b

/-- Memory read at all locations. -/
abbrev mem (W : Dev nD → Valuation τ sig (Elt F)) (ℓ : Loc nD τ sig) : Buf (Elt F) ℓ := W ℓ.1 ℓ.2

/-- At the start, -/
abbrev M0 (c : Dev nD) : Valuation τ sig (Elt F) := fun b => m (c, b)
/-- before call 1, -/
abbrev M1 (c : Dev nD) : Valuation τ sig (Elt F) := StableHlo.after hostOps0 (M0 m c)
/-- and after it, -/
abbrev M2 (c : Dev nD) : Valuation τ sig (Elt F) := afterRegion (dat0 (own (M1 m)) c) (M1 m c)
/-- before call 2, -/
abbrev M3 (c : Dev nD) : Valuation τ sig (Elt F) := StableHlo.after hostOps1 (M2 m c)
/-- and after it, -/
abbrev M4 (c : Dev nD) : Valuation τ sig (Elt F) := afterRegion (dat1 (own (M3 m)) c) (M3 m c)
/-- before call 3, -/
abbrev M5 (c : Dev nD) : Valuation τ sig (Elt F) := StableHlo.after hostOps2 (M4 m c)
/-- and after it, -/
abbrev M6 (c : Dev nD) : Valuation τ sig (Elt F) := afterRegion (dat2 (own (M5 m)) c) (M5 m c)
/-- before call 4, -/
abbrev M7 (c : Dev nD) : Valuation τ sig (Elt F) := StableHlo.after hostOps3 (M6 m c)
/-- and after it, the gathered rows put in, -/
abbrev M8 (c : Dev nD) : Valuation τ sig (Elt F) := Function.update (M7 m c) (Proc.devRef .tc main_v7) (gath (mem (M7 m)) c)
/-- before call 5, -/
abbrev M9 (c : Dev nD) : Valuation τ sig (Elt F) := StableHlo.after hostOps4 (M8 m c)
/-- and after it, -/
abbrev M10 (c : Dev nD) : Valuation τ sig (Elt F) := afterRegion (dat4 (own (M9 m)) c) (M9 m c)
/-- before call 6, -/
abbrev M11 (c : Dev nD) : Valuation τ sig (Elt F) := StableHlo.after hostOps5 (M10 m c)
/-- and after it, -/
abbrev M12 (c : Dev nD) : Valuation τ sig (Elt F) := afterRegion (dat5 (own (M11 m)) c) (M11 m c)
/-- before call 7, -/
abbrev M13 (c : Dev nD) : Valuation τ sig (Elt F) := StableHlo.after hostOps6 (M12 m c)
/-- and after it, -/
abbrev M14 (c : Dev nD) : Valuation τ sig (Elt F) := afterRegion (dat6 (own (M13 m)) c) (M13 m c)
/-- before call 8, -/
abbrev M15 (c : Dev nD) : Valuation τ sig (Elt F) := StableHlo.after hostOps7 (M14 m c)
/-- and after it, -/
abbrev M16 (c : Dev nD) : Valuation τ sig (Elt F) := afterRegion (dat7 (own (M15 m)) c) (M15 m c)

/-- The seven TensorCore calls' data, each at the memory its call starts from. -/
def datas : (p : Fin 7) → (c : Dev nD) → Dat τ (Elt F) (HIx 1) ℕ UU ℕ (cfgs p) c
  | 0 => fun c => dat0 (own (M1 m)) c
  | 1 => fun c => dat1 (own (M3 m)) c
  | 2 => fun c => dat2 (own (M5 m)) c
  | 3 => fun c => dat4 (own (M9 m)) c
  | 4 => fun c => dat5 (own (M11 m)) c
  | 5 => fun c => dat6 (own (M13 m)) c
  | 6 => fun c => dat7 (own (M15 m)) c

/-! ### The steps -/

/-- A line of host operations: from the state before it to the state after it. -/
theorem ops_step (n : ℕ) (d : Dev nD) (V : Valuation τ sig (Elt F)) (ops : List (HloOp τ sig (Elt F)))
    (hS : ops.Forall fun op => op.bufs ⊆ StableHlo.tcRefs τ sig) (hf : ops.Forall fun op => op.fresh = ∅) {Q : PUnit → sProp 𝕄} :
    iprop(state n d V ∗ (state n d (StableHlo.after ops V) -∗ Q ⟨⟩))
      ⊢ wp frame (wpE ((K (F := F)).defs (D (F := F))) 𝒱 (T d) none) Set.univ (StableHlo.seq ops) Q := by
  unfold state
  rw [show (StableHlo.seq ops : Prog (TpuEff nD τ sig (Elt F) (SparseCore.Sig (ΛP (F := F)) 1) .tc) PUnit) = (StableHlo.seq ops >>= fun u => .ret u) from (bind_pure _).symm]
  iintro ⟨⟨Hb, Hh, Hp, HO⟩, Hk⟩
  iapply (StableHlo.wp_seq (defs := (K (F := F)).defs (D (F := F))) 𝒱 none Set.univ d (Pipeline.ucRefs τ sig) (fun u => .ret u) ops
    (fun op h => Pipeline.sub_ucRefs op ((List.forall_iff_forall_mem.mp hS) op h)) (fun op h => (List.forall_iff_forall_mem.mp hf) op h) V) $$ [Hb Hh]
  · isplitl [Hb] <;> iassumption
  iintro ⟨Hb, Hh⟩
  rw [wp_ret]
  imodintro
  iapply Hk
  isplitl [Hb]; · iexact Hb
  isplitl [Hh]; · iexact Hh
  isplitl [Hp]; · iexact Hp
  iexact HO

theorem call0 (d : Dev nD) [∀ e, Nonempty (Elt F e)] {Q : PUnit → sProp 𝕄} :
    iprop((state 0 d (M2 m d) -∗ Q ⟨⟩)
        ∗ state 0 d (M1 m d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q :=
  region_step 0 0 (datas m) launch0.toP (fun c => (body_obligation0 (own (M1 m)) c).loose) (fun _ _ => rfl) (fun _ _ => rfl)
    (fun c => (dat0 (own (M1 m)) c).share_full fun _ => rfl) (fun _ => .rfl) (fun _ => .rfl) (M1 m) (fun _ _ => rfl)
    (Pipeline.arrRefs_sub_ucRefs _ (by decide : ∀ w : Fin cfg0.W, (Pipeline.arrRef spec0 w).isScoped = false)) d

theorem call1 (d : Dev nD) [∀ e, Nonempty (Elt F e)] {Q : PUnit → sProp 𝕄} :
    iprop((state 0 d (M4 m d) -∗ Q ⟨⟩)
        ∗ state 0 d (M3 m d) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Q :=
  region_step 1 0 (datas m) launch1.toP (fun c => (body_obligation1 (own (M3 m)) c).loose) (fun _ _ => rfl) (fun _ _ => rfl)
    (fun c => (dat1 (own (M3 m)) c).share_full fun _ => rfl) (fun _ => .rfl) (fun _ => .rfl) (M3 m) (fun _ _ => rfl)
    (Pipeline.arrRefs_sub_ucRefs _ (by decide : ∀ w : Fin cfg1.W, (Pipeline.arrRef spec1 w).isScoped = false)) d

theorem call2 (d : Dev nD) [∀ e, Nonempty (Elt F e)] {Q : PUnit → sProp 𝕄} :
    iprop((state 0 d (M6 m d) -∗ Q ⟨⟩)
        ∗ state 0 d (M5 m d) ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE ((K (F := F)).defs (D (F := F))) 𝒱 (T d) none) Set.univ
          (Prog.lift (.customCall (SparseCore.inner (Pipeline.entry 2)) ())) Q :=
  region_step 2 0 (datas m) launch2.toP (fun c => (body_obligation2 (own (M5 m)) c).loose) (fun _ _ => rfl) (fun _ _ => rfl)
    (fun c => (dat2 (own (M5 m)) c).share_full fun _ => rfl) (fun _ => .rfl) (fun _ => .rfl) (M5 m) (fun _ _ => rfl)
    (Pipeline.arrRefs_sub_ucRefs _ (by decide : ∀ w : Fin cfg2.W, (Pipeline.arrRef spec2 w).isScoped = false)) d

theorem call3 (d : Dev nD) [∀ e, Nonempty (Elt F e)] {Q : PUnit → sProp 𝕄} :
    iprop((state 1 d (M10 m d) -∗ Q ⟨⟩)
        ∗ state 1 d (M9 m d) ∗ levAts (K (F := F)).L (K (F := F)).lev
        ∗ Pipeline.cellsGhost (Pipeline.pin (pcfgs (F := F)) adm) EP 3 d ∗ Pipeline.toksInit (Pipeline.pin (pcfgs (F := F)) adm) EP 3 d)
      ⊢ wp frame (wpE ((K (F := F)).defs (D (F := F))) 𝒱 (T d) none) Set.univ
          (Prog.lift (.customCall (SparseCore.inner (Pipeline.entry 3)) ())) Q :=
  region_step 3 1 (datas m) launch4.toP (fun c => (body_obligation4 (own (M9 m)) c).loose) (fun _ _ => rfl) (fun _ _ => rfl)
    (fun c => (dat4 (own (M9 m)) c).share_full fun _ => rfl) (fun _ => .rfl) (fun _ => .rfl) (M9 m) (fun _ _ => rfl)
    (Pipeline.arrRefs_sub_ucRefs _ (by decide : ∀ w : Fin cfg4.W, (Pipeline.arrRef spec4 w).isScoped = false)) d

theorem call4 (d : Dev nD) [∀ e, Nonempty (Elt F e)] {Q : PUnit → sProp 𝕄} :
    iprop((state 1 d (M12 m d) -∗ Q ⟨⟩)
        ∗ state 1 d (M11 m d) ∗ levAts (K (F := F)).L (K (F := F)).lev
        ∗ Pipeline.cellsGhost (Pipeline.pin (pcfgs (F := F)) adm) EP 4 d ∗ Pipeline.toksInit (Pipeline.pin (pcfgs (F := F)) adm) EP 4 d)
      ⊢ wp frame (wpE ((K (F := F)).defs (D (F := F))) 𝒱 (T d) none) Set.univ
          (Prog.lift (.customCall (SparseCore.inner (Pipeline.entry 4)) ())) Q :=
  region_step 4 1 (datas m) launch5.toP (fun c => (body_obligation5 (own (M11 m)) c).loose) (fun _ _ => rfl) (fun _ _ => rfl)
    (fun c => (dat5 (own (M11 m)) c).share_full fun _ => rfl) (fun _ => .rfl) (fun _ => .rfl) (M11 m) (fun _ _ => rfl)
    (Pipeline.arrRefs_sub_ucRefs _ (by decide : ∀ w : Fin cfg5.W, (Pipeline.arrRef spec5 w).isScoped = false)) d

theorem call5 (d : Dev nD) [∀ e, Nonempty (Elt F e)] {Q : PUnit → sProp 𝕄} :
    iprop((state 1 d (M14 m d) -∗ Q ⟨⟩)
        ∗ state 1 d (M13 m d) ∗ levAts (K (F := F)).L (K (F := F)).lev
        ∗ Pipeline.cellsGhost (Pipeline.pin (pcfgs (F := F)) adm) EP 5 d ∗ Pipeline.toksInit (Pipeline.pin (pcfgs (F := F)) adm) EP 5 d)
      ⊢ wp frame (wpE ((K (F := F)).defs (D (F := F))) 𝒱 (T d) none) Set.univ
          (Prog.lift (.customCall (SparseCore.inner (Pipeline.entry 5)) ())) Q :=
  region_step 5 1 (datas m) launch6.toP (fun c => (body_obligation6 (own (M13 m)) c).loose) (fun _ _ => rfl) (fun _ _ => rfl)
    (fun c => (dat6 (own (M13 m)) c).share_full fun _ => rfl) (fun _ => .rfl) (fun _ => .rfl) (M13 m) (fun _ _ => rfl)
    (Pipeline.arrRefs_sub_ucRefs _ (by decide : ∀ w : Fin cfg6.W, (Pipeline.arrRef spec6 w).isScoped = false)) d

theorem call6 (d : Dev nD) [∀ e, Nonempty (Elt F e)] {Q : PUnit → sProp 𝕄} :
    iprop((state 1 d (M16 m d) -∗ Q ⟨⟩)
        ∗ state 1 d (M15 m d) ∗ levAts (K (F := F)).L (K (F := F)).lev
        ∗ Pipeline.cellsGhost (Pipeline.pin (pcfgs (F := F)) adm) EP 6 d ∗ Pipeline.toksInit (Pipeline.pin (pcfgs (F := F)) adm) EP 6 d)
      ⊢ wp frame (wpE ((K (F := F)).defs (D (F := F))) 𝒱 (T d) none) Set.univ
          (Prog.lift (.customCall (SparseCore.inner (Pipeline.entry 6)) ())) Q :=
  region_step 6 1 (datas m) launch7.toP (fun c => (body_obligation7 (own (M15 m)) c).loose) (fun _ _ => rfl) (fun _ _ => rfl)
    (fun c => (dat7 (own (M15 m)) c).share_full fun _ => rfl) (fun _ => .rfl) (fun _ => .rfl) (M15 m) (fun _ _ => rfl)
    (Pipeline.arrRefs_sub_ucRefs _ (by decide : ∀ w : Fin cfg7.W, (Pipeline.arrRef spec7 w).isScoped = false)) d

/-! ### The SparseCore call -/

/-- The three arrays of the SparseCore call. -/
abbrev three : Finset (DevRef τ sig) := {Proc.devRef .tc main_v5, Proc.devRef .tc main_v6, Proc.devRef .tc main_v7}

theorem three_sub : three ⊆ Pipeline.ucRefs τ sig := by decide

theorem held_three (d : Dev nD) (V : Valuation τ sig (Elt F)) :
    (StableHlo.held (T d) three V : sProp 𝕄)
      = iprop((tLoc d ↦{fullShare} V (Proc.devRef .tc main_v5)) ∗ (iLoc d ↦{fullShare} V (Proc.devRef .tc main_v6)) ∗ oLoc d ↦{fullShare} V (Proc.devRef .tc main_v7)) := by
  unfold StableHlo.held three
  rw [SparseCore.bigSep_insert' (by decide), SparseCore.bigSep_insert' (by decide), bigSep_singleton]

/-- What the TensorCore's handshake state holds beside what it owes. -/
def shake (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

theorem st0 (d : Dev nD) : ((K (F := F)).tcSt EH d 0 : sProp 𝕄)
    = iprop((∃ W, ⌜(K (F := F)).WBelow (T d) W (8 * 0)⌝ ∗ owes (T d) ((K (F := F)).Otc d 0) W) ∗ shake d 0) := rfl

theorem st1 (d : Dev nD) : ((K (F := F)).tcSt EH d 1 : sProp 𝕄)
    = iprop((∃ W, ⌜(K (F := F)).WBelow (T d) W (8 * 1)⌝ ∗ owes (T d) ((K (F := F)).Otc d 1) W) ∗ shake d 1) := rfl

/-- The SparseCore call: the gathered rows put in. -/
theorem gather_step (κ : GSem nD τ sig → ℕ) (d : Dev nD) {Q : PUnit → sProp 𝕄} :
    iprop((K (F := F)).ctx EH (P (mem (M7 m))) κ ∗ shake d 0 ∗ state 0 d (M7 m d) ∗ ((shake d 1 ∗ state 1 d (M8 m d)) -∗ Q ⟨⟩))
      ⊢ wp frame (wpE ((K (F := F)).defs (D (F := F))) 𝒱 (T d) none) Set.univ ((K (F := F)).run d 0) Q := by
  unfold state
  rw [StableHlo.held_sub_split (T d) three_sub (M7 m d), StableHlo.held_sub_split (T d) three_sub (M8 m d), held_three, held_three,
    StableHlo.held_congr (T d) (S := Pipeline.ucRefs τ sig \ three) (V := M8 m d) (V' := M7 m d) (fun b hb => by
      refine Function.update_of_ne ?_ _ _
      rintro rfl
      exact (Finset.mem_sdiff.mp hb).2 (by decide)),
    show M8 m d (Proc.devRef .tc main_v5) = M7 m d (Proc.devRef .tc main_v5) from Function.update_of_ne (by decide) _ _,
    show M8 m d (Proc.devRef .tc main_v6) = M7 m d (Proc.devRef .tc main_v6) from Function.update_of_ne (by decide) _ _,
    show M8 m d (Proc.devRef .tc main_v7) = gath (mem (M7 m)) d from Function.update_self _ _ _]
  iintro ⟨#Hctx, Hs, ⟨Hb, ⟨Hthree, Hrest⟩, Hp, HO⟩, Hk⟩
  iapply ((K (F := F)).wp_run (D (F := F)) 𝒱 (EH := EH) (P := P (mem (M7 m))) κ d 0)
  isplitr; · iexact Hctx
  isplitl [HO Hs]
  · iapply (Entails.of_eq (st0 (F := F) d).symm)
    isplitl [HO]; · iexact HO
    iexact Hs
  isplitl [Hthree]
  · iapply (Entails.of_eq (deal (mem (M7 m)) d (mem (M7 m) (oLoc d)))); iexact Hthree
  iintro ⟨Hst, Hdn⟩
  ihave Hthree := (Entails.of_eq (show (bigSep Finset.univ fun c : Fin ((K (F := F)).nCore 0) => (P (mem (M7 m))).dn 0 d c) = _ from (deal (mem (M7 m)) d (gath (mem (M7 m)) d)).symm)) $$ Hdn
  ihave Hst' := (Entails.of_eq (show ((K (F := F)).tcSt EH d ((0 : Fin 1).val + 1) : sProp 𝕄) = _ from st1 (F := F) d)) $$ Hst
  icases Hst' with ⟨HO, Hs⟩
  iapply Hk
  isplitl [Hs]; · iexact Hs
  isplitl [Hb]; · iexact Hb
  isplitl [Hthree Hrest]
  · isplitl [Hthree]; · iexact Hthree
    iexact Hrest
  isplitl [Hp]; · iexact Hp
  iexact HO

/-! ### The launch element of the ghost state -/

def u₀ : UU := (initOf (K (F := F)).hsCells (K (F := F)).hsToks, (initOf (Pipeline.cells cfgs cellOf_inj) (Pipeline.launchToks cfgs cellOf_inj), 1))

/-- One device's pipelines' ghosts. -/
def ghosts (d : Dev nD) : sProp 𝕄 :=
  bigSep Finset.univ fun p : Fin 7 => iprop(Pipeline.cellsGhost (Pipeline.pin (pcfgs (F := F)) adm) EP p d ∗ Pipeline.toksInit (Pipeline.pin (pcfgs (F := F)) adm) EP p d)

theorem own_EP (x : UR sig nD τ) :
    (BI.own (((Emb.inl : Emb (UR sig nD τ) (UR sig nD τ × Counters)).trans (embR : Emb (UR sig nD τ × Counters) 𝕄)) x) : sProp 𝕄) = BI.own (EP (F := F) x) := by
  unfold EP; rfl

theorem hu₀ : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P (mem (M7 m))).x q thr) := by
  unfold u₀
  iintro Hu
  ihave H := (ownU_pair (initOf (K (F := F)).hsCells (K (F := F)).hsToks) ((initOf (Pipeline.cells cfgs cellOf_inj) (Pipeline.launchToks cfgs cellOf_inj), (1 : Counters)))) $$ Hu
  icases H with ⟨HH, HR⟩
  ihave H := (own_pair_emb embR (initOf (Pipeline.cells cfgs cellOf_inj) (Pipeline.launchToks cfgs cellOf_inj)) (1 : Counters)) $$ HR
  icases H with ⟨HP, -⟩
  ihave HP' := (Entails.of_eq (own_EP (F := F) _)) $$ HP
  imod (Pipeline.fund_ghost (Pipeline.pin (pcfgs (F := F)) adm) EP cellOf_inj) $$ HP' with ⟨Hg, Ht⟩
  imodintro
  isplitl [HH]; · iexact HH
  isplitl [Hg Ht]
  · iapply (show iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))
        ⊢ bigSep Finset.univ fun c : Dev nD => ghosts c from by
      rw [← bigSep_sep']
      exact bigSep_mono fun c _ => show iprop((bigSep Finset.univ fun p => Pipeline.cellsGhost (Pipeline.pin (pcfgs (F := F)) adm) EP p c)
            ∗ bigSep Finset.univ fun p => (Pipeline.toksInit (Pipeline.pin (pcfgs (F := F)) adm) EP p c : sProp 𝕄)) ⊢ ghosts c
        from Entails.of_eq (by unfold ghosts; rw [bigSep_sep']))
    isplitl [Hg]; · iexact Hg
    iexact Ht
  rw [show (bigSep Finset.univ fun thr : Thread nD τ => bigSep Finset.univ fun q : Fin 1 => (P (F := F) (mem (M7 m))).x q thr) = bigSep Finset.univ fun _ => iprop(emp) from
    bigSep_congr fun _ _ => bigSep_univ_of_subsingleton (0 : Fin 1), show (bigSep Finset.univ fun _ : Thread nD τ => iprop(emp)) = (iprop(emp) : sProp 𝕄) from bigSep_emp_const _]
  iempintro

theorem ghosts_eq (d : Dev nD) : (ghosts d : sProp 𝕄) = iprop((Pipeline.cellsGhost (Pipeline.pin (pcfgs (F := F)) adm) EP 0 d ∗ Pipeline.toksInit (Pipeline.pin (pcfgs (F := F)) adm) EP 0 d) ∗ (Pipeline.cellsGhost (Pipeline.pin (pcfgs (F := F)) adm) EP 1 d ∗ Pipeline.toksInit (Pipeline.pin (pcfgs (F := F)) adm) EP 1 d) ∗ (Pipeline.cellsGhost (Pipeline.pin (pcfgs (F := F)) adm) EP 2 d ∗ Pipeline.toksInit (Pipeline.pin (pcfgs (F := F)) adm) EP 2 d) ∗ (Pipeline.cellsGhost (Pipeline.pin (pcfgs (F := F)) adm) EP 3 d ∗ Pipeline.toksInit (Pipeline.pin (pcfgs (F := F)) adm) EP 3 d) ∗ (Pipeline.cellsGhost (Pipeline.pin (pcfgs (F := F)) adm) EP 4 d ∗ Pipeline.toksInit (Pipeline.pin (pcfgs (F := F)) adm) EP 4 d) ∗ (Pipeline.cellsGhost (Pipeline.pin (pcfgs (F := F)) adm) EP 5 d ∗ Pipeline.toksInit (Pipeline.pin (pcfgs (F := F)) adm) EP 5 d) ∗ (Pipeline.cellsGhost (Pipeline.pin (pcfgs (F := F)) adm) EP 6 d ∗ Pipeline.toksInit (Pipeline.pin (pcfgs (F := F)) adm) EP 6 d)) := by
  unfold ghosts
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ### @main on the TensorCore -/

theorem main_eq (d : Dev nD) : main (F := F) d = (do
  StableHlo.seq hostOps0
  Prog.lift (.customCall (SparseCore.inner (Pipeline.entry 0)) ())
  StableHlo.seq hostOps1
  Prog.lift (.customCall (SparseCore.inner (Pipeline.entry 1)) ())
  StableHlo.seq hostOps2
  Prog.lift (.customCall (SparseCore.inner (Pipeline.entry 2)) ())
  StableHlo.seq hostOps3
  sc.run d 0
  StableHlo.seq hostOps4
  Prog.lift (.customCall (SparseCore.inner (Pipeline.entry 3)) ())
  StableHlo.seq hostOps5
  Prog.lift (.customCall (SparseCore.inner (Pipeline.entry 4)) ())
  StableHlo.seq hostOps6
  Prog.lift (.customCall (SparseCore.inner (Pipeline.entry 5)) ())
  StableHlo.seq hostOps7
  Prog.lift (.customCall (SparseCore.inner (Pipeline.entry 6)) ())
  pure ⟨⟩) := by
  unfold main
  simp only [hostOps0, hostOps1, hostOps2, hostOps3, hostOps4, hostOps5, hostOps6, hostOps7, StableHlo.seq, bind_assoc, pure_bind]

theorem bufs0 (d : Dev nD) : (unscopedBufs d (fun b => m ((d.tc : Thread nD τ).loc b)) : sProp 𝕄) = StableHlo.held (d.tc : Thread nD τ) (Pipeline.ucRefs τ sig) (M0 m d) :=
  Pipeline.unscopedBufs_held (Ix := HIx 1) (Name := ℕ) (U := UU) (Lvl := ℕ) d (M0 m d)

theorem hmain [∀ e, Nonempty (Elt F e)] (κ : GSem nD τ sig → ℕ) (d : Dev nD) :
    iprop((K (F := F)).ctx EH (P (mem (M7 m))) κ ∗ (K (F := F)).tcSt EH d 0 ∗ (K (F := F)).tcRes m ρ d ∗ ghosts d)
      ⊢ wp frame (wpE ((K (F := F)).defs (D (F := F))) 𝒱 (T d) none) Set.univ (main d)
          fun _ => iprop((K (F := F)).tcSt EH d 1 ∗ StableHlo.held (T d) (Pipeline.ucRefs τ sig) (M16 m d) ∗ (K (F := F)).tcEnd d) := by
  unfold SparseCore.Cfg.tcRes SparseCore.Cfg.tcEnd
  rw [bufs0, ghosts_eq, main_eq, st0]
  simp only [wp_bind, wp_pure]
  iintro ⟨#Hctx, ⟨HO, Hs⟩, ⟨Hb, Hh, Hts, Hp⟩, Hg0, Hg1, Hg2, Hg3, Hg4, Hg5, Hg6⟩
  ihave #Hlev := (SparseCore.Cfg.ctx_levAts κ) $$ Hctx
  ihave HS := (show iprop(boundary (T d) ∗ StableHlo.held (T d) (Pipeline.ucRefs τ sig) (M0 m d) ∗ prngReg d (ρ d) ∗ (∃ W, ⌜(K (F := F)).WBelow (T d) W (8 * 0)⌝ ∗ owes (T d) ((K (F := F)).Otc d 0) W))
      ⊢ (state 0 d (M0 m d) : sProp 𝕄) from by
    unfold state
    iintro ⟨Hb, Hh, Hp, HO⟩
    isplitl [Hb]; · iexact Hb
    isplitl [Hh]; · iexact Hh
    isplitl [Hp]; · iexists _; iexact Hp
    iexact HO) $$ [Hb Hh Hp HO]
  · isplitl [Hb]; · iexact Hb
    isplitl [Hh]; · iexact Hh
    isplitl [Hp]; · iexact Hp
    iexact HO
  iapply (ops_step 0 d (M0 m d) hostOps0 hostOps0_sub hostOps0_fresh)
  isplitl [HS]; · iexact HS
  iintro HS
  iapply (call0 m d)
  isplitr [HS Hg0]
  swap
  · isplitl [HS]; · iexact HS
    isplitr; · iexact Hlev
    iexact Hg0
  iintro HS
  iapply (ops_step 0 d (M2 m d) hostOps1 hostOps1_sub hostOps1_fresh)
  isplitl [HS]; · iexact HS
  iintro HS
  iapply (call1 m d)
  isplitr [HS Hg1]
  swap
  · isplitl [HS]; · iexact HS
    isplitr; · iexact Hlev
    iexact Hg1
  iintro HS
  iapply (ops_step 0 d (M4 m d) hostOps2 hostOps2_sub hostOps2_fresh)
  isplitl [HS]; · iexact HS
  iintro HS
  iapply (call2 m d)
  isplitr [HS Hg2]
  swap
  · isplitl [HS]; · iexact HS
    isplitr; · iexact Hlev
    iexact Hg2
  iintro HS
  iapply (ops_step 0 d (M6 m d) hostOps3 hostOps3_sub hostOps3_fresh)
  isplitl [HS]; · iexact HS
  iintro HS
  iapply (gather_step m κ d)
  isplitr; · iexact Hctx
  isplitl [Hs]; · iexact Hs
  isplitl [HS]; · iexact HS
  iintro ⟨Hs, HS⟩
  iapply (ops_step 1 d (M8 m d) hostOps4 hostOps4_sub hostOps4_fresh)
  isplitl [HS]; · iexact HS
  iintro HS
  iapply (call3 m d)
  isplitr [HS Hg3]
  swap
  · isplitl [HS]; · iexact HS
    isplitr; · iexact Hlev
    iexact Hg3
  iintro HS
  iapply (ops_step 1 d (M10 m d) hostOps5 hostOps5_sub hostOps5_fresh)
  isplitl [HS]; · iexact HS
  iintro HS
  iapply (call4 m d)
  isplitr [HS Hg4]
  swap
  · isplitl [HS]; · iexact HS
    isplitr; · iexact Hlev
    iexact Hg4
  iintro HS
  iapply (ops_step 1 d (M12 m d) hostOps6 hostOps6_sub hostOps6_fresh)
  isplitl [HS]; · iexact HS
  iintro HS
  iapply (call5 m d)
  isplitr [HS Hg5]
  swap
  · isplitl [HS]; · iexact HS
    isplitr; · iexact Hlev
    iexact Hg5
  iintro HS
  iapply (ops_step 1 d (M14 m d) hostOps7 hostOps7_sub hostOps7_fresh)
  isplitl [HS]; · iexact HS
  iintro HS
  iapply (call6 m d)
  isplitr [HS Hg6]
  swap
  · isplitl [HS]; · iexact HS
    isplitr; · iexact Hlev
    iexact Hg6
  iintro HS
  ihave HS := (Entails.of_eq (show (state 1 d (M16 m d) : sProp 𝕄) = iprop(boundary (T d) ∗ StableHlo.held (T d) (Pipeline.ucRefs τ sig) (M16 m d) ∗ (∃ r, prngReg d r)
    ∗ ∃ W, ⌜(K (F := F)).WBelow (T d) W (8 * 1)⌝ ∗ owes (T d) ((K (F := F)).Otc d 1) W) from rfl)) $$ HS
  icases HS with ⟨Hb, Hh, -, HO⟩
  imodintro
  isplitl [Hs HO]
  · iapply (Entails.of_eq (st1 (F := F) d).symm)
    isplitl [HO]; · iexact HO
    iexact Hs
  isplitl [Hh]; · iexact Hh
  isplitl [Hb]; · iexact Hb
  iexact Hts

/-! ### The run -/

theorem run_tail [∀ e, Nonempty (Elt F e)] (hpre : PreOK (mem (M7 m))) :
    θ_run (Cert.KernelIdeal.defs (F := F)) (Cert.KernelIdeal.threads (F := F)) ⟨m, fun _ => 0, ρ⟩
      (fun r => (∀ c : Dev nD, ∀ b ∈ Pipeline.ucRefs τ sig, r.2.mem ((c.tc : Thread nD τ).1, b) = M16 m c b) ∧ r.2.sem = fun _ => 0) :=
  SparseCore.Cfg.θ_run_sc_quiescent (K := K (F := F)) (D := D (F := F)) (𝒱 := 𝒱) (EH := EH) (P := P (mem (M7 m))) (A := ∅) facts v₀
    (fun q hq => match q with | 0 => nomatch hq)
    (fun q _ => match q with | 0 => tileObl (mem (M7 m)) facts hpre)
    (fun q _ => match q with | 0 => SparseCore.Cfg.VecSplit.of_plain (vecSplit (mem (M7 m))))
    m ρ main ghosts (fun d => StableHlo.held (T d) (Pipeline.ucRefs τ sig) (M16 m d)) (u₀ (F := F)) (sep_elim_left.trans (hu₀ m)) (hmain m ρ)
    (fun d s' => ∀ b ∈ Pipeline.ucRefs τ sig, s'.mem.mem ((d.tc : Thread nD τ).1, b) = M16 m d b)
    (fun d s' => by
      unfold StableHlo.held
      exact (pointsTo_read_all (Lvl := ℕ) (Pipeline.ucRefs τ sig) (fun b => ((d.tc : Thread nD τ).1, b)) (M16 m d) s').trans sep_elim_left)
    _ (fun _ h hz => ⟨h, hz⟩)

/-! ### What the run leaves alone -/

theorem kept0 (c : Dev nD) (r : Ref sig .tc) (h : r ∉ hostOps0_W) (h' : r ∉ ([main_v0] : List (Ref sig .tc))) :
    M2 m c r = M0 m c r :=
  (Pipeline.afterRegion_keeps (dat0 (own (M1 m)) c) (M1 m c) winFacts0.arr_inj (fun _ => rfl) r
    (fun w e => by
      subst e
      revert h'
      exact (by decide : ∀ w : Fin cfg0.W, Pipeline.arrRef spec0 w ∉ ([main_v0] : List (Ref sig .tc)) → (cfg0.win w).isOut = false) w)).trans
    (StableHlo.after_of_writes_sub hostOps0 _ hostOps0_writes h)

theorem kept1 (c : Dev nD) (r : Ref sig .tc) (h : r ∉ hostOps1_W) (h' : r ∉ ([main_v3] : List (Ref sig .tc))) :
    M4 m c r = M2 m c r :=
  (Pipeline.afterRegion_keeps (dat1 (own (M3 m)) c) (M3 m c) winFacts1.arr_inj (fun _ => rfl) r
    (fun w e => by
      subst e
      revert h'
      exact (by decide : ∀ w : Fin cfg1.W, Pipeline.arrRef spec1 w ∉ ([main_v3] : List (Ref sig .tc)) → (cfg1.win w).isOut = false) w)).trans
    (StableHlo.after_of_writes_sub hostOps1 _ hostOps1_writes h)

theorem kept2 (c : Dev nD) (r : Ref sig .tc) (h : r ∉ hostOps2_W) (h' : r ∉ ([main_v4] : List (Ref sig .tc))) :
    M6 m c r = M4 m c r :=
  (Pipeline.afterRegion_keeps (dat2 (own (M5 m)) c) (M5 m c) winFacts2.arr_inj (fun _ => rfl) r
    (fun w e => by
      subst e
      revert h'
      exact (by decide : ∀ w : Fin cfg2.W, Pipeline.arrRef spec2 w ∉ ([main_v4] : List (Ref sig .tc)) → (cfg2.win w).isOut = false) w)).trans
    (StableHlo.after_of_writes_sub hostOps2 _ hostOps2_writes h)

theorem kept3 (c : Dev nD) (r : Ref sig .tc) (h : r ∉ hostOps3_W) (h' : r ∉ ([main_v7] : List (Ref sig .tc))) :
    M8 m c r = M6 m c r :=
  (Function.update_of_ne (StableHlo.devRef_ne_of_ne (List.ne_of_not_mem_cons h')) _ _).trans
    (StableHlo.after_of_writes_sub hostOps3 _ hostOps3_writes h)

theorem kept4 (c : Dev nD) (r : Ref sig .tc) (h : r ∉ hostOps4_W) (h' : r ∉ ([main_v13_0, main_v13_1, main_v13_2] : List (Ref sig .tc))) :
    M10 m c r = M8 m c r :=
  (Pipeline.afterRegion_keeps (dat4 (own (M9 m)) c) (M9 m c) winFacts4.arr_inj (fun _ => rfl) r
    (fun w e => by
      subst e
      revert h'
      exact (by decide : ∀ w : Fin cfg4.W, Pipeline.arrRef spec4 w ∉ ([main_v13_0, main_v13_1, main_v13_2] : List (Ref sig .tc)) → (cfg4.win w).isOut = false) w)).trans
    (StableHlo.after_of_writes_sub hostOps4 _ hostOps4_writes h)

theorem kept5 (c : Dev nD) (r : Ref sig .tc) (h : r ∉ hostOps5_W) (h' : r ∉ ([main_v18_0, main_v18_1, main_v18_2] : List (Ref sig .tc))) :
    M12 m c r = M10 m c r :=
  (Pipeline.afterRegion_keeps (dat5 (own (M11 m)) c) (M11 m c) winFacts5.arr_inj (fun _ => rfl) r
    (fun w e => by
      subst e
      revert h'
      exact (by decide : ∀ w : Fin cfg5.W, Pipeline.arrRef spec5 w ∉ ([main_v18_0, main_v18_1, main_v18_2] : List (Ref sig .tc)) → (cfg5.win w).isOut = false) w)).trans
    (StableHlo.after_of_writes_sub hostOps5 _ hostOps5_writes h)

theorem kept6 (c : Dev nD) (r : Ref sig .tc) (h : r ∉ hostOps6_W) (h' : r ∉ ([main_v22_0, main_v22_1, main_v22_2] : List (Ref sig .tc))) :
    M14 m c r = M12 m c r :=
  (Pipeline.afterRegion_keeps (dat6 (own (M13 m)) c) (M13 m c) winFacts6.arr_inj (fun _ => rfl) r
    (fun w e => by
      subst e
      revert h'
      exact (by decide : ∀ w : Fin cfg6.W, Pipeline.arrRef spec6 w ∉ ([main_v22_0, main_v22_1, main_v22_2] : List (Ref sig .tc)) → (cfg6.win w).isOut = false) w)).trans
    (StableHlo.after_of_writes_sub hostOps6 _ hostOps6_writes h)

theorem kept7 (c : Dev nD) (r : Ref sig .tc) (h : r ∉ hostOps7_W) (h' : r ∉ ([main_v26] : List (Ref sig .tc))) :
    M16 m c r = M14 m c r :=
  (Pipeline.afterRegion_keeps (dat7 (own (M15 m)) c) (M15 m c) winFacts7.arr_inj (fun _ => rfl) r
    (fun w e => by
      subst e
      revert h'
      exact (by decide : ∀ w : Fin cfg7.W, Pipeline.arrRef spec7 w ∉ ([main_v26] : List (Ref sig .tc)) → (cfg7.win w).isOut = false) w)).trans
    (StableHlo.after_of_writes_sub hostOps7 _ hostOps7_writes h)

/-- A reference that no operation and no call writes holds at the end what it held at the start. -/
theorem kept (c : Dev nD) (r : Ref sig .tc)
    (h : r ∉ hostOps0_W ++ [main_v0] ++ hostOps1_W ++ [main_v3] ++ hostOps2_W ++ [main_v4] ++ hostOps3_W ++ [main_v7] ++ hostOps4_W ++ [main_v13_0, main_v13_1, main_v13_2] ++ hostOps5_W ++ [main_v18_0, main_v18_1, main_v18_2] ++ hostOps6_W ++ [main_v22_0, main_v22_1, main_v22_2] ++ hostOps7_W ++ [main_v26]) :
    M16 m c r = m ((c : Thread nD τ).loc r) := by
  simp only [List.mem_append, not_or] at h
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := h
  exact (kept7 m c r h14 h15).trans ((kept6 m c r h12 h13).trans ((kept5 m c r h10 h11).trans ((kept4 m c r h8 h9).trans ((kept3 m c r h6 h7).trans ((kept2 m c r h4 h5).trans ((kept1 m c r h2 h3).trans ((kept0 m c r h0 h1).trans (rfl))))))))

/-- The result is what the last call's window gathers. -/
theorem result (c : Dev nD) : M16 m c main_v26 = (dat7 (own (M15 m)) c).arrAt 5 cfg7.N :=
  Pipeline.afterRegion_arr (dat7 (own (M15 m)) c) (M15 m c) winFacts7.arr_inj 5

/-- The sampled points stay what the first call's window gathers. -/
theorem result0 (c : Dev nD) : M16 m c main_v0 = (dat0 (own (M1 m)) c).arrAt 1 cfg0.N :=
  (kept7 m c main_v0 (by decide) (by decide)).trans <| (kept6 m c main_v0 (by decide) (by decide)).trans <| (kept5 m c main_v0 (by decide) (by decide)).trans <|
  (kept4 m c main_v0 (by decide) (by decide)).trans <| (kept3 m c main_v0 (by decide) (by decide)).trans <| (kept2 m c main_v0 (by decide) (by decide)).trans <|
  (kept1 m c main_v0 (by decide) (by decide)).trans <| Pipeline.afterRegion_arr (dat0 (own (M1 m)) c) (M1 m c) winFacts0.arr_inj 1

/-- The run, read at the arguments and the results. -/
theorem run [∀ e, Nonempty (Elt F e)] (hpre : PreOK (mem (M7 m))) : θ_run (Cert.KernelIdeal.defs (F := F)) (Cert.KernelIdeal.threads (F := F)) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0)
    ∧ ∀ c : Dev nD, r.2.mem ((c.tc : Thread nD τ).loc main_v0) = (dat0 (own (M1 m)) c).arrAt 1 cfg0.N
      ∧ r.2.mem ((c.tc : Thread nD τ).loc main_v26) = (dat7 (own (M15 m)) c).arrAt 5 cfg7.N) := by
  refine (θ_run (Cert.KernelIdeal.defs (F := F)) _ _).mono (fun r h => ⟨⟨fun c => ⟨(h.1 c main_arg0 (by decide)).trans (kept m c main_arg0 (by decide)), (h.1 c main_arg1 (by decide)).trans (kept m c main_arg1 (by decide)), (h.1 c main_arg2 (by decide)).trans (kept m c main_arg2 (by decide)), (h.1 c main_arg3 (by decide)).trans (kept m c main_arg3 (by decide)), (h.1 c main_arg4 (by decide)).trans (kept m c main_arg4 (by decide)), (h.1 c main_arg5 (by decide)).trans (kept m c main_arg5 (by decide)), (h.1 c main_arg6 (by decide)).trans (kept m c main_arg6 (by decide)), (h.1 c main_arg7 (by decide)).trans (kept m c main_arg7 (by decide)), (h.1 c main_arg8 (by decide)).trans (kept m c main_arg8 (by decide)), (h.1 c main_arg9 (by decide)).trans (kept m c main_arg9 (by decide)), (h.1 c main_arg10 (by decide)).trans (kept m c main_arg10 (by decide)), (h.1 c main_arg11 (by decide)).trans (kept m c main_arg11 (by decide)), (h.1 c main_arg12 (by decide)).trans (kept m c main_arg12 (by decide)), (h.1 c main_arg13 (by decide)).trans (kept m c main_arg13 (by decide))⟩, h.2⟩, fun c => ?_⟩) (run_tail m ρ hpre)
  exact ⟨(h.1 c main_v0 (by decide)).trans (result0 m c), (h.1 c main_v26 (by decide)).trans (result m c)⟩

end Cert.Proof.Tail

end
-- ==== Proof.Pick.lean ====
/-
  The farthest point rule on plain functions: the first position of a function's greatest value, the sequence of
  positions that the sampling visits with the running distances, and the two ways the programs find the position.
-/
module

public import Idealize.ShloMosaic.PureOps.Ideal.Laws
public import Idealize.ShloMosaic.Lib.SortFacts

@[expose] public section

noncomputable section

namespace Cert.Proof.Sample

open Idealize.ShloMosaic

variable {α : Type} [LinearOrder α] {n : Nat}

/-- `i` is the first position of `f`'s greatest value. -/
def IsFirst (f : Fin n → α) (i : Fin n) : Prop := (∀ j, f j ≤ f i) ∧ ∀ j, j < i → f j < f i

theorem IsFirst.unique {f : Fin n → α} {i i' : Fin n} (h : IsFirst f i) (h' : IsFirst f i') : i = i' := by
  rcases lt_trichotomy i i' with l | e | l
  · exact absurd (h'.2 i l) (not_lt.mpr (h.1 i'))
  · exact e
  · exact absurd (h.2 i' l) (not_lt.mpr (h'.1 i))

/-- The list form: `h` is the first best entry of the increasing list `l`. -/
theorem head_stableSort (f : Fin n → α) (l : List (Fin n)) (hl : l.Pairwise (· < ·)) :
    ∀ h t, stableSort (fun k k' => decide (f k' < f k)) l = h :: t →
      h ∈ l ∧ (∀ c ∈ l, f c ≤ f h) ∧ ∀ c ∈ l, c < h → f c < f h := by
  induction l with
  | nil => intro h t e; exact absurd e (by simp [stableSort])
  | cons a l ih =>
    intro h t e
    rw [List.pairwise_cons] at hl
    unfold stableSort at e
    cases hs : stableSort (fun k k' => decide (f k' < f k)) l with
    | nil =>
      have hl0 : l = [] := by
        have := length_stableSort (fun k k' : Fin n => decide (f k' < f k)) l
        rw [hs] at this; exact List.length_eq_zero_iff.mp this.symm
      rw [hs] at e
      simp only [insertBefore, List.cons.injEq] at e
      obtain ⟨rfl, -⟩ := e
      subst hl0
      refine ⟨List.mem_cons_self, fun c hc => ?_, fun c hc hlt => ?_⟩
      · rw [List.mem_singleton.mp hc]
      · rw [List.mem_singleton.mp hc] at hlt; exact absurd hlt (lt_irrefl _)
    | cons b m =>
      obtain ⟨hb, hmax, hfst⟩ := ih hl.2 b m hs
      rw [hs] at e
      unfold insertBefore at e
      by_cases hab : f a < f b
      · simp only [decide_eq_true hab, if_true, List.cons.injEq] at e
        obtain ⟨rfl, -⟩ := e
        refine ⟨List.mem_cons_of_mem _ hb, fun c hc => ?_, fun c hc hlt => ?_⟩
        · rcases List.mem_cons.mp hc with rfl | hc
          · exact hab.le
          · exact hmax c hc
        · rcases List.mem_cons.mp hc with rfl | hc
          · exact hab
          · exact hfst c hc hlt
      · simp only [decide_eq_false hab, Bool.false_eq_true, if_false, List.cons.injEq] at e
        obtain ⟨rfl, -⟩ := e
        refine ⟨List.mem_cons_self, fun c hc => ?_, fun c hc hlt => ?_⟩
        · rcases List.mem_cons.mp hc with rfl | hc
          · exact le_rfl
          · exact (hmax c hc).trans (not_lt.mp hab)
        · rcases List.mem_cons.mp hc with rfl | hc
          · exact absurd hlt (lt_irrefl _)
          · exact absurd hlt (not_lt.mpr (hl.1 c hc).le)

/-- A descending stable sort puts the first position of the greatest value in front. -/
theorem isFirst_sortedFrom (f : Fin n → α) (k : Fin n) (hk : k.val = 0) :
    IsFirst f (sortedFrom (fun k k' => decide (f k' < f k)) k) := by
  have hpos : 0 < n := lt_of_le_of_lt (Nat.zero_le _) k.isLt
  cases hs : stableSort (fun k k' => decide (f k' < f k)) (List.finRange n) with
  | nil =>
    have := length_stableSort (fun k k' : Fin n => decide (f k' < f k)) (List.finRange n)
    rw [hs, List.length_finRange] at this
    exact absurd this (by simp; omega)
  | cons h t =>
    have e : sortedFrom (fun k k' => decide (f k' < f k)) k = h := by
      unfold sortedFrom sortPositions
      rw [List.get_of_eq hs]
      exact congrArg (List.get (h :: t)) (Fin.ext hk : _ = (⟨0, Nat.succ_pos _⟩ : Fin (h :: t).length))
    obtain ⟨-, h1, h2⟩ := head_stableSort f (List.finRange n) (List.pairwise_lt_finRange n) h t hs
    rw [e]
    exact ⟨fun j => h1 j (List.mem_finRange j), fun j => h2 j (List.mem_finRange j)⟩

theorem exists_isFirst (f : Fin (n + 1) → α) : ∃ i, IsFirst f i := ⟨_, isFirst_sortedFrom f 0 rfl⟩

/-- The first position of the greatest value. -/
def pick (f : Fin (n + 1) → α) : Fin (n + 1) := (exists_isFirst f).choose

theorem pick_isFirst (f : Fin (n + 1) → α) : IsFirst f (pick f) := (exists_isFirst f).choose_spec

theorem pick_eq {f : Fin (n + 1) → α} {i : Fin (n + 1)} (h : IsFirst f i) : pick f = i := (pick_isFirst f).unique h

theorem minsi_toInt (x y : BitVec 32) : (IntOp.minsi x y).toInt = min x.toInt y.toInt := by
  unfold IntOp.minsi
  rw [BitVec.slt_eq_decide]
  by_cases h : x.toInt < y.toInt
  · simp only [h, decide_true, if_true]; exact (min_eq_left h.le).symm
  · simp only [h, decide_false, Bool.false_eq_true, if_false]; exact (min_eq_right (not_lt.mp h)).symm

theorem toInt_small {k : Nat} (hk : k < 2 ^ 31) : (BitVec.ofNat 32 k).toInt = (k : ℤ) := by
  rw [BitVec.toInt_eq_toNat_cond, BitVec.toNat_ofNat, Nat.mod_eq_of_lt (by omega), if_pos (by omega)]

/-- The least position at which the greatest value is met, as a signed minimum over words. -/
theorem fold_minsi_pick (f : Fin 8192 → EReal) (M : EReal) (hM : M = f (pick f)) :
    Finset.univ.fold IntOp.minsi (2147483647#32)
      (fun x : Fin 1 × Fin 8192 => if f x.2 = M then BitVec.ofNat 32 x.2.val else 8192#32) = BitVec.ofNat 32 (pick f).val := by
  refine BitVec.eq_of_toInt_eq ?_
  have hh := Finset.fold_hom (s := (Finset.univ : Finset (Fin 1 × Fin 8192))) (op := IntOp.minsi (w := 32)) (op' := (min : ℤ → ℤ → ℤ))
    (b := 2147483647#32) (f := fun x => if f x.2 = M then BitVec.ofNat 32 x.2.val else 8192#32) (m := BitVec.toInt) minsi_toInt
  rw [← hh, toInt_small (k := (pick f).val) (by have := (pick f).isLt; omega)]
  have hp := pick_isFirst f
  refine le_antisymm ?_ ?_
  · refine (Finset.fold_min_le _).mpr (Or.inr ⟨(0, pick f), Finset.mem_univ _, ?_⟩)
    simp only [hM, if_true]
    rw [toInt_small (k := (pick f).val) (by have := (pick f).isLt; omega)]
  · refine (Finset.le_fold_min _).mpr ⟨?_, fun x _ => ?_⟩
    · have := (pick f).isLt
      rw [show (2147483647#32 : BitVec 32).toInt = 2147483647 from by decide]; omega
    · by_cases hx : f x.2 = M
      · simp only [hx, if_true]
        rw [toInt_small (k := x.2.val) (by have := x.2.isLt; omega)]
        by_contra hlt
        have : f x.2 < f (pick f) := hp.2 x.2 (by rw [Fin.lt_def]; omega)
        exact absurd (hx.trans hM) this.ne
      · simp only [hx, if_false]
        have := (pick f).isLt
        rw [show (8192#32 : BitVec 32).toInt = 8192 from by decide]; omega

/-- The greatest value, as a maximum from the least one. -/
theorem fold_max_pick (f : Fin 8192 → EReal) (b : EReal) (hb : b = ⊥) :
    Finset.univ.fold max b (fun x : Fin 1 × Fin 8192 => f x.2) = f (pick f) := by
  refine le_antisymm ?_ ?_
  · exact (Finset.fold_max_le _).mpr ⟨hb ▸ bot_le, fun x _ => (pick_isFirst f).1 x.2⟩
  · exact (Finset.le_fold_max _).mpr (Or.inr ⟨(0, pick f), Finset.mem_univ _, le_rfl⟩)

/-- The squared distance of every point from the point `p`, over the three coordinates. -/
def dist (pts : Fin 3 → Fin 8192 → EReal) (p : Fin 8192) (k : Fin 8192) : EReal :=
  ∑ c : Fin 3, (pts c k - pts c p) * (pts c k - pts c p)

/-- The sampling after `k` further points: the last point taken, and every point's least distance from those taken. -/
def walk (pts : Fin 3 → Fin 8192 → EReal) : Nat → Fin 8192 × (Fin 8192 → EReal)
  | 0 => (0, dist pts 0)
  | k + 1 =>
    let i := pick (n := 8191) (walk pts k).2
    (i, fun x => min ((walk pts k).2 x) (dist pts i x))

end Cert.Proof.Sample

end
-- ==== Proof.Walk.lean ====
/-
  The sampling kernel's values at an index: the loop's carried pair after `k` trips is the walk after `k` points.
-/
module

public import proofs.«01_k».proof.Proof.Gen.KernelIdeal.Skeleton
public import proofs.«01_k».proof.Proof.Pick
public import Idealize.ShloMosaic.Lib.Pointwise

@[expose] public section

noncomputable section

namespace Cert.Proof.Sample

open Idealize.ShloMosaic
open Cert.KernelIdeal Cert.KernelIdeal.Gen

/-- The block's points: coordinate, then point. -/
def ptsOf (v : Vec Ideal S1x3x8192 .f32) : Fin 3 → Fin 8192 → EReal := fun c x => v (ix3 (0 : Fin 1) c x)

theorem pay3_at (v : Vec Ideal S1x3x8192 .f32) (x : Fin 8192) : k0_pay3 v (ix2 (0 : Fin 1) x) = dist (ptsOf v) 0 x := by
  unfold k0_pay3 k0_pay2 k0_pay1
  pointwise
  rfl

theorem pay4_at (v : Vec Ideal S1x3x8192 .f32) (c : Fin 3) (k : Fin 1024) :
    k0_pay4 v (ix2 c k) = Scalar.select (IntOp.cmpi .eq (BitVec.ofNat 32 k.val) 0#32) (ptsOf v c 0) 0 := by
  unfold k0_pay4 k0_pay2 k0_pay1
  pointwise
  rfl

theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp only [if_neg h, beq_eq_false_iff_ne.mpr this]; rfl

theorem sum_select_eq (f : Fin 8192 → EReal) (p : Fin 8192) :
    ∑ x : Fin 8192, Scalar.select (IntOp.cmpi .eq (BitVec.ofNat 32 x.val) (BitVec.ofNat 32 p.val)) (f x) 0 = f p := by
  have h : ∀ x : Fin 8192, Scalar.select (IntOp.cmpi .eq (BitVec.ofNat 32 x.val) (BitVec.ofNat 32 p.val)) (f x) 0
      = if x = p then f x else 0 := fun x => by
    rw [cmpi_eq_ofNat _ _ (by have := x.isLt; omega) (by have := p.isLt; omega)]
    by_cases e : x = p
    · subst e; simp [Scalar.select]
    · rw [if_neg (fun e' => e (Fin.ext e')), if_neg e]; simp [Scalar.select]
  rw [Finset.sum_congr rfl fun x _ => h x, Finset.sum_ite_eq' Finset.univ p f, if_pos (Finset.mem_univ _)]

set_option maxRecDepth 65536 in
theorem pay5_at (v : Vec Ideal S1x3x8192 .f32) (a : FVec Ideal S1x8192 .f32) (c : Fin 3) :
    k0_pay5 v a (ix2 c (0 : Fin 1)) = ptsOf v c (pick (n := 8191) fun x => a (ix2 (0 : Fin 1) x)) := by
  unfold k0_pay5 k0_pay1
  pointwise
  have hmax := fold_max_pick (fun x => a (ix2 (0 : Fin 1) x)) (Ideal.ofBits FTy.f32 4286578688#32)
    (by simp [Ideal.ofBits, Ideal.ieee])
  have hmin := fold_minsi_pick (fun x => a (ix2 (0 : Fin 1) x)) _ hmax
  rw [hmin]
  exact sum_select_eq (fun x => ptsOf v c x) _

theorem pay6_at (v : Vec Ideal S1x3x8192 .f32) (t : Fin k0_t1_loop.trips) (a : FVec Ideal S1x8192 .f32) (b : FVec Ideal S3x1024 .f32)
    (c : Fin 3) (k : Fin 1024) :
    k0_pay6 v t a b (ix2 c k) = b (ix2 c k)
      + Scalar.select (IntOp.cmpi .eq (BitVec.ofNat 32 k.val) (Scf.iv 1#32 1#32 t)) (k0_pay5 v a (ix2 c (0 : Fin 1))) 0 := by
  unfold k0_pay6
  pointwise

theorem pay7_at (v : Vec Ideal S1x3x8192 .f32) (a : FVec Ideal S1x8192 .f32) (x : Fin 8192) :
    k0_pay7 v a (ix2 (0 : Fin 1) x) = min (a (ix2 (0 : Fin 1) x)) (dist (ptsOf v) (pick (n := 8191) fun x => a (ix2 (0 : Fin 1) x)) x) := by
  have e : k0_pay7 v a (ix2 (0 : Fin 1) x) = min (a (ix2 (0 : Fin 1) x)) (∑ c : Fin 3, (v (ix3 0 c x) - k0_pay5 v a (ix2 c 0)) * (v (ix3 0 c x) - k0_pay5 v a (ix2 c 0))) := by
    unfold k0_pay7 k0_pay1
    pointwise
  rw [e]
  simp only [pay5_at]
  rfl

theorem pay8_at (w : FVec Ideal S3x1024 .f32) (c : Fin 3) (k : Fin 1024) : k0_pay8 w (ix3 (0 : Fin 1) c k) = w (ix2 c k) := by
  unfold k0_pay8
  pointwise

/-- The carried pair is the walk: the distances, and the points taken so far with zeros behind them. -/
def Holds (v : Vec Ideal S1x3x8192 .f32) (k : Nat) (p : FVec Ideal S1x8192 .f32 × FVec Ideal S3x1024 .f32) : Prop :=
  (∀ x : Fin 8192, p.1 (ix2 (0 : Fin 1) x) = (walk (ptsOf v) k).2 x)
    ∧ ∀ (c : Fin 3) (j : Fin 1024), p.2 (ix2 c j) = if j.val ≤ k then ptsOf v c (walk (ptsOf v) j.val).1 else 0

theorem holds_zero (v : Vec Ideal S1x3x8192 .f32) : Holds v 0 (k0_pay3 v, k0_pay4 v) := by
  refine ⟨fun x => pay3_at v x, fun c j => ?_⟩
  show k0_pay4 v (ix2 c j) = _
  rw [pay4_at, show (0#32 : BitVec 32) = BitVec.ofNat 32 0 from rfl, cmpi_eq_ofNat _ _ (by have := j.isLt; omega) (by omega)]
  by_cases h : j.val = 0
  · rw [if_pos h, if_pos h.le, h]; rfl
  · rw [if_neg h, if_neg (by omega)]; rfl

theorem holds_succ (v : Vec Ideal S1x3x8192 .f32) (t : Fin k0_t1_loop.trips) (p : FVec Ideal S1x8192 .f32 × FVec Ideal S3x1024 .f32)
    (h : Holds v t.val p) : Holds v (t.val + 1) (k0_pay7 v p.1, k0_pay6 v t p.1 p.2) := by
  have ht : t.val < 1023 := t.isLt
  have hf : (fun x => p.1 (ix2 (0 : Fin 1) x)) = (walk (ptsOf v) t.val).2 := funext h.1
  refine ⟨fun x => ?_, fun c j => ?_⟩
  · show k0_pay7 v p.1 (ix2 (0 : Fin 1) x) = _
    rw [pay7_at, hf, h.1 x]; rfl
  · show k0_pay6 v t p.1 p.2 (ix2 c j) = _
    rw [pay6_at, pay5_at, hf, h.2 c j, show Scf.iv 1#32 1#32 t.val = BitVec.ofNat 32 (t.val + 1) from by
        unfold Scf.iv; apply BitVec.eq_of_toNat_eq; simp; omega,
      cmpi_eq_ofNat _ _ (by have := j.isLt; omega) (by omega)]
    by_cases e : j.val = t.val + 1
    · rw [if_pos e, if_neg (by omega), if_pos e.le, e]
      simp only [Scalar.select, walk]
      simp
    · rw [if_neg e]
      by_cases l : j.val ≤ t.val
      · rw [if_pos l, if_pos (by omega)]; simp [Scalar.select]
      · rw [if_neg l, if_neg (by omega)]; simp [Scalar.select]

end Cert.Proof.Sample

end
-- ==== Proof.Array.lean ====
/- The sampled points: what the first call leaves of the memory at first. -/
module

public import proofs.«01_k».proof.Proof.Joined
public import proofs.«01_k».proof.Proof.Walk
public import Idealize.ShloMosaic.Lib.Pipeline.ValueKit
@[expose] public section
noncomputable section
namespace Cert.Proof.Sample
open Idealize.ShloMosaic Idealize.ShloMosaic.TcCoe
open Cert.Proof.Tail Cert.KernelIdeal Cert.KernelIdeal.Gen

variable (m : (ℓ : Loc nD τ sig) → Buf (Elt Ideal) ℓ)

/-- The coordinates of the points the kernel is given. -/
def entered (c : Dev nD) (b : Fin 2) : Fin 3 → Fin 8192 → EReal := fun a k =>
  (m ((c.tc : Thread nD τ).loc main_arg0) : FVec Ideal S2x3x8192 .f32) (ix3 b a k)

/-- A statement kept by every trip holds after them all. -/
theorem fold_inv {σ : Type} {n : Nat} (g : Fin n → σ → σ) (init : σ) (I : Nat → σ → Prop) (h0 : I 0 init)
    (hs : ∀ (k : Fin n) (s : σ), I k.val s → I (k.val + 1) (g k s)) : I n (Scf.fold g init) := by
  rw [Scf.fold_eq]
  induction n with
  | zero => simpa using h0
  | succ n ih =>
    rw [List.finRange_succ_last, List.foldl_append, List.foldl_map]
    exact hs (Fin.last n) _ (ih (fun k => g k.castSucc) fun k s h => hs k.castSucc s h)

theorem iblk_at (c : Dev nD) (t : Fin cfg0.N) (b : Fin 2) (hb : win0_0.index t 0 = b.val) : ptsOf (iblk0 (own (M1 m)) c 0 t) = entered m c b := by
  funext a x
  show (m ((c.tc : Thread nD τ).loc main_arg0) : FVec Ideal S2x3x8192 .f32) (((View.whole main_arg0).slice (win0_0.rect t)).emb (ix3 (0 : Fin 1) a x)) = _
  unfold entered
  refine congrArg (m ((c.tc : Thread nD τ).loc main_arg0) : FVec Ideal S2x3x8192 .f32) (funext fun d => Fin.ext ?_)
  blk_simp
  have hi := (by decide +kernel : ∀ t : Fin grid0.N, win0_0.index t 1 = 0 ∧ win0_0.index t 2 = 0) t
  match d with
  | ⟨0, _⟩ => exact (congrArg (· * 1 + 0) hb).trans (Nat.mul_one _)
  | ⟨1, _⟩ => exact (congrArg (· * 3 + a.val) hi.1).trans (Nat.zero_add _)
  | ⟨2, _⟩ => exact (congrArg (· * 8192 + x.val) hi.2).trans (Nat.zero_add _)

/-- The points the walk takes, batch by batch. -/
def sampled (c : Dev nD) : S2x3x1024.Idx → EReal := fun i => entered m c (i 0) (i 1) (walk (entered m c (i 0)) (i 2).val).1

theorem kernel_at (c : Dev nD) :
    (dat0 (own (M1 m)) c).arrAt 1 cfg0.N = sampled m c := by
  refine (dat0 (own (M1 m)) c).arrAt_eq_of_covers 1 _ (by decide +kernel) fun t hf y => ?_
  blk_simp
  rw [after0_1]
  unfold outsAt0
  unfold out0_A_1
  frame_out
  have h := fold_inv (fun a a_1 => (k0_pay7 (iblk0 (own (M1 m)) c 0 t) a_1.1, k0_pay6 (iblk0 (own (M1 m)) c 0 t) a a_1.1 a_1.2))
    (k0_pay3 (iblk0 (own (M1 m)) c 0 t), k0_pay4 (iblk0 (own (M1 m)) c 0 t)) (Holds (iblk0 (own (M1 m)) c 0 t)) (holds_zero _) (fun k s h => holds_succ _ k s h)
  obtain ⟨a, k, rfl⟩ : ∃ (a : Fin 3) (k : Fin 1024), y = ix3 (0 : Fin 1) a k := ⟨y 1, y 2, funext fun d => by
    match d with
    | ⟨0, _⟩ => exact Subsingleton.elim (α := Fin 1) _ _
    | ⟨1, _⟩ => rfl
    | ⟨2, _⟩ => rfl⟩
  refine (pay8_at _ a k).trans ((h.2 a k).trans ?_)
  rw [if_pos (show k.val ≤ k0_t1_loop.trips from (show k.val ≤ 1023 by omega))]
  obtain ⟨b, hb, hb0, h1, h2⟩ := (by decide +kernel : ∀ t : Fin grid0.N, ∃ b : Fin 2, win0_1.index t 0 = b.val ∧ win0_0.index t 0 = b.val
    ∧ win0_1.index t 1 = 0 ∧ win0_1.index t 2 = 0) t
  have hE : (((View.whole main_v0).slice (win0_1.rect t)).emb (ix3 (0 : Fin 1) a k) : S2x3x1024.Idx) = ix3 b a k := funext fun d => Fin.ext (by
    blk_simp
    match d with
    | ⟨0, _⟩ => exact (congrArg (· * 1 + 0) hb).trans (Nat.mul_one _)
    | ⟨1, _⟩ => exact (congrArg (· * 3 + a.val) h1).trans (Nat.zero_add _)
    | ⟨2, _⟩ => exact (congrArg (· * 1024 + k.val) h2).trans (Nat.zero_add _))
  rw [iblk_at m c t b hb0]
  exact (congrArg (sampled m c) hE).symm

/-- The sampled points after the first call. -/
theorem sampled_at (c : Dev nD) : (M2 m c main_v0 : FVec Ideal S2x3x1024 .f32) = sampled m c :=
  (Pipeline.afterRegion_arr (dat0 (own (M1 m)) c) (M1 m c) winFacts0.arr_inj 1).trans (kernel_at m c)

end Cert.Proof.Sample

end
-- ==== Proof.Order.lean ====
/-
  The value at rank `k` of a function on finitely many positions, and the two ways the programs find it: the value
  at place `k` of a stable sort, and the least value left after `k` least values were struck out one by one.
-/
module

public import Idealize.ShloMosaic.PureOps.Ideal.Laws
public import Idealize.ShloMosaic.Lib.SortFacts

@[expose] public section

noncomputable section

namespace Cert.Proof.Near

open Idealize.ShloMosaic

variable {α : Type} [LinearOrder α] {n : Nat}

/-- Fewer than `k + 1` values lie below `v`, more than `k` at or below it. -/
def IsKth (f : Fin n → α) (k : Nat) (v : α) : Prop :=
  (Finset.univ.filter fun i => f i < v).card ≤ k ∧ k < (Finset.univ.filter fun i => f i ≤ v).card

theorem IsKth.le {f : Fin n → α} {k : Nat} {v w : α} (hv : IsKth f k v) (hw : IsKth f k w) : v ≤ w := by
  by_contra h
  have h := not_le.mp h
  have : (Finset.univ.filter fun i => f i ≤ w).card ≤ (Finset.univ.filter fun i => f i < v).card :=
    Finset.card_le_card fun i hi => by
      simp only [Finset.mem_filter, Finset.mem_univ, true_and] at hi ⊢
      exact lt_of_le_of_lt hi h
  have := hv.1; have := hw.2; omega

theorem IsKth.unique {f : Fin n → α} {k : Nat} {v w : α} (hv : IsKth f k v) (hw : IsKth f k w) : v = w :=
  le_antisymm (hv.le hw) (hw.le hv)

theorem IsKth.map {β : Type} [LinearOrder β] {f : Fin n → α} {k : Nat} {v : α} (h : IsKth f k v) (g : α → β) (hg : StrictMono g) :
    IsKth (fun i => g (f i)) k (g v) := by
  unfold IsKth at h ⊢
  simp only [hg.lt_iff_lt, hg.le_iff_le]
  exact h

theorem card_lt_fin (k : Fin n) : (Finset.univ.filter fun j : Fin n => j < k).card = k.val := by
  rw [show (Finset.univ.filter fun j : Fin n => j < k) = Finset.Iio k from by ext; simp]
  exact Fin.card_Iio k

theorem card_le_fin (k : Fin n) : (Finset.univ.filter fun j : Fin n => j ≤ k).card = k.val + 1 := by
  rw [show (Finset.univ.filter fun j : Fin n => j ≤ k) = Finset.Iic k from by ext; simp]
  exact Fin.card_Iic k

/-- Place `k` of an ascending stable sort holds the value at rank `k`. -/
theorem isKth_sorted (f : Fin n → α) (k : Fin n) :
    IsKth f k.val (f (sortedFrom (fun a b => decide (f a < f b)) k)) := by
  set p := sortedFrom (fun a b => decide (f a < f b)) with hp
  have hinj : Function.Injective p := sortedFrom_injective _
  have hsur : Function.Surjective p := sortedFrom_surjective _
  have hmono : ∀ i j : Fin n, i < j → ¬ f (p j) < f (p i) := fun i j hij hlt => by
    have h := sortedFrom_noInversion (fun a b => decide (f a < f b)) (fun a b => decide (f a < f b))
      (fun a b h => decide_eq_false (not_lt.mpr (of_decide_eq_true h).le)) (fun a b h => h)
      (fun a b c h1 h2 => decide_eq_false (not_lt.mpr ((not_lt.mp (of_decide_eq_false h2)).trans (not_lt.mp (of_decide_eq_false h1))))) i j hij
    exact of_decide_eq_false h hlt
  constructor
  · rw [← card_lt_fin k]
    refine Finset.card_le_card_of_surjOn p fun i hi => ?_
    obtain ⟨j, rfl⟩ := hsur i
    refine ⟨j, ?_, rfl⟩
    simp only [Finset.coe_filter, Finset.mem_univ, true_and, Set.mem_setOf_eq] at hi ⊢
    by_contra hj
    rcases (not_lt.mp hj).lt_or_eq with h | h
    · exact hmono k j h hi
    · exact absurd hi (by rw [h]; exact lt_irrefl _)
  · refine lt_of_lt_of_le (Nat.lt_succ_self _) ?_
    rw [Nat.succ_eq_add_one, ← card_le_fin k]
    refine Finset.card_le_card_of_injOn p (fun j hj => ?_) hinj.injOn
    simp only [Finset.coe_filter, Finset.mem_univ, true_and, Set.mem_setOf_eq] at hj ⊢
    rcases hj.lt_or_eq with h | h
    · exact not_lt.mp (hmono j k h)
    · rw [h]

/-- The least of the values. -/
def low (X : Fin n → EReal) : EReal := Finset.univ.inf X

/-- Every place that holds the least value is struck out by `N`. -/
def strike (N : EReal) (X : Fin n → EReal) : Fin n → EReal := fun i => if X i = low X then N else X i

theorem low_mem (X : Fin n → EReal) (hn : 0 < n) : ∃ i, X i = low X := by
  obtain ⟨i, -, h⟩ := Finset.exists_mem_eq_inf (s := (Finset.univ : Finset (Fin n))) ⟨⟨0, hn⟩, Finset.mem_univ _⟩ X
  exact ⟨i, h.symm⟩

theorem low_le (X : Fin n → EReal) (i : Fin n) : low X ≤ X i := Finset.inf_le (Finset.mem_univ i)

/-- What the values are after `k` strikes. -/
theorem struck (N : EReal) (f : Fin n → EReal) (hn : 0 < n) (hN : ∀ i, f i ≤ N) (hinj : ∀ i j, f i = f j → f i < N → i = j) :
    ∀ k, ∃ R : Finset (Fin n), (∀ i, (strike N)^[k] f i = if i ∈ R then N else f i)
      ∧ (∀ i ∈ R, f i < N) ∧ (∀ i ∈ R, ∀ j, j ∉ R → f i < f j) ∧ R.card ≤ k ∧ (R.card = k ∨ ∀ j, j ∉ R → f j = N)
  | 0 => ⟨∅, fun i => by simp, by simp, by simp, by simp, by simp⟩
  | k + 1 => by
    obtain ⟨R, hR, hlt, hsep, hle, hc⟩ := struck N f hn hN hinj k
    rw [Function.iterate_succ_apply']
    set X := (strike N)^[k] f with hX
    by_cases hl : low X < N
    · obtain ⟨i0, hi0⟩ := low_mem X hn
      have h0 : i0 ∉ R := fun h => by rw [hR i0, if_pos h] at hi0; exact absurd hi0 (ne_of_gt hl)
      have hf0 : f i0 = low X := by rw [hR i0, if_neg h0] at hi0; exact hi0
      have hlow : ∀ j, j ∉ R → low X ≤ f j := fun j hj => by have := low_le X j; rwa [hR j, if_neg hj] at this
      refine ⟨insert i0 R, fun i => ?_, fun i hi => ?_, fun i hi j hj => ?_, ?_, Or.inl ?_⟩
      · unfold strike
        by_cases hiR : i ∈ R
        · rw [if_pos (Finset.mem_insert_of_mem hiR), hR i, if_pos hiR]
          split <;> rfl
        · rw [hR i, if_neg hiR]
          by_cases hi : i = i0
          · rw [if_pos (by rw [hi, hf0]), if_pos (by rw [hi]; exact Finset.mem_insert_self _ _)]
          · rw [if_neg (fun h : f i = low X => hi (hinj i i0 (h.trans hf0.symm) (lt_of_eq_of_lt h hl))), if_neg (by simp [hi, hiR])]
      · rcases Finset.mem_insert.mp hi with rfl | h
        · exact hf0 ▸ hl
        · exact hlt i h
      · have hj0 : j ≠ i0 := fun h => hj (h ▸ Finset.mem_insert_self _ _)
        have hjR : j ∉ R := fun h => hj (Finset.mem_insert_of_mem h)
        rcases Finset.mem_insert.mp hi with rfl | h
        · refine lt_of_le_of_ne (hf0 ▸ hlow j hjR) fun e => hj0 (hinj i j e (hf0 ▸ hl)).symm
        · exact hsep i h j hjR
      · rw [Finset.card_insert_of_notMem h0]; omega
      · rw [Finset.card_insert_of_notMem h0]
        rcases hc with h | h
        · rw [h]
        · exact absurd (h i0 h0) (by rw [hf0]; exact hl.ne)
    · have hall : ∀ i, X i = N := fun i => le_antisymm (by rw [hR i]; split; exacts [le_rfl, hN i]) ((not_lt.mp hl).trans (low_le X i))
      have hall' : ∀ j, j ∉ R → f j = N := fun j hj => by have := hall j; rwa [hR j, if_neg hj] at this
      refine ⟨R, fun i => ?_, hlt, hsep, by omega, Or.inr hall'⟩
      unfold strike
      rw [hall i, ite_self]
      split
      · rfl
      · exact (hall' i ‹_›).symm

/-- The least value left after `k` strikes is the value at rank `k`. -/
theorem isKth_struck (N : EReal) (f : Fin n → EReal) (hN : ∀ i, f i ≤ N) (hinj : ∀ i j, f i = f j → f i < N → i = j)
    (k : Nat) (hk : k < n) : IsKth f k (low ((strike N)^[k] f)) := by
  have hn : 0 < n := by omega
  obtain ⟨R, hR, hlt, hsep, hle, hc⟩ := struck N f hn hN hinj k
  set X := (strike N)^[k] f with hX
  have hbelow : (Finset.univ.filter fun i => f i < low X) ⊆ R := fun i hi => by
    simp only [Finset.mem_filter, Finset.mem_univ, true_and] at hi
    by_contra h
    have := low_le X i
    rw [hR i, if_neg h] at this
    exact absurd hi (not_lt.mpr this)
  refine ⟨(Finset.card_le_card hbelow).trans hle, ?_⟩
  by_cases hl : low X < N
  · obtain ⟨i0, hi0⟩ := low_mem X hn
    have h0 : i0 ∉ R := fun h => by rw [hR i0, if_pos h] at hi0; exact absurd hi0 (ne_of_gt hl)
    have hf0 : f i0 = low X := by rw [hR i0, if_neg h0] at hi0; exact hi0
    have hcard : R.card = k := hc.resolve_right fun h => absurd (h i0 h0) (by rw [hf0]; exact hl.ne)
    have hsub : insert i0 R ⊆ Finset.univ.filter fun i => f i ≤ low X := fun i hi => by
      simp only [Finset.mem_filter, Finset.mem_univ, true_and]
      rcases Finset.mem_insert.mp hi with rfl | h
      · exact hf0.le
      · exact (hf0 ▸ hsep i h i0 h0).le
    have := Finset.card_le_card hsub
    rw [Finset.card_insert_of_notMem h0] at this
    omega
  · have : (Finset.univ.filter fun i => f i ≤ low X) = Finset.univ :=
      Finset.filter_true_of_mem fun i _ => (hN i).trans (not_lt.mp hl)
    rw [this, Finset.card_univ, Fintype.card_fin]; exact hk

end Cert.Proof.Near

end
-- ==== Proof.Sorted.lean ====
/-
  The neighbours as the reference finds them: the indices of the near points sorted, the rest of the row at 8192, the
  first 32 kept and filled up with the first one.
-/
module

public import proofs.«01_k».proof.Defs
public import proofs.«01_k».proof.Proof.Order
public import proofs.«01_k».proof.Proof.Pick
public import proofs.«01_k».proof.Proof.Gen.ReferenceIdeal.Run
public import Idealize.ShloMosaic.Lib.Pointwise

@[expose] public section

noncomputable section

namespace Cert.Proof.Near

open Idealize.ShloMosaic Idealize.ShloMosaic.TcCoe

/-! ## Words and extended reals -/

/-- A word as an extended real. -/
abbrev real (w : BitVec 32) : EReal := ((w.toInt : ℝ) : EReal)

/-- The index left where no point is near. -/
abbrev none8192 : EReal := Ideal.ofBits .f32 0x46000000#32

theorem none_eq : none8192 = real 8192#32 := by
  unfold real
  rw [show (8192#32 : BitVec 32).toInt = 8192 from by decide]
  simp [Ideal.ofBits, Ideal.ieee]
  rw [← EReal.coe_mul]
  norm_num

theorem real_strict : StrictMono fun z : ℤ => ((z : ℝ) : EReal) := fun a b h => by
  exact EReal.coe_lt_coe_iff.mpr (Int.cast_lt.mpr h)

theorem real_le (v w : BitVec 32) : real v ≤ real w ↔ v.toInt ≤ w.toInt := real_strict.le_iff_le (a := v.toInt) (b := w.toInt)

theorem real_inj {v w : BitVec 32} (h : real v = real w) : v = w := BitVec.eq_of_toInt_eq (real_strict.injective h)

theorem fptosi_real (w : BitVec 32) : Ideal.fptosi 32 (real w) = w := by
  unfold Ideal.fptosi real
  rw [Ideal.toIntClamped_coe]
  have h : (if (0 : ℝ) ≤ (w.toInt : ℝ) then ⌊(w.toInt : ℝ)⌋ else ⌈(w.toInt : ℝ)⌉) = w.toInt := by
    split
    · exact Int.floor_intCast _
    · exact Int.ceil_intCast _
  rw [h]
  have h1 := w.toInt_lt
  have h2 := w.le_toInt
  rw [min_eq_right (by norm_num at h1 ⊢; omega), max_eq_right (by norm_num at h2 ⊢; omega), BitVec.ofInt_toInt]

/-- The indices of a row's near points, the rest at 8192. -/
def mark {N : Nat} (near : Fin N → Prop) [DecidablePred near] : Fin N → BitVec 32 := fun n => if near n then BitVec.ofNat 32 n.val else 8192#32

section
variable {N : Nat} (near : Fin N → Prop) [DecidablePred near]

/-- The word at rank `k`. -/
def ranked (k : Fin N) : BitVec 32 := mark near (sortedFrom (fun a b => decide ((mark near a).toInt < (mark near b).toInt)) k)

theorem ranked_isKth (k : Fin N) : IsKth (fun n => real (mark near n)) k.val (real (ranked near k)) :=
  (isKth_sorted (fun n => (mark near n).toInt) k).map (fun z : ℤ => ((z : ℝ) : EReal)) real_strict

/-- The value at rank `k`, found by striking out the least. -/
theorem rank_gen (c : EReal) (hle : ∀ i, real (mark near i) ≤ c) (hinj : ∀ i j, real (mark near i) = real (mark near j) → real (mark near i) < c → i = j) (k : Fin N) :
    low ((strike c)^[k.val] fun n => real (mark near n)) = real (ranked near k) :=
  (isKth_struck c _ hle hinj k.val k.isLt).unique (ranked_isKth near k)
end

variable (near : Fin 8192 → Prop) [DecidablePred near]

theorem mark_toInt (n : Fin 8192) : (mark near n).toInt = if near n then (n.val : ℤ) else 8192 := by
  unfold mark
  split
  · exact Sample.toInt_small (by omega)
  · decide

theorem mark_inj (i j : Fin 8192) (h : real (mark near i) = real (mark near j)) (hl : real (mark near i) < none8192) : i = j := by
  have e := congrArg BitVec.toInt (real_inj h)
  rw [none_eq] at hl
  have hl' : (mark near i).toInt < 8192 := by
    have := real_strict.lt_iff_lt (a := (mark near i).toInt) (b := (8192#32 : BitVec 32).toInt) |>.mp hl
    exact this
  rw [mark_toInt] at hl'
  rw [mark_toInt, mark_toInt] at e
  split at e <;> split at e <;> simp_all <;> omega

theorem mark_le (i : Fin 8192) : real (mark near i) ≤ none8192 := by
  rw [none_eq, real_le, mark_toInt]
  split
  · show (i.val : ℤ) ≤ 8192; omega
  · exact le_rfl

/-- The value at rank `k`, found by striking out the least. -/
theorem rank_eq (k : Fin 8192) : low ((strike none8192)^[k.val] fun n => real (mark near n)) = real (ranked near k) :=
  rank_gen near none8192 (mark_le near) (mark_inj near) k

/-- A rank's word filled up with the first one. -/
def filled (k : Fin 8192) : BitVec 32 :=
  if (8192#32 : BitVec 32).toInt ≤ (ranked near k).toInt
  then (if (8192#32 : BitVec 32).toInt ≤ (ranked near 0).toInt then 0#32 else ranked near 0) else ranked near k

theorem filled_real (k : Fin 8192) :
    Ideal.fptosi 32 (if none8192 ≤ real (ranked near k)
      then (if none8192 ≤ real (ranked near 0) then 0 else real (ranked near 0)) else real (ranked near k)) = filled near k := by
  unfold filled
  simp only [none_eq, real_le]
  split
  · split
    · rw [show (0 : EReal) = real 0#32 from by simp [real], fptosi_real]
    · rw [fptosi_real]
  · rw [fptosi_real]

/-! ## The sort of a row -/

theorem along_third {A B n : Nat} (J : (⟨3, ![A, B, n]⟩ : Shape).Idx) (b : Fin A) (r : Fin B) (h0 : (J 0).val = b.val) (h1 : (J 1).val = r.val) (k : Fin n) :
    Shape.Idx.along (s := ⟨3, ![A, B, n]⟩) J 2 k = ix3 b r k := by
  funext a
  match a with
  | ⟨0, _⟩ => exact Fin.ext h0
  | ⟨1, _⟩ => exact Fin.ext h1
  | ⟨2, _⟩ => rfl

theorem topk_row {α : Type} (A B n K : Nat) (hK : K ≤ n) (gt : α → α → BitVec 1) (x : (⟨3, ![A, B, n]⟩ : Shape).Idx → α)
    (h : (⟨3, ![A, B, n]⟩ : Shape).Slices (fun _ => 0) ⟨3, ![A, B, K]⟩) (b : Fin A) (r : Fin B) (k : Fin K) :
    (Host.topK ⟨3, ![A, B, K]⟩ 2 gt x h).1 (ix3 b r k)
      = x (ix3 b r (sortedFrom (fun k k' : Fin n => gt (x (ix3 b r k)) (x (ix3 b r k')) == 1#1) ⟨k.val, by omega⟩)) := by
  unfold Host.topK Host.sort2 extractStridedSlice
  dsimp only
  rw [dif_pos (show 2 < (⟨3, ![A, B, n]⟩ : Shape).rank from Nat.lt_succ_self 2)]
  dsimp only
  refine (congrArg x (along_third _ b r (Nat.zero_add _) (Nat.zero_add _) _)).trans
    (congrArg₂ (fun (g : Fin n → Fin n → Bool) (i : Fin n) => x (ix3 b r (sortedFrom g i))) ?_ (Fin.ext (Nat.zero_add _)))
  exact funext fun (j : Fin n) => funext fun (j' : Fin n) =>
    congrArg₂ (fun u v => gt (x u) (x v) == 1#1) (along_third _ b r (Nat.zero_add _) (Nat.zero_add _) j) (along_third _ b r (Nat.zero_add _) (Nat.zero_add _) j')

section
open Cert.ReferenceIdeal Cert.ReferenceIdeal.Gen Cert.ReferenceIdeal.Value

/-- The indices of the near points, the rest at 8192, of every query. -/
def marks (q : FVec Ideal S2x1024x3 .f32) (p : FVec Ideal S2x8192x3 .f32) : IVec S2x1024x8192 32 :=
  select (cmpf .ole (subf (addf (broadcastInDim S2x1024x8192 ![0, 1, 2] bcast_S2x1024x1_S2x1024x8192_0_1_2 (broadcastInDim S2x1024x1 ![0, 1] bcast_S2x1024_S2x1024x1_0_1 (Host.reduceAdd (mulf q q) (constant S_ .f32 0x00000000#32) reducesTo_S2x1024x3_S2x1024_d2 h_S_))) (broadcastInDim S2x1024x8192 ![0, 1, 2] bcast_S2x1x8192_S2x1024x8192_0_1_2 (broadcastInDim S2x1x8192 ![0, 2] bcast_S2x8192_S2x1x8192_0_2 (Host.reduceAdd (mulf p p) (constant S_ .f32 0x00000000#32) reducesTo_S2x8192x3_S2x8192_d2 h_S_)))) (mulf (broadcastInDim S2x1024x8192 ![] bcast_S_S2x1024x8192 (constant S_ .f32 0x40000000#32)) (Host.dotGeneral dot_S2x1024x3_S2x8192x3_S2x1024x8192_2_2_1_1_0_0 none q p))) (broadcastInDim S2x1024x8192 ![] bcast_S_S2x1024x8192 (constant S_ .f32 0x3F23D70A#32))) (broadcastInDim S2x1024x8192 ![0, 1, 2] bcast_S1x1x8192_S2x1024x8192_0_1_2 (broadcastInDim S1x1x8192 ![2] bcast_S8192_S1x1x8192_2 (iotaInDim S8192 32 0))) (broadcastInDim S2x1024x8192 ![] bcast_S_S2x1024x8192 (id (constantI S_ 32 8192#32)))

/-- The first 32 of every row's sorted marks. -/
def smallest (v : IVec S2x1024x8192 32) : IVec S2x1024x32 32 := negi (Host.topK S2x1024x32 2 (IntOp.cmpi .sgt) (negi v) sliceFits_S2x1024x8192_S2x1024x32).1

/-- The rows filled up with their first entries. -/
def padded (s : IVec S2x1024x32 32) : IVec S2x1024x32 32 :=
  select (cmpi .sge s (broadcastInDim S2x1024x32 ![] bcast_S_S2x1024x32 (constantI S_ 32 8192#32))) (broadcastInDim S2x1024x32 ![0, 1, 2] bcast_S2x1024x1_S2x1024x32_0_1_2 (select (cmpi .sge (extractStridedSlice S2x1024x1 ![0, 0, 0] s slices_S2x1024x32_S2x1024x1_0_0_0) (broadcastInDim S2x1024x1 ![] bcast_S_S2x1024x1 (constantI S_ 32 8192#32))) (broadcastInDim S2x1024x1 ![] bcast_S_S2x1024x1 (id (constantI S_ 32 0#32))) (extractStridedSlice S2x1024x1 ![0, 0, 0] s slices_S2x1024x32_S2x1024x1_0_0_0))) s

theorem ite_any {α : Type*} (p : Prop) (d d' : Decidable p) (x y : α) : @ite α p d x y = @ite α p d' x y := by
  rw [Subsingleton.elim d d']

/-- Point `n` is near query `r`. -/
def Close (q : FVec Ideal S2x3x1024 .f32) (p : FVec Ideal S2x3x8192 .f32) (b : Fin 2) (r : Fin 1024) (n : Fin 8192) : Prop :=
  ((∑ x : Fin 3, q (ix3 b x r) * q (ix3 b x r) : EReal) + (∑ x : Fin 3, p (ix3 b x n) * p (ix3 b x n) : EReal)
    - Ideal.ofBits .f32 0x40000000#32 * (∑ x : Fin 3, q (ix3 b x r) * p (ix3 b x n) : EReal) : EReal) ≤ Ideal.ofBits .f32 0x3F23D70A#32

noncomputable instance (q : FVec Ideal S2x3x1024 .f32) (p : FVec Ideal S2x3x8192 .f32) (b : Fin 2) (r : Fin 1024) : DecidablePred (Close q p b r) :=
  fun _ => Classical.dec _

set_option maxRecDepth 65536 in
theorem marks_at (q : FVec Ideal S2x3x1024 .f32) (p : FVec Ideal S2x3x8192 .f32) (Q : FVec Ideal S2x1024x3 .f32) (P : FVec Ideal S2x8192x3 .f32)
    (hq : ∀ b r a, Q (ix3 b r a) = q (ix3 b a r)) (hp : ∀ b n a, P (ix3 b n a) = p (ix3 b a n)) (b : Fin 2) (r : Fin 1024) (n : Fin 8192) :
    marks Q P (ix3 b r n) = mark (Close q p b r) n := by
  unfold marks mark Close
  pointwise
  simp only [hq, hp]
  exact @ite_any _ _ _ _ _ _

theorem neg_toInt (n : Fin 8192) : (-mark near n).toInt = -(mark near n).toInt := by
  rw [BitVec.toInt_neg, mark_toInt]
  split
  · have := n.isLt
    rw [Int.bmod_def]; omega
  · decide

theorem sgt_neg (a b : Fin 8192) : (IntOp.cmpi .sgt (-mark near a) (-mark near b) == 1#1) = decide ((mark near a).toInt < (mark near b).toInt) := by
  show (BitVec.ofBool (BitVec.slt (-mark near b) (-mark near a)) == 1#1) = _
  rw [BitVec.slt_eq_decide, neg_toInt, neg_toInt]
  by_cases h : (mark near a).toInt < (mark near b).toInt
  · rw [decide_eq_true h, decide_eq_true (by omega)]; rfl
  · rw [decide_eq_false h, decide_eq_false (by omega)]; rfl

set_option maxRecDepth 65536 in
theorem smallest_at (v : IVec S2x1024x8192 32) (b : Fin 2) (r : Fin 1024) (hv : ∀ n, v (ix3 b r n) = mark near n) (k : Fin 32) :
    smallest v (ix3 b r k) = ranked near ⟨k.val, by omega⟩ := by
  have hn : ∀ n, negi v (ix3 b r n) = -mark near n := fun n => congrArg (fun z : BitVec 32 => -z) (hv n)
  unfold smallest
  pointwise
  rw [topk_row 2 1024 8192 32 (by omega) _ _ _ b r k]
  simp only [hn, sgt_neg]
  exact BitVec.neg_neg

theorem sge_select (w v x y : BitVec 32) : Scalar.select (IntOp.cmpi .sge w v) x y = if v.toInt ≤ w.toInt then x else y := by
  show (if BitVec.ofBool (BitVec.sle v w) = 1#1 then x else y) = _
  rw [BitVec.sle_eq_decide]
  by_cases h : v.toInt ≤ w.toInt
  · rw [decide_eq_true h, if_pos h]; rfl
  · rw [decide_eq_false h, if_neg h]; rfl

set_option maxRecDepth 65536 in
theorem padded_at (s : IVec S2x1024x32 32) (b : Fin 2) (r : Fin 1024) (hs : ∀ k : Fin 32, s (ix3 b r k) = ranked near ⟨k.val, by omega⟩) (k : Fin 32) :
    padded s (ix3 b r k) = filled near ⟨k.val, by omega⟩ := by
  unfold padded
  pointwise
  rw [sge_select, sge_select, hs, hs]
  rfl

/-- The neighbours the reference finds, each a point of the query's own cloud. -/
theorem nidx_at (q : FVec Ideal S2x3x1024 .f32) (p : FVec Ideal S2x3x8192 .f32) (Q : FVec Ideal S2x1024x3 .f32) (P : FVec Ideal S2x8192x3 .f32)
    (hq : ∀ b r a, Q (ix3 b r a) = q (ix3 b a r)) (hp : ∀ b n a, P (ix3 b n a) = p (ix3 b a n)) (b : Fin 2) (r : Fin 1024) (k : Fin 32) :
    padded (smallest (marks Q P)) (ix3 b r k) = filled (Close q p b r) ⟨k.val, by omega⟩ :=
  padded_at _ _ b r (fun k => smallest_at _ _ b r (fun n => marks_at q p Q P hq hp b r n) k) k

/-- A neighbour is one of the cloud's points. -/
theorem filled_lt (k : Fin 8192) : (filled near k).toNat < 8192 := by
  have h (j : Fin 8192) : 0 ≤ (ranked near j).toInt ∧ (ranked near j).toInt ≤ 8192 := by
    unfold ranked
    rw [mark_toInt]
    split <;> omega
  have hw (w : BitVec 32) (h0 : 0 ≤ w.toInt) (h1 : w.toInt < 8192) : w.toNat < 8192 := by
    rw [BitVec.toInt_eq_toNat_cond] at h0 h1
    split at h0 <;> simp_all <;> omega
  have e : (8192#32 : BitVec 32).toInt = 8192 := by decide
  unfold filled
  rw [e]
  split
  · split
    · decide
    · exact hw _ (h 0).1 (by omega)
  · exact hw _ (h k).1 (by omega)

end

end Cert.Proof.Near

end
-- ==== Proof.Nearest.lean ====
/-
  The neighbours of the queries: the kernel strikes out the least index 32 times, the reference sorts; both find
  the value at each rank, fill with the first one and add the batch's offset.
-/
module

public import proofs.«01_k».proof.Defs
public import proofs.«01_k».proof.Proof.Order
public import proofs.«01_k».proof.Proof.Sorted
public import proofs.«01_k».proof.Proof.CallNear
public import Idealize.ShloMosaic.Lib.Pipeline.ValueKit
public import Idealize.ShloMosaic.Lib.Pointwise
public import Idealize.ShloMosaic.Lib.StableHlo.Run

@[expose] public section

noncomputable section

namespace Cert.Proof.Near

open Idealize.ShloMosaic Idealize.ShloMosaic.TcCoe Idealize.ShloMosaic.StableHlo
open Cert.Proof.Tail Cert.KernelIdeal Cert.KernelIdeal.Gen

section
variable {F : FTy → Type} [FloatOps F]

/-- The least entry of every row, as a column. -/
def lowV (X : FVec F S128x8192 .f32) : FVec F S128x1 .f32 :=
  shapeCast S128x1 (multiReduction .minimumf [1] S128 X 0x7F800000#32 reduces_S128x8192_S128 (.inl rfl) rfl : FVec F S128 .f32) shapeCasts_S128_S128x1

/-- Every row with its least entry struck out. -/
def strikeV (X : FVec F S128x8192 .f32) : FVec F S128x8192 .f32 :=
  select (cmpf .oeq X (broadcastTo S128x8192 (lowV X) broadcasts_S128x1_S128x8192)) (broadcast S128x8192 (Scalar.ofBits .f32 0x46000000#32 : F .f32)) X

/-- The first column, zero where no point is near. -/
def firstV (X : FVec F S128x1 .f32) : FVec F S128x1 .f32 :=
  select (cmpf .oge X (broadcast S128x1 (Scalar.ofBits .f32 0x46000000#32 : F .f32))) (broadcast S128x1 (Scalar.ofBits .f32 0x00000000#32 : F .f32)) X

/-- A column filled up with the first one. -/
def fillV (X Y : FVec F S128x1 .f32) : FVec F S128x1 .f32 :=
  select (cmpf .oge X (broadcast S128x1 (Scalar.ofBits .f32 0x46000000#32 : F .f32))) Y X

/-- Column `k` of the kernel's block of indices. -/
def column (X : FVec F S128x8192 .f32) (k : Fin 32) : FVec F S128x1 .f32 :=
  Nat.rec (firstV (lowV X)) (fun j _ => fillV (lowV (strikeV^[j + 1] X)) (firstV (lowV X))) k.val

end

theorem lowV_at (X : FVec Ideal S128x8192 .f32) (r : Fin 128) : lowV X (ix2 r (0 : Fin 1)) = low fun n => X (ix2 r n) := by
  unfold lowV
  pointwise
  unfold low
  rw [show Ideal.ofBits FTy.f32 2139095040#32 = (⊤ : EReal) from by simp [Ideal.ofBits, Ideal.ieee]]
  rfl

theorem strikeV_at (X : FVec Ideal S128x8192 .f32) (r : Fin 128) :
    (fun n => strikeV X (ix2 r n)) = strike none8192 fun n => X (ix2 r n) := by
  funext n
  have h := lowV_at X r
  unfold strikeV strike
  pointwise
  rw [h]

theorem strikes_at (X : FVec Ideal S128x8192 .f32) (r : Fin 128) :
    ∀ k, (fun n => strikeV^[k] X (ix2 r n)) = (strike none8192)^[k] fun n => X (ix2 r n)
  | 0 => rfl
  | k + 1 => by rw [Function.iterate_succ_apply', Function.iterate_succ_apply', strikeV_at, strikes_at X r k]

theorem firstV_at (X : FVec Ideal S128x1 .f32) (r : Fin 128) :
    firstV X (ix2 r (0 : Fin 1)) = if none8192 ≤ X (ix2 r (0 : Fin 1)) then 0 else X (ix2 r (0 : Fin 1)) := by
  unfold firstV
  pointwise

theorem fillV_at (X Y : FVec Ideal S128x1 .f32) (r : Fin 128) :
    fillV X Y (ix2 r (0 : Fin 1)) = if none8192 ≤ X (ix2 r (0 : Fin 1)) then Y (ix2 r (0 : Fin 1)) else X (ix2 r (0 : Fin 1)) := by
  unfold fillV
  pointwise

/-- The value at rank `k`, as the kernel finds it. -/
def rank (f : Fin 8192 → EReal) (k : Nat) : EReal := low ((strike none8192)^[k] f)

theorem column_at (X : FVec Ideal S128x8192 .f32) (r : Fin 128) (k : Fin 32) :
    column X k (ix2 r (0 : Fin 1)) =
      if none8192 ≤ rank (fun n => X (ix2 r n)) k.val
      then (if none8192 ≤ rank (fun n => X (ix2 r n)) 0 then 0 else rank (fun n => X (ix2 r n)) 0)
      else rank (fun n => X (ix2 r n)) k.val := by
  obtain ⟨k, hk⟩ := k
  have h : ∀ j, lowV (strikeV^[j] X) (ix2 r (0 : Fin 1)) = rank (fun n => X (ix2 r n)) j := fun j => by
    rw [lowV_at, strikes_at]; rfl
  cases k with
  | zero =>
    show firstV (lowV X) (ix2 r (0 : Fin 1)) = _
    rw [firstV_at, show lowV X (ix2 r (0 : Fin 1)) = _ from h 0]
    simp only
    split <;> rfl
  | succ j =>
    show fillV (lowV (strikeV^[j + 1] X)) (firstV (lowV X)) (ix2 r (0 : Fin 1)) = _
    rw [fillV_at, firstV_at, h (j + 1), show lowV X (ix2 r (0 : Fin 1)) = _ from h 0]

section
variable {F : FTy → Type} [FloatOps F]

/-- The 32 columns side by side. -/
def beside (u : Fin 32 → FVec F S128x1 .f32) : FVec F S128x32 .f32 :=
  concatenate S128x32 1 [⟨S128x1, u 0⟩, ⟨S128x1, u 1⟩, ⟨S128x1, u 2⟩, ⟨S128x1, u 3⟩, ⟨S128x1, u 4⟩, ⟨S128x1, u 5⟩, ⟨S128x1, u 6⟩, ⟨S128x1, u 7⟩, ⟨S128x1, u 8⟩, ⟨S128x1, u 9⟩, ⟨S128x1, u 10⟩, ⟨S128x1, u 11⟩, ⟨S128x1, u 12⟩, ⟨S128x1, u 13⟩, ⟨S128x1, u 14⟩, ⟨S128x1, u 15⟩, ⟨S128x1, u 16⟩, ⟨S128x1, u 17⟩, ⟨S128x1, u 18⟩, ⟨S128x1, u 19⟩, ⟨S128x1, u 20⟩, ⟨S128x1, u 21⟩, ⟨S128x1, u 22⟩, ⟨S128x1, u 23⟩, ⟨S128x1, u 24⟩, ⟨S128x1, u 25⟩, ⟨S128x1, u 26⟩, ⟨S128x1, u 27⟩, ⟨S128x1, u 28⟩, ⟨S128x1, u 29⟩, ⟨S128x1, u 30⟩, ⟨S128x1, u 31⟩] concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1

theorem beside_list (u : Fin 32 → FVec F S128x1 .f32) : beside u = concatenate S128x32 1
    (List.ofFn fun n : Fin 32 => (⟨S128x1, u n⟩ : (s : Shape) × (s.Idx → F .f32))) (by
      rw [List.map_ofFn]; exact (by decide +kernel : Shape.Concatenates (List.ofFn fun _ : Fin 32 => S128x1) S128x32 1)) :=
  concatenate_congr _ _ (by simp only [List.ofFn_succ, List.ofFn_zero]; rfl) _ _

theorem beside_at (u : Fin 32 → FVec F S128x1 .f32) (r : Fin 128) (k : Fin 32) :
    beside u (ix2 r k) = u k (ix2 r (0 : Fin 1)) := by
  rw [beside_list]
  exact concatenate_ofFn_unit_apply (t := S128x32) (s₁ := S128x1) 1 u _ rfl rfl (ix2 r k) k rfl (ix2 r (0 : Fin 1)) fun b hb => by
    match b with
    | ⟨0, _⟩ => rfl
    | ⟨1, _⟩ => exact absurd rfl hb

/-- The entries at the row's least one. -/
def maskV (X : FVec F S128x8192 .f32) : IVec S128x8192 1 := cmpf .oeq X (broadcastTo S128x8192 (lowV X) broadcasts_S128x1_S128x8192)

/-- The least entry of every row. -/
def reduceV (X : FVec F S128x8192 .f32) : FVec F S128 .f32 :=
  multiReduction .minimumf [1] S128 X 0x7F800000#32 reduces_S128x8192_S128 (.inl rfl) rfl

theorem step3 (v0 : Vec F S1x3x8192 .f32) (v2 : Vec F S1x3x128 .f32) : k2_pay3 (F := F) v0 v2 = lowV (k2_pay2 (F := F) v0 v2) := rfl
theorem step4 (v0 : Vec F S1x3x8192 .f32) (v2 : Vec F S1x3x128 .f32) : k2_pay4 (F := F) v0 v2 = strikeV (k2_pay2 (F := F) v0 v2) := rfl
theorem step5 (v0 : Vec F S1x3x8192 .f32) (v2 : Vec F S1x3x128 .f32) : k2_pay5 (F := F) v0 v2 = lowV (k2_pay4 (F := F) v0 v2) := rfl
theorem step6 (v0 : Vec F S1x3x8192 .f32) (v2 : Vec F S1x3x128 .f32) : k2_pay6 (F := F) v0 v2 = strikeV (k2_pay4 (F := F) v0 v2) := rfl
theorem step7 (v0 : Vec F S1x3x8192 .f32) (v2 : Vec F S1x3x128 .f32) : k2_pay7 (F := F) v0 v2 = lowV (k2_pay6 (F := F) v0 v2) := rfl
theorem step8 (v0 : Vec F S1x3x8192 .f32) (v2 : Vec F S1x3x128 .f32) : k2_pay8 (F := F) v0 v2 = maskV (k2_pay6 (F := F) v0 v2) := rfl
theorem step9 (X : FVec F S128x8192 .f32) : k2_pay9 (F := F) X (maskV X) (Scalar.ofBits .f32 0x46000000#32 : F .f32) = strikeV X := rfl
theorem step10 (v35 : FVec F S128x8192 .f32) (v39 : IVec S128x8192 1) (cst_15 : F .f32) : k2_pay10 (F := F) v35 v39 cst_15 = lowV (k2_pay9 (F := F) v35 v39 cst_15) := rfl
theorem step11 (v35 : FVec F S128x8192 .f32) (v39 : IVec S128x8192 1) (cst_15 : F .f32) : k2_pay11 (F := F) v35 v39 cst_15 = strikeV (k2_pay9 (F := F) v35 v39 cst_15) := rfl
theorem step12 (v35 : FVec F S128x8192 .f32) (v39 : IVec S128x8192 1) (cst_15 : F .f32) : k2_pay12 (F := F) v35 v39 cst_15 = lowV (k2_pay11 (F := F) v35 v39 cst_15) := rfl
theorem step13 (v35 : FVec F S128x8192 .f32) (v39 : IVec S128x8192 1) (cst_15 : F .f32) : k2_pay13 (F := F) v35 v39 cst_15 = strikeV (k2_pay11 (F := F) v35 v39 cst_15) := rfl
theorem step14 (v35 : FVec F S128x8192 .f32) (v39 : IVec S128x8192 1) (cst_15 : F .f32) : k2_pay14 (F := F) v35 v39 cst_15 = lowV (k2_pay13 (F := F) v35 v39 cst_15) := rfl
theorem step15 (v35 : FVec F S128x8192 .f32) (v39 : IVec S128x8192 1) (cst_15 : F .f32) : k2_pay15 (F := F) v35 v39 cst_15 = strikeV (k2_pay13 (F := F) v35 v39 cst_15) := rfl
theorem step16 (v35 : FVec F S128x8192 .f32) (v39 : IVec S128x8192 1) (cst_15 : F .f32) : k2_pay16 (F := F) v35 v39 cst_15 = lowV (k2_pay15 (F := F) v35 v39 cst_15) := rfl
theorem step17 (v35 : FVec F S128x8192 .f32) (v39 : IVec S128x8192 1) (cst_15 : F .f32) : k2_pay17 (F := F) v35 v39 cst_15 = strikeV (k2_pay15 (F := F) v35 v39 cst_15) := rfl
theorem step18 (v35 : FVec F S128x8192 .f32) (v39 : IVec S128x8192 1) (cst_15 : F .f32) : k2_pay18 (F := F) v35 v39 cst_15 = lowV (k2_pay17 (F := F) v35 v39 cst_15) := rfl
theorem step19 (v35 : FVec F S128x8192 .f32) (v39 : IVec S128x8192 1) (cst_15 : F .f32) : k2_pay19 (F := F) v35 v39 cst_15 = strikeV (k2_pay17 (F := F) v35 v39 cst_15) := rfl
theorem step20 (v35 : FVec F S128x8192 .f32) (v39 : IVec S128x8192 1) (cst_15 : F .f32) : k2_pay20 (F := F) v35 v39 cst_15 = lowV (k2_pay19 (F := F) v35 v39 cst_15) := rfl
theorem step21 (v35 : FVec F S128x8192 .f32) (v39 : IVec S128x8192 1) (cst_15 : F .f32) : k2_pay21 (F := F) v35 v39 cst_15 = strikeV (k2_pay19 (F := F) v35 v39 cst_15) := rfl
theorem step22 (v35 : FVec F S128x8192 .f32) (v39 : IVec S128x8192 1) (cst_15 : F .f32) : k2_pay22 (F := F) v35 v39 cst_15 = lowV (k2_pay21 (F := F) v35 v39 cst_15) := rfl
theorem step23 (v35 : FVec F S128x8192 .f32) (v39 : IVec S128x8192 1) (cst_15 : F .f32) : k2_pay23 (F := F) v35 v39 cst_15 = strikeV (k2_pay21 (F := F) v35 v39 cst_15) := rfl
theorem step24 (v35 : FVec F S128x8192 .f32) (v39 : IVec S128x8192 1) (cst_15 : F .f32) : k2_pay24 (F := F) v35 v39 cst_15 = reduceV (k2_pay23 (F := F) v35 v39 cst_15) := rfl
theorem step25 (X : FVec F S128x8192 .f32) : k2_pay25 (F := F) (reduceV X) = lowV X := rfl
theorem step26 (X : FVec F S128x8192 .f32) : k2_pay26 (F := F) X (reduceV X) = strikeV X := rfl
theorem step27 (v83 : FVec F S128x8192 .f32) (v84 : FVec F S128 .f32) : k2_pay27 (F := F) v83 v84 = lowV (k2_pay26 (F := F) v83 v84) := rfl
theorem step28 (v83 : FVec F S128x8192 .f32) (v84 : FVec F S128 .f32) : k2_pay28 (F := F) v83 v84 = strikeV (k2_pay26 (F := F) v83 v84) := rfl
theorem step29 (v83 : FVec F S128x8192 .f32) (v84 : FVec F S128 .f32) : k2_pay29 (F := F) v83 v84 = lowV (k2_pay28 (F := F) v83 v84) := rfl
theorem step30 (v83 : FVec F S128x8192 .f32) (v84 : FVec F S128 .f32) : k2_pay30 (F := F) v83 v84 = strikeV (k2_pay28 (F := F) v83 v84) := rfl
theorem step31 (v83 : FVec F S128x8192 .f32) (v84 : FVec F S128 .f32) : k2_pay31 (F := F) v83 v84 = lowV (k2_pay30 (F := F) v83 v84) := rfl
theorem step32 (v83 : FVec F S128x8192 .f32) (v84 : FVec F S128 .f32) : k2_pay32 (F := F) v83 v84 = strikeV (k2_pay30 (F := F) v83 v84) := rfl
theorem step33 (v83 : FVec F S128x8192 .f32) (v84 : FVec F S128 .f32) : k2_pay33 (F := F) v83 v84 = lowV (k2_pay32 (F := F) v83 v84) := rfl
theorem step34 (v83 : FVec F S128x8192 .f32) (v84 : FVec F S128 .f32) : k2_pay34 (F := F) v83 v84 = strikeV (k2_pay32 (F := F) v83 v84) := rfl
theorem step35 (v83 : FVec F S128x8192 .f32) (v84 : FVec F S128 .f32) : k2_pay35 (F := F) v83 v84 = lowV (k2_pay34 (F := F) v83 v84) := rfl
theorem step36 (v83 : FVec F S128x8192 .f32) (v84 : FVec F S128 .f32) : k2_pay36 (F := F) v83 v84 = strikeV (k2_pay34 (F := F) v83 v84) := rfl
theorem step37 (v83 : FVec F S128x8192 .f32) (v84 : FVec F S128 .f32) : k2_pay37 (F := F) v83 v84 = lowV (k2_pay36 (F := F) v83 v84) := rfl
theorem step38 (v83 : FVec F S128x8192 .f32) (v84 : FVec F S128 .f32) : k2_pay38 (F := F) v83 v84 = strikeV (k2_pay36 (F := F) v83 v84) := rfl
theorem step39 (v83 : FVec F S128x8192 .f32) (v84 : FVec F S128 .f32) : k2_pay39 (F := F) v83 v84 = lowV (k2_pay38 (F := F) v83 v84) := rfl
theorem step40 (v83 : FVec F S128x8192 .f32) (v84 : FVec F S128 .f32) : k2_pay40 (F := F) v83 v84 = maskV (k2_pay38 (F := F) v83 v84) := rfl
theorem step41 (X : FVec F S128x8192 .f32) : k2_pay41 (F := F) X (maskV X) (Scalar.ofBits .f32 0x46000000#32 : F .f32) = strikeV X := rfl
theorem step42 (v125 : FVec F S128x8192 .f32) (v129 : IVec S128x8192 1) (cst_45 : F .f32) : k2_pay42 (F := F) v125 v129 cst_45 = lowV (k2_pay41 (F := F) v125 v129 cst_45) := rfl
theorem step43 (v125 : FVec F S128x8192 .f32) (v129 : IVec S128x8192 1) (cst_45 : F .f32) : k2_pay43 (F := F) v125 v129 cst_45 = strikeV (k2_pay41 (F := F) v125 v129 cst_45) := rfl
theorem step44 (v125 : FVec F S128x8192 .f32) (v129 : IVec S128x8192 1) (cst_45 : F .f32) : k2_pay44 (F := F) v125 v129 cst_45 = lowV (k2_pay43 (F := F) v125 v129 cst_45) := rfl
theorem step45 (v125 : FVec F S128x8192 .f32) (v129 : IVec S128x8192 1) (cst_45 : F .f32) : k2_pay45 (F := F) v125 v129 cst_45 = strikeV (k2_pay43 (F := F) v125 v129 cst_45) := rfl
theorem step46 (v125 : FVec F S128x8192 .f32) (v129 : IVec S128x8192 1) (cst_45 : F .f32) : k2_pay46 (F := F) v125 v129 cst_45 = lowV (k2_pay45 (F := F) v125 v129 cst_45) := rfl
theorem step47 (v125 : FVec F S128x8192 .f32) (v129 : IVec S128x8192 1) (cst_45 : F .f32) : k2_pay47 (F := F) v125 v129 cst_45 = strikeV (k2_pay45 (F := F) v125 v129 cst_45) := rfl
theorem step48 (v125 : FVec F S128x8192 .f32) (v129 : IVec S128x8192 1) (cst_45 : F .f32) : k2_pay48 (F := F) v125 v129 cst_45 = lowV (k2_pay47 (F := F) v125 v129 cst_45) := rfl
theorem step49 (v125 : FVec F S128x8192 .f32) (v129 : IVec S128x8192 1) (cst_45 : F .f32) : k2_pay49 (F := F) v125 v129 cst_45 = strikeV (k2_pay47 (F := F) v125 v129 cst_45) := rfl
theorem step50 (v125 : FVec F S128x8192 .f32) (v129 : IVec S128x8192 1) (cst_45 : F .f32) : k2_pay50 (F := F) v125 v129 cst_45 = lowV (k2_pay49 (F := F) v125 v129 cst_45) := rfl
theorem step51 (v125 : FVec F S128x8192 .f32) (v129 : IVec S128x8192 1) (cst_45 : F .f32) : k2_pay51 (F := F) v125 v129 cst_45 = strikeV (k2_pay49 (F := F) v125 v129 cst_45) := rfl
theorem step52 (v125 : FVec F S128x8192 .f32) (v129 : IVec S128x8192 1) (cst_45 : F .f32) : k2_pay52 (F := F) v125 v129 cst_45 = lowV (k2_pay51 (F := F) v125 v129 cst_45) := rfl
theorem step53 (v125 : FVec F S128x8192 .f32) (v129 : IVec S128x8192 1) (cst_45 : F .f32) : k2_pay53 (F := F) v125 v129 cst_45 = strikeV (k2_pay51 (F := F) v125 v129 cst_45) := rfl
theorem step54 (v125 : FVec F S128x8192 .f32) (v129 : IVec S128x8192 1) (cst_45 : F .f32) : k2_pay54 (F := F) v125 v129 cst_45 = lowV (k2_pay53 (F := F) v125 v129 cst_45) := rfl
theorem step55 (v125 : FVec F S128x8192 .f32) (v129 : IVec S128x8192 1) (cst_45 : F .f32) : k2_pay55 (F := F) v125 v129 cst_45 = strikeV (k2_pay53 (F := F) v125 v129 cst_45) := rfl
theorem step56 (v125 : FVec F S128x8192 .f32) (v129 : IVec S128x8192 1) (cst_45 : F .f32) : k2_pay56 (F := F) v125 v129 cst_45 = reduceV (k2_pay55 (F := F) v125 v129 cst_45) := rfl
theorem step57 (X : FVec F S128x8192 .f32) : k2_pay57 (F := F) (reduceV X) = lowV X := rfl
theorem step58 (X : FVec F S128x8192 .f32) : k2_pay58 (F := F) X (reduceV X) = strikeV X := rfl
theorem step59 (v173 : FVec F S128x8192 .f32) (v174 : FVec F S128 .f32) : k2_pay59 (F := F) v173 v174 = lowV (k2_pay58 (F := F) v173 v174) := rfl
theorem step60 (v173 : FVec F S128x8192 .f32) (v174 : FVec F S128 .f32) : k2_pay60 (F := F) v173 v174 = strikeV (k2_pay58 (F := F) v173 v174) := rfl
theorem step61 (v173 : FVec F S128x8192 .f32) (v174 : FVec F S128 .f32) : k2_pay61 (F := F) v173 v174 = lowV (k2_pay60 (F := F) v173 v174) := rfl
theorem step62 (v173 : FVec F S128x8192 .f32) (v174 : FVec F S128 .f32) : k2_pay62 (F := F) v173 v174 = strikeV (k2_pay60 (F := F) v173 v174) := rfl
theorem step63 (v173 : FVec F S128x8192 .f32) (v174 : FVec F S128 .f32) : k2_pay63 (F := F) v173 v174 = lowV (k2_pay62 (F := F) v173 v174) := rfl
theorem step64 (v173 : FVec F S128x8192 .f32) (v174 : FVec F S128 .f32) : k2_pay64 (F := F) v173 v174 = strikeV (k2_pay62 (F := F) v173 v174) := rfl
theorem step65 (v173 : FVec F S128x8192 .f32) (v174 : FVec F S128 .f32) : k2_pay65 (F := F) v173 v174 = lowV (k2_pay64 (F := F) v173 v174) := rfl
theorem step66 (v173 : FVec F S128x8192 .f32) (v174 : FVec F S128 .f32) : k2_pay66 (F := F) v173 v174 = strikeV (k2_pay64 (F := F) v173 v174) := rfl
theorem step67 (v173 : FVec F S128x8192 .f32) (v174 : FVec F S128 .f32) : k2_pay67 (F := F) v173 v174 = lowV (k2_pay66 (F := F) v173 v174) := rfl
theorem step68 (v173 : FVec F S128x8192 .f32) (v174 : FVec F S128 .f32) : k2_pay68 (F := F) v173 v174 = lowV (strikeV (k2_pay66 (F := F) v173 v174)) := rfl
theorem step69 (X : FVec F S128x1 .f32) : k2_pay69 (F := F) X = firstV X := rfl
theorem step70 (X Y : FVec F S128x1 .f32) : k2_pay70 (F := F) X Y = fillV Y (firstV X) := rfl
theorem step71 (X Y : FVec F S128x1 .f32) : k2_pay71 (F := F) X Y (Scalar.ofBits .f32 0x46000000#32 : F .f32) = fillV X Y := rfl
theorem step72 (X Y : FVec F S128x1 .f32) : k2_pay72 (F := F) X Y = fillV X Y := rfl
theorem step73 (X Y : FVec F S128x1 .f32) : k2_pay73 (F := F) X Y = fillV X Y := rfl
theorem step74 (X Y : FVec F S128x1 .f32) : k2_pay74 (F := F) X Y = fillV X Y := rfl
theorem step75 (X Y : FVec F S128x1 .f32) : k2_pay75 (F := F) X Y = fillV X Y := rfl
theorem step76 (X Y : FVec F S128x1 .f32) : k2_pay76 (F := F) X Y = fillV X Y := rfl
theorem step77 (X Y : FVec F S128x1 .f32) : k2_pay77 (F := F) X Y = fillV X Y := rfl
theorem step78 (X Y : FVec F S128x1 .f32) : k2_pay78 (F := F) X Y = fillV X Y := rfl
theorem step79 (X Y : FVec F S128x1 .f32) : k2_pay79 (F := F) X Y = fillV X Y := rfl
theorem step80 (X Y : FVec F S128x1 .f32) : k2_pay80 (F := F) X Y = fillV X Y := rfl
theorem step81 (X Y : FVec F S128x1 .f32) : k2_pay81 (F := F) X Y = fillV X Y := rfl
theorem step82 (X Y : FVec F S128x1 .f32) : k2_pay82 (F := F) X Y = fillV X Y := rfl
theorem step83 (X Y : FVec F S128x1 .f32) : k2_pay83 (F := F) X Y = fillV X Y := rfl
theorem step84 (X Y : FVec F S128x1 .f32) : k2_pay84 (F := F) X Y = fillV X Y := rfl
theorem step85 (X Y : FVec F S128x1 .f32) : k2_pay85 (F := F) X Y = fillV X Y := rfl
theorem step86 (v127 v133 v139 v145 v151 v157 v163 v169 v175 v181 v187 v193 v199 v205 v211 v215 v218 v221 v224 v227 v230 v233 v236 v239 v242 v245 v248 v251 v254 v257 v260 v263 : FVec F S128x1 .f32) : k2_pay86 (F := F) v127 v133 v139 v145 v151 v157 v163 v169 v175 v181 v187 v193 v199 v205 v211 v215 v218 v221 v224 v227 v230 v233 v236 v239 v242 v245 v248 v251 v254 v257 v260 v263 (Scalar.ofBits .f32 0x46000000#32 : F .f32)
    = concatenate S128x32 1 [⟨S128x1, v215⟩, ⟨S128x1, v218⟩, ⟨S128x1, v221⟩, ⟨S128x1, v224⟩, ⟨S128x1, v227⟩, ⟨S128x1, v230⟩, ⟨S128x1, v233⟩, ⟨S128x1, v236⟩, ⟨S128x1, v239⟩, ⟨S128x1, v242⟩, ⟨S128x1, v245⟩, ⟨S128x1, v248⟩, ⟨S128x1, v251⟩, ⟨S128x1, v254⟩, ⟨S128x1, v257⟩, ⟨S128x1, v260⟩, ⟨S128x1, v263⟩, ⟨S128x1, fillV v127 v215⟩, ⟨S128x1, fillV v133 v215⟩, ⟨S128x1, fillV v139 v215⟩, ⟨S128x1, fillV v145 v215⟩, ⟨S128x1, fillV v151 v215⟩, ⟨S128x1, fillV v157 v215⟩, ⟨S128x1, fillV v163 v215⟩, ⟨S128x1, fillV v169 v215⟩, ⟨S128x1, fillV v175 v215⟩, ⟨S128x1, fillV v181 v215⟩, ⟨S128x1, fillV v187 v215⟩, ⟨S128x1, fillV v193 v215⟩, ⟨S128x1, fillV v199 v215⟩, ⟨S128x1, fillV v205 v215⟩, ⟨S128x1, fillV v211 v215⟩] concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x32_d1 := rfl

attribute [local irreducible] lowV strikeV firstV fillV maskV reduceV

theorem col0 (X : FVec F S128x8192 .f32) : column X 0 = firstV (lowV X) := rfl
theorem col1 (X : FVec F S128x8192 .f32) : column X 1 = fillV (lowV (strikeV X)) (firstV (lowV X)) := rfl
theorem col2 (X : FVec F S128x8192 .f32) : column X 2 = fillV (lowV (strikeV (strikeV X))) (firstV (lowV X)) := rfl
theorem col3 (X : FVec F S128x8192 .f32) : column X 3 = fillV (lowV (strikeV (strikeV (strikeV X)))) (firstV (lowV X)) := rfl
theorem col4 (X : FVec F S128x8192 .f32) : column X 4 = fillV (lowV (strikeV (strikeV (strikeV (strikeV X))))) (firstV (lowV X)) := rfl
theorem col5 (X : FVec F S128x8192 .f32) : column X 5 = fillV (lowV (strikeV (strikeV (strikeV (strikeV (strikeV X)))))) (firstV (lowV X)) := rfl
theorem col6 (X : FVec F S128x8192 .f32) : column X 6 = fillV (lowV (strikeV (strikeV (strikeV (strikeV (strikeV (strikeV X))))))) (firstV (lowV X)) := rfl
theorem col7 (X : FVec F S128x8192 .f32) : column X 7 = fillV (lowV (strikeV (strikeV (strikeV (strikeV (strikeV (strikeV (strikeV X)))))))) (firstV (lowV X)) := rfl
theorem col8 (X : FVec F S128x8192 .f32) : column X 8 = fillV (lowV (strikeV (strikeV (strikeV (strikeV (strikeV (strikeV (strikeV (strikeV X))))))))) (firstV (lowV X)) := rfl
theorem col9 (X : FVec F S128x8192 .f32) : column X 9 = fillV (lowV (strikeV (strikeV (strikeV (strikeV (strikeV (strikeV (strikeV (strikeV (strikeV X)))))))))) (firstV (lowV X)) := rfl
theorem col10 (X : FVec F S128x8192 .f32) : column X 10 = fillV (lowV (strikeV (strikeV (strikeV (strikeV (strikeV (strikeV (strikeV (strikeV (strikeV (strikeV X))))))))))) (firstV (lowV X)) := rfl
theorem col11 (X : FVec F S128x8192 .f32) : column X 11 = fillV (lowV (strikeV (strikeV (strikeV (strikeV (strikeV (strikeV (strikeV (strikeV (strikeV (strikeV (strikeV X)))))))))))) (firstV (lowV X)) := rfl
theorem col12 (X : FVec F S128x8192 .f32) : column X 12 = fillV (lowV (strikeV (strikeV (strikeV (strikeV (strikeV (strikeV (strikeV (strikeV (strikeV (strikeV (strikeV (strikeV X))))))))))))) (firstV (lowV X)) := rfl
theorem col13 (X : FVec F S128x8192 .f32) : column X 13 = fillV (lowV (strikeV (strikeV (strikeV (strikeV (strikeV (strikeV (strikeV (strikeV (strikeV (strikeV (strikeV (strikeV (strikeV X)))))))))))))) (firstV (lowV X)) := rfl
theorem col14 (X : FVec F S128x8192 .f32) : column X 14 = fillV (lowV (strikeV (strikeV (strikeV (strikeV (strikeV (strikeV (strikeV (strikeV (strikeV (strikeV (strikeV (strikeV (strikeV (strikeV X))))))))))))))) (firstV (lowV X)) := rfl
theorem col15 (X : FVec F S128x8192 .f32) : column X 15 = fillV (lowV (strikeV (strikeV (strikeV (strikeV (strikeV (strikeV (strikeV (strikeV (strikeV (strikeV (strikeV (strikeV (strikeV (strikeV (strikeV X)))))))))))))))) (firstV (lowV X)) := rfl
theorem col16 (X : FVec F S128x8192 .f32) : column X 16 = fillV (lowV (strikeV (strikeV (strikeV (strikeV (strikeV (strikeV (strikeV (strikeV (strikeV (strikeV (strikeV (strikeV (strikeV (strikeV (strikeV (strikeV X))))))))))))))))) (firstV (lowV X)) := rfl
theorem col17 (X : FVec F S128x8192 .f32) : column X 17 = fillV (lowV (strikeV (strikeV (strikeV (strikeV (strikeV (strikeV (strikeV (strikeV (strikeV (strikeV (strikeV (strikeV (strikeV (strikeV (strikeV (strikeV (strikeV X)))))))))))))))))) (firstV (lowV X)) := rfl
theorem col18 (X : FVec F S128x8192 .f32) : column X 18 = fillV (lowV (strikeV (strikeV (strikeV (strikeV (strikeV (strikeV (strikeV (strikeV (strikeV (strikeV (strikeV (strikeV (strikeV (strikeV (strikeV (strikeV (strikeV (strikeV X))))))))))))))))))) (firstV (lowV X)) := rfl
theorem col19 (X : FVec F S128x8192 .f32) : column X 19 = fillV (lowV (strikeV (strikeV (strikeV (strikeV (strikeV (strikeV (strikeV (strikeV (strikeV (strikeV (strikeV (strikeV (strikeV (strikeV (strikeV (strikeV (strikeV (strikeV (strikeV X)))))))))))))))))))) (firstV (lowV X)) := rfl
theorem col20 (X : FVec F S128x8192 .f32) : column X 20 = fillV (lowV (strikeV (strikeV (strikeV (strikeV (strikeV (strikeV (strikeV (strikeV (strikeV (strikeV (strikeV (strikeV (strikeV (strikeV (strikeV (strikeV (strikeV (strikeV (strikeV (strikeV X))))))))))))))))))))) (firstV (lowV X)) := rfl
theorem col21 (X : FVec F S128x8192 .f32) : column X 21 = fillV (lowV (strikeV (strikeV (strikeV (strikeV (strikeV (strikeV (strikeV (strikeV (strikeV (strikeV (strikeV (strikeV (strikeV (strikeV (strikeV (strikeV (strikeV (strikeV (strikeV (strikeV (strikeV X)))))))))))))))))))))) (firstV (lowV X)) := rfl
theorem col22 (X : FVec F S128x8192 .f32) : column X 22 = fillV (lowV (strikeV (strikeV (strikeV (strikeV (strikeV (strikeV (strikeV (strikeV (strikeV (strikeV (strikeV (strikeV (strikeV (strikeV (strikeV (strikeV (strikeV (strikeV (strikeV (strikeV (strikeV (strikeV X))))))))))))))))))))))) (firstV (lowV X)) := rfl
theorem col23 (X : FVec F S128x8192 .f32) : column X 23 = fillV (lowV (strikeV (strikeV (strikeV (strikeV (strikeV (strikeV (strikeV (strikeV (strikeV (strikeV (strikeV (strikeV (strikeV (strikeV (strikeV (strikeV (strikeV (strikeV (strikeV (strikeV (strikeV (strikeV (strikeV X)))))))))))))))))))))))) (firstV (lowV X)) := rfl
theorem col24 (X : FVec F S128x8192 .f32) : column X 24 = fillV (lowV (strikeV (strikeV (strikeV (strikeV (strikeV (strikeV (strikeV (strikeV (strikeV (strikeV (strikeV (strikeV (strikeV (strikeV (strikeV (strikeV (strikeV (strikeV (strikeV (strikeV (strikeV (strikeV (strikeV (strikeV X))))))))))))))))))))))))) (firstV (lowV X)) := rfl
theorem col25 (X : FVec F S128x8192 .f32) : column X 25 = fillV (lowV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV X)))))))))))))))))))))))))) (firstV (lowV X)) := rfl
theorem col26 (X : FVec F S128x8192 .f32) : column X 26 = fillV (lowV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV X))))))))))))))))))))))))))) (firstV (lowV X)) := rfl
theorem col27 (X : FVec F S128x8192 .f32) : column X 27 = fillV (lowV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV X)))))))))))))))))))))))))))) (firstV (lowV X)) := rfl
theorem col28 (X : FVec F S128x8192 .f32) : column X 28 = fillV (lowV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV X))))))))))))))))))))))))))))) (firstV (lowV X)) := rfl
theorem col29 (X : FVec F S128x8192 .f32) : column X 29 = fillV (lowV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV X)))))))))))))))))))))))))))))) (firstV (lowV X)) := rfl
theorem col30 (X : FVec F S128x8192 .f32) : column X 30 = fillV (lowV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV X))))))))))))))))))))))))))))))) (firstV (lowV X)) := rfl
theorem col31 (X : FVec F S128x8192 .f32) : column X 31 = fillV (lowV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV (strikeV X)))))))))))))))))))))))))))))))) (firstV (lowV X)) := rfl

set_option maxRecDepth 65536 in
set_option maxHeartbeats 400000 in
theorem out_eq (i : grid2.Coords) (x0 : FVec F S1x3x128 .f32) (x1 : FVec F S1x3x8192 .f32) :
    out2_2 (F := F) i x0 x1 = View.canon [⟨r2_2, k2_pay1 (BitVec.ofNat 32 (i 0).val)
      (beside (column (k2_pay2 (View.ld x1 r2_0) (View.ld x0 r2_1))))⟩] := by
  unfold out2_2 k2_pay96 k2_pay95 k2_pay94 k2_pay93 k2_pay92 k2_pay91 k2_pay90 k2_pay89 k2_pay88 k2_pay87
  simp only [step3, step4, step5, step6, step7, step8, step9, step10, step11, step12, step13, step14, step15, step16, step17, step18, step19, step20, step21, step22, step23, step24, step25, step26, step27, step28, step29, step30, step31, step32, step33, step34, step35, step36, step37, step38, step39, step40, step41, step42, step43, step44, step45, step46, step47, step48, step49, step50, step51, step52, step53, step54, step55, step56, step57, step58, step59, step60, step61, step62, step63, step64, step65, step66, step67, step68, step69, step70, step71, step72, step73, step74, step75, step76, step77, step78, step79, step80, step81, step82, step83, step84, step85, step86]
  refine congrArg (fun z => View.canon [(⟨r2_2, k2_pay1 (F := F) (BitVec.ofNat 32 (i 0).val) z⟩ : View.Piece (Elt F) S1x128x32 .i32)]) ?_
  unfold beside
  refine concatenate_congr _ _ ?_ _ _
  simp only [col0, col1, col2, col3, col4, col5, col6, col7, col8, col9, col10, col11, col12, col13, col14, col15, col16, col17, col18, col19, col20, col21, col22, col23, col24, col25, col26, col27, col28, col29, col30, col31]

end

/-- A query's distances to the points in a block. -/
def Near (x0 : FVec Ideal S1x3x128 .f32) (x1 : FVec Ideal S1x3x8192 .f32) (r : Fin 128) (n : Fin 8192) : Prop :=
  ((∑ x : Fin 3, x0 (ix3 (0 : Fin 1) x r) * x0 (ix3 (0 : Fin 1) x r) : EReal) + (∑ x : Fin 3, x1 (ix3 (0 : Fin 1) x n) * x1 (ix3 (0 : Fin 1) x n) : EReal)
    - Ideal.ofBits .f32 0x40000000#32 * (∑ x : Fin 3, x0 (ix3 (0 : Fin 1) x r) * x1 (ix3 (0 : Fin 1) x n) : EReal) : EReal) ≤ Ideal.ofBits .f32 0x3F23D70A#32

noncomputable instance (x0 : FVec Ideal S1x3x128 .f32) (x1 : FVec Ideal S1x3x8192 .f32) (r : Fin 128) : DecidablePred (Near x0 x1 r) :=
  fun _ => Classical.dec _

set_option maxRecDepth 65536 in
theorem pay2_at (x0 : FVec Ideal S1x3x128 .f32) (x1 : FVec Ideal S1x3x8192 .f32) (r : Fin 128) (n : Fin 8192) :
    k2_pay2 (F := Ideal) x1 x0 (ix2 r n) = real (mark (Near x0 x1 r) n) := by
  have h : real (mark (Near x0 x1 r) n) = if Near x0 x1 r n then real (BitVec.ofNat 32 n.val) else none8192 := by
    unfold mark
    split
    · rfl
    · rw [none_eq]
  rw [h]
  unfold k2_pay2
  pointwise
  exact @ite_any _ _ _ _ _ _

set_option maxRecDepth 65536 in
theorem pay1_at (a : BitVec 32) (v : FVec Ideal S128x32 .f32) (r : Fin 128) (k : Fin 32) :
    k2_pay1 (F := Ideal) a v (ix3 (0 : Fin 1) r k) = Ideal.fptosi 32 (v (ix2 r k)) + a * 8192#32 := by
  unfold k2_pay1
  pointwise
  rfl

/-- The block the kernel stores, at a row and a place. -/
theorem block_at (a : BitVec 32) (x0 : FVec Ideal S1x3x128 .f32) (x1 : FVec Ideal S1x3x8192 .f32) (r : Fin 128) (k : Fin 32) :
    k2_pay1 (F := Ideal) a (beside (column (k2_pay2 x1 x0))) (ix3 (0 : Fin 1) r k)
      = filled (Near x0 x1 r) ⟨k.val, by omega⟩ + 8192#32 * a := by
  have e : (fun n => k2_pay2 (F := Ideal) x1 x0 (ix2 r n)) = fun n => real (mark (Near x0 x1 r) n) := funext fun n => pay2_at x0 x1 r n
  have hk : ∀ j : Fin 8192, rank (fun n => k2_pay2 (F := Ideal) x1 x0 (ix2 r n)) j.val = real (ranked (Near x0 x1 r) j) := fun j => by
    rw [e]; exact rank_eq _ j
  rw [pay1_at, beside_at, column_at, hk ⟨k.val, by omega⟩, show rank _ 0 = _ from hk 0, filled_real, BitVec.mul_comm a]

section
variable (V : Dev nD → (b : Ref sig .tc) → b.ty.Contents (Elt Ideal))

theorem fetch1 (c : Dev nD) (t : Fin cfg2.N) (b : Fin 2) (hb : win2_1.index t 0 = b.val) (a : Fin 3) (n : Fin 8192) :
    iblk2 V c 1 t (ix3 (0 : Fin 1) a n) = (V c main_arg0 : FVec Ideal S2x3x8192 .f32) (ix3 b a n) := by
  show (V c main_arg0 : FVec Ideal S2x3x8192 .f32) (((View.whole main_arg0).slice (win2_1.rect t)).emb (ix3 (0 : Fin 1) a n)) = _
  refine congrArg (V c main_arg0 : FVec Ideal S2x3x8192 .f32) (funext fun d => Fin.ext ?_)
  blk_simp
  have hi := (by decide +kernel : ∀ t : Fin grid2.N, win2_1.index t 1 = 0 ∧ win2_1.index t 2 = 0) t
  match d with
  | ⟨0, _⟩ => exact (congrArg (· * 1 + 0) hb).trans (Nat.mul_one _)
  | ⟨1, _⟩ => exact (congrArg (· * 3 + a.val) hi.1).trans (Nat.zero_add _)
  | ⟨2, _⟩ => exact (congrArg (· * 8192 + n.val) hi.2).trans (Nat.zero_add _)

theorem fetch0 (c : Dev nD) (t : Fin cfg2.N) (b : Fin 2) (j : Fin 8) (hb : win2_0.index t 0 = b.val) (hj : win2_0.index t 2 = j.val) (a : Fin 3) (r : Fin 128) :
    iblk2 V c 0 t (ix3 (0 : Fin 1) a r) = (V c main_v0 : FVec Ideal S2x3x1024 .f32) (ix3 b a (⟨j.val * 128 + r.val, by omega⟩ : Fin 1024)) := by
  show (V c main_v0 : FVec Ideal S2x3x1024 .f32) (((View.whole main_v0).slice (win2_0.rect t)).emb (ix3 (0 : Fin 1) a r)) = _
  refine congrArg (V c main_v0 : FVec Ideal S2x3x1024 .f32) (funext fun d => Fin.ext ?_)
  blk_simp
  have hi := (by decide +kernel : ∀ t : Fin grid2.N, win2_0.index t 1 = 0) t
  match d with
  | ⟨0, _⟩ => exact (congrArg (· * 1 + 0) hb).trans (Nat.mul_one _)
  | ⟨1, _⟩ => exact (congrArg (· * 3 + a.val) hi).trans (Nat.zero_add _)
  | ⟨2, _⟩ => exact congrArg (· * 128 + r.val) hj

/-- One neighbour of a query. -/
def foundAt (q : FVec Ideal S2x3x1024 .f32) (p : FVec Ideal S2x3x8192 .f32) (b : Fin 2) (r : Fin 1024) (k : Fin 32) : BitVec 32 :=
  filled (Close q p b r) ⟨k.val, by omega⟩ + 8192#32 * BitVec.ofNat 32 b.val

/-- The neighbours of every query. -/
def found (q : FVec Ideal S2x3x1024 .f32) (p : FVec Ideal S2x3x8192 .f32) : IVec S2x1024x32 32 := fun i => foundAt q p (i 0) (i 1) (i 2)

theorem filled_congr {near near' : Fin 8192 → Prop} [d : DecidablePred near] [d' : DecidablePred near'] (h : ∀ n, near n ↔ near' n) (k : Fin 8192) :
    filled near k = filled near' k := by
  obtain rfl : near = near' := funext fun n => propext (h n)
  rw [Subsingleton.elim d d']

theorem kernel_at (c : Dev nD) : (dat2 V c).arrAt 2 cfg2.N
    = found (V c main_v0) (V c main_arg0) := by
  refine (dat2 V c).arrAt_eq_of_covers 2 _ (by decide +kernel) fun t hf y => ?_
  blk_simp
  rw [after2_2, out_eq]
  frame_out
  obtain ⟨r, k, rfl⟩ : ∃ (r : Fin 128) (k : Fin 32), y = ix3 (0 : Fin 1) r k := ⟨y 1, y 2, funext fun d => by
    match d with
    | ⟨0, _⟩ => exact Subsingleton.elim (α := Fin 1) _ _
    | ⟨1, _⟩ => rfl
    | ⟨2, _⟩ => rfl⟩
  obtain ⟨b, j, hb, hb0, hj0, hb1, h1, h2, hc⟩ := (by decide +kernel : ∀ t : Fin grid2.N, ∃ (b : Fin 2) (j : Fin 8), win2_2.index t 0 = b.val ∧ win2_0.index t 0 = b.val
    ∧ win2_0.index t 2 = j.val ∧ win2_1.index t 0 = b.val ∧ win2_2.index t 1 = j.val ∧ win2_2.index t 2 = 0 ∧ (grid2.coords t 0).val = b.val) t
  have hE : (((View.whole main_v4).slice (win2_2.rect t)).emb (ix3 (0 : Fin 1) r k) : S2x1024x32.Idx) = ix3 b (⟨j.val * 128 + r.val, by omega⟩ : Fin 1024) k := funext fun x => Fin.ext (by
    blk_simp
    match x with
    | ⟨0, _⟩ => exact (congrArg (· * 1 + 0) hb).trans (Nat.mul_one _)
    | ⟨1, _⟩ => exact congrArg (· * 128 + r.val) h1
    | ⟨2, _⟩ => exact (congrArg (· * 32 + k.val) h2).trans (Nat.zero_add _))
  refine (block_at _ (iblk2 V c 0 t) (iblk2 V c 1 t) r k).trans ?_
  refine Eq.trans ?_ (congrArg (found _ _) hE).symm
  show _ = foundAt (V c main_v0) (V c main_arg0) b (⟨j.val * 128 + r.val, by omega⟩ : Fin 1024) k
  unfold foundAt
  refine congrArg₂ (fun u v : BitVec 32 => u + 8192#32 * v) (filled_congr (fun n => ?_) _) (congrArg (BitVec.ofNat 32) hc)
  unfold Near Close
  simp only [fetch0 V c t b j hb0 hj0, fetch1 V c t b hb1]
end

end Cert.Proof.Near

end
-- ==== Proof.Bound.lean ====
/-
  The neighbours' row numbers are rows of the table, whatever the floats: the kernel only ever picks among the numbers of
  the points and the mark of none, and fills the marks of none up.
-/
module

public import proofs.«01_k».proof.Proof.Nearest
public import proofs.«01_k».proof.Proof.Joined
public import Idealize.ShloMosaic.Lib.NatWordsOrder
public import Idealize.ShloMosaic.Lib.SortNet.Printed

@[expose] public section

noncomputable section

namespace Cert.Proof.Near

open Idealize.ShloMosaic Idealize.ShloMosaic.TcCoe Idealize.ShloMosaic.StableHlo
open Cert.Proof.Tail Cert.KernelIdeal Cert.KernelIdeal.Gen

/-- Every entry is a natural number below `N`, written as a float. -/
def Nats (N : Nat) {s : Shape} (X : FVec Bits s .f32) : Prop := ∀ i, ∃ n, n < N ∧ X i = Bits.f32OfNat n

theorem none_nat : (Scalar.ofBits .f32 0x46000000#32 : Bits .f32) = Bits.f32OfNat 8192 := by
  rw [Bits.f32OfNat_eq 8192 (by omega)]
  decide +kernel

theorem zero_nat : (Scalar.ofBits .f32 0x00000000#32 : Bits .f32) = Bits.f32OfNat 0 := Bits.f32OfNat_zero.symm

theorem nats_select {N : Nat} {s : Shape} (c : IVec s 1) {X Y : FVec Bits s .f32} (hX : Nats N X) (hY : Nats N Y) : Nats N (select c X Y) := fun i => by
  show ∃ n, n < N ∧ (if c i = 1#1 then X i else Y i) = _
  split
  · exact hX i
  · exact hY i

theorem nats_low (X : FVec Bits S128x8192 .f32) (hX : Nats 8193 X) : Nats 8193 (lowV X) := fun i => by
  choose f hf hx using hX
  have hm : ∀ j, ∃ n, n < 8193 ∧ (multiReduction .minimumf [1] S128 X 0x7F800000#32 reduces_S128x8192_S128 (.inl rfl) rfl : FVec Bits S128 .f32) j = Bits.f32OfNat n := fun j => by
    have hne : (Finset.univ.filter fun i => reduces_S128x8192_S128.drop i = j).Nonempty :=
      ⟨ix2 (j 0) (0 : Fin 8192), Finset.mem_filter.mpr ⟨Finset.mem_univ _, funext fun a => by
        match a with
        | ⟨0, _⟩ => rfl⟩⟩
    obtain ⟨h1, h2, _⟩ := Bits.fold_min_spec (Finset.univ.filter fun i => reduces_S128x8192_S128.drop i = j) f (2 ^ 24)
    obtain ⟨i0, hi0⟩ := hne
    refine ⟨_, lt_of_le_of_lt (h2 i0 hi0) (hf i0), ?_⟩
    refine (multiReduction_minimumf_eq_fold X 0x7F800000#32 reduces_S128x8192_S128 (.inl rfl) rfl j).trans ?_
    rw [show X = fun i => Bits.f32OfNat (f i) from funext hx]
    exact Bits.fold_minimumf_positiveInfinity_nat _ ⟨i0, hi0⟩ f fun i _ => by have := hf i; omega
  unfold lowV shapeCast
  exact hm _

theorem nats_strike (X : FVec Bits S128x8192 .f32) (hX : Nats 8193 X) : Nats 8193 (strikeV X) :=
  nats_select _ (fun _ => ⟨8192, by omega, none_nat⟩) hX

theorem nats_strikes (X : FVec Bits S128x8192 .f32) (hX : Nats 8193 X) : ∀ k, Nats 8193 (strikeV^[k] X)
  | 0 => hX
  | k + 1 => by rw [Function.iterate_succ_apply']; exact nats_strike _ (nats_strikes X hX k)

/-- With the marks of none replaced, only the points' numbers are left. -/
theorem nats_fill (X Y : FVec Bits S128x1 .f32) (hX : Nats 8193 X) (hY : Nats 8192 Y) : Nats 8192 (fillV X Y) := fun i => by
  obtain ⟨n, hn, e⟩ := hX i
  show ∃ n, n < 8192 ∧ (if Bits.cmpf32 .oge (X i) (Scalar.ofBits .f32 0x46000000#32 : Bits .f32) = 1#1 then Y i else X i) = _
  rw [none_nat, e, Bits.cmpf32_oge_nat (by omega) (by omega)]
  by_cases h : 8192 ≤ n
  · rw [decide_eq_true h, if_pos (by decide)]; exact hY i
  · rw [decide_eq_false h, if_neg (by decide)]; exact ⟨n, by omega, rfl⟩

theorem nats_column (X : FVec Bits S128x8192 .f32) (hX : Nats 8193 X) (k : Fin 32) : Nats 8192 (column X k) := by
  have h0 : Nats 8192 (firstV (lowV X)) := nats_fill _ _ (nats_low X hX) fun _ => ⟨0, by omega, zero_nat⟩
  obtain ⟨k, hk⟩ := k
  cases k with
  | zero => exact h0
  | succ j => exact nats_fill _ _ (nats_low _ (nats_strikes X hX (j + 1))) h0

theorem nats_marks (x1 : FVec Bits S1x3x8192 .f32) (x0 : FVec Bits S1x3x128 .f32) : Nats 8193 (k2_pay2 x1 x0) := by
  unfold k2_pay2
  refine nats_select _ (fun i => ⟨(i 1).val, by have : (i 1).val < 8192 := (i 1).isLt; omega, ?_⟩) (fun _ => ⟨8192, by omega, none_nat⟩)
  have e : iota .tc S128x8192 32 [1] iota_S128x8192_d1_w32 i = BitVec.ofNat 32 (i 1).val := iota_single_apply .tc S128x8192 32 1 _ i
  exact (congrArg Bits.sitofp32 e).trans (Bits.sitofp32_ofNat (n := (i 1).val) (by have : (i 1).val < 8192 := (i 1).isLt; omega))

/-- A number of the block the kernel stores. -/
theorem block_lt (b : Nat) (hb : b < 2) (v : FVec Bits S128x32 .f32) (hv : Nats 8192 v) (y : S1x128x32.Idx) :
    (k2_pay1 (F := Bits) (BitVec.ofNat 32 b) v y).toNat < 16384 := by
  obtain ⟨j, hj⟩ : ∃ j : S128x32.Idx, k2_pay1 (F := Bits) (BitVec.ofNat 32 b) v y = fptosi (F := Bits) 32 v j + BitVec.ofNat 32 b * 8192#32 := ⟨_, rfl⟩
  obtain ⟨n, hn, e⟩ := hv j
  rw [hj, SortNet.fptosi_apply_nat v j n (by omega) e, BitVec.toNat_add, BitVec.toNat_mul, BitVec.toNat_ofNat, BitVec.toNat_ofNat, BitVec.toNat_ofNat]
  omega

theorem bits_lt (V : (c : Dev nD) → (b : Ref sig .tc) → Buf (Elt Bits) ((c : Thread nD τ).loc b)) (c : Dev nD) (i : S2x1024x32.Idx) :
    (((dat2 V c).arrAt 2 cfg2.N : IVec S2x1024x32 32) i).toNat < 16384 := by
  refine (dat2 V c).arrAt_forall_of_covers 2 (fun _ v => (v : BitVec 32).toNat < 16384) (by decide +kernel) (fun t hf y => ?_) i
  blk_simp
  rw [after2_2, out_eq]
  frame_out
  refine block_lt _ ((by decide +kernel : ∀ t : Fin grid2.N, (grid2.coords t 0).val < 2) t) _ (fun j => ?_) y
  obtain ⟨r, k, rfl⟩ : ∃ (r : Fin 128) (k : Fin 32), j = ix2 r k := ⟨j 0, j 1, funext fun d => by
    match d with
    | ⟨0, _⟩ => rfl
    | ⟨1, _⟩ => rfl⟩
  rw [beside_at]
  exact nats_column _ (nats_marks _ _) k _

theorem found_lt (q : FVec Ideal S2x3x1024 .f32) (p : FVec Ideal S2x3x8192 .f32) (b : Fin 2) (r : Fin 1024) (k : Fin 32) :
    (found q p (ix3 b r k)).toNat < 16384 := by
  have h := filled_lt (Close q p b r) ⟨k.val, by omega⟩
  have hb := b.isLt
  show (filled (Close q p b r) ⟨k.val, by omega⟩ + 8192#32 * BitVec.ofNat 32 b.val).toNat < 16384
  rw [BitVec.toNat_add, BitVec.toNat_mul, BitVec.toNat_ofNat, BitVec.toNat_ofNat]
  omega

end Cert.Proof.Near

end
-- ==== Proof.Normed.lean ====
/- Normalising a column by its mean and variance: the two ways of writing it agree on finite columns. -/
module

public import Idealize.ShloMosaic.Lib.Pointwise
public import Idealize.ShloMosaic.Lib.KernelVsHost.DropoutScale

@[expose] public section

noncomputable section

namespace Cert.Proof.Tail

open Idealize.ShloMosaic

/-- How many rows a mean runs over. -/
abbrev cnt : EReal := Ideal.ofBits .f32 0x47800000#32
/-- What is added to a variance. -/
abbrev eps : EReal := Ideal.ofBits .f32 0x3727C5AC#32

/-- A number that is not infinite. -/
def Fin_ (e : EReal) : Prop := ∃ r : ℝ, e = (r : EReal)

theorem cnt_eq : cnt = ((65536 : ℝ) : EReal) := DropoutScale.ofBits_65536_f32

theorem eps_eq : ∃ e : ℝ, 0 < e ∧ eps = (e : EReal) := by
  refine ⟨_, ?_, by simp only [eps, Ideal.ofBits, Ideal.ieee]; rfl⟩
  simp
  try positivity

theorem fin_coe (r : ℝ) : Fin_ (r : EReal) := ⟨r, rfl⟩
theorem fin_add {a b : EReal} : Fin_ a → Fin_ b → Fin_ (a + b) := fun ⟨x, hx⟩ ⟨y, hy⟩ => ⟨x + y, by rw [hx, hy, EReal.coe_add]⟩
theorem fin_sub {a b : EReal} : Fin_ a → Fin_ b → Fin_ (a - b) := fun ⟨x, hx⟩ ⟨y, hy⟩ => ⟨x - y, by rw [hx, hy, EReal.coe_sub]⟩
theorem fin_mul {a b : EReal} : Fin_ a → Fin_ b → Fin_ (a * b) := fun ⟨x, hx⟩ ⟨y, hy⟩ => ⟨x * y, by rw [hx, hy, EReal.coe_mul]⟩
theorem fin_max {a b : EReal} : Fin_ a → Fin_ b → Fin_ (max a b) := fun ha hb => by
  rcases max_choice a b with h | h <;> rw [h] <;> assumption

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_sum {ι : Type} [Fintype ι] {f : ι → EReal} (h : ∀ i, Fin_ (f i)) : Fin_ (∑ i, f i) := by
  choose g hg using h
  exact ⟨∑ i, g i, by rw [coe_sum]; exact Finset.sum_congr rfl fun i _ => hg i⟩

/-- By a scale and a shift made of the sum and the sum of squares, -/
def kn (h s ss g be : EReal) : EReal :=
  max (h * (g * Ideal.div 1 (Ideal.sqrt (Ideal.div ss cnt - Ideal.div s cnt * Ideal.div s cnt + eps)))
    + (be - Ideal.div s cnt * (g * Ideal.div 1 (Ideal.sqrt (Ideal.div ss cnt - Ideal.div s cnt * Ideal.div s cnt + eps))))) 0

/-- and by the sum and the sum of squared differences. -/
def rn (h s v g be : EReal) : EReal :=
  max (Ideal.div (h - Ideal.div s cnt) (Ideal.sqrt (Ideal.div v cnt + eps)) * g + be) 0

theorem div_real (x y : ℝ) (h : y ≠ 0) : Ideal.div (x : EReal) (y : EReal) = ((x / y : ℝ) : EReal) := by
  rw [Ideal.div_coe h, ← EReal.coe_mul, mul_one_div]

theorem var_eq {ι : Type} [Fintype ι] (hc : (Fintype.card ι : ℝ) = 65536) (h : ι → ℝ) :
    (∑ i, (h i - (∑ j, h j) / 65536) * (h i - (∑ j, h j) / 65536)) / 65536
      = (∑ i, h i * h i) / 65536 - (∑ j, h j) / 65536 * ((∑ j, h j) / 65536) := by
  set μ := (∑ j, h j) / 65536 with hμ
  have e : ∑ i, (h i - μ) * (h i - μ) = (∑ i, h i * h i) - 2 * μ * (∑ i, h i) + 65536 * (μ * μ) := by
    have : ∀ i, (h i - μ) * (h i - μ) = h i * h i - 2 * μ * h i + μ * μ := fun i => by ring
    simp only [this, Finset.sum_add_distrib, Finset.sum_sub_distrib, ← Finset.mul_sum, Finset.sum_const, Finset.card_univ, nsmul_eq_mul, hc]
    ring
  have hs : ∑ i, h i = 65536 * μ := by rw [hμ]; ring
  rw [e, hs]
  ring

/-- On a finite column the two agree; where the shift is finite too, so is the result. -/
theorem norm_eq {ι : Type} [Fintype ι] (hc : (Fintype.card ι : ℝ) = 65536) (h : ι → EReal) (hh : ∀ i, Fin_ (h i)) (g be : EReal) (hg : Fin_ g) (i : ι) :
    kn (h i) (∑ j, h j) (∑ j, h j * h j) g be
        = rn (h i) (∑ j, h j) (∑ j, (h j - Ideal.div (∑ j, h j) cnt) * (h j - Ideal.div (∑ j, h j) cnt)) g be
      ∧ (Fin_ be → Fin_ (kn (h i) (∑ j, h j) (∑ j, h j * h j) g be)) := by
  choose x hx using hh
  obtain rfl : h = fun i => (x i : EReal) := funext hx
  obtain ⟨γ, rfl⟩ := hg
  obtain ⟨e, he, hE⟩ := eps_eq
  have h0 : (65536 : ℝ) ≠ 0 := by norm_num
  set μ := (∑ j, x j) / 65536 with hμ
  set v := (∑ i, x i * x i) / 65536 - μ * μ with hv
  have hvar : (∑ i, (x i - μ) * (x i - μ)) / 65536 = v := var_eq hc x
  have hv0 : 0 ≤ v := by
    rw [← hvar]
    exact div_nonneg (Finset.sum_nonneg fun i _ => mul_self_nonneg _) (by norm_num)
  have hpos : 0 < v + e := by linarith
  have hm : Ideal.div (∑ j, (x j : EReal)) cnt = (μ : EReal) := by
    rw [← coe_sum, cnt_eq, div_real _ _ h0]
  have hss : Ideal.div (∑ j, (x j : EReal) * (x j : EReal)) cnt = (((∑ i, x i * x i) / 65536 : ℝ) : EReal) := by
    rw [cnt_eq, ← div_real _ _ h0, coe_sum]
    simp only [EReal.coe_mul]
  have hsv : Ideal.div (∑ j, ((x j : EReal) - (μ : EReal)) * ((x j : EReal) - (μ : EReal))) cnt = (v : EReal) := by
    have e : ∑ j, ((x j : EReal) - (μ : EReal)) * ((x j : EReal) - (μ : EReal)) = ((∑ j, (x j - μ) * (x j - μ) : ℝ) : EReal) := by
      rw [coe_sum]
      exact Finset.sum_congr rfl fun j _ => by rw [EReal.coe_mul, EReal.coe_sub]
    rw [e, cnt_eq, div_real _ _ h0, hvar]
  have hsq : Ideal.sqrt ((v : EReal) + eps) = ((Real.sqrt (v + e) : ℝ) : EReal) := by
    rw [hE, ← EReal.coe_add, Ideal.sqrt_coe, if_neg (not_lt.mpr hpos.le)]
  have hs0 : Real.sqrt (v + e) ≠ 0 := (Real.sqrt_pos.mpr hpos).ne'
  have hK : kn (x i : EReal) (∑ j, (x j : EReal)) (∑ j, (x j : EReal) * (x j : EReal)) (γ : EReal) be
      = max (((x i * (γ * (1 / Real.sqrt (v + e))) - μ * (γ * (1 / Real.sqrt (v + e))) : ℝ) : EReal) + be) 0 := by
    unfold kn
    rw [hm, hss, ← EReal.coe_mul, ← EReal.coe_sub, ← hv, hsq, ← EReal.coe_one, div_real _ _ hs0, ← EReal.coe_mul, ← EReal.coe_mul, ← EReal.coe_mul,
      EReal.coe_sub, sub_eq_add_neg, sub_eq_add_neg, add_comm be, add_assoc]
  refine ⟨?_, fun hbe => ?_⟩
  · refine hK.trans ?_
    unfold rn
    rw [hm, hsv, hsq, ← EReal.coe_sub, div_real _ _ hs0, ← EReal.coe_mul]
    congr 3
    field_simp
  · rw [hK]
    exact fin_max (fin_add (fin_coe _) hbe) ⟨0, rfl⟩

/-- A sum cut in blocks is the sum over the whole range. -/
theorem sum_blocks {M : Type} [AddCommMonoid M] (p q n : ℕ) (hn : p * q = n) (f : Fin n → M) (hlt : ∀ (t : Fin p) (i : Fin q), q * t.val + i.val < n) :
    ∑ t : Fin p, ∑ i : Fin q, f ⟨q * t.val + i.val, hlt t i⟩ = ∑ r, f r := by
  subst hn
  rw [← Finset.sum_product']
  refine Fintype.sum_equiv finProdFinEquiv _ _ fun x => congrArg f (Fin.ext ?_)
  simp [finProdFinEquiv, add_comm]

/-- The same for blocks of blocks. -/
theorem sum_rows {M : Type} [AddCommMonoid M] (p q s n : ℕ) (hn : p * q * s = n) (f : Fin n → M)
    (hlt : ∀ (b : Fin p) (j : Fin q) (k : Fin s), s * (q * b.val + j.val) + k.val < n) :
    ∑ b : Fin p, ∑ j : Fin q, ∑ k : Fin s, f ⟨s * (q * b.val + j.val) + k.val, hlt b j k⟩ = ∑ r, f r := by
  have h1 : ∀ (b : Fin p) (j : Fin q), q * b.val + j.val < p * q := fun b j => by
    have := Nat.mul_le_mul_left q (Nat.succ_le_of_lt b.isLt)
    rw [Nat.mul_succ, Nat.mul_comm q p] at this
    omega
  have h2 : ∀ (r : Fin (p * q)) (k : Fin s), s * r.val + k.val < n := fun r k => by
    have := Nat.mul_le_mul_left s (Nat.succ_le_of_lt r.isLt)
    rw [Nat.mul_succ, Nat.mul_comm s (p * q), hn] at this
    omega
  rw [← sum_blocks (p * q) s n hn f h2]
  exact sum_blocks p q (p * q) rfl (fun r => ∑ k : Fin s, f ⟨s * r.val + k.val, h2 r k⟩) h1

/-- The host's sum along the first three axes of four. -/
theorem sum012 {n0 n1 n2 n3 : ℕ} (h : (⟨4, ![n0, n1, n2, n3]⟩ : Shape).ReducesTo [0, 1, 2] ⟨1, ![n3]⟩) (v : (⟨4, ![n0, n1, n2, n3]⟩ : Shape).Idx → EReal)
    (init : EReal) (d : Fin n3) : Ideal.hostReduceAdd h v init (ix1 d) = init + ∑ b : Fin n0, ∑ j : Fin n1, ∑ k : Fin n2, v (ix4 b j k d) := by
  refine congrArg (init + ·) ?_
  refine (Finset.sum_filter_eq_sum_of_fiber _ (fun x : Fin n0 × Fin n1 × Fin n2 => ix4 x.1 x.2.1 x.2.2 d)
    (fun _ _ e => Prod.ext (congrFun e 0) (Prod.ext (congrFun e 1) (congrFun e 2))) (fun i => ?_) v).trans ?_
  · constructor
    · intro e
      refine ⟨(i 0, i 1, i 2), funext fun a => Fin.ext ?_⟩
      match a with
      | ⟨0, _⟩ => rfl
      | ⟨1, _⟩ => rfl
      | ⟨2, _⟩ => rfl
      | ⟨3, _⟩ => exact (congrArg Fin.val (congrFun e ⟨0, Nat.zero_lt_one⟩)).symm
    · rintro ⟨x, rfl⟩
      funext b
      apply Fin.ext
      match b with
      | ⟨0, _⟩ => rfl
  · simp only [Fintype.sum_prod_type]

end Cert.Proof.Tail

end
-- ==== Proof.Stacked.lean ====
/- The layers on a matrix of rows: each stage as the calls compute it, and as the mathematics says it. -/
module

public import proofs.«01_k».proof.Proof.Normed

@[expose] public section

noncomputable section

namespace Cert.Proof.Tail

open Idealize.ShloMosaic

/-- A matrix of 65536 rows. -/
abbrev Mat (n : ℕ) := Fin 65536 → Fin n → EReal

/-- A row of an array of that many rows. -/
abbrev Arr2 (p q : ℕ) := (⟨2, ![p, q]⟩ : Shape).Idx → EReal
abbrev Arr1 (p : ℕ) := (⟨1, ![p]⟩ : Shape).Idx → EReal

/-- The row of neighbour `k` of centre `j` of cloud `b`. -/
abbrev at_ (b : Fin 2) (j : Fin 1024) (k : Fin 32) : Fin 65536 := ⟨32 * (1024 * b.val + j.val) + k.val, by omega⟩

/-- A row's own centre times the first weights. -/
def centre (q : (⟨3, ![2, 3, 1024]⟩ : Shape).Idx → EReal) (w : Arr2 131 128) (r : Fin 65536) (d : Fin 128) : EReal :=
  ∑ a : Fin 3, q (ix3 (⟨r.val / 32 / 1024, by omega⟩ : Fin 2) a (⟨r.val / 32 % 1024, by omega⟩ : Fin 1024)) * w (ix2 (⟨a.val, by omega⟩ : Fin 131) d)

/-- The first layer, the bias first; -/
def kfirst (x : Arr2 65536 128) (q : (⟨3, ![2, 3, 1024]⟩ : Shape).Idx → EReal) (w : Arr2 131 128) (b : Arr1 128) : Mat 128 := fun r d =>
  x (ix2 r d) + (b (ix1 d) - centre q w r d)
/-- and the centre first. -/
def rfirst (x : Arr2 65536 128) (q : (⟨3, ![2, 3, 1024]⟩ : Shape).Idx → EReal) (w : Arr2 131 128) (b : Arr1 128) : Mat 128 := fun r d =>
  x (ix2 r d) - centre q w r d + b (ix1 d)

/-- A normalised matrix, of scale and shift; -/
def knorm {n : ℕ} (H : Mat n) (g be : Arr1 n) : Mat n := fun r d => kn (H r d) (∑ i, H i d) (∑ i, H i d * H i d) (g (ix1 d)) (be (ix1 d))
/-- and by the differences from the mean. -/
def rnorm {n : ℕ} (H : Mat n) (g be : Arr1 n) : Mat n := fun r d =>
  rn (H r d) (∑ i, H i d) (∑ i, (H i d - Ideal.div (∑ j, H j d) cnt) * (H i d - Ideal.div (∑ j, H j d) cnt)) (g (ix1 d)) (be (ix1 d))

/-- A matrix times weights, plus a bias. -/
def times {n p : ℕ} (H : Mat n) (w : Arr2 n p) (b : Arr1 p) : Mat p := fun r d => (∑ k : Fin n, H r k * w (ix2 k d) : EReal) + b (ix1 d)

/-- The largest over each group of rows. -/
def best {n : ℕ} (H : Mat n) (b : Fin 2) (d : Fin n) (j : Fin 1024) : EReal :=
  Finset.univ.fold max (Ideal.ofBits .f32 0xFF800000#32) fun k : Fin 32 => H (at_ b j k) d

theorem fin_centre {q : (⟨3, ![2, 3, 1024]⟩ : Shape).Idx → EReal} {w : Arr2 131 128} (hq : ∀ i, Fin_ (q i))
    (hw : ∀ (a : Fin 3) (d : Fin 128), Fin_ (w (ix2 (⟨a.val, by omega⟩ : Fin 131) d))) (r : Fin 65536) (d : Fin 128) : Fin_ (centre q w r d) :=
  fin_sum fun a => fin_mul (hq _) (hw a d)

theorem first_eq {x : Arr2 65536 128} {q : (⟨3, ![2, 3, 1024]⟩ : Shape).Idx → EReal} {w : Arr2 131 128} {b : Arr1 128} (hx : ∀ i, Fin_ (x i)) (hq : ∀ i, Fin_ (q i))
    (hw : ∀ (a : Fin 3) (d : Fin 128), Fin_ (w (ix2 (⟨a.val, by omega⟩ : Fin 131) d))) (hb : ∀ i, Fin_ (b i)) :
    kfirst x q w b = rfirst x q w b ∧ ∀ r d, Fin_ (kfirst x q w b r d) := by
  refine ⟨funext fun r => funext fun d => ?_, fun r d => fin_add (hx _) (fin_sub (hb _) (fin_centre hq hw r d))⟩
  unfold kfirst rfirst
  obtain ⟨u, hu⟩ := hx (ix2 r d)
  obtain ⟨v, hv⟩ := hb (ix1 d)
  obtain ⟨z, hz⟩ := fin_centre hq hw r d
  rw [hu, hv, hz, ← EReal.coe_sub, ← EReal.coe_add, ← EReal.coe_sub, ← EReal.coe_add]
  exact congrArg _ (by ring)

theorem norm_same {n : ℕ} {H : Mat n} {g be : Arr1 n} (hH : ∀ r d, Fin_ (H r d)) (hg : ∀ i, Fin_ (g i)) : knorm H g be = rnorm H g be :=
  funext fun r => funext fun d => (norm_eq (by simp) (fun i => H i d) (fun i => hH i d) (g (ix1 d)) (be (ix1 d)) (hg _) r).1

theorem norm_fin {n : ℕ} {H : Mat n} {g be : Arr1 n} (hH : ∀ r d, Fin_ (H r d)) (hg : ∀ i, Fin_ (g i)) (hb : ∀ i, Fin_ (be i)) (r : Fin 65536) (d : Fin n) :
    Fin_ (knorm H g be r d) :=
  (norm_eq (by simp) (fun i => H i d) (fun i => hH i d) (g (ix1 d)) (be (ix1 d)) (hg _) r).2 (hb _)

theorem times_fin {n p : ℕ} {H : Mat n} {w : Arr2 n p} {b : Arr1 p} (hH : ∀ r d, Fin_ (H r d)) (hw : ∀ i, Fin_ (w i)) (hb : ∀ i, Fin_ (b i)) (r : Fin 65536) (d : Fin p) :
    Fin_ (times H w b r d) := fin_add (fin_sum fun k => fin_mul (hH r k) (hw _)) (hb _)

/-- All the layers by the calls, -/
abbrev klayers (x : Arr2 65536 128) (q : (⟨3, ![2, 3, 1024]⟩ : Shape).Idx → EReal) (w1 : Arr2 131 128) (b1 g1 be1 : Arr1 128) (w2 : Arr2 128 128) (b2 g2 be2 : Arr1 128)
    (w3 : Arr2 128 256) (b3 g3 be3 : Arr1 256) : Mat 256 :=
  knorm (times (knorm (times (knorm (kfirst x q w1 b1) g1 be1) w2 b2) g2 be2) w3 b3) g3 be3
/-- and by the mathematics. -/
abbrev rlayers (x : Arr2 65536 128) (q : (⟨3, ![2, 3, 1024]⟩ : Shape).Idx → EReal) (w1 : Arr2 131 128) (b1 g1 be1 : Arr1 128) (w2 : Arr2 128 128) (b2 g2 be2 : Arr1 128)
    (w3 : Arr2 128 256) (b3 g3 be3 : Arr1 256) : Mat 256 :=
  rnorm (times (rnorm (times (rnorm (rfirst x q w1 b1) g1 be1) w2 b2) g2 be2) w3 b3) g3 be3

theorem layers_eq (x : Arr2 65536 128) (q : (⟨3, ![2, 3, 1024]⟩ : Shape).Idx → EReal) (w1 : Arr2 131 128) (b1 g1 be1 : Arr1 128) (w2 : Arr2 128 128) (b2 g2 be2 : Arr1 128)
    (w3 : Arr2 128 256) (b3 g3 be3 : Arr1 256) (hx : ∀ i, Fin_ (x i)) (hq : ∀ i, Fin_ (q i))
    (hw1 : ∀ (a : Fin 3) (d : Fin 128), Fin_ (w1 (ix2 (⟨a.val, by omega⟩ : Fin 131) d))) (hb1 : ∀ i, Fin_ (b1 i)) (hg1 : ∀ i, Fin_ (g1 i)) (hbe1 : ∀ i, Fin_ (be1 i))
    (hw2 : ∀ i, Fin_ (w2 i)) (hb2 : ∀ i, Fin_ (b2 i)) (hg2 : ∀ i, Fin_ (g2 i)) (hbe2 : ∀ i, Fin_ (be2 i))
    (hw3 : ∀ i, Fin_ (w3 i)) (hb3 : ∀ i, Fin_ (b3 i)) (hg3 : ∀ i, Fin_ (g3 i)) :
    klayers x q w1 b1 g1 be1 w2 b2 g2 be2 w3 b3 g3 be3 = rlayers x q w1 b1 g1 be1 w2 b2 g2 be2 w3 b3 g3 be3 := by
  obtain ⟨e1, f1⟩ := first_eq hx hq hw1 hb1
  have f2 := times_fin (norm_fin f1 hg1 hbe1) hw2 hb2
  have f3 := times_fin (norm_fin f2 hg2 hbe2) hw3 hb3
  unfold klayers rlayers
  rw [norm_same f3 hg3, norm_same f2 hg2, norm_same f1 hg1, e1]

/-- A row's centre, by its cloud and number. -/
theorem centre_at (q : (⟨3, ![2, 3, 1024]⟩ : Shape).Idx → EReal) (w : Arr2 131 128) (b : Fin 2) (j : Fin 1024) (k : Fin 32) (d : Fin 128) :
    centre q w (at_ b j k) d = ∑ a : Fin 3, q (ix3 b a j) * w (ix2 (⟨a.val, by omega⟩ : Fin 131) d) := by
  unfold centre
  refine Finset.sum_congr (M := EReal) rfl fun a _ => congrArg (· * _) ?_
  have h1 : (⟨(at_ b j k).val / 32 / 1024, by omega⟩ : Fin 2) = b := Fin.ext (by simp only; omega)
  have h2 : (⟨(at_ b j k).val / 32 % 1024, by omega⟩ : Fin 1024) = j := Fin.ext (by simp only; omega)
  rw [h1, h2]

end Cert.Proof.Tail

end
-- ==== Proof.MadeFirst.lean ====
/- Call 3: what it makes of the memory it starts from. -/
module

public import proofs.«01_k».proof.Proof.LayerFirst
public import proofs.«01_k».proof.Proof.Normed
public import Idealize.ShloMosaic.Lib.Pipeline.ValueKit

@[expose] public section

set_option maxRecDepth 65536

noncomputable section

namespace Cert.Proof.Tail

open Idealize.ShloMosaic Idealize.ShloMosaic.TcCoe
open Idealize.SL Idealize.SL.Sem
open Cert.KernelIdeal Cert.KernelIdeal.Gen

/-- A gathered row, moved by the bias less the query's own products. -/
def moved2 (x : FVec Ideal S2048x32x128 .f32) (q : FVec Ideal S2048x3 .f32) (w : FVec Ideal S3x128 .f32) (b : FVec Ideal S1x128 .f32)
    (j : Fin 2048) (k : Fin 32) (d : Fin 128) : EReal :=
  (x (ix3 j k d) + (b (ix2 (0 : Fin 1) d) - (∑ a : Fin 3, q (ix2 j a) * w (ix2 a d) : EReal) : EReal) : EReal)

theorem block2 (q : FVec Ideal S256x3 .f32) (b : FVec Ideal S1x128 .f32) (w : FVec Ideal S3x128 .f32) (x : FVec Ideal S256x32x128 .f32)
    (j : Fin 256) (k : Fin 32) (d : Fin 128) : k4_pay1 (F := Ideal) q b w x (ix3 j k d)
      = (x (ix3 j k d) + (b (ix2 (0 : Fin 1) d) - (∑ a : Fin 3, q (ix2 j a) * w (ix2 a d) : EReal) : EReal) : EReal) := by
  unfold k4_pay1
  pointwise

theorem total2 (q : FVec Ideal S256x3 .f32) (b : FVec Ideal S1x128 .f32) (w : FVec Ideal S3x128 .f32) (x : FVec Ideal S256x32x128 .f32)
    (d : Fin 128) : k4_pay2 (F := Ideal) q b w x (ix2 (0 : Fin 1) d)
      = (∑ k : Fin 32, ∑ j : Fin 256, k4_pay1 (F := Ideal) q b w x (ix3 j k d) : EReal) := by
  unfold k4_pay2
  pointwise

theorem square2 (q : FVec Ideal S256x3 .f32) (b : FVec Ideal S1x128 .f32) (w : FVec Ideal S3x128 .f32) (x : FVec Ideal S256x32x128 .f32)
    (d : Fin 128) : k4_pay3 (F := Ideal) q b w x (ix2 (0 : Fin 1) d)
      = (∑ k : Fin 32, ∑ j : Fin 256, k4_pay1 (F := Ideal) q b w x (ix3 j k d) * k4_pay1 (F := Ideal) q b w x (ix3 j k d) : EReal) := by
  unfold k4_pay3
  pointwise

theorem more2 (q : FVec Ideal S256x3 .f32) (b : FVec Ideal S1x128 .f32) (w : FVec Ideal S3x128 .f32) (x : FVec Ideal S256x32x128 .f32)
    (a : FVec Ideal S1x128 .f32) (y : S1x128.Idx) : k4_pay4 (F := Ideal) q b w x a y = (a y + k4_pay2 (F := Ideal) q b w x y : EReal) := by
  obtain ⟨d, rfl⟩ : ∃ d : Fin 128, y = ix2 (0 : Fin 1) d := ⟨y 1, funext fun x => by
    match x with
    | ⟨0, _⟩ => exact Subsingleton.elim (α := Fin 1) _ _
    | ⟨1, _⟩ => rfl⟩
  unfold k4_pay4
  pointwise

theorem moreSquare2 (q : FVec Ideal S256x3 .f32) (b : FVec Ideal S1x128 .f32) (w : FVec Ideal S3x128 .f32) (x : FVec Ideal S256x32x128 .f32)
    (a : FVec Ideal S1x128 .f32) (y : S1x128.Idx) : k4_pay5 (F := Ideal) q b w x a y = (a y + k4_pay3 (F := Ideal) q b w x y : EReal) := by
  obtain ⟨d, rfl⟩ : ∃ d : Fin 128, y = ix2 (0 : Fin 1) d := ⟨y 1, funext fun x => by
    match x with
    | ⟨0, _⟩ => exact Subsingleton.elim (α := Fin 1) _ _
    | ⟨1, _⟩ => rfl⟩
  unfold k4_pay5
  pointwise

variable (V : (c : Dev nD) → (b : Ref sig .tc) → Buf (Elt Ideal) ((c : Thread nD τ).loc b))

/-- The block of rows that a point makes. -/
abbrev made2 (c : Dev nD) (t : Fin cfg4.N) : FVec Ideal S256x32x128 .f32 :=
  k4_pay1 (F := Ideal) (iblk4 V c 1 t) (iblk4 V c 3 t) (iblk4 V c 2 t) (iblk4 V c 0 t)

theorem outs2 (c : Dev nD) (t : Fin cfg4.N) : (outsAt4 V c t.val t.isLt).1 = made2 V c t := by
  have hN : t.val < 8 := lt_of_lt_of_eq t.isLt N_4
  by_cases h : t.val = 0
  · rw [outsAt4_A V c t (by rw [h]) (by omega)]
    frame_out
  · rw [outsAt4_B V c t (by omega) (by omega)]
    frame_out

theorem sums2 (c : Dev nD) (t : Fin cfg4.N) (ht : t.val + 1 = cfg4.N) (y : S1x128.Idx) : (outsAt4 V c t.val t.isLt).2.1 y
    = (∑ p : Fin cfg4.N, k4_pay2 (F := Ideal) (iblk4 V c 1 p) (iblk4 V c 3 p) (iblk4 V c 2 p) (iblk4 V c 0 p) y : EReal) := by
  rw [Pipeline.eq_sum_fin_of_reset_step_apply_last (M := EReal) (fun n h => (outsAt4 V c n h).2.1) 8 (fun _ => 0)
    (fun p y => k4_pay2 (F := Ideal) (iblk4 V c 1 p) (iblk4 V c 3 p) (iblk4 V c 2 p) (iblk4 V c 0 p) y)
    (fun t h j => by
      have hN : t.val < 8 := lt_of_lt_of_eq t.isLt N_4
      rw [outsAt4_A V c t h (by omega)]; frame_out; exact (zero_add (M := EReal) _).symm)
    (fun t h j => by
      rw [outsAt4_B V c t h (by omega)]; frame_out; exact more2 _ _ _ _ _ j)
    (le_of_eq N_4) t ht y]
  exact zero_add (M := EReal) _

theorem squares2 (c : Dev nD) (t : Fin cfg4.N) (ht : t.val + 1 = cfg4.N) (y : S1x128.Idx) : (outsAt4 V c t.val t.isLt).2.2 y
    = (∑ p : Fin cfg4.N, k4_pay3 (F := Ideal) (iblk4 V c 1 p) (iblk4 V c 3 p) (iblk4 V c 2 p) (iblk4 V c 0 p) y : EReal) := by
  rw [Pipeline.eq_sum_fin_of_reset_step_apply_last (M := EReal) (fun n h => (outsAt4 V c n h).2.2) 8 (fun _ => 0)
    (fun p y => k4_pay3 (F := Ideal) (iblk4 V c 1 p) (iblk4 V c 3 p) (iblk4 V c 2 p) (iblk4 V c 0 p) y)
    (fun t h j => by
      have hN : t.val < 8 := lt_of_lt_of_eq t.isLt N_4
      rw [outsAt4_A V c t h (by omega)]; frame_out; exact (zero_add (M := EReal) _).symm)
    (fun t h j => by
      rw [outsAt4_B V c t h (by omega)]; frame_out; exact moreSquare2 _ _ _ _ _ j)
    (le_of_eq N_4) t ht y]
  exact zero_add (M := EReal) _

theorem row_lt2 (t : Fin cfg4.N) (r : Fin 256) : 256 * t.val + r.val < 2048 := by
  have hN : t.val < 8 := lt_of_lt_of_eq t.isLt N_4
  omega

theorem fetch2_0 (c : Dev nD) (t : Fin cfg4.N) (r : Fin 256) (k : Fin 32) (d : Fin 128) :
    iblk4 V c 0 t (ix3 r k d) = (V c main_v10 : FVec Ideal S2048x32x128 .f32) (ix3 (⟨256 * t.val + r.val, row_lt2 t r⟩ : Fin 2048) k d) := by
  show (V c main_v10 : FVec Ideal S2048x32x128 .f32) (((View.whole main_v10).slice (win4_0.rect t)).emb (ix3 r k d)) = _
  refine congrArg (V c main_v10 : FVec Ideal S2048x32x128 .f32) (funext fun x => Fin.ext ?_)
  blk_simp
  have hi := (by decide +kernel : ∀ t : Fin grid4.N, win4_0.index t 0 = t.val ∧ win4_0.index t 1 = 0 ∧ win4_0.index t 2 = 0) t
  match x with
  | ⟨0, _⟩ => exact (congrArg (· * 256 + r.val) hi.1).trans (by show t.val * 256 + r.val = 256 * t.val + r.val; omega)
  | ⟨1, _⟩ => exact (congrArg (· * 32 + k.val) hi.2.1).trans (Nat.zero_add _)
  | ⟨2, _⟩ => exact (congrArg (· * 128 + d.val) hi.2.2).trans (Nat.zero_add _)

theorem fetch2_1 (c : Dev nD) (t : Fin cfg4.N) (r : Fin 256) (a : Fin 3) :
    iblk4 V c 1 t (ix2 r a) = (V c main_v9 : FVec Ideal S2048x3 .f32) (ix2 (⟨256 * t.val + r.val, row_lt2 t r⟩ : Fin 2048) a) := by
  show (V c main_v9 : FVec Ideal S2048x3 .f32) (((View.whole main_v9).slice (win4_1.rect t)).emb (ix2 r a)) = _
  refine congrArg (V c main_v9 : FVec Ideal S2048x3 .f32) (funext fun x => Fin.ext ?_)
  blk_simp
  have hi := (by decide +kernel : ∀ t : Fin grid4.N, win4_1.index t 0 = t.val ∧ win4_1.index t 1 = 0) t
  match x with
  | ⟨0, _⟩ => exact (congrArg (· * 256 + r.val) hi.1).trans (by show t.val * 256 + r.val = 256 * t.val + r.val; omega)
  | ⟨1, _⟩ => exact (congrArg (· * 3 + a.val) hi.2).trans (Nat.zero_add _)

theorem fetch2_2 (c : Dev nD) (t : Fin cfg4.N) (a : Fin 3) (d : Fin 128) :
    iblk4 V c 2 t (ix2 a d) = (V c main_v11 : FVec Ideal S3x128 .f32) (ix2 a d) := by
  show (V c main_v11 : FVec Ideal S3x128 .f32) (((View.whole main_v11).slice (win4_2.rect t)).emb (ix2 a d)) = _
  refine congrArg (V c main_v11 : FVec Ideal S3x128 .f32) (funext fun x => Fin.ext ?_)
  blk_simp
  have hi := (by decide +kernel : ∀ t : Fin grid4.N, win4_2.index t 0 = 0 ∧ win4_2.index t 1 = 0) t
  match x with
  | ⟨0, _⟩ => exact (congrArg (· * 3 + a.val) hi.1).trans (Nat.zero_add _)
  | ⟨1, _⟩ => exact (congrArg (· * 128 + d.val) hi.2).trans (Nat.zero_add _)

theorem fetch2_3 (c : Dev nD) (t : Fin cfg4.N) (a : Fin 1) (d : Fin 128) :
    iblk4 V c 3 t (ix2 a d) = (V c main_v12 : FVec Ideal S1x128 .f32) (ix2 a d) := by
  show (V c main_v12 : FVec Ideal S1x128 .f32) (((View.whole main_v12).slice (win4_3.rect t)).emb (ix2 a d)) = _
  refine congrArg (V c main_v12 : FVec Ideal S1x128 .f32) (funext fun x => Fin.ext ?_)
  blk_simp
  have hi := (by decide +kernel : ∀ t : Fin grid4.N, win4_3.index t 0 = 0 ∧ win4_3.index t 1 = 0) t
  match x with
  | ⟨0, _⟩ => exact (congrArg (· * 1 + a.val) hi.1).trans (Nat.zero_add _)
  | ⟨1, _⟩ => exact (congrArg (· * 128 + d.val) hi.2).trans (Nat.zero_add _)

/-- The rows made, of the memory the call starts from. -/
abbrev mov2 (c : Dev nD) (j : Fin 2048) (k : Fin 32) (d : Fin 128) : EReal :=
  moved2 (V c main_v10) (V c main_v9) (V c main_v11) (V c main_v12) j k d

theorem made_at2 (c : Dev nD) (t : Fin cfg4.N) (r : Fin 256) (k : Fin 32) (d : Fin 128) :
    made2 V c t (ix3 r k d) = mov2 V c (⟨256 * t.val + r.val, row_lt2 t r⟩ : Fin 2048) k d := by
  refine (block2 _ _ _ _ r k d).trans ?_
  refine congrArg₂ (fun u v : EReal => u + v) (fetch2_0 V c t r k d) (congrArg₂ (fun u v : EReal => u - v) (fetch2_3 V c t 0 d)
    (Finset.sum_congr (M := EReal) rfl fun a _ => congrArg₂ (fun u v : EReal => u * v) (fetch2_1 V c t r a) (fetch2_2 V c t a d)))

/-- The rows, -/
theorem array2 (c : Dev nD) : (dat4 V c).arrAt 4 cfg4.N = (fun i => mov2 V c (i 0) (i 1) (i 2) : FVec Ideal S2048x32x128 .f32) := by
  refine (dat4 V c).arrAt_eq_of_covers 4 _ (by decide +kernel) fun t hf y => ?_
  blk_simp
  rw [after4_4, outs2]
  obtain ⟨r, k, d, rfl⟩ : ∃ (r : Fin 256) (k : Fin 32) (d : Fin 128), y = ix3 r k d := ⟨y 0, y 1, y 2, funext fun x => by
    match x with
    | ⟨0, _⟩ => rfl
    | ⟨1, _⟩ => rfl
    | ⟨2, _⟩ => rfl⟩
  have hi := (by decide +kernel : ∀ t : Fin grid4.N, win4_4.index t 0 = t.val ∧ win4_4.index t 1 = 0 ∧ win4_4.index t 2 = 0) t
  have hE : (((View.whole main_v13_0).slice (win4_4.rect t)).emb (ix3 r k d) : S2048x32x128.Idx) = ix3 (⟨256 * t.val + r.val, row_lt2 t r⟩ : Fin 2048) k d := funext fun x => Fin.ext (by
    blk_simp
    match x with
    | ⟨0, _⟩ => exact (congrArg (· * 256 + r.val) hi.1).trans (by show t.val * 256 + r.val = 256 * t.val + r.val; omega)
    | ⟨1, _⟩ => exact (congrArg (· * 32 + k.val) hi.2.1).trans (Nat.zero_add _)
    | ⟨2, _⟩ => exact (congrArg (· * 128 + d.val) hi.2.2).trans (Nat.zero_add _))
  exact (made_at2 V c t r k d).trans (congrArg (fun i : S2048x32x128.Idx => mov2 V c (i 0) (i 1) (i 2)) hE).symm

/-- their sum, -/
theorem arraySum2 (c : Dev nD) : (dat4 V c).arrAt 5 cfg4.N = (fun i => (∑ j : Fin 2048, ∑ k : Fin 32, mov2 V c j k (i 1) : EReal) : FVec Ideal S1x128 .f32) := by
  refine (dat4 V c).arrAt_eq_of_covers 5 _ (by decide +kernel) fun t hf y => ?_
  blk_simp
  rw [after4_5]
  obtain ⟨d, rfl⟩ : ∃ d : Fin 128, y = ix2 (0 : Fin 1) d := ⟨y 1, funext fun x => by
    match x with
    | ⟨0, _⟩ => exact Subsingleton.elim (α := Fin 1) _ _
    | ⟨1, _⟩ => rfl⟩
  have hi := (by decide +kernel : ∀ t : Fin grid4.N, win4_5.index t 0 = 0 ∧ win4_5.index t 1 = 0) t
  have hE : (((View.whole main_v13_1).slice (win4_5.rect t)).emb (ix2 (0 : Fin 1) d) : S1x128.Idx) = ix2 (0 : Fin 1) d := funext fun x => Fin.ext (by
    blk_simp
    match x with
    | ⟨0, _⟩ => exact (congrArg (· * 1 + 0) hi.1).trans (Nat.zero_add _)
    | ⟨1, _⟩ => exact (congrArg (· * 128 + d.val) hi.2).trans (Nat.zero_add _))
  have hl := (by decide +kernel : ∀ t : Fin grid4.N, win4_5.flush t = true → t.val + 1 = grid4.N) t hf
  refine (sums2 V c t hl _).trans (Eq.trans ?_ (congrArg (fun i : S1x128.Idx => (∑ j : Fin 2048, ∑ k : Fin 32, mov2 V c j k (i 1) : EReal)) hE).symm)
  refine Eq.trans ?_ (sum_blocks cfg4.N 256 2048 (by rw [show cfg4.N = 8 from N_4]) (fun j => (∑ k : Fin 32, mov2 V c j k d : EReal)) (row_lt2))
  exact Finset.sum_congr (M := EReal) rfl fun p _ => (total2 _ _ _ _ d).trans ((Finset.sum_comm (β := EReal)).trans (Finset.sum_congr (M := EReal) rfl fun r _ =>
    Finset.sum_congr (M := EReal) rfl fun k _ => made_at2 V c p r k d))

/-- and the sum of their squares. -/
theorem arraySquares2 (c : Dev nD) : (dat4 V c).arrAt 6 cfg4.N
    = (fun i => (∑ j : Fin 2048, ∑ k : Fin 32, mov2 V c j k (i 1) * mov2 V c j k (i 1) : EReal) : FVec Ideal S1x128 .f32) := by
  refine (dat4 V c).arrAt_eq_of_covers 6 _ (by decide +kernel) fun t hf y => ?_
  blk_simp
  rw [after4_6]
  obtain ⟨d, rfl⟩ : ∃ d : Fin 128, y = ix2 (0 : Fin 1) d := ⟨y 1, funext fun x => by
    match x with
    | ⟨0, _⟩ => exact Subsingleton.elim (α := Fin 1) _ _
    | ⟨1, _⟩ => rfl⟩
  have hi := (by decide +kernel : ∀ t : Fin grid4.N, win4_6.index t 0 = 0 ∧ win4_6.index t 1 = 0) t
  have hE : (((View.whole main_v13_2).slice (win4_6.rect t)).emb (ix2 (0 : Fin 1) d) : S1x128.Idx) = ix2 (0 : Fin 1) d := funext fun x => Fin.ext (by
    blk_simp
    match x with
    | ⟨0, _⟩ => exact (congrArg (· * 1 + 0) hi.1).trans (Nat.zero_add _)
    | ⟨1, _⟩ => exact (congrArg (· * 128 + d.val) hi.2).trans (Nat.zero_add _))
  have hl := (by decide +kernel : ∀ t : Fin grid4.N, win4_6.flush t = true → t.val + 1 = grid4.N) t hf
  refine (squares2 V c t hl _).trans (Eq.trans ?_
    (congrArg (fun i : S1x128.Idx => (∑ j : Fin 2048, ∑ k : Fin 32, mov2 V c j k (i 1) * mov2 V c j k (i 1) : EReal)) hE).symm)
  refine Eq.trans ?_ (sum_blocks cfg4.N 256 2048 (by rw [show cfg4.N = 8 from N_4]) (fun j => (∑ k : Fin 32, mov2 V c j k d * mov2 V c j k d : EReal)) (row_lt2))
  exact Finset.sum_congr (M := EReal) rfl fun p _ => (square2 _ _ _ _ d).trans ((Finset.sum_comm (β := EReal)).trans (Finset.sum_congr (M := EReal) rfl fun r _ =>
    Finset.sum_congr (M := EReal) rfl fun k _ => congrArg₂ (fun u v : EReal => u * v) (made_at2 V c p r k d) (made_at2 V c p r k d)))

end Cert.Proof.Tail

end
-- ==== Proof.MadeSecond.lean ====
/- Call 4: what it makes of the memory it starts from. -/
module

public import proofs.«01_k».proof.Proof.LayerSecond
public import proofs.«01_k».proof.Proof.Normed
public import Idealize.ShloMosaic.Lib.Pipeline.ValueKit

@[expose] public section

set_option maxRecDepth 65536

noncomputable section

namespace Cert.Proof.Tail

open Idealize.ShloMosaic Idealize.ShloMosaic.TcCoe
open Idealize.SL Idealize.SL.Sem
open Cert.KernelIdeal Cert.KernelIdeal.Gen

/-- A normalised row times the weights, plus the bias. -/
def linear3 (h : FVec Ideal S65536x128 .f32) (s ss g be : FVec Ideal S1x128 .f32) (w : FVec Ideal S128x128 .f32) (b : FVec Ideal S1x128 .f32)
    (r : Fin 65536) (d : Fin 128) : EReal :=
  ((∑ k : Fin 128, kn (h (ix2 r k)) (s (ix2 (0 : Fin 1) k)) (ss (ix2 (0 : Fin 1) k)) (g (ix2 (0 : Fin 1) k)) (be (ix2 (0 : Fin 1) k)) * w (ix2 k d) : EReal)
    + b (ix2 (0 : Fin 1) d) : EReal)

theorem block3 (s ss g be : FVec Ideal S1x128 .f32) (h : FVec Ideal S4096x128 .f32) (w : FVec Ideal S128x128 .f32) (b : FVec Ideal S1x128 .f32)
    (r : Fin 4096) (d : Fin 128) : k5_pay5 (F := Ideal) s ss g be h w b (ix2 r d)
      = ((∑ k : Fin 128, kn (h (ix2 r k)) (s (ix2 (0 : Fin 1) k)) (ss (ix2 (0 : Fin 1) k)) (g (ix2 (0 : Fin 1) k)) (be (ix2 (0 : Fin 1) k)) * w (ix2 k d) : EReal)
        + b (ix2 (0 : Fin 1) d) : EReal) := by
  unfold k5_pay5 kn
  pointwise

theorem total3 (o : FVec Ideal S4096x128 .f32) (d : Fin 128) : k5_pay1 (F := Ideal) o (ix2 (0 : Fin 1) d) = (∑ r : Fin 4096, o (ix2 r d) : EReal) := by
  unfold k5_pay1
  pointwise

theorem square3 (o : FVec Ideal S4096x128 .f32) (d : Fin 128) :
    k5_pay2 (F := Ideal) o (ix2 (0 : Fin 1) d) = (∑ r : Fin 4096, o (ix2 r d) * o (ix2 r d) : EReal) := by
  unfold k5_pay2
  pointwise

theorem more3 (o : FVec Ideal S4096x128 .f32) (a : FVec Ideal S1x128 .f32) (y : S1x128.Idx) :
    k5_pay3 (F := Ideal) o a y = (a y + k5_pay1 (F := Ideal) o y : EReal) := by
  obtain ⟨d, rfl⟩ : ∃ d : Fin 128, y = ix2 (0 : Fin 1) d := ⟨y 1, funext fun x => by
    match x with
    | ⟨0, _⟩ => exact Subsingleton.elim (α := Fin 1) _ _
    | ⟨1, _⟩ => rfl⟩
  unfold k5_pay3
  pointwise

theorem moreSquare3 (o : FVec Ideal S4096x128 .f32) (a : FVec Ideal S1x128 .f32) (y : S1x128.Idx) :
    k5_pay4 (F := Ideal) o a y = (a y + k5_pay2 (F := Ideal) o y : EReal) := by
  obtain ⟨d, rfl⟩ : ∃ d : Fin 128, y = ix2 (0 : Fin 1) d := ⟨y 1, funext fun x => by
    match x with
    | ⟨0, _⟩ => exact Subsingleton.elim (α := Fin 1) _ _
    | ⟨1, _⟩ => rfl⟩
  unfold k5_pay4
  pointwise

variable (V : (c : Dev nD) → (b : Ref sig .tc) → Buf (Elt Ideal) ((c : Thread nD τ).loc b))

/-- The block of rows that a point makes. -/
abbrev made3 (c : Dev nD) (t : Fin cfg5.N) : FVec Ideal S4096x128 .f32 :=
  k5_pay5 (F := Ideal) (iblk5 V c 1 t) (iblk5 V c 2 t) (iblk5 V c 3 t) (iblk5 V c 4 t) (iblk5 V c 0 t) (iblk5 V c 5 t) (iblk5 V c 6 t)

theorem outs3 (c : Dev nD) (t : Fin cfg5.N) : (outsAt5 V c t.val t.isLt).1 = made3 V c t := by
  have hN : t.val < 16 := lt_of_lt_of_eq t.isLt N_5
  by_cases h : t.val = 0
  · rw [outsAt5_A V c t (by rw [h]) (by omega)]
    frame_out
  · rw [outsAt5_B V c t (by omega) (by omega)]
    frame_out

theorem sums3 (c : Dev nD) (t : Fin cfg5.N) (ht : t.val + 1 = cfg5.N) (y : S1x128.Idx) :
    (outsAt5 V c t.val t.isLt).2.1 y = (∑ p : Fin cfg5.N, k5_pay1 (F := Ideal) (made3 V c p) y : EReal) := by
  rw [Pipeline.eq_sum_fin_of_reset_step_apply_last (M := EReal) (fun n h => (outsAt5 V c n h).2.1) 16 (fun _ => 0) (fun p y => k5_pay1 (F := Ideal) (made3 V c p) y)
    (fun t h j => by
      have hN : t.val < 16 := lt_of_lt_of_eq t.isLt N_5
      rw [outsAt5_A V c t h (by omega)]; frame_out; exact (zero_add (M := EReal) _).symm)
    (fun t h j => by
      rw [outsAt5_B V c t h (by omega)]; frame_out; exact more3 _ _ j)
    (le_of_eq N_5) t ht y]
  exact zero_add (M := EReal) _

theorem squares3 (c : Dev nD) (t : Fin cfg5.N) (ht : t.val + 1 = cfg5.N) (y : S1x128.Idx) :
    (outsAt5 V c t.val t.isLt).2.2 y = (∑ p : Fin cfg5.N, k5_pay2 (F := Ideal) (made3 V c p) y : EReal) := by
  rw [Pipeline.eq_sum_fin_of_reset_step_apply_last (M := EReal) (fun n h => (outsAt5 V c n h).2.2) 16 (fun _ => 0) (fun p y => k5_pay2 (F := Ideal) (made3 V c p) y)
    (fun t h j => by
      have hN : t.val < 16 := lt_of_lt_of_eq t.isLt N_5
      rw [outsAt5_A V c t h (by omega)]; frame_out; exact (zero_add (M := EReal) _).symm)
    (fun t h j => by
      rw [outsAt5_B V c t h (by omega)]; frame_out; exact moreSquare3 _ _ j)
    (le_of_eq N_5) t ht y]
  exact zero_add (M := EReal) _

theorem row_lt3 (t : Fin cfg5.N) (r : Fin 4096) : 4096 * t.val + r.val < 65536 := by
  have hN : t.val < 16 := lt_of_lt_of_eq t.isLt N_5
  omega

theorem rows3 (c : Dev nD) (t : Fin cfg5.N) (r : Fin 4096) (k : Fin 128) :
    iblk5 V c 0 t (ix2 r k) = (V c main_v14 : FVec Ideal S65536x128 .f32) (ix2 (⟨4096 * t.val + r.val, row_lt3 t r⟩ : Fin 65536) k) := by
  show (V c main_v14 : FVec Ideal S65536x128 .f32) (((View.whole main_v14).slice (win5_0.rect t)).emb (ix2 r k)) = _
  refine congrArg (V c main_v14 : FVec Ideal S65536x128 .f32) (funext fun x => Fin.ext ?_)
  blk_simp
  have hi := (by decide +kernel : ∀ t : Fin grid5.N, win5_0.index t 0 = t.val ∧ win5_0.index t 1 = 0) t
  match x with
  | ⟨0, _⟩ => exact (congrArg (· * 4096 + r.val) hi.1).trans (by show t.val * 4096 + r.val = 4096 * t.val + r.val; omega)
  | ⟨1, _⟩ => exact (congrArg (· * 128 + k.val) hi.2).trans (Nat.zero_add _)

theorem fetch3_1 (c : Dev nD) (t : Fin cfg5.N) (a : Fin 1) (k : Fin 128) :
    iblk5 V c 1 t (ix2 a k) = (V c main_v13_1 : FVec Ideal S1x128 .f32) (ix2 a k) := by
  show (V c main_v13_1 : FVec Ideal S1x128 .f32) (((View.whole main_v13_1).slice (win5_1.rect t)).emb (ix2 a k)) = _
  refine congrArg (V c main_v13_1 : FVec Ideal S1x128 .f32) (funext fun x => Fin.ext ?_)
  blk_simp
  have hi := (by decide +kernel : ∀ t : Fin grid5.N, win5_1.index t 0 = 0 ∧ win5_1.index t 1 = 0) t
  match x with
  | ⟨0, _⟩ => exact (congrArg (· * 1 + a.val) hi.1).trans (Nat.zero_add _)
  | ⟨1, _⟩ => exact (congrArg (· * 128 + k.val) hi.2).trans (Nat.zero_add _)

theorem fetch3_2 (c : Dev nD) (t : Fin cfg5.N) (a : Fin 1) (k : Fin 128) :
    iblk5 V c 2 t (ix2 a k) = (V c main_v13_2 : FVec Ideal S1x128 .f32) (ix2 a k) := by
  show (V c main_v13_2 : FVec Ideal S1x128 .f32) (((View.whole main_v13_2).slice (win5_2.rect t)).emb (ix2 a k)) = _
  refine congrArg (V c main_v13_2 : FVec Ideal S1x128 .f32) (funext fun x => Fin.ext ?_)
  blk_simp
  have hi := (by decide +kernel : ∀ t : Fin grid5.N, win5_2.index t 0 = 0 ∧ win5_2.index t 1 = 0) t
  match x with
  | ⟨0, _⟩ => exact (congrArg (· * 1 + a.val) hi.1).trans (Nat.zero_add _)
  | ⟨1, _⟩ => exact (congrArg (· * 128 + k.val) hi.2).trans (Nat.zero_add _)

theorem fetch3_3 (c : Dev nD) (t : Fin cfg5.N) (a : Fin 1) (k : Fin 128) :
    iblk5 V c 3 t (ix2 a k) = (V c main_v15 : FVec Ideal S1x128 .f32) (ix2 a k) := by
  show (V c main_v15 : FVec Ideal S1x128 .f32) (((View.whole main_v15).slice (win5_3.rect t)).emb (ix2 a k)) = _
  refine congrArg (V c main_v15 : FVec Ideal S1x128 .f32) (funext fun x => Fin.ext ?_)
  blk_simp
  have hi := (by decide +kernel : ∀ t : Fin grid5.N, win5_3.index t 0 = 0 ∧ win5_3.index t 1 = 0) t
  match x with
  | ⟨0, _⟩ => exact (congrArg (· * 1 + a.val) hi.1).trans (Nat.zero_add _)
  | ⟨1, _⟩ => exact (congrArg (· * 128 + k.val) hi.2).trans (Nat.zero_add _)

theorem fetch3_4 (c : Dev nD) (t : Fin cfg5.N) (a : Fin 1) (k : Fin 128) :
    iblk5 V c 4 t (ix2 a k) = (V c main_v16 : FVec Ideal S1x128 .f32) (ix2 a k) := by
  show (V c main_v16 : FVec Ideal S1x128 .f32) (((View.whole main_v16).slice (win5_4.rect t)).emb (ix2 a k)) = _
  refine congrArg (V c main_v16 : FVec Ideal S1x128 .f32) (funext fun x => Fin.ext ?_)
  blk_simp
  have hi := (by decide +kernel : ∀ t : Fin grid5.N, win5_4.index t 0 = 0 ∧ win5_4.index t 1 = 0) t
  match x with
  | ⟨0, _⟩ => exact (congrArg (· * 1 + a.val) hi.1).trans (Nat.zero_add _)
  | ⟨1, _⟩ => exact (congrArg (· * 128 + k.val) hi.2).trans (Nat.zero_add _)

theorem fetch3_5 (c : Dev nD) (t : Fin cfg5.N) (a : Fin 128) (k : Fin 128) :
    iblk5 V c 5 t (ix2 a k) = (V c main_arg6 : FVec Ideal S128x128 .f32) (ix2 a k) := by
  show (V c main_arg6 : FVec Ideal S128x128 .f32) (((View.whole main_arg6).slice (win5_5.rect t)).emb (ix2 a k)) = _
  refine congrArg (V c main_arg6 : FVec Ideal S128x128 .f32) (funext fun x => Fin.ext ?_)
  blk_simp
  have hi := (by decide +kernel : ∀ t : Fin grid5.N, win5_5.index t 0 = 0 ∧ win5_5.index t 1 = 0) t
  match x with
  | ⟨0, _⟩ => exact (congrArg (· * 128 + a.val) hi.1).trans (Nat.zero_add _)
  | ⟨1, _⟩ => exact (congrArg (· * 128 + k.val) hi.2).trans (Nat.zero_add _)

theorem fetch3_6 (c : Dev nD) (t : Fin cfg5.N) (a : Fin 1) (k : Fin 128) :
    iblk5 V c 6 t (ix2 a k) = (V c main_v17 : FVec Ideal S1x128 .f32) (ix2 a k) := by
  show (V c main_v17 : FVec Ideal S1x128 .f32) (((View.whole main_v17).slice (win5_6.rect t)).emb (ix2 a k)) = _
  refine congrArg (V c main_v17 : FVec Ideal S1x128 .f32) (funext fun x => Fin.ext ?_)
  blk_simp
  have hi := (by decide +kernel : ∀ t : Fin grid5.N, win5_6.index t 0 = 0 ∧ win5_6.index t 1 = 0) t
  match x with
  | ⟨0, _⟩ => exact (congrArg (· * 1 + a.val) hi.1).trans (Nat.zero_add _)
  | ⟨1, _⟩ => exact (congrArg (· * 128 + k.val) hi.2).trans (Nat.zero_add _)

/-- The rows made, of the memory the call starts from. -/
abbrev lin3 (c : Dev nD) (r : Fin 65536) (d : Fin 128) : EReal :=
  linear3 (V c main_v14) (V c main_v13_1) (V c main_v13_2) (V c main_v15) (V c main_v16) (V c main_arg6) (V c main_v17) r d

theorem made_at3 (c : Dev nD) (t : Fin cfg5.N) (r : Fin 4096) (d : Fin 128) :
    made3 V c t (ix2 r d) = lin3 V c (⟨4096 * t.val + r.val, row_lt3 t r⟩ : Fin 65536) d := by
  refine (block3 _ _ _ _ _ _ _ r d).trans ?_
  refine congrArg₂ (fun u v : EReal => u + v) (Finset.sum_congr (M := EReal) rfl fun k _ => congrArg₂ (fun u v : EReal => u * v) ?_ ?_) ?_
  · rw [rows3 V c t r k, fetch3_1 V c t 0 k, fetch3_2 V c t 0 k, fetch3_3 V c t 0 k, fetch3_4 V c t 0 k]
  · exact fetch3_5 V c t k d
  · exact fetch3_6 V c t 0 d

/-- The rows, -/
theorem array3 (c : Dev nD) : (dat5 V c).arrAt 7 cfg5.N = (fun i => lin3 V c (i 0) (i 1) : FVec Ideal S65536x128 .f32) := by
  refine (dat5 V c).arrAt_eq_of_covers 7 _ (by decide +kernel) fun t hf y => ?_
  blk_simp
  rw [after5_7, outs3]
  obtain ⟨r, d, rfl⟩ : ∃ (r : Fin 4096) (d : Fin 128), y = ix2 r d := ⟨y 0, y 1, funext fun x => by
    match x with
    | ⟨0, _⟩ => rfl
    | ⟨1, _⟩ => rfl⟩
  have hi := (by decide +kernel : ∀ t : Fin grid5.N, win5_7.index t 0 = t.val ∧ win5_7.index t 1 = 0) t
  have hE : (((View.whole main_v18_0).slice (win5_7.rect t)).emb (ix2 r d) : S65536x128.Idx) = ix2 (⟨4096 * t.val + r.val, row_lt3 t r⟩ : Fin 65536) d := funext fun x => Fin.ext (by
    blk_simp
    match x with
    | ⟨0, _⟩ => exact (congrArg (· * 4096 + r.val) hi.1).trans (by show t.val * 4096 + r.val = 4096 * t.val + r.val; omega)
    | ⟨1, _⟩ => exact (congrArg (· * 128 + d.val) hi.2).trans (Nat.zero_add _))
  exact (made_at3 V c t r d).trans (congrArg (fun i : S65536x128.Idx => lin3 V c (i 0) (i 1)) hE).symm

/-- their sum, -/
theorem arraySum3 (c : Dev nD) : (dat5 V c).arrAt 8 cfg5.N = (fun i => (∑ r : Fin 65536, lin3 V c r (i 1) : EReal) : FVec Ideal S1x128 .f32) := by
  refine (dat5 V c).arrAt_eq_of_covers 8 _ (by decide +kernel) fun t hf y => ?_
  blk_simp
  rw [after5_8]
  obtain ⟨d, rfl⟩ : ∃ d : Fin 128, y = ix2 (0 : Fin 1) d := ⟨y 1, funext fun x => by
    match x with
    | ⟨0, _⟩ => exact Subsingleton.elim (α := Fin 1) _ _
    | ⟨1, _⟩ => rfl⟩
  have hi := (by decide +kernel : ∀ t : Fin grid5.N, win5_8.index t 0 = 0 ∧ win5_8.index t 1 = 0) t
  have hE : (((View.whole main_v18_1).slice (win5_8.rect t)).emb (ix2 (0 : Fin 1) d) : S1x128.Idx) = ix2 (0 : Fin 1) d := funext fun x => Fin.ext (by
    blk_simp
    match x with
    | ⟨0, _⟩ => exact (congrArg (· * 1 + 0) hi.1).trans (Nat.zero_add _)
    | ⟨1, _⟩ => exact (congrArg (· * 128 + d.val) hi.2).trans (Nat.zero_add _))
  have hl := (by decide +kernel : ∀ t : Fin grid5.N, win5_8.flush t = true → t.val + 1 = grid5.N) t hf
  refine (sums3 V c t hl _).trans (Eq.trans ?_ (congrArg (fun i : S1x128.Idx => (∑ r : Fin 65536, lin3 V c r (i 1) : EReal)) hE).symm)
  refine Eq.trans ?_ (sum_blocks cfg5.N 4096 65536 (by rw [show cfg5.N = 16 from N_5]) (fun r => lin3 V c r d) (row_lt3))
  exact Finset.sum_congr (M := EReal) rfl fun p _ => (total3 _ d).trans (Finset.sum_congr (M := EReal) rfl fun r _ => made_at3 V c p r d)

/-- and the sum of their squares. -/
theorem arraySquares3 (c : Dev nD) : (dat5 V c).arrAt 9 cfg5.N
    = (fun i => (∑ r : Fin 65536, lin3 V c r (i 1) * lin3 V c r (i 1) : EReal) : FVec Ideal S1x128 .f32) := by
  refine (dat5 V c).arrAt_eq_of_covers 9 _ (by decide +kernel) fun t hf y => ?_
  blk_simp
  rw [after5_9]
  obtain ⟨d, rfl⟩ : ∃ d : Fin 128, y = ix2 (0 : Fin 1) d := ⟨y 1, funext fun x => by
    match x with
    | ⟨0, _⟩ => exact Subsingleton.elim (α := Fin 1) _ _
    | ⟨1, _⟩ => rfl⟩
  have hi := (by decide +kernel : ∀ t : Fin grid5.N, win5_9.index t 0 = 0 ∧ win5_9.index t 1 = 0) t
  have hE : (((View.whole main_v18_2).slice (win5_9.rect t)).emb (ix2 (0 : Fin 1) d) : S1x128.Idx) = ix2 (0 : Fin 1) d := funext fun x => Fin.ext (by
    blk_simp
    match x with
    | ⟨0, _⟩ => exact (congrArg (· * 1 + 0) hi.1).trans (Nat.zero_add _)
    | ⟨1, _⟩ => exact (congrArg (· * 128 + d.val) hi.2).trans (Nat.zero_add _))
  have hl := (by decide +kernel : ∀ t : Fin grid5.N, win5_9.flush t = true → t.val + 1 = grid5.N) t hf
  refine (squares3 V c t hl _).trans (Eq.trans ?_
    (congrArg (fun i : S1x128.Idx => (∑ r : Fin 65536, lin3 V c r (i 1) * lin3 V c r (i 1) : EReal)) hE).symm)
  refine Eq.trans ?_ (sum_blocks cfg5.N 4096 65536 (by rw [show cfg5.N = 16 from N_5]) (fun r => lin3 V c r d * lin3 V c r d) (row_lt3))
  exact Finset.sum_congr (M := EReal) rfl fun p _ => (square3 _ d).trans (Finset.sum_congr (M := EReal) rfl fun r _ =>
    congrArg₂ (fun u v : EReal => u * v) (made_at3 V c p r d) (made_at3 V c p r d))

end Cert.Proof.Tail

end
-- ==== Proof.MadeThird.lean ====
/- Call 5: what it makes of the memory it starts from. -/
module

public import proofs.«01_k».proof.Proof.LayerThird
public import proofs.«01_k».proof.Proof.Normed
public import Idealize.ShloMosaic.Lib.Pipeline.ValueKit

@[expose] public section

set_option maxRecDepth 65536

noncomputable section

namespace Cert.Proof.Tail

open Idealize.ShloMosaic Idealize.ShloMosaic.TcCoe
open Idealize.SL Idealize.SL.Sem
open Cert.KernelIdeal Cert.KernelIdeal.Gen

/-- A normalised row times the weights, plus the bias. -/
def linear4 (h : FVec Ideal S65536x128 .f32) (s ss g be : FVec Ideal S1x128 .f32) (w : FVec Ideal S128x256 .f32) (b : FVec Ideal S1x256 .f32)
    (r : Fin 65536) (d : Fin 256) : EReal :=
  ((∑ k : Fin 128, kn (h (ix2 r k)) (s (ix2 (0 : Fin 1) k)) (ss (ix2 (0 : Fin 1) k)) (g (ix2 (0 : Fin 1) k)) (be (ix2 (0 : Fin 1) k)) * w (ix2 k d) : EReal)
    + b (ix2 (0 : Fin 1) d) : EReal)

theorem block4 (s ss g be : FVec Ideal S1x128 .f32) (h : FVec Ideal S4096x128 .f32) (w : FVec Ideal S128x256 .f32) (b : FVec Ideal S1x256 .f32)
    (r : Fin 4096) (d : Fin 256) : k6_pay5 (F := Ideal) s ss g be h w b (ix2 r d)
      = ((∑ k : Fin 128, kn (h (ix2 r k)) (s (ix2 (0 : Fin 1) k)) (ss (ix2 (0 : Fin 1) k)) (g (ix2 (0 : Fin 1) k)) (be (ix2 (0 : Fin 1) k)) * w (ix2 k d) : EReal)
        + b (ix2 (0 : Fin 1) d) : EReal) := by
  unfold k6_pay5 kn
  pointwise

theorem total4 (o : FVec Ideal S4096x256 .f32) (d : Fin 256) : k6_pay1 (F := Ideal) o (ix2 (0 : Fin 1) d) = (∑ r : Fin 4096, o (ix2 r d) : EReal) := by
  unfold k6_pay1
  pointwise

theorem square4 (o : FVec Ideal S4096x256 .f32) (d : Fin 256) :
    k6_pay2 (F := Ideal) o (ix2 (0 : Fin 1) d) = (∑ r : Fin 4096, o (ix2 r d) * o (ix2 r d) : EReal) := by
  unfold k6_pay2
  pointwise

theorem more4 (o : FVec Ideal S4096x256 .f32) (a : FVec Ideal S1x256 .f32) (y : S1x256.Idx) :
    k6_pay3 (F := Ideal) o a y = (a y + k6_pay1 (F := Ideal) o y : EReal) := by
  obtain ⟨d, rfl⟩ : ∃ d : Fin 256, y = ix2 (0 : Fin 1) d := ⟨y 1, funext fun x => by
    match x with
    | ⟨0, _⟩ => exact Subsingleton.elim (α := Fin 1) _ _
    | ⟨1, _⟩ => rfl⟩
  unfold k6_pay3
  pointwise

theorem moreSquare4 (o : FVec Ideal S4096x256 .f32) (a : FVec Ideal S1x256 .f32) (y : S1x256.Idx) :
    k6_pay4 (F := Ideal) o a y = (a y + k6_pay2 (F := Ideal) o y : EReal) := by
  obtain ⟨d, rfl⟩ : ∃ d : Fin 256, y = ix2 (0 : Fin 1) d := ⟨y 1, funext fun x => by
    match x with
    | ⟨0, _⟩ => exact Subsingleton.elim (α := Fin 1) _ _
    | ⟨1, _⟩ => rfl⟩
  unfold k6_pay4
  pointwise

variable (V : (c : Dev nD) → (b : Ref sig .tc) → Buf (Elt Ideal) ((c : Thread nD τ).loc b))

/-- The block of rows that a point makes. -/
abbrev made4 (c : Dev nD) (t : Fin cfg6.N) : FVec Ideal S4096x256 .f32 :=
  k6_pay5 (F := Ideal) (iblk6 V c 1 t) (iblk6 V c 2 t) (iblk6 V c 3 t) (iblk6 V c 4 t) (iblk6 V c 0 t) (iblk6 V c 5 t) (iblk6 V c 6 t)

theorem outs4 (c : Dev nD) (t : Fin cfg6.N) : (outsAt6 V c t.val t.isLt).1 = made4 V c t := by
  have hN : t.val < 16 := lt_of_lt_of_eq t.isLt N_6
  by_cases h : t.val = 0
  · rw [outsAt6_A V c t (by rw [h]) (by omega)]
    frame_out
  · rw [outsAt6_B V c t (by omega) (by omega)]
    frame_out

theorem sums4 (c : Dev nD) (t : Fin cfg6.N) (ht : t.val + 1 = cfg6.N) (y : S1x256.Idx) :
    (outsAt6 V c t.val t.isLt).2.1 y = (∑ p : Fin cfg6.N, k6_pay1 (F := Ideal) (made4 V c p) y : EReal) := by
  rw [Pipeline.eq_sum_fin_of_reset_step_apply_last (M := EReal) (fun n h => (outsAt6 V c n h).2.1) 16 (fun _ => 0) (fun p y => k6_pay1 (F := Ideal) (made4 V c p) y)
    (fun t h j => by
      have hN : t.val < 16 := lt_of_lt_of_eq t.isLt N_6
      rw [outsAt6_A V c t h (by omega)]; frame_out; exact (zero_add (M := EReal) _).symm)
    (fun t h j => by
      rw [outsAt6_B V c t h (by omega)]; frame_out; exact more4 _ _ j)
    (le_of_eq N_6) t ht y]
  exact zero_add (M := EReal) _

theorem squares4 (c : Dev nD) (t : Fin cfg6.N) (ht : t.val + 1 = cfg6.N) (y : S1x256.Idx) :
    (outsAt6 V c t.val t.isLt).2.2 y = (∑ p : Fin cfg6.N, k6_pay2 (F := Ideal) (made4 V c p) y : EReal) := by
  rw [Pipeline.eq_sum_fin_of_reset_step_apply_last (M := EReal) (fun n h => (outsAt6 V c n h).2.2) 16 (fun _ => 0) (fun p y => k6_pay2 (F := Ideal) (made4 V c p) y)
    (fun t h j => by
      have hN : t.val < 16 := lt_of_lt_of_eq t.isLt N_6
      rw [outsAt6_A V c t h (by omega)]; frame_out; exact (zero_add (M := EReal) _).symm)
    (fun t h j => by
      rw [outsAt6_B V c t h (by omega)]; frame_out; exact moreSquare4 _ _ j)
    (le_of_eq N_6) t ht y]
  exact zero_add (M := EReal) _

theorem row_lt4 (t : Fin cfg6.N) (r : Fin 4096) : 4096 * t.val + r.val < 65536 := by
  have hN : t.val < 16 := lt_of_lt_of_eq t.isLt N_6
  omega

theorem rows4 (c : Dev nD) (t : Fin cfg6.N) (r : Fin 4096) (k : Fin 128) :
    iblk6 V c 0 t (ix2 r k) = (V c main_v18_0 : FVec Ideal S65536x128 .f32) (ix2 (⟨4096 * t.val + r.val, row_lt4 t r⟩ : Fin 65536) k) := by
  show (V c main_v18_0 : FVec Ideal S65536x128 .f32) (((View.whole main_v18_0).slice (win6_0.rect t)).emb (ix2 r k)) = _
  refine congrArg (V c main_v18_0 : FVec Ideal S65536x128 .f32) (funext fun x => Fin.ext ?_)
  blk_simp
  have hi := (by decide +kernel : ∀ t : Fin grid6.N, win6_0.index t 0 = t.val ∧ win6_0.index t 1 = 0) t
  match x with
  | ⟨0, _⟩ => exact (congrArg (· * 4096 + r.val) hi.1).trans (by show t.val * 4096 + r.val = 4096 * t.val + r.val; omega)
  | ⟨1, _⟩ => exact (congrArg (· * 128 + k.val) hi.2).trans (Nat.zero_add _)

theorem fetch4_1 (c : Dev nD) (t : Fin cfg6.N) (a : Fin 1) (k : Fin 128) :
    iblk6 V c 1 t (ix2 a k) = (V c main_v18_1 : FVec Ideal S1x128 .f32) (ix2 a k) := by
  show (V c main_v18_1 : FVec Ideal S1x128 .f32) (((View.whole main_v18_1).slice (win6_1.rect t)).emb (ix2 a k)) = _
  refine congrArg (V c main_v18_1 : FVec Ideal S1x128 .f32) (funext fun x => Fin.ext ?_)
  blk_simp
  have hi := (by decide +kernel : ∀ t : Fin grid6.N, win6_1.index t 0 = 0 ∧ win6_1.index t 1 = 0) t
  match x with
  | ⟨0, _⟩ => exact (congrArg (· * 1 + a.val) hi.1).trans (Nat.zero_add _)
  | ⟨1, _⟩ => exact (congrArg (· * 128 + k.val) hi.2).trans (Nat.zero_add _)

theorem fetch4_2 (c : Dev nD) (t : Fin cfg6.N) (a : Fin 1) (k : Fin 128) :
    iblk6 V c 2 t (ix2 a k) = (V c main_v18_2 : FVec Ideal S1x128 .f32) (ix2 a k) := by
  show (V c main_v18_2 : FVec Ideal S1x128 .f32) (((View.whole main_v18_2).slice (win6_2.rect t)).emb (ix2 a k)) = _
  refine congrArg (V c main_v18_2 : FVec Ideal S1x128 .f32) (funext fun x => Fin.ext ?_)
  blk_simp
  have hi := (by decide +kernel : ∀ t : Fin grid6.N, win6_2.index t 0 = 0 ∧ win6_2.index t 1 = 0) t
  match x with
  | ⟨0, _⟩ => exact (congrArg (· * 1 + a.val) hi.1).trans (Nat.zero_add _)
  | ⟨1, _⟩ => exact (congrArg (· * 128 + k.val) hi.2).trans (Nat.zero_add _)

theorem fetch4_3 (c : Dev nD) (t : Fin cfg6.N) (a : Fin 1) (k : Fin 128) :
    iblk6 V c 3 t (ix2 a k) = (V c main_v19 : FVec Ideal S1x128 .f32) (ix2 a k) := by
  show (V c main_v19 : FVec Ideal S1x128 .f32) (((View.whole main_v19).slice (win6_3.rect t)).emb (ix2 a k)) = _
  refine congrArg (V c main_v19 : FVec Ideal S1x128 .f32) (funext fun x => Fin.ext ?_)
  blk_simp
  have hi := (by decide +kernel : ∀ t : Fin grid6.N, win6_3.index t 0 = 0 ∧ win6_3.index t 1 = 0) t
  match x with
  | ⟨0, _⟩ => exact (congrArg (· * 1 + a.val) hi.1).trans (Nat.zero_add _)
  | ⟨1, _⟩ => exact (congrArg (· * 128 + k.val) hi.2).trans (Nat.zero_add _)

theorem fetch4_4 (c : Dev nD) (t : Fin cfg6.N) (a : Fin 1) (k : Fin 128) :
    iblk6 V c 4 t (ix2 a k) = (V c main_v20 : FVec Ideal S1x128 .f32) (ix2 a k) := by
  show (V c main_v20 : FVec Ideal S1x128 .f32) (((View.whole main_v20).slice (win6_4.rect t)).emb (ix2 a k)) = _
  refine congrArg (V c main_v20 : FVec Ideal S1x128 .f32) (funext fun x => Fin.ext ?_)
  blk_simp
  have hi := (by decide +kernel : ∀ t : Fin grid6.N, win6_4.index t 0 = 0 ∧ win6_4.index t 1 = 0) t
  match x with
  | ⟨0, _⟩ => exact (congrArg (· * 1 + a.val) hi.1).trans (Nat.zero_add _)
  | ⟨1, _⟩ => exact (congrArg (· * 128 + k.val) hi.2).trans (Nat.zero_add _)

theorem fetch4_5 (c : Dev nD) (t : Fin cfg6.N) (a : Fin 128) (k : Fin 256) :
    iblk6 V c 5 t (ix2 a k) = (V c main_arg10 : FVec Ideal S128x256 .f32) (ix2 a k) := by
  show (V c main_arg10 : FVec Ideal S128x256 .f32) (((View.whole main_arg10).slice (win6_5.rect t)).emb (ix2 a k)) = _
  refine congrArg (V c main_arg10 : FVec Ideal S128x256 .f32) (funext fun x => Fin.ext ?_)
  blk_simp
  have hi := (by decide +kernel : ∀ t : Fin grid6.N, win6_5.index t 0 = 0 ∧ win6_5.index t 1 = 0) t
  match x with
  | ⟨0, _⟩ => exact (congrArg (· * 128 + a.val) hi.1).trans (Nat.zero_add _)
  | ⟨1, _⟩ => exact (congrArg (· * 256 + k.val) hi.2).trans (Nat.zero_add _)

theorem fetch4_6 (c : Dev nD) (t : Fin cfg6.N) (a : Fin 1) (k : Fin 256) :
    iblk6 V c 6 t (ix2 a k) = (V c main_v21 : FVec Ideal S1x256 .f32) (ix2 a k) := by
  show (V c main_v21 : FVec Ideal S1x256 .f32) (((View.whole main_v21).slice (win6_6.rect t)).emb (ix2 a k)) = _
  refine congrArg (V c main_v21 : FVec Ideal S1x256 .f32) (funext fun x => Fin.ext ?_)
  blk_simp
  have hi := (by decide +kernel : ∀ t : Fin grid6.N, win6_6.index t 0 = 0 ∧ win6_6.index t 1 = 0) t
  match x with
  | ⟨0, _⟩ => exact (congrArg (· * 1 + a.val) hi.1).trans (Nat.zero_add _)
  | ⟨1, _⟩ => exact (congrArg (· * 256 + k.val) hi.2).trans (Nat.zero_add _)

/-- The rows made, of the memory the call starts from. -/
abbrev lin4 (c : Dev nD) (r : Fin 65536) (d : Fin 256) : EReal :=
  linear4 (V c main_v18_0) (V c main_v18_1) (V c main_v18_2) (V c main_v19) (V c main_v20) (V c main_arg10) (V c main_v21) r d

theorem made_at4 (c : Dev nD) (t : Fin cfg6.N) (r : Fin 4096) (d : Fin 256) :
    made4 V c t (ix2 r d) = lin4 V c (⟨4096 * t.val + r.val, row_lt4 t r⟩ : Fin 65536) d := by
  refine (block4 _ _ _ _ _ _ _ r d).trans ?_
  refine congrArg₂ (fun u v : EReal => u + v) (Finset.sum_congr (M := EReal) rfl fun k _ => congrArg₂ (fun u v : EReal => u * v) ?_ ?_) ?_
  · rw [rows4 V c t r k, fetch4_1 V c t 0 k, fetch4_2 V c t 0 k, fetch4_3 V c t 0 k, fetch4_4 V c t 0 k]
  · exact fetch4_5 V c t k d
  · exact fetch4_6 V c t 0 d

/-- The rows, -/
theorem array4 (c : Dev nD) : (dat6 V c).arrAt 7 cfg6.N = (fun i => lin4 V c (i 0) (i 1) : FVec Ideal S65536x256 .f32) := by
  refine (dat6 V c).arrAt_eq_of_covers 7 _ (by decide +kernel) fun t hf y => ?_
  blk_simp
  rw [after6_7, outs4]
  obtain ⟨r, d, rfl⟩ : ∃ (r : Fin 4096) (d : Fin 256), y = ix2 r d := ⟨y 0, y 1, funext fun x => by
    match x with
    | ⟨0, _⟩ => rfl
    | ⟨1, _⟩ => rfl⟩
  have hi := (by decide +kernel : ∀ t : Fin grid6.N, win6_7.index t 0 = t.val ∧ win6_7.index t 1 = 0) t
  have hE : (((View.whole main_v22_0).slice (win6_7.rect t)).emb (ix2 r d) : S65536x256.Idx) = ix2 (⟨4096 * t.val + r.val, row_lt4 t r⟩ : Fin 65536) d := funext fun x => Fin.ext (by
    blk_simp
    match x with
    | ⟨0, _⟩ => exact (congrArg (· * 4096 + r.val) hi.1).trans (by show t.val * 4096 + r.val = 4096 * t.val + r.val; omega)
    | ⟨1, _⟩ => exact (congrArg (· * 256 + d.val) hi.2).trans (Nat.zero_add _))
  exact (made_at4 V c t r d).trans (congrArg (fun i : S65536x256.Idx => lin4 V c (i 0) (i 1)) hE).symm

/-- their sum, -/
theorem arraySum4 (c : Dev nD) : (dat6 V c).arrAt 8 cfg6.N = (fun i => (∑ r : Fin 65536, lin4 V c r (i 1) : EReal) : FVec Ideal S1x256 .f32) := by
  refine (dat6 V c).arrAt_eq_of_covers 8 _ (by decide +kernel) fun t hf y => ?_
  blk_simp
  rw [after6_8]
  obtain ⟨d, rfl⟩ : ∃ d : Fin 256, y = ix2 (0 : Fin 1) d := ⟨y 1, funext fun x => by
    match x with
    | ⟨0, _⟩ => exact Subsingleton.elim (α := Fin 1) _ _
    | ⟨1, _⟩ => rfl⟩
  have hi := (by decide +kernel : ∀ t : Fin grid6.N, win6_8.index t 0 = 0 ∧ win6_8.index t 1 = 0) t
  have hE : (((View.whole main_v22_1).slice (win6_8.rect t)).emb (ix2 (0 : Fin 1) d) : S1x256.Idx) = ix2 (0 : Fin 1) d := funext fun x => Fin.ext (by
    blk_simp
    match x with
    | ⟨0, _⟩ => exact (congrArg (· * 1 + 0) hi.1).trans (Nat.zero_add _)
    | ⟨1, _⟩ => exact (congrArg (· * 256 + d.val) hi.2).trans (Nat.zero_add _))
  have hl := (by decide +kernel : ∀ t : Fin grid6.N, win6_8.flush t = true → t.val + 1 = grid6.N) t hf
  refine (sums4 V c t hl _).trans (Eq.trans ?_ (congrArg (fun i : S1x256.Idx => (∑ r : Fin 65536, lin4 V c r (i 1) : EReal)) hE).symm)
  refine Eq.trans ?_ (sum_blocks cfg6.N 4096 65536 (by rw [show cfg6.N = 16 from N_6]) (fun r => lin4 V c r d) (row_lt4))
  exact Finset.sum_congr (M := EReal) rfl fun p _ => (total4 _ d).trans (Finset.sum_congr (M := EReal) rfl fun r _ => made_at4 V c p r d)

/-- and the sum of their squares. -/
theorem arraySquares4 (c : Dev nD) : (dat6 V c).arrAt 9 cfg6.N
    = (fun i => (∑ r : Fin 65536, lin4 V c r (i 1) * lin4 V c r (i 1) : EReal) : FVec Ideal S1x256 .f32) := by
  refine (dat6 V c).arrAt_eq_of_covers 9 _ (by decide +kernel) fun t hf y => ?_
  blk_simp
  rw [after6_9]
  obtain ⟨d, rfl⟩ : ∃ d : Fin 256, y = ix2 (0 : Fin 1) d := ⟨y 1, funext fun x => by
    match x with
    | ⟨0, _⟩ => exact Subsingleton.elim (α := Fin 1) _ _
    | ⟨1, _⟩ => rfl⟩
  have hi := (by decide +kernel : ∀ t : Fin grid6.N, win6_9.index t 0 = 0 ∧ win6_9.index t 1 = 0) t
  have hE : (((View.whole main_v22_2).slice (win6_9.rect t)).emb (ix2 (0 : Fin 1) d) : S1x256.Idx) = ix2 (0 : Fin 1) d := funext fun x => Fin.ext (by
    blk_simp
    match x with
    | ⟨0, _⟩ => exact (congrArg (· * 1 + 0) hi.1).trans (Nat.zero_add _)
    | ⟨1, _⟩ => exact (congrArg (· * 256 + d.val) hi.2).trans (Nat.zero_add _))
  have hl := (by decide +kernel : ∀ t : Fin grid6.N, win6_9.flush t = true → t.val + 1 = grid6.N) t hf
  refine (squares4 V c t hl _).trans (Eq.trans ?_
    (congrArg (fun i : S1x256.Idx => (∑ r : Fin 65536, lin4 V c r (i 1) * lin4 V c r (i 1) : EReal)) hE).symm)
  refine Eq.trans ?_ (sum_blocks cfg6.N 4096 65536 (by rw [show cfg6.N = 16 from N_6]) (fun r => lin4 V c r d * lin4 V c r d) (row_lt4))
  exact Finset.sum_congr (M := EReal) rfl fun p _ => (square4 _ d).trans (Finset.sum_congr (M := EReal) rfl fun r _ =>
    congrArg₂ (fun u v : EReal => u * v) (made_at4 V c p r d) (made_at4 V c p r d))

end Cert.Proof.Tail

end
-- ==== Proof.MadeLast.lean ====
/- Call 6: what it makes of the memory it starts from. -/
module

public import proofs.«01_k».proof.Proof.LayerLast
public import proofs.«01_k».proof.Proof.Normed
public import Idealize.ShloMosaic.Lib.Pipeline.ValueKit

@[expose] public section

set_option maxRecDepth 65536

noncomputable section

namespace Cert.Proof.Tail

open Idealize.ShloMosaic Idealize.ShloMosaic.TcCoe
open Idealize.SL Idealize.SL.Sem
open Cert.KernelIdeal Cert.KernelIdeal.Gen

/-- The largest of a group's normalised values. -/
def top5 (h : FVec Ideal S2x1024x32x256 .f32) (s ss g be : FVec Ideal S1x256 .f32) (b : Fin 2) (d : Fin 256) (j : Fin 1024) : EReal :=
  Finset.univ.fold max (Ideal.ofBits .f32 0xFF800000#32) fun k : Fin 32 =>
    kn (h (ix4 b j k d)) (s (ix2 (0 : Fin 1) d)) (ss (ix2 (0 : Fin 1) d)) (g (ix2 (0 : Fin 1) d)) (be (ix2 (0 : Fin 1) d))

theorem block5 (s ss g be : FVec Ideal S1x256 .f32) (h : FVec Ideal S1x256x32x256 .f32) (d j : Fin 256) :
    k7_pay1 (F := Ideal) (k7_pay2 s ss g be g h) (ix3 (0 : Fin 1) d j)
      = (Finset.univ.fold max (Ideal.ofBits .f32 0xFF800000#32) fun k : Fin 32 =>
        kn (h (ix4 (0 : Fin 1) j k d)) (s (ix2 (0 : Fin 1) d)) (ss (ix2 (0 : Fin 1) d)) (g (ix2 (0 : Fin 1) d)) (be (ix2 (0 : Fin 1) d)) : EReal) := by
  unfold k7_pay1 k7_pay2 kn
  pointwise

variable (V : (c : Dev nD) → (b : Ref sig .tc) → Buf (Elt Ideal) ((c : Thread nD τ).loc b))

theorem fetch5_0 (c : Dev nD) (t : Fin cfg7.N) (b : Fin 2) (n : Fin 4) (hb : win7_0.index t 0 = b.val) (hn : win7_0.index t 1 = n.val)
    (j : Fin 256) (k : Fin 32) (d : Fin 256) :
    iblk7 V c 0 t (ix4 (0 : Fin 1) j k d) = (V c main_v23 : FVec Ideal S2x1024x32x256 .f32) (ix4 b (⟨n.val * 256 + j.val, by omega⟩ : Fin 1024) k d) := by
  show (V c main_v23 : FVec Ideal S2x1024x32x256 .f32) (((View.whole main_v23).slice (win7_0.rect t)).emb (ix4 (0 : Fin 1) j k d)) = _
  refine congrArg (V c main_v23 : FVec Ideal S2x1024x32x256 .f32) (funext fun x => Fin.ext ?_)
  blk_simp
  have hi := (by decide +kernel : ∀ t : Fin grid7.N, win7_0.index t 2 = 0 ∧ win7_0.index t 3 = 0) t
  match x with
  | ⟨0, _⟩ => exact (congrArg (· * 1 + 0) hb).trans (Nat.mul_one _)
  | ⟨1, _⟩ => exact congrArg (· * 256 + j.val) hn
  | ⟨2, _⟩ => exact (congrArg (· * 32 + k.val) hi.1).trans (Nat.zero_add _)
  | ⟨3, _⟩ => exact (congrArg (· * 256 + d.val) hi.2).trans (Nat.zero_add _)

theorem fetch5_1 (c : Dev nD) (t : Fin cfg7.N) (a : Fin 1) (d : Fin 256) :
    iblk7 V c 1 t (ix2 a d) = (V c main_v22_1 : FVec Ideal S1x256 .f32) (ix2 a d) := by
  show (V c main_v22_1 : FVec Ideal S1x256 .f32) (((View.whole main_v22_1).slice (win7_1.rect t)).emb (ix2 a d)) = _
  refine congrArg (V c main_v22_1 : FVec Ideal S1x256 .f32) (funext fun x => Fin.ext ?_)
  blk_simp
  have hi := (by decide +kernel : ∀ t : Fin grid7.N, win7_1.index t 0 = 0 ∧ win7_1.index t 1 = 0) t
  match x with
  | ⟨0, _⟩ => exact (congrArg (· * 1 + a.val) hi.1).trans (Nat.zero_add _)
  | ⟨1, _⟩ => exact (congrArg (· * 256 + d.val) hi.2).trans (Nat.zero_add _)

theorem fetch5_2 (c : Dev nD) (t : Fin cfg7.N) (a : Fin 1) (d : Fin 256) :
    iblk7 V c 2 t (ix2 a d) = (V c main_v22_2 : FVec Ideal S1x256 .f32) (ix2 a d) := by
  show (V c main_v22_2 : FVec Ideal S1x256 .f32) (((View.whole main_v22_2).slice (win7_2.rect t)).emb (ix2 a d)) = _
  refine congrArg (V c main_v22_2 : FVec Ideal S1x256 .f32) (funext fun x => Fin.ext ?_)
  blk_simp
  have hi := (by decide +kernel : ∀ t : Fin grid7.N, win7_2.index t 0 = 0 ∧ win7_2.index t 1 = 0) t
  match x with
  | ⟨0, _⟩ => exact (congrArg (· * 1 + a.val) hi.1).trans (Nat.zero_add _)
  | ⟨1, _⟩ => exact (congrArg (· * 256 + d.val) hi.2).trans (Nat.zero_add _)

theorem fetch5_3 (c : Dev nD) (t : Fin cfg7.N) (a : Fin 1) (d : Fin 256) :
    iblk7 V c 3 t (ix2 a d) = (V c main_v24 : FVec Ideal S1x256 .f32) (ix2 a d) := by
  show (V c main_v24 : FVec Ideal S1x256 .f32) (((View.whole main_v24).slice (win7_3.rect t)).emb (ix2 a d)) = _
  refine congrArg (V c main_v24 : FVec Ideal S1x256 .f32) (funext fun x => Fin.ext ?_)
  blk_simp
  have hi := (by decide +kernel : ∀ t : Fin grid7.N, win7_3.index t 0 = 0 ∧ win7_3.index t 1 = 0) t
  match x with
  | ⟨0, _⟩ => exact (congrArg (· * 1 + a.val) hi.1).trans (Nat.zero_add _)
  | ⟨1, _⟩ => exact (congrArg (· * 256 + d.val) hi.2).trans (Nat.zero_add _)

theorem fetch5_4 (c : Dev nD) (t : Fin cfg7.N) (a : Fin 1) (d : Fin 256) :
    iblk7 V c 4 t (ix2 a d) = (V c main_v25 : FVec Ideal S1x256 .f32) (ix2 a d) := by
  show (V c main_v25 : FVec Ideal S1x256 .f32) (((View.whole main_v25).slice (win7_4.rect t)).emb (ix2 a d)) = _
  refine congrArg (V c main_v25 : FVec Ideal S1x256 .f32) (funext fun x => Fin.ext ?_)
  blk_simp
  have hi := (by decide +kernel : ∀ t : Fin grid7.N, win7_4.index t 0 = 0 ∧ win7_4.index t 1 = 0) t
  match x with
  | ⟨0, _⟩ => exact (congrArg (· * 1 + a.val) hi.1).trans (Nat.zero_add _)
  | ⟨1, _⟩ => exact (congrArg (· * 256 + d.val) hi.2).trans (Nat.zero_add _)

/-- The largest values, of the memory the call starts from. -/
theorem array5 (c : Dev nD) : (dat7 V c).arrAt 5 cfg7.N
    = (fun i => top5 (V c main_v23) (V c main_v22_1) (V c main_v22_2) (V c main_v24) (V c main_v25) (i 0) (i 1) (i 2) : FVec Ideal S2x256x1024 .f32) := by
  refine (dat7 V c).arrAt_eq_of_covers 5 _ (by decide +kernel) fun t hf y => ?_
  blk_simp
  rw [after7_5]
  frame_out
  obtain ⟨d, j, rfl⟩ : ∃ (d j : Fin 256), y = ix3 (0 : Fin 1) d j := ⟨y 1, y 2, funext fun x => by
    match x with
    | ⟨0, _⟩ => exact Subsingleton.elim (α := Fin 1) _ _
    | ⟨1, _⟩ => rfl
    | ⟨2, _⟩ => rfl⟩
  obtain ⟨b, n, hb, h1, hn, hb0, hn0⟩ := (by decide +kernel : ∀ t : Fin grid7.N, ∃ (b : Fin 2) (n : Fin 4), win7_5.index t 0 = b.val ∧ win7_5.index t 1 = 0
    ∧ win7_5.index t 2 = n.val ∧ win7_0.index t 0 = b.val ∧ win7_0.index t 1 = n.val) t
  have hE : (((View.whole main_v26).slice (win7_5.rect t)).emb (ix3 (0 : Fin 1) d j) : S2x256x1024.Idx) = ix3 b d (⟨n.val * 256 + j.val, by omega⟩ : Fin 1024) := funext fun x => Fin.ext (by
    blk_simp
    match x with
    | ⟨0, _⟩ => exact (congrArg (· * 1 + 0) hb).trans (Nat.mul_one _)
    | ⟨1, _⟩ => exact (congrArg (· * 256 + d.val) h1).trans (Nat.zero_add _)
    | ⟨2, _⟩ => exact congrArg (· * 256 + j.val) hn)
  refine (block5 _ _ _ _ _ d j).trans (Eq.trans ?_ (congrArg (fun i : S2x256x1024.Idx =>
    top5 (V c main_v23) (V c main_v22_1) (V c main_v22_2) (V c main_v24) (V c main_v25) (i 0) (i 1) (i 2)) hE).symm)
  unfold top5
  refine congrArg (fun f => Finset.univ.fold max (Ideal.ofBits .f32 0xFF800000#32 : EReal) f) (funext fun k => ?_)
  rw [fetch5_0 V c t b n hb0 hn0 j k d, fetch5_1 V c t 0 d, fetch5_2 V c t 0 d, fetch5_3 V c t 0 d, fetch5_4 V c t 0 d]
  rfl

end Cert.Proof.Tail

end
-- ==== Proof.Chained.lean ====
/- The last four calls' chain of arrays, from the gathered rows to the result. -/
module

public import proofs.«01_k».proof.Proof.Joined
public import proofs.«01_k».proof.Proof.Stacked
public import proofs.«01_k».proof.Proof.MadeFirst
public import proofs.«01_k».proof.Proof.MadeSecond
public import proofs.«01_k».proof.Proof.MadeThird
public import proofs.«01_k».proof.Proof.MadeLast

@[expose] public section

set_option maxRecDepth 65536

noncomputable section

namespace Cert.Proof.Tail

open Idealize.ShloMosaic Idealize.ShloMosaic.TcCoe
open Idealize.SL Idealize.SL.Sem
open Cert.KernelIdeal Cert.KernelIdeal.Gen

section
variable (W : Valuation τ sig (Elt Ideal))

theorem read_v10 (j : Fin 2048) (k : Fin 32) (d : Fin 128) : (StableHlo.after hostOps4 W main_v10 : FVec Ideal S2048x32x128 .f32) (ix3 j k d)
    = (W main_v7 : FVec Ideal S65536x128 .f32) (ix2 (⟨32 * j.val + k.val, by omega⟩ : Fin 65536) d) := by
  have e : (StableHlo.after hostOps4 W main_v10 : FVec Ideal S2048x32x128 .f32) = shapeCast _ (W main_v7 : FVec Ideal S65536x128 .f32) shapeCasts_S65536x128_S2048x32x128 := by
    simp only [hostOps4]
    after_results
    try rfl
  refine (congrFun e _).trans ?_
  pointwise
  exact congrArg (fun r => (W main_v7 : FVec Ideal S65536x128 .f32) (ix2 r d)) (Fin.ext (by simp only; omega))

theorem read_v9 (j : Fin 2048) (a : Fin 3) : (StableHlo.after hostOps4 W main_v9 : FVec Ideal S2048x3 .f32) (ix2 j a)
    = (W main_v0 : FVec Ideal S2x3x1024 .f32) (ix3 (⟨j.val / 1024, by omega⟩ : Fin 2) a (⟨j.val % 1024, by omega⟩ : Fin 1024)) := by
  have e : (StableHlo.after hostOps4 W main_v9 : FVec Ideal S2048x3 .f32) = shapeCast _ (transpose S2x1024x3 [0, 2, 1] (W main_v0 : FVec Ideal S2x3x1024 .f32) transposes_S2x3x1024_S2x1024x3_0_2_1) shapeCasts_S2x1024x3_S2048x3 := by
    simp only [hostOps4]
    after_results
    try rfl
  refine (congrFun e _).trans ?_
  pointwise

theorem read_v11 (a : Fin 3) (d : Fin 128) : (StableHlo.after hostOps4 W main_v11 : FVec Ideal S3x128 .f32) (ix2 a d)
    = (W main_arg2 : FVec Ideal S131x128 .f32) (ix2 (⟨a.val, by omega⟩ : Fin 131) d) := by
  have e : (StableHlo.after hostOps4 W main_v11 : FVec Ideal S3x128 .f32) = extractStridedSlice S3x128 ![0, 0] (W main_arg2 : FVec Ideal S131x128 .f32) slices_S131x128_S3x128_0_0 := by
    simp only [hostOps4]
    after_results
    try rfl
  refine (congrFun e _).trans ?_
  pointwise

theorem read_v12 (d : Fin 128) : (StableHlo.after hostOps4 W main_v12 : FVec Ideal S1x128 .f32) (ix2 (0 : Fin 1) d) = (W main_arg3 : FVec Ideal S128 .f32) (ix1 d) := by
  have e : (StableHlo.after hostOps4 W main_v12 : FVec Ideal S1x128 .f32) = shapeCast _ (W main_arg3 : FVec Ideal S128 .f32) shapeCasts_S128_S1x128 := by
    simp only [hostOps4]
    after_results
    try rfl
  refine (congrFun e _).trans ?_
  pointwise

theorem read_v14 (r : Fin 65536) (d : Fin 128) : (StableHlo.after hostOps5 W main_v14 : FVec Ideal S65536x128 .f32) (ix2 r d)
    = (W main_v13_0 : FVec Ideal S2048x32x128 .f32) (ix3 (⟨r.val / 32, by omega⟩ : Fin 2048) (⟨r.val % 32, by omega⟩ : Fin 32) d) := by
  have e : (StableHlo.after hostOps5 W main_v14 : FVec Ideal S65536x128 .f32) = shapeCast _ (W main_v13_0 : FVec Ideal S2048x32x128 .f32) shapeCasts_S2048x32x128_S65536x128 := by
    simp only [hostOps5]
    after_results
    try rfl
  refine (congrFun e _).trans ?_
  pointwise

theorem read_v15 (d : Fin 128) : (StableHlo.after hostOps5 W main_v15 : FVec Ideal S1x128 .f32) (ix2 (0 : Fin 1) d) = (W main_arg4 : FVec Ideal S128 .f32) (ix1 d) := by
  have e : (StableHlo.after hostOps5 W main_v15 : FVec Ideal S1x128 .f32) = shapeCast _ (W main_arg4 : FVec Ideal S128 .f32) shapeCasts_S128_S1x128 := by
    simp only [hostOps5]
    after_results
    try rfl
  refine (congrFun e _).trans ?_
  pointwise

theorem read_v16 (d : Fin 128) : (StableHlo.after hostOps5 W main_v16 : FVec Ideal S1x128 .f32) (ix2 (0 : Fin 1) d) = (W main_arg5 : FVec Ideal S128 .f32) (ix1 d) := by
  have e : (StableHlo.after hostOps5 W main_v16 : FVec Ideal S1x128 .f32) = shapeCast _ (W main_arg5 : FVec Ideal S128 .f32) shapeCasts_S128_S1x128 := by
    simp only [hostOps5]
    after_results
    try rfl
  refine (congrFun e _).trans ?_
  pointwise

theorem read_v17 (d : Fin 128) : (StableHlo.after hostOps5 W main_v17 : FVec Ideal S1x128 .f32) (ix2 (0 : Fin 1) d) = (W main_arg7 : FVec Ideal S128 .f32) (ix1 d) := by
  have e : (StableHlo.after hostOps5 W main_v17 : FVec Ideal S1x128 .f32) = shapeCast _ (W main_arg7 : FVec Ideal S128 .f32) shapeCasts_S128_S1x128 := by
    simp only [hostOps5]
    after_results
    try rfl
  refine (congrFun e _).trans ?_
  pointwise

theorem read_v19 (d : Fin 128) : (StableHlo.after hostOps6 W main_v19 : FVec Ideal S1x128 .f32) (ix2 (0 : Fin 1) d) = (W main_arg8 : FVec Ideal S128 .f32) (ix1 d) := by
  have e : (StableHlo.after hostOps6 W main_v19 : FVec Ideal S1x128 .f32) = shapeCast _ (W main_arg8 : FVec Ideal S128 .f32) shapeCasts_S128_S1x128 := by
    simp only [hostOps6]
    after_results
    try rfl
  refine (congrFun e _).trans ?_
  pointwise

theorem read_v20 (d : Fin 128) : (StableHlo.after hostOps6 W main_v20 : FVec Ideal S1x128 .f32) (ix2 (0 : Fin 1) d) = (W main_arg9 : FVec Ideal S128 .f32) (ix1 d) := by
  have e : (StableHlo.after hostOps6 W main_v20 : FVec Ideal S1x128 .f32) = shapeCast _ (W main_arg9 : FVec Ideal S128 .f32) shapeCasts_S128_S1x128 := by
    simp only [hostOps6]
    after_results
    try rfl
  refine (congrFun e _).trans ?_
  pointwise

theorem read_v21 (d : Fin 256) : (StableHlo.after hostOps6 W main_v21 : FVec Ideal S1x256 .f32) (ix2 (0 : Fin 1) d) = (W main_arg11 : FVec Ideal S256 .f32) (ix1 d) := by
  have e : (StableHlo.after hostOps6 W main_v21 : FVec Ideal S1x256 .f32) = shapeCast _ (W main_arg11 : FVec Ideal S256 .f32) shapeCasts_S256_S1x256 := by
    simp only [hostOps6]
    after_results
    try rfl
  refine (congrFun e _).trans ?_
  pointwise

theorem read_v23 (b : Fin 2) (j : Fin 1024) (k : Fin 32) (d : Fin 256) : (StableHlo.after hostOps7 W main_v23 : FVec Ideal S2x1024x32x256 .f32) (ix4 b j k d)
    = (W main_v22_0 : FVec Ideal S65536x256 .f32) (ix2 (at_ b j k) d) := by
  have e : (StableHlo.after hostOps7 W main_v23 : FVec Ideal S2x1024x32x256 .f32) = shapeCast _ (W main_v22_0 : FVec Ideal S65536x256 .f32) shapeCasts_S65536x256_S2x1024x32x256 := by
    simp only [hostOps7]
    after_results
    try rfl
  refine (congrFun e _).trans ?_
  pointwise
  exact congrArg (fun r => (W main_v22_0 : FVec Ideal S65536x256 .f32) (ix2 r d)) (Fin.ext (by simp only; omega))

theorem read_v24 (d : Fin 256) : (StableHlo.after hostOps7 W main_v24 : FVec Ideal S1x256 .f32) (ix2 (0 : Fin 1) d) = (W main_arg12 : FVec Ideal S256 .f32) (ix1 d) := by
  have e : (StableHlo.after hostOps7 W main_v24 : FVec Ideal S1x256 .f32) = shapeCast _ (W main_arg12 : FVec Ideal S256 .f32) shapeCasts_S256_S1x256 := by
    simp only [hostOps7]
    after_results
    try rfl
  refine (congrFun e _).trans ?_
  pointwise

theorem read_v25 (d : Fin 256) : (StableHlo.after hostOps7 W main_v25 : FVec Ideal S1x256 .f32) (ix2 (0 : Fin 1) d) = (W main_arg13 : FVec Ideal S256 .f32) (ix1 d) := by
  have e : (StableHlo.after hostOps7 W main_v25 : FVec Ideal S1x256 .f32) = shapeCast _ (W main_arg13 : FVec Ideal S256 .f32) shapeCasts_S256_S1x256 := by
    simp only [hostOps7]
    after_results
    try rfl
  refine (congrFun e _).trans ?_
  pointwise

end

variable (m : (ℓ : Loc nD τ sig) → Buf (Elt Ideal) ℓ) (c : Dev nD)

abbrev a0 : FVec Ideal S65536x128 .f32 := M8 m c main_v7
abbrev a1 : FVec Ideal S2x3x1024 .f32 := M2 m c main_v0
abbrev a2 : FVec Ideal S131x128 .f32 := m ((c : Thread nD τ).loc main_arg2)
abbrev a3 : FVec Ideal S128 .f32 := m ((c : Thread nD τ).loc main_arg3)
abbrev a4 : FVec Ideal S128 .f32 := m ((c : Thread nD τ).loc main_arg4)
abbrev a5 : FVec Ideal S128 .f32 := m ((c : Thread nD τ).loc main_arg5)
abbrev a6 : FVec Ideal S128x128 .f32 := m ((c : Thread nD τ).loc main_arg6)
abbrev a7 : FVec Ideal S128 .f32 := m ((c : Thread nD τ).loc main_arg7)
abbrev a8 : FVec Ideal S128 .f32 := m ((c : Thread nD τ).loc main_arg8)
abbrev a9 : FVec Ideal S128 .f32 := m ((c : Thread nD τ).loc main_arg9)
abbrev a10 : FVec Ideal S128x256 .f32 := m ((c : Thread nD τ).loc main_arg10)
abbrev a11 : FVec Ideal S256 .f32 := m ((c : Thread nD τ).loc main_arg11)
abbrev a12 : FVec Ideal S256 .f32 := m ((c : Thread nD τ).loc main_arg12)
abbrev a13 : FVec Ideal S256 .f32 := m ((c : Thread nD τ).loc main_arg13)

/-- What the first four calls leave alone is what the memory held at first. -/
theorem back4 (x : Ref sig .tc) (h : x ∉ hostOps3_W ++ [main_v7] ++ hostOps2_W ++ [main_v4] ++ hostOps1_W ++ [main_v3] ++ hostOps0_W ++ [main_v0]) : M8 m c x = m ((c : Thread nD τ).loc x) := by
  simp only [List.mem_append, not_or] at h
  obtain ⟨⟨⟨⟨⟨⟨⟨h1, h2⟩, h3⟩, h4⟩, h5⟩, h6⟩, h7⟩, h8⟩ := h
  exact (kept3 m c x h1 h2).trans ((kept2 m c x h3 h4).trans ((kept1 m c x h5 h6).trans (kept0 m c x h7 h8)))

/-- The sampled points stay as the first call left them. -/
theorem points_kept : M6 m c main_v0 = M2 m c main_v0 :=
  (kept2 m c main_v0 (by decide) (by decide)).trans (kept1 m c main_v0 (by decide) (by decide))

/-! The matrices the calls make. -/

def H1 : Mat 128 := kfirst (a0 m c) (a1 m c) (a2 m c) (a3 m c)
def H2 : Mat 128 := times (knorm (H1 m c) (a4 m c) (a5 m c)) (a6 m c) (a7 m c)
def H3 : Mat 256 := times (knorm (H2 m c) (a8 m c) (a9 m c)) (a10 m c) (a11 m c)

theorem mov_eq (j : Fin 2048) (k : Fin 32) (d : Fin 128) : mov2 (own (M9 m)) c j k d = H1 m c ⟨32 * j.val + k.val, by omega⟩ d := by
  show moved2 (StableHlo.after hostOps4 (M8 m c) main_v10) (StableHlo.after hostOps4 (M8 m c) main_v9) (StableHlo.after hostOps4 (M8 m c) main_v11)
    (StableHlo.after hostOps4 (M8 m c) main_v12) j k d = _
  unfold moved2 H1 kfirst centre
  have e1 : (M8 m c main_v0 : FVec Ideal S2x3x1024 .f32) = a1 m c := (kept3 m c main_v0 (by decide) (by decide)).trans (points_kept m c)
  have e2 : (M8 m c main_arg2 : FVec Ideal S131x128 .f32) = a2 m c := back4 m c main_arg2 (by decide)
  have e3 : (M8 m c main_arg3 : FVec Ideal S128 .f32) = a3 m c := back4 m c main_arg3 (by decide)
  rw [read_v10, read_v12, e3]
  refine congrArg (fun z : EReal => _ + (_ - z)) (Finset.sum_congr (M := EReal) rfl fun a _ => ?_)
  rw [read_v9, read_v11, e1, e2]
  have h1 : (32 * j.val + k.val) / 32 = j.val := by omega
  simp only [h1]

theorem first_array : (M10 m c main_v13_0 : FVec Ideal S2048x32x128 .f32) = fun i => mov2 (own (M9 m)) c (i 0) (i 1) (i 2) :=
  (Pipeline.afterRegion_arr (dat4 (own (M9 m)) c) (M9 m c) winFacts4.arr_inj 4).trans (array2 (own (M9 m)) c)

theorem first_sum (d : Fin 128) : (M10 m c main_v13_1 : FVec Ideal S1x128 .f32) (ix2 (0 : Fin 1) d) = ∑ r, H1 m c r d := by
  refine (congrFun ((Pipeline.afterRegion_arr (dat4 (own (M9 m)) c) (M9 m c) winFacts4.arr_inj 5).trans (arraySum2 (own (M9 m)) c)) _).trans ?_
  refine Eq.trans ?_ (sum_blocks 2048 32 65536 rfl (fun r => H1 m c r d) fun t i => by omega)
  exact Finset.sum_congr (M := EReal) rfl fun j _ => Finset.sum_congr (M := EReal) rfl fun k _ => mov_eq m c j k d

theorem first_squares (d : Fin 128) : (M10 m c main_v13_2 : FVec Ideal S1x128 .f32) (ix2 (0 : Fin 1) d) = ∑ r, H1 m c r d * H1 m c r d := by
  refine (congrFun ((Pipeline.afterRegion_arr (dat4 (own (M9 m)) c) (M9 m c) winFacts4.arr_inj 6).trans (arraySquares2 (own (M9 m)) c)) _).trans ?_
  refine Eq.trans ?_ (sum_blocks 2048 32 65536 rfl (fun r => H1 m c r d * H1 m c r d) fun t i => by omega)
  exact Finset.sum_congr (M := EReal) rfl fun j _ => Finset.sum_congr (M := EReal) rfl fun k _ => by rw [← mov_eq m c j k d]; rfl

theorem lin_eq3 (r : Fin 65536) (d : Fin 128) : lin3 (own (M11 m)) c r d = H2 m c r d := by
  have k1 : (M11 m c main_v13_1 : FVec Ideal S1x128 .f32) = M10 m c main_v13_1 := StableHlo.after_of_writes_sub hostOps5 _ hostOps5_writes (by decide)
  have k2 : (M11 m c main_v13_2 : FVec Ideal S1x128 .f32) = M10 m c main_v13_2 := StableHlo.after_of_writes_sub hostOps5 _ hostOps5_writes (by decide)
  have k3 : (M11 m c main_arg6 : FVec Ideal S128x128 .f32) = a6 m c :=
    (StableHlo.after_of_writes_sub hostOps5 _ hostOps5_writes (by decide)).trans ((kept4 m c main_arg6 (by decide) (by decide)).trans (back4 m c main_arg6 (by decide)))
  have k4 : (M10 m c main_arg4 : FVec Ideal S128 .f32) = a4 m c := (kept4 m c main_arg4 (by decide) (by decide)).trans (back4 m c main_arg4 (by decide))
  have k5 : (M10 m c main_arg5 : FVec Ideal S128 .f32) = a5 m c := (kept4 m c main_arg5 (by decide) (by decide)).trans (back4 m c main_arg5 (by decide))
  have k6 : (M10 m c main_arg7 : FVec Ideal S128 .f32) = a7 m c := (kept4 m c main_arg7 (by decide) (by decide)).trans (back4 m c main_arg7 (by decide))
  show linear3 (M11 m c main_v14) (M11 m c main_v13_1) (M11 m c main_v13_2) (M11 m c main_v15) (M11 m c main_v16) (M11 m c main_arg6) (M11 m c main_v17) r d = _
  rw [k1, k2, k3]
  unfold linear3 H2 times knorm
  rw [show (M11 m c main_v17 : FVec Ideal S1x128 .f32) (ix2 (0 : Fin 1) d) = a7 m c (ix1 d) from (read_v17 (M10 m c) d).trans (congrFun k6 _)]
  refine congrArg (fun z : EReal => z + _) (Finset.sum_congr (M := EReal) rfl fun k _ => ?_)
  rw [first_sum, first_squares, show (M11 m c main_v15 : FVec Ideal S1x128 .f32) (ix2 (0 : Fin 1) k) = a4 m c (ix1 k) from (read_v15 (M10 m c) k).trans (congrFun k4 _),
    show (M11 m c main_v16 : FVec Ideal S1x128 .f32) (ix2 (0 : Fin 1) k) = a5 m c (ix1 k) from (read_v16 (M10 m c) k).trans (congrFun k5 _),
    show (M11 m c main_v14 : FVec Ideal S65536x128 .f32) (ix2 r k) = H1 m c r k from (read_v14 (M10 m c) r k).trans ((congrFun (first_array m c) _).trans
      ((mov_eq m c _ _ k).trans (congrArg (fun r => H1 m c r k) (Fin.ext (Nat.div_add_mod r.val 32)))))]

theorem array_16 : (M12 m c main_v18_0 : FVec Ideal S65536x128 .f32) = fun i => H2 m c (i 0) (i 1) :=
  (Pipeline.afterRegion_arr (dat5 (own (M11 m)) c) (M11 m c) winFacts5.arr_inj 7).trans ((array3 (own (M11 m)) c).trans
    (funext fun i => lin_eq3 m c (i 0) (i 1)))

theorem sum_16 (d : Fin 128) : (M12 m c main_v18_1 : FVec Ideal S1x128 .f32) (ix2 (0 : Fin 1) d) = ∑ r, H2 m c r d := by
  refine (congrFun ((Pipeline.afterRegion_arr (dat5 (own (M11 m)) c) (M11 m c) winFacts5.arr_inj 8).trans (arraySum3 (own (M11 m)) c)) _).trans ?_
  exact Finset.sum_congr (M := EReal) rfl fun r _ => lin_eq3 m c r d

theorem squares_16 (d : Fin 128) : (M12 m c main_v18_2 : FVec Ideal S1x128 .f32) (ix2 (0 : Fin 1) d) = ∑ r, H2 m c r d * H2 m c r d := by
  refine (congrFun ((Pipeline.afterRegion_arr (dat5 (own (M11 m)) c) (M11 m c) winFacts5.arr_inj 9).trans (arraySquares3 (own (M11 m)) c)) _).trans ?_
  exact Finset.sum_congr (M := EReal) rfl fun r _ => by rw [← lin_eq3 m c r d]; rfl

theorem lin_eq4 (r : Fin 65536) (d : Fin 256) : lin4 (own (M13 m)) c r d = H3 m c r d := by
  have k0 : (M13 m c main_v18_0 : FVec Ideal S65536x128 .f32) = M12 m c main_v18_0 := StableHlo.after_of_writes_sub hostOps6 _ hostOps6_writes (by decide)
  have k1 : (M13 m c main_v18_1 : FVec Ideal S1x128 .f32) = M12 m c main_v18_1 := StableHlo.after_of_writes_sub hostOps6 _ hostOps6_writes (by decide)
  have k2 : (M13 m c main_v18_2 : FVec Ideal S1x128 .f32) = M12 m c main_v18_2 := StableHlo.after_of_writes_sub hostOps6 _ hostOps6_writes (by decide)
  have back (x : Ref sig .tc) (h1 : x ∉ hostOps5_W) (h2 : x ∉ ([main_v18_0, main_v18_1, main_v18_2] : List (Ref sig .tc)))
      (h3 : x ∉ hostOps4_W) (h4 : x ∉ ([main_v13_0, main_v13_1, main_v13_2] : List (Ref sig .tc)))
      (g : x ∉ hostOps3_W ++ [main_v7] ++ hostOps2_W ++ [main_v4] ++ hostOps1_W ++ [main_v3] ++ hostOps0_W ++ [main_v0]) : M12 m c x = m ((c : Thread nD τ).loc x) :=
    (kept5 m c x h1 h2).trans ((kept4 m c x h3 h4).trans (back4 m c x g))
  have k3 : (M13 m c main_arg10 : FVec Ideal S128x256 .f32) = a10 m c :=
    (StableHlo.after_of_writes_sub hostOps6 _ hostOps6_writes (by decide)).trans (back main_arg10 (by decide) (by decide) (by decide) (by decide) (by decide))
  have k4 : (M12 m c main_arg8 : FVec Ideal S128 .f32) = a8 m c := back main_arg8 (by decide) (by decide) (by decide) (by decide) (by decide)
  have k5 : (M12 m c main_arg9 : FVec Ideal S128 .f32) = a9 m c := back main_arg9 (by decide) (by decide) (by decide) (by decide) (by decide)
  have k6 : (M12 m c main_arg11 : FVec Ideal S256 .f32) = a11 m c := back main_arg11 (by decide) (by decide) (by decide) (by decide) (by decide)
  show linear4 (M13 m c main_v18_0) (M13 m c main_v18_1) (M13 m c main_v18_2) (M13 m c main_v19) (M13 m c main_v20) (M13 m c main_arg10) (M13 m c main_v21) r d = _
  rw [k0, k1, k2, k3]
  unfold linear4 H3 times knorm
  rw [show (M13 m c main_v21 : FVec Ideal S1x256 .f32) (ix2 (0 : Fin 1) d) = a11 m c (ix1 d) from (read_v21 (M12 m c) d).trans (congrFun k6 _)]
  refine congrArg (fun z : EReal => z + _) (Finset.sum_congr (M := EReal) rfl fun k _ => ?_)
  rw [sum_16, squares_16, array_16, show (M13 m c main_v19 : FVec Ideal S1x128 .f32) (ix2 (0 : Fin 1) k) = a8 m c (ix1 k) from (read_v19 (M12 m c) k).trans (congrFun k4 _),
    show (M13 m c main_v20 : FVec Ideal S1x128 .f32) (ix2 (0 : Fin 1) k) = a9 m c (ix1 k) from (read_v20 (M12 m c) k).trans (congrFun k5 _)]
  rfl

theorem array_20 : (M14 m c main_v22_0 : FVec Ideal S65536x256 .f32) = fun i => H3 m c (i 0) (i 1) :=
  (Pipeline.afterRegion_arr (dat6 (own (M13 m)) c) (M13 m c) winFacts6.arr_inj 7).trans ((array4 (own (M13 m)) c).trans
    (funext fun i => lin_eq4 m c (i 0) (i 1)))

theorem sum_20 (d : Fin 256) : (M14 m c main_v22_1 : FVec Ideal S1x256 .f32) (ix2 (0 : Fin 1) d) = ∑ r, H3 m c r d := by
  refine (congrFun ((Pipeline.afterRegion_arr (dat6 (own (M13 m)) c) (M13 m c) winFacts6.arr_inj 8).trans (arraySum4 (own (M13 m)) c)) _).trans ?_
  exact Finset.sum_congr (M := EReal) rfl fun r _ => lin_eq4 m c r d

theorem squares_20 (d : Fin 256) : (M14 m c main_v22_2 : FVec Ideal S1x256 .f32) (ix2 (0 : Fin 1) d) = ∑ r, H3 m c r d * H3 m c r d := by
  refine (congrFun ((Pipeline.afterRegion_arr (dat6 (own (M13 m)) c) (M13 m c) winFacts6.arr_inj 9).trans (arraySquares4 (own (M13 m)) c)) _).trans ?_
  exact Finset.sum_congr (M := EReal) rfl fun r _ => by rw [← lin_eq4 m c r d]; rfl

/-- The result, of the arguments. -/
theorem kernel_at : (M16 m c main_v26 : FVec Ideal S2x256x1024 .f32) = fun i => best (knorm (H3 m c) (a12 m c) (a13 m c)) (i 0) (i 1) (i 2) := by
  have k1 : (M15 m c main_v22_1 : FVec Ideal S1x256 .f32) = M14 m c main_v22_1 := StableHlo.after_of_writes_sub hostOps7 _ hostOps7_writes (by decide)
  have k2 : (M15 m c main_v22_2 : FVec Ideal S1x256 .f32) = M14 m c main_v22_2 := StableHlo.after_of_writes_sub hostOps7 _ hostOps7_writes (by decide)
  have back (x : Ref sig .tc) (h5 : x ∉ hostOps6_W) (h6 : x ∉ ([main_v22_0, main_v22_1, main_v22_2] : List (Ref sig .tc)))
      (h1 : x ∉ hostOps5_W) (h2 : x ∉ ([main_v18_0, main_v18_1, main_v18_2] : List (Ref sig .tc)))
      (h3 : x ∉ hostOps4_W) (h4 : x ∉ ([main_v13_0, main_v13_1, main_v13_2] : List (Ref sig .tc)))
      (g : x ∉ hostOps3_W ++ [main_v7] ++ hostOps2_W ++ [main_v4] ++ hostOps1_W ++ [main_v3] ++ hostOps0_W ++ [main_v0]) : M14 m c x = m ((c : Thread nD τ).loc x) :=
    (kept6 m c x h5 h6).trans ((kept5 m c x h1 h2).trans ((kept4 m c x h3 h4).trans (back4 m c x g)))
  have k4 : (M14 m c main_arg12 : FVec Ideal S256 .f32) = a12 m c := back main_arg12 (by decide) (by decide) (by decide) (by decide) (by decide) (by decide) (by decide)
  have k5 : (M14 m c main_arg13 : FVec Ideal S256 .f32) = a13 m c := back main_arg13 (by decide) (by decide) (by decide) (by decide) (by decide) (by decide) (by decide)
  refine (result m c).trans ((array5 (own (M15 m)) c).trans (funext fun i => ?_))
  obtain ⟨b, d, j, hb, hd, hj⟩ : ∃ (b : Fin 2) (d : Fin 256) (j : Fin 1024), i 0 = b ∧ i 1 = d ∧ i 2 = j := ⟨i 0, i 1, i 2, rfl, rfl, rfl⟩
  rw [hb, hd, hj]
  show top5 (M15 m c main_v23) (M15 m c main_v22_1) (M15 m c main_v22_2) (M15 m c main_v24) (M15 m c main_v25) b d j = _
  rw [k1, k2]
  unfold top5 best knorm
  refine congrArg (fun f => Finset.univ.fold max (Ideal.ofBits .f32 0xFF800000#32 : EReal) f) (funext fun k => ?_)
  rw [sum_20, squares_20, show (M15 m c main_v24 : FVec Ideal S1x256 .f32) (ix2 (0 : Fin 1) d) = a12 m c (ix1 d) from (read_v24 (M14 m c) d).trans (congrFun k4 _),
    show (M15 m c main_v25 : FVec Ideal S1x256 .f32) (ix2 (0 : Fin 1) d) = a13 m c (ix1 d) from (read_v25 (M14 m c) d).trans (congrFun k5 _),
    show (M15 m c main_v23 : FVec Ideal S2x1024x32x256 .f32) (ix4 b j k d) = H3 m c (at_ b j k) d from (read_v23 (M14 m c) b j k d).trans (congrFun (array_20 m c) _)]

end Cert.Proof.Tail

end
-- ==== Proof.Rows.lean ====
/- The gathered rows of products, and the first layer by them and by the coordinates. -/
module

public import proofs.«01_k».proof.Proof.Stacked

@[expose] public section

noncomputable section

namespace Cert.Proof.Tail

open Idealize.ShloMosaic

abbrev Arr3 (p q r : ℕ) := (⟨3, ![p, q, r]⟩ : Shape).Idx → EReal

/-- The products of point `n` of cloud `b` at channel `d`. -/
def row (p : Arr3 2 3 8192) (f : Arr3 2 128 8192) (w : Arr2 131 128) (b : Fin 2) (n : Fin 8192) (d : Fin 128) : EReal :=
  ((∑ k : Fin 128, f (ix3 b k n) * w (ix2 (⟨3 + k.val, by omega⟩ : Fin 131) d) : EReal)
    + ∑ k : Fin 3, p (ix3 b k n) * w (ix2 (⟨k.val, by omega⟩ : Fin 131) d) : EReal)

/-- The row that entry `r` of the row numbers names. -/
def named (n : (⟨3, ![2, 1024, 32]⟩ : Shape).Idx → BitVec 32) (r : Fin 65536) : Fin 16384 :=
  ⟨min (n (ix3 (⟨r.val / 32 / 1024, by omega⟩ : Fin 2) (⟨r.val / 32 % 1024, by omega⟩ : Fin 1024) (⟨r.val % 32, by omega⟩ : Fin 32))).toNat 16383, by omega⟩

/-- The cloud and the number of a row of the table. -/
abbrev cloud (r : Fin 16384) : Fin 2 := ⟨r.val / 8192, by omega⟩
abbrev point (r : Fin 16384) : Fin 8192 := ⟨r.val % 8192, by omega⟩

/-- The rows taken. -/
def taken (p : Arr3 2 3 8192) (f : Arr3 2 128 8192) (w : Arr2 131 128) (n : (⟨3, ![2, 1024, 32]⟩ : Shape).Idx → BitVec 32) : Arr2 65536 128 := fun i =>
  row p f w (cloud (named n (i 0))) (point (named n (i 0))) (i 1)

theorem named_at (n : (⟨3, ![2, 1024, 32]⟩ : Shape).Idx → BitVec 32) (b : Fin 2) (j : Fin 1024) (k : Fin 32) :
    named n (at_ b j k) = ⟨min (n (ix3 b j k)).toNat 16383, by omega⟩ := by
  unfold named
  have h1 : (⟨(at_ b j k).val / 32 / 1024, by omega⟩ : Fin 2) = b := Fin.ext (by simp only; omega)
  have h2 : (⟨(at_ b j k).val / 32 % 1024, by omega⟩ : Fin 1024) = j := Fin.ext (by simp only; omega)
  have h3 : (⟨(at_ b j k).val % 32, by omega⟩ : Fin 32) = k := Fin.ext (by simp only; omega)
  exact Fin.ext (congrArg (fun v : BitVec 32 => min v.toNat 16383) (congrArg n (by rw [h1, h2, h3])))

theorem fin_taken {p : Arr3 2 3 8192} {f : Arr3 2 128 8192} {w : Arr2 131 128} (hp : ∀ i, Fin_ (p i)) (hf : ∀ i, Fin_ (f i)) (hw : ∀ i, Fin_ (w i))
    (n : (⟨3, ![2, 1024, 32]⟩ : Shape).Idx → BitVec 32) (i : (⟨2, ![65536, 128]⟩ : Shape).Idx) : Fin_ (taken p f w n i) :=
  fin_add (fin_sum fun _ => fin_mul (hf _) (hw _)) (fin_sum fun _ => fin_mul (hp _) (hw _))

/-- A sum of differences times weights, apart. -/
theorem apart {n : ℕ} (p q w : Fin n → EReal) (hp : ∀ k, Fin_ (p k)) (hq : ∀ k, Fin_ (q k)) (hw : ∀ k, Fin_ (w k)) :
    (∑ k, (p k - q k) * w k : EReal) = (∑ k, p k * w k : EReal) - ∑ k, q k * w k := by
  choose P hP using hp
  choose Q hQ using hq
  choose W hW using hw
  have e1 (k : Fin n) : (p k - q k) * w k = (((P k - Q k) * W k : ℝ) : EReal) := by rw [hP, hQ, hW]; push_cast; rfl
  have e2 (k : Fin n) : p k * w k = ((P k * W k : ℝ) : EReal) := by rw [hP, hW]; push_cast; rfl
  have e3 (k : Fin n) : q k * w k = ((Q k * W k : ℝ) : EReal) := by rw [hQ, hW]; push_cast; rfl
  have s (g : Fin n → ℝ) : (∑ k, ((g k : ℝ) : EReal) : EReal) = ((∑ k, g k : ℝ) : EReal) :=
    (map_sum (⟨⟨Real.toEReal, EReal.coe_zero⟩, EReal.coe_add⟩ : ℝ →+ EReal) g Finset.univ).symm
  rw [Finset.sum_congr (M := EReal) rfl fun k _ => e1 k, Finset.sum_congr (M := EReal) rfl fun k _ => e2 k,
    Finset.sum_congr (M := EReal) rfl fun k _ => e3 k, s, s, s, ← EReal.coe_sub, ← Finset.sum_sub_distrib]
  exact congrArg _ (Finset.sum_congr rfl fun k _ => by ring)

/-- The first layer from the differences of coordinates and the features is the one from the rows taken. -/
theorem first_of {p : Arr3 2 3 8192} {f : Arr3 2 128 8192} {q : Arr3 2 3 1024} {w : Arr2 131 128} (bias : Arr1 128) (hp : ∀ i, Fin_ (p i)) (hf : ∀ i, Fin_ (f i))
    (hq : ∀ i, Fin_ (q i)) (hw : ∀ i, Fin_ (w i)) (n : (⟨3, ![2, 1024, 32]⟩ : Shape).Idx → BitVec 32) (b : Fin 2) (j : Fin 1024) (k : Fin 32) (d : Fin 128)
    (r : Fin 16384) (hr : (n (ix3 b j k)).toNat = r.val) :
    ((∑ a : Fin 3, (p (ix3 (cloud r) a (point r)) - q (ix3 b a j)) * w (ix2 (⟨a.val, by omega⟩ : Fin 131) d) : EReal)
      + (∑ a : Fin 128, f (ix3 (cloud r) a (point r)) * w (ix2 (⟨3 + a.val, by omega⟩ : Fin 131) d) : EReal) : EReal) + bias (ix1 d)
      = rfirst (taken p f w n) q w bias (at_ b j k) d := by
  have hn : named n (at_ b j k) = r := (named_at n b j k).trans (Fin.ext (by simp only; omega))
  unfold rfirst
  refine congrArg (fun z : EReal => z + bias (ix1 d)) ?_
  rw [centre_at, apart _ _ _ (fun _ => hp _) (fun _ => hq _) (fun _ => hw _)]
  have ht : taken p f w n (ix2 (at_ b j k) d) = row p f w (cloud r) (point r) d := by
    show row p f w (cloud (named n (at_ b j k))) (point (named n (at_ b j k))) d = _
    rw [hn]
  rw [ht]
  unfold row
  obtain ⟨A, hA⟩ := fin_sum fun a : Fin 3 => fin_mul (hp (ix3 (cloud r) a (point r))) (hw (ix2 (⟨a.val, by omega⟩ : Fin 131) d))
  obtain ⟨B, hB⟩ := fin_sum fun a : Fin 3 => fin_mul (hq (ix3 b a j)) (hw (ix2 (⟨a.val, by omega⟩ : Fin 131) d))
  obtain ⟨C, hC⟩ := fin_sum fun a : Fin 128 => fin_mul (hf (ix3 (cloud r) a (point r))) (hw (ix2 (⟨3 + a.val, by omega⟩ : Fin 131) d))
  rw [hA, hB, hC, ← EReal.coe_sub, ← EReal.coe_add, ← EReal.coe_add, ← EReal.coe_sub]
  exact congrArg _ (by ring)

end Cert.Proof.Tail

end
-- ==== Proof.Tabled.lean ====
/- The table of products and its rows gathered: what the second call and the gather make of the memory. -/
module

public import proofs.«01_k».proof.Proof.Chained
public import proofs.«01_k».proof.Proof.Rows

@[expose] public section

set_option maxRecDepth 65536

noncomputable section

namespace Cert.Proof.Tail

open Idealize.ShloMosaic Idealize.ShloMosaic.TcCoe
open Idealize.SL Idealize.SL.Sem
open Cert.KernelIdeal Cert.KernelIdeal.Gen

theorem tab_at (v0 : FVec Ideal S1x3x8192 .f32) (v2 : FVec Ideal S1x128x8192 .f32) (v4 : FVec Ideal S128x128 .f32) (v7 : FVec Ideal S3x128 .f32)
    (n : Fin 8192) (d : Fin 128) : k1_pay1 (F := Ideal) v0 v2 v4 v7 (ix3 (0 : Fin 1) n d)
      = ((∑ k : Fin 128, v2 (ix3 (0 : Fin 1) k n) * v4 (ix2 k d) : EReal) + ∑ k : Fin 3, v0 (ix3 (0 : Fin 1) k n) * v7 (ix2 k d) : EReal) := by
  unfold k1_pay1
  pointwise

section
variable (V : Dev nD → (b : Ref sig .tc) → b.ty.Contents (Elt Ideal))

theorem tabFetch0 (c : Dev nD) (t : Fin cfg1.N) (b : Fin 2) (hb : win1_0.index t 0 = b.val) (a : Fin 3) (n : Fin 8192) :
    iblk1 V c 0 t (ix3 (0 : Fin 1) a n) = (V c main_arg0 : FVec Ideal S2x3x8192 .f32) (ix3 b a n) := by
  show (V c main_arg0 : FVec Ideal S2x3x8192 .f32) (((View.whole main_arg0).slice (win1_0.rect t)).emb (ix3 (0 : Fin 1) a n)) = _
  refine congrArg (V c main_arg0 : FVec Ideal S2x3x8192 .f32) (funext fun d => Fin.ext ?_)
  blk_simp
  have hi := (by decide +kernel : ∀ t : Fin grid1.N, win1_0.index t 1 = 0 ∧ win1_0.index t 2 = 0) t
  match d with
  | ⟨0, _⟩ => exact (congrArg (· * 1 + 0) hb).trans (Nat.mul_one _)
  | ⟨1, _⟩ => exact (congrArg (· * 3 + a.val) hi.1).trans (Nat.zero_add _)
  | ⟨2, _⟩ => exact (congrArg (· * 8192 + n.val) hi.2).trans (Nat.zero_add _)

theorem tabFetch1 (c : Dev nD) (t : Fin cfg1.N) (b : Fin 2) (hb : win1_1.index t 0 = b.val) (a : Fin 128) (n : Fin 8192) :
    iblk1 V c 1 t (ix3 (0 : Fin 1) a n) = (V c main_arg1 : FVec Ideal S2x128x8192 .f32) (ix3 b a n) := by
  show (V c main_arg1 : FVec Ideal S2x128x8192 .f32) (((View.whole main_arg1).slice (win1_1.rect t)).emb (ix3 (0 : Fin 1) a n)) = _
  refine congrArg (V c main_arg1 : FVec Ideal S2x128x8192 .f32) (funext fun d => Fin.ext ?_)
  blk_simp
  have hi := (by decide +kernel : ∀ t : Fin grid1.N, win1_1.index t 1 = 0 ∧ win1_1.index t 2 = 0) t
  match d with
  | ⟨0, _⟩ => exact (congrArg (· * 1 + 0) hb).trans (Nat.mul_one _)
  | ⟨1, _⟩ => exact (congrArg (· * 128 + a.val) hi.1).trans (Nat.zero_add _)
  | ⟨2, _⟩ => exact (congrArg (· * 8192 + n.val) hi.2).trans (Nat.zero_add _)

theorem tabFetch2 (c : Dev nD) (t : Fin cfg1.N) (a : Fin 3) (d : Fin 128) :
    iblk1 V c 2 t (ix2 a d) = (V c main_v1 : FVec Ideal S3x128 .f32) (ix2 a d) := by
  show (V c main_v1 : FVec Ideal S3x128 .f32) (((View.whole main_v1).slice (win1_2.rect t)).emb (ix2 a d)) = _
  refine congrArg (V c main_v1 : FVec Ideal S3x128 .f32) (funext fun x => Fin.ext ?_)
  blk_simp
  have hi := (by decide +kernel : ∀ t : Fin grid1.N, win1_2.index t 0 = 0 ∧ win1_2.index t 1 = 0) t
  match x with
  | ⟨0, _⟩ => exact (congrArg (· * 3 + a.val) hi.1).trans (Nat.zero_add _)
  | ⟨1, _⟩ => exact (congrArg (· * 128 + d.val) hi.2).trans (Nat.zero_add _)

theorem tabFetch3 (c : Dev nD) (t : Fin cfg1.N) (a : Fin 128) (d : Fin 128) :
    iblk1 V c 3 t (ix2 a d) = (V c main_v2 : FVec Ideal S128x128 .f32) (ix2 a d) := by
  show (V c main_v2 : FVec Ideal S128x128 .f32) (((View.whole main_v2).slice (win1_3.rect t)).emb (ix2 a d)) = _
  refine congrArg (V c main_v2 : FVec Ideal S128x128 .f32) (funext fun x => Fin.ext ?_)
  blk_simp
  have hi := (by decide +kernel : ∀ t : Fin grid1.N, win1_3.index t 0 = 0 ∧ win1_3.index t 1 = 0) t
  match x with
  | ⟨0, _⟩ => exact (congrArg (· * 128 + a.val) hi.1).trans (Nat.zero_add _)
  | ⟨1, _⟩ => exact (congrArg (· * 128 + d.val) hi.2).trans (Nat.zero_add _)

end

variable (m : (ℓ : Loc nD τ sig) → Buf (Elt Ideal) ℓ)

theorem top_rows (c : Dev nD) (a : Fin 3) (d : Fin 128) : (M3 m c main_v1 : FVec Ideal S3x128 .f32) (ix2 a d)
    = (m ((c : Thread nD τ).loc main_arg2) : FVec Ideal S131x128 .f32) (ix2 (⟨a.val, by omega⟩ : Fin 131) d) := by
  have e : (M3 m c main_v1 : FVec Ideal S3x128 .f32) = extractStridedSlice S3x128 ![0, 0] (M2 m c main_arg2 : FVec Ideal S131x128 .f32) slices_S131x128_S3x128_0_0 := by
    simp only [M3, hostOps1]
    after_results
    try rfl
  rw [kept0 m c main_arg2 (by decide) (by decide)] at e
  refine (congrFun e _).trans ?_
  pointwise

theorem low_rows (c : Dev nD) (a : Fin 128) (d : Fin 128) : (M3 m c main_v2 : FVec Ideal S128x128 .f32) (ix2 a d)
    = (m ((c : Thread nD τ).loc main_arg2) : FVec Ideal S131x128 .f32) (ix2 (⟨3 + a.val, by omega⟩ : Fin 131) d) := by
  have e : (M3 m c main_v2 : FVec Ideal S128x128 .f32) = extractStridedSlice S128x128 ![3, 0] (M2 m c main_arg2 : FVec Ideal S131x128 .f32) slices_S131x128_S128x128_3_0 := by
    simp only [M3, hostOps1]
    after_results
    try rfl
  rw [kept0 m c main_arg2 (by decide) (by decide)] at e
  refine (congrFun e _).trans ?_
  pointwise

abbrev s0 (c : Dev nD) : FVec Ideal S2x3x8192 .f32 := m ((c : Thread nD τ).loc main_arg0)
abbrev s1 (c : Dev nD) : FVec Ideal S2x128x8192 .f32 := m ((c : Thread nD τ).loc main_arg1)
abbrev s3 (c : Dev nD) : IVec S2x1024x32 32 := M6 m c main_v4

/-- The table. -/
theorem table_at (c : Dev nD) : (M4 m c main_v3 : FVec Ideal S2x8192x128 .f32) = fun i => row (s0 m c) (s1 m c) (a2 m c) (i 0) (i 1) (i 2) := by
  refine (Pipeline.afterRegion_arr (dat1 (own (M3 m)) c) (M3 m c) winFacts1.arr_inj 4).trans ?_
  refine (dat1 (own (M3 m)) c).arrAt_eq_of_covers 4 _ (by decide +kernel) fun t hf y => ?_
  blk_simp
  rw [after1_4]
  frame_out
  obtain ⟨n, d, rfl⟩ : ∃ (n : Fin 8192) (d : Fin 128), y = ix3 (0 : Fin 1) n d := ⟨y 1, y 2, funext fun d => by
    match d with
    | ⟨0, _⟩ => exact Subsingleton.elim (α := Fin 1) _ _
    | ⟨1, _⟩ => rfl
    | ⟨2, _⟩ => rfl⟩
  obtain ⟨b, hb, hb0, hb1, h1, h2⟩ := (by decide +kernel : ∀ t : Fin grid1.N, ∃ b : Fin 2, win1_4.index t 0 = b.val ∧ win1_0.index t 0 = b.val
    ∧ win1_1.index t 0 = b.val ∧ win1_4.index t 1 = 0 ∧ win1_4.index t 2 = 0) t
  have hE : (((View.whole main_v3).slice (win1_4.rect t)).emb (ix3 (0 : Fin 1) n d) : S2x8192x128.Idx) = ix3 b n d := funext fun x => Fin.ext (by
    blk_simp
    match x with
    | ⟨0, _⟩ => exact (congrArg (· * 1 + 0) hb).trans (Nat.mul_one _)
    | ⟨1, _⟩ => exact (congrArg (· * 8192 + n.val) h1).trans (Nat.zero_add _)
    | ⟨2, _⟩ => exact (congrArg (· * 128 + d.val) h2).trans (Nat.zero_add _))
  refine (tab_at _ _ _ _ n d).trans ?_
  refine Eq.trans ?_ (congrArg (fun i : S2x8192x128.Idx => row (s0 m c) (s1 m c) (a2 m c) (i 0) (i 1) (i 2)) hE).symm
  refine congrArg₂ (fun u v : EReal => u + v) (Finset.sum_congr (M := EReal) rfl fun k _ => congrArg₂ (fun u v : EReal => u * v) ?_ ?_)
    (Finset.sum_congr (M := EReal) rfl fun k _ => congrArg₂ (fun u v : EReal => u * v) ?_ ?_)
  · exact (tabFetch1 (own (M3 m)) c t b hb1 k n).trans (congrFun ((StableHlo.after_of_writes_sub hostOps1 _ hostOps1_writes (by decide)).trans (kept0 m c main_arg1 (by decide) (by decide)) :
      (M3 m c main_arg1 : FVec Ideal S2x128x8192 .f32) = s1 m c) _)
  · exact (tabFetch3 (own (M3 m)) c t k d).trans (low_rows m c k d)
  · exact (tabFetch0 (own (M3 m)) c t b hb0 k n).trans (congrFun ((StableHlo.after_of_writes_sub hostOps1 _ hostOps1_writes (by decide)).trans (kept0 m c main_arg0 (by decide) (by decide)) :
      (M3 m c main_arg0 : FVec Ideal S2x3x8192 .f32) = s0 m c) _)
  · exact (tabFetch2 (own (M3 m)) c t k d).trans (top_rows m c k d)

section
variable {F : FTy → Type} [FloatOps F] (W : Valuation τ sig (Elt F))

theorem read_v5 (r : Fin 16384) (d : Fin 128) : (StableHlo.after hostOps3 W main_v5 : FVec F S16384x128 .f32) (ix2 r d)
    = (W main_v3 : FVec F S2x8192x128 .f32) (ix3 (cloud r) (point r) d) := by
  have e : (StableHlo.after hostOps3 W main_v5 : FVec F S16384x128 .f32) = shapeCast _ (W main_v3 : FVec F S2x8192x128 .f32) shapeCasts_S2x8192x128_S16384x128 := by
    simp only [hostOps3]
    after_results
    try rfl
  refine (congrFun e _).trans ?_
  pointwise

theorem read_v6 (r : Fin 65536) : (StableHlo.after hostOps3 W main_v6 : IVec S65536 32) (ix1 r)
    = (W main_v4 : IVec S2x1024x32 32) (ix3 (⟨r.val / 32 / 1024, by omega⟩ : Fin 2) (⟨r.val / 32 % 1024, by omega⟩ : Fin 1024) (⟨r.val % 32, by omega⟩ : Fin 32)) := by
  have e : (StableHlo.after hostOps3 W main_v6 : IVec S65536 32) = shapeCast _ (W main_v4 : IVec S2x1024x32 32) shapeCasts_S2x1024x32_S65536 := by
    simp only [hostOps3]
    after_results
    try rfl
  refine (congrFun e _).trans ?_
  pointwise
  exact congrArg (fun x : Fin 2 => (W main_v4 : IVec S2x1024x32 32) (ix3 x (⟨r.val / 32 % 1024, by omega⟩ : Fin 1024) (⟨r.val % 32, by omega⟩ : Fin 32))) (Fin.ext (by simp only; omega))

variable (m : (ℓ : Loc nD τ sig) → Buf (Elt F) ℓ)

theorem words_eq (c : Dev nD) (r : Fin 65536) : (M7 m c main_v6 : IVec S65536 32) (ix1 r)
    = (M6 m c main_v4 : IVec S2x1024x32 32) (ix3 (⟨r.val / 32 / 1024, by omega⟩ : Fin 2) (⟨r.val / 32 % 1024, by omega⟩ : Fin 1024) (⟨r.val % 32, by omega⟩ : Fin 32)) :=
  read_v6 (M6 m c) r

/-- Where every row number is in the table, the gather may run. -/
theorem words_in (h : ∀ (c : Dev nD) i, ((M6 m c main_v4 : IVec S2x1024x32 32) i).toNat < 16384) : PreOK (mem (M7 m)) := fun c j => by
  obtain ⟨r, rfl⟩ : ∃ r : Fin 65536, j = ix1 r := ⟨j 0, eq_ix1 (n0 := 65536) j⟩
  show ((M7 m c main_v6 : IVec S65536 32) (ix1 r)).toNat < 16384
  rw [words_eq m c r]
  exact h c _
end

/-- The rows gathered. -/
theorem gathered_at (c : Dev nD) : a0 m c = taken (s0 m c) (s1 m c) (a2 m c) (s3 m c) := by
  funext i
  obtain ⟨r, d, rfl⟩ : ∃ (r : Fin 65536) (d : Fin 128), i = ix2 r d := ⟨i 0, i 1, eq_ix2 (n0 := 65536) (n1 := 128) i⟩
  refine (congrFun (Function.update_self (Proc.devRef .tc main_v7) (gath (mem (M7 m)) c) (M7 m c)) (ix2 r d)).trans ?_
  show (M7 m c main_v5 : FVec Ideal S16384x128 .f32) (ix2 (n0 := 16384) (n1 := 128) ⟨min ((M7 m c main_v6 : IVec S65536 32) (ix1 r)).toNat 16383, by omega⟩ d) = _
  refine (read_v5 (M6 m c) _ d).trans ?_
  refine (congrFun ((kept2 m c main_v3 (by decide) (by decide)).trans (table_at m c)) _).trans ?_
  show row (s0 m c) (s1 m c) (a2 m c) (cloud ⟨min ((M7 m c main_v6 : IVec S65536 32) (ix1 r)).toNat 16383, by omega⟩)
    (point ⟨min ((M7 m c main_v6 : IVec S65536 32) (ix1 r)).toNat 16383, by omega⟩) d = row (s0 m c) (s1 m c) (a2 m c) (cloud (named (s3 m c) r)) (point (named (s3 m c) r)) d
  have e : (⟨min ((M7 m c main_v6 : IVec S65536 32) (ix1 r)).toNat 16383, by omega⟩ : Fin 16384) = named (s3 m c) r :=
    Fin.ext (congrArg (fun v : BitVec 32 => min v.toNat 16383) (words_eq m c r))
  rw [e]

end Cert.Proof.Tail

end
-- ==== Proof.Steps.lean ====
module

public import proofs.«01_k».proof.Proof.Gen.ReferenceIdeal.Run
public import proofs.«01_k».proof.Proof.Pick
public import Idealize.ShloMosaic.Lib.Pointwise
@[expose] public section
noncomputable section
namespace Cert.Proof.Sample
open Idealize.ShloMosaic
open Cert.ReferenceIdeal Cert.ReferenceIdeal.Gen Cert.ReferenceIdeal.Value

theorem gather_one {α : Type} (x : S2x8192x3.Idx → α) (idx : IVec S2x1x1 32) (b : Fin 2) (c : Fin 3) (k : Fin 8192)
    (h : idx (ix3 b (0 : Fin 1) (0 : Fin 1)) = BitVec.ofNat 32 k.val) :
    Host.gather gather_S2x8192x3_S2x1x1_S2x1x3_2_1_0_0_1_2_113 x idx (ix3 b (0 : Fin 1) c) = x (ix3 b k c) := by
  unfold Host.gather
  refine congrArg x (funext fun a => Fin.ext ?_)
  match a with
  | ⟨0, _⟩ => exact (Nat.zero_add _).trans rfl
  | ⟨1, _⟩ =>
    have hk := k.isLt
    show min (idx (GatherDims.siIdx _ _ ⟨_, _⟩)).toInt.toNat 8191 + 0 + 0 = k.val
    rw [show (GatherDims.siIdx _ _ ⟨_, _⟩ : S2x1x1.Idx) = ix3 b (0 : Fin 1) (0 : Fin 1) from funext fun a => Fin.ext (by
      match a with
      | ⟨0, _⟩ => rfl
      | ⟨1, _⟩ => rfl
      | ⟨2, _⟩ => rfl)]
    rw [h, toInt_small (k := k.val) (by omega), Int.toNat_natCast]; omega
  | ⟨2, _⟩ => exact (Nat.zero_add _).trans rfl

theorem along_row {n : Nat} (J : (⟨2, ![2, n]⟩ : Shape).Idx) (b : Fin 2) (hJ : (J 0).val = b.val) (k : Fin n) :
    Shape.Idx.along (s := ⟨2, ![2, n]⟩) J 1 k = ix2 b k := by
  funext a
  match a with
  | ⟨0, _⟩ => exact Fin.ext hJ
  | ⟨1, _⟩ => rfl

theorem topk_gen {α : Type} (n : Nat) (hn : 0 < n) (gt : α → α → BitVec 1) (x : (⟨2, ![2, n]⟩ : Shape).Idx → α)
    (h : (⟨2, ![2, n]⟩ : Shape).Slices (fun _ => 0) ⟨2, ![2, 1]⟩) (b : Fin 2) :
    (Host.topK ⟨2, ![2, 1]⟩ 1 gt x h).2 (ix2 b (0 : Fin 1))
      = BitVec.ofNat 32 (sortedFrom (fun k k' : Fin n => gt (x (ix2 b k)) (x (ix2 b k')) == 1#1) ⟨0, hn⟩).val := by
  unfold Host.topK Host.sort2 extractStridedSlice
  dsimp only
  rw [dif_pos (show 1 < (⟨2, ![2, n]⟩ : Shape).rank from Nat.one_lt_two)]
  dsimp only
  rw [dif_pos (show 1 < (⟨2, ![2, n]⟩ : Shape).rank from Nat.one_lt_two)]
  refine congrArg (fun g : Fin n → Fin n → Bool => BitVec.ofNat 32 (sortedFrom g (⟨0, hn⟩ : Fin n)).val) ?_
  exact funext fun (k : Fin n) => funext fun (k' : Fin n) =>
    congrArg₂ (fun u v => gt (x u) (x v) == 1#1) (along_row _ b (Nat.zero_add _) k) (along_row _ b (Nat.zero_add _) k')

theorem gt_at (x y : EReal) : (FloatOps.cmpfTotal (F := Ideal) (φ := .f32) .gt x y == 1#1) = decide (y < x) := by
  show (BitVec.ofBool (decide (y < x)) == 1#1) = decide (y < x)
  by_cases h : y < x <;> simp [h]

set_option maxRecDepth 100000 in
theorem topk_at (x : FVec Ideal S2x8192 .f32) (b : Fin 2) :
    (Host.topK S2x1 1 (FloatOps.cmpfTotal (F := Ideal) (φ := .f32) .gt) x sliceFits_S2x8192_S2x1).2 (ix2 b (0 : Fin 1))
      = BitVec.ofNat 32 (pick (n := 8191) fun k => x (ix2 b k)).val := by
  refine (topk_gen 8192 (by omega) _ x _ b).trans ?_
  simp only [gt_at]
  rw [pick_eq (isFirst_sortedFrom (fun k => x (ix2 b k)) (⟨0, by omega⟩ : Fin 8192) rfl)]

theorem fold_one {ι : Type} (S : Finset ι) (f : ι → BitVec 1) (h : ∀ i, f i = 1#1) : S.fold IntOp.andi 1#1 f = 1#1 := by
  classical
  induction S using Finset.induction with
  | empty => rfl
  | insert a S ha ih => rw [Finset.fold_insert ha, ih, h]; rfl

theorem in_range (k : Fin 8192) :
    IntOp.cmpi .slt (BitVec.ofNat 32 k.val) 0#32 = 0#1 ∧ IntOp.cmpi .sge (BitVec.ofNat 32 k.val) 0#32 = 1#1
      ∧ IntOp.cmpi .sle (BitVec.ofNat 32 k.val) 8191#32 = 1#1 := by
  have hk := k.isLt
  have h := toInt_small (k := k.val) (by omega)
  unfold IntOp.cmpi
  simp only [BitVec.slt_eq_decide, BitVec.sle_eq_decide, h]
  refine ⟨?_, ?_, ?_⟩
  · rw [show (0#32 : BitVec 32).toInt = 0 from rfl, decide_eq_false (by omega)]; rfl
  · rw [show (0#32 : BitVec 32).toInt = 0 from rfl, decide_eq_true (by omega)]; rfl
  · rw [show (8191#32 : BitVec 32).toInt = 8191 from by decide, decide_eq_true (by omega)]; rfl

/-- The least distances the loop carries. -/
def least (V : Valuation τ sig (Elt Ideal)) (b : Fin 2) : Fin 8192 → EReal := fun k => V (Proc.devRef .tc main_v7_2) (ix2 b k)
/-- The points the loop carries. -/
def points (V : Valuation τ sig (Elt Ideal)) (b : Fin 2) : Fin 3 → Fin 8192 → EReal := fun c k => V (Proc.devRef .tc main_v7_0) (ix3 b k c)

set_option maxRecDepth 65536 in
theorem v14_at (V : Valuation τ sig (Elt Ideal)) (b : Fin 2) :
    (res_main_while0b_v131 (F := Ideal) V : IVec S2 32) (ix1 b) = BitVec.ofNat 32 (pick (n := 8191) (least V b)).val := by
  unfold res_main_while0b_v131
  pointwise
  exact topk_at _ b

set_option maxRecDepth 65536 in
theorem v4_at (V : Valuation τ sig (Elt Ideal)) (b : Fin 2) :
    (res_main_while0b_call0_v4 (F := Ideal) V : IVec S2x1x1 32) (ix3 b 0 0) = BitVec.ofNat 32 (pick (n := 8191) (least V b)).val := by
  have h := v14_at V b
  unfold res_main_while0b_call0_v4 res_main_while0b_v132
  pointwise
  rw [h, (in_range _).1]; rfl

set_option maxRecDepth 65536 in
theorem v18_at (V : Valuation τ sig (Elt Ideal)) (b : Fin 2) (x : Fin 8192) (c : Fin 3) :
    (res_main_while0b_v135 (F := Ideal) V : FVec Ideal S2x8192x3 .f32) (ix3 b x c)
      = points V b c x - points V b c (pick (n := 8191) (least V b)) := by
  have hg := gather_one (V (Proc.devRef .tc main_v7_0)) (res_main_while0b_call0_v4 (F := Ideal) V) b c _ (v4_at V b)
  unfold res_main_while0b_v135
  pointwise
  rw [fold_one, hg]
  · rfl
  · intro i
    obtain ⟨b', rfl⟩ : ∃ b' : Fin 2, i = ix3 b' 0 0 := ⟨i 0, funext fun a => by
      match a with
      | ⟨0, _⟩ => rfl
      | ⟨1, _⟩ => exact Subsingleton.elim (α := Fin 1) _ _
      | ⟨2, _⟩ => exact Subsingleton.elim (α := Fin 1) _ _⟩
    rw [v4_at V b', (in_range _).2.1, (in_range _).2.2]; rfl

/-- One trip moves the least distances on by the picked point. -/
theorem least_succ (V : Valuation τ sig (Elt Ideal)) (b : Fin 2) (x : Fin 8192) :
    least (STEP V) b x = min (least V b x) (dist (points V b) (pick (n := 8191) (least V b)) x) := by
  have h := fun c => v18_at V b x c
  unfold dist
  show (STEP V (Proc.devRef .tc main_v7_2) : FVec Ideal S2x8192 .f32) (ix2 b x) = _
  rw [STEP_main_v7_2]
  unfold step_main_v7_2
  rw [id]
  pointwise
  exact congrArg (min (α := EReal) _) (Finset.sum_congr (M := EReal) rfl fun c _ => congrArg (fun z : EReal => z * z) (h c))

theorem points_succ (V : Valuation τ sig (Elt Ideal)) (b : Fin 2) : points (STEP V) b = points V b := by
  unfold points; rw [STEP_main_v7_0]

/-- Row `k` of the picked indices, written with the counter at `k`. -/
theorem picks_succ (V : Valuation τ sig (Elt Ideal)) (k : Nat) (hk : k < 1023)
    (hc : (V (Proc.devRef .tc main_v7_1) : IVec S_ 32) = fun _ => BitVec.ofNat 32 k) (j : Fin 1023) (b : Fin 2) :
    (STEP V (Proc.devRef .tc main_v7_3) : IVec S1023x2 32) (ix2 j b)
      = if j.val = k then BitVec.ofNat 32 (pick (n := 8191) (least V b)).val
        else (V (Proc.devRef .tc main_v7_3) : IVec S1023x2 32) (ix2 j b) := by
  have h := v14_at V b
  rw [STEP_main_v7_3]
  unfold step_main_v7_3
  rw [id]
  have hst : ∀ a : Fin 2, Host.clampedStart S1023x2 S1x2 updateFits_S1023x2_S1x2.1
      (fun a => BitVec.toInt (![(V (Proc.devRef .tc main_v7_1) : IVec S_ 32), constantI S_ 32 0#32] a (Shape.Idx.first h_S_))) a
        = (![k, 0] : Fin 2 → Nat) a := fun a => by
    unfold Host.clampedStart
    match a with
    | ⟨0, _⟩ =>
      show (min (max (BitVec.toInt ((V (Proc.devRef .tc main_v7_1) : IVec S_ 32) (Shape.Idx.first h_S_))) 0) ((1022 : Nat) : Int)).toNat = k
      rw [hc, toInt_small (k := k) (by omega)]; omega
    | ⟨1, _⟩ => rfl
  pointwise
  by_cases hj : j.val = k
  · rw [if_pos hj, dif_pos]
    · refine Eq.trans (congrArg (res_main_while0b_v131 (F := Ideal) V : IVec S2 32) ?_) h
      refine congrArg ix1 (Fin.ext ?_)
      exact (congrArg (b.val - ·) (hst 1)).trans (Nat.sub_zero _)
    · intro a
      match a with
      | ⟨0, _⟩ => have := hst 0; exact ⟨this.le.trans hj.ge, by have e := congrArg (· + 1) this; exact lt_of_lt_of_eq (by show j.val < k + 1; omega) e.symm⟩
      | ⟨1, _⟩ => have := hst 1; exact ⟨this.le.trans (Nat.zero_le _), by have e := congrArg (· + 2) this; exact lt_of_lt_of_eq (by show b.val < 0 + 2; omega) e.symm⟩
  · rw [if_neg hj, dif_neg]
    intro H
    obtain ⟨h0, h1⟩ := H 0
    have e := hst 0
    have h0' : k ≤ j.val := e.symm.le.trans h0
    have h1' : j.val < k + 1 := lt_of_lt_of_eq h1 (congrArg (· + 1) e)
    omega
/-- The run of the loop after `k` trips: the counter, the points, the least distances, and the rows of picked indices written so far. -/
theorem steps (V : Valuation τ sig (Elt Ideal)) (P : Fin 2 → Fin 3 → Fin 8192 → EReal)
    (hc : (V (Proc.devRef .tc main_v7_1) : IVec S_ 32) = fun _ => 0#32) (hp : ∀ b, points V b = P b)
    (hl : ∀ b x, least V b x = dist (P b) 0 x) : ∀ k, k ≤ 1023 →
      ((STEP^[k] V) (Proc.devRef .tc main_v7_1) : IVec S_ 32) = (fun _ => BitVec.ofNat 32 k)
      ∧ (∀ b, points (STEP^[k] V) b = P b) ∧ (∀ b, least (STEP^[k] V) b = (walk (P b) k).2)
      ∧ ∀ (j : Fin 1023) (b : Fin 2), j.val < k →
          ((STEP^[k] V) (Proc.devRef .tc main_v7_3) : IVec S1023x2 32) (ix2 j b) = BitVec.ofNat 32 (walk (P b) (j.val + 1)).1.val := by
  intro k
  induction k with
  | zero => exact fun _ => ⟨hc, hp, fun b => funext (hl b), fun j b h => absurd h (Nat.not_lt_zero _)⟩
  | succ k ih =>
    intro hk
    obtain ⟨h1, h2, h3, h4⟩ := ih (by omega)
    rw [Function.iterate_succ_apply']
    refine ⟨?_, fun b => (points_succ _ b).trans (h2 b), fun b => funext fun x => ?_, fun j b hj => ?_⟩
    · rw [STEP_main_v7_1]
      unfold step_main_v7_1
      rw [h1]
      funext _
      show BitVec.ofNat 32 k + 1#32 = BitVec.ofNat 32 (k + 1)
      rw [BitVec.ofNat_add]
    · rw [least_succ, h2, h3]; rfl
    · rw [picks_succ _ k (by omega) h1, h3]
      by_cases e : j.val = k
      · rw [if_pos e, e]; rfl
      · rw [if_neg e]; exact h4 j b (by omega)

end Cert.Proof.Sample
-- ==== Proof.Picked.lean ====
module

public import proofs.«01_k».proof.Proof.Steps
public import Idealize.ShloMosaic.Lib.Pointwise
@[expose] public section
noncomputable section
namespace Cert.Proof.Sample
open Idealize.ShloMosaic Idealize.ShloMosaic.StableHlo
open Cert.ReferenceIdeal Cert.ReferenceIdeal.Gen Cert.ReferenceIdeal.Value

/-- The operations that wrap the picked indices, and those that read the points at them. -/
abbrev wrapOps : List (HloOp τ sig (Elt Ideal)) := hostOps0_2.take 7
abbrev readOps : List (HloOp τ sig (Elt Ideal)) := hostOps0_2.drop 7

/-- The picked indices as the operations after the loop leave them. -/
def idxTerm (x : IVec S1023x2 32) : IVec S2x1024x1 32 :=
  broadcastInDim S2x1024x1 ![0, 1] bcast_S2x1024_S2x1024x1_0_1 (transpose S2x1024 [1, 0]
    (concatenate S1024x2 0 [⟨S1x2, broadcastInDim S1x2 ![] bcast_S_S1x2 (constantI S_ 32 0#32)⟩, ⟨S1023x2, x⟩] concatenates_S1x2_S1023x2_S1024x2_d0)
    transposes_S1024x2_S2x1024_1_0)

def wrapTerm (x : IVec S2x1024x1 32) : IVec S2x1024x1 32 :=
  select (cmpi .slt x (broadcastInDim S2x1024x1 ![] bcast_S_S2x1024x1 (constantI S_ 32 0#32)))
    (addi x (broadcastInDim S2x1024x1 ![] bcast_S_S2x1024x1 (constantI S_ 32 8192#32))) x

def readTerm (p : FVec Ideal S2x8192x3 .f32) (x : IVec S2x1024x1 32) : FVec Ideal S2x1024x3 .f32 :=
  select (broadcastInDim S2x1024x3 ![0, 1] bcast_S2x1024_S2x1024x3_0_1 (Host.reduce IntOp.andi
      (andi (cmpi .sge x (broadcastInDim S2x1024x1 ![] bcast_S_S2x1024x1 (constantI S_ 32 0#32)))
        (cmpi .sle x (broadcastInDim S2x1024x1 ![0, 1, 2] bcast_S1x1x1_S2x1024x1_0_1_2 (broadcastInDim S1x1x1 ![2] bcast_S1_S1x1x1_2 (constantI S1 32 8191#32)))))
      (constantI S_ 1 1#1) reducesTo_S2x1024x1_S2x1024_d2 h_S_))
    (Host.gather gather_S2x8192x3_S2x1024x1_S2x1024x3_2_1_0_0_1_2_113 p x)
    (broadcastInDim S2x1024x3 ![] bcast_S_S2x1024x3 (constant S_ .f32 0x7FC00000#32))

set_option maxRecDepth 8192 in
theorem after_idx (V : Valuation τ sig (Elt Ideal)) :
    after hostOps0_1 V (Proc.devRef .tc main_v11) = idxTerm (V (Proc.devRef .tc main_v7_3)) := by
  simp only [hostOps0_1]
  after_results_entrywise [idxTerm, cast_eq]
theorem after_idx_v0 (V : Valuation τ sig (Elt Ideal)) :
    after hostOps0_1 V (Proc.devRef .tc main_v0) = V (Proc.devRef .tc main_v0) := by
  simp only [hostOps0_1]
  after_results_entrywise [cast_eq]
set_option maxRecDepth 8192 in
theorem after_wrap (V : Valuation τ sig (Elt Ideal)) :
    after wrapOps V (Proc.devRef .tc main_call2_v4) = wrapTerm (V (Proc.devRef .tc main_v11)) := by
  simp only [wrapOps, hostOps0_2, List.take_succ_cons, List.take_zero]
  after_results_entrywise [wrapTerm, cast_eq]
set_option maxRecDepth 8192 in
theorem after_wrap_v0 (V : Valuation τ sig (Elt Ideal)) :
    after wrapOps V (Proc.devRef .tc main_v0) = V (Proc.devRef .tc main_v0) := by
  simp only [wrapOps, hostOps0_2, List.take_succ_cons, List.take_zero]
  after_results_entrywise [cast_eq]
set_option maxRecDepth 8192 in
set_option maxHeartbeats 2000000 in
theorem after_read (V : Valuation τ sig (Elt Ideal)) :
    after readOps V (Proc.devRef .tc main_v12) = readTerm (V (Proc.devRef .tc main_v0)) (V (Proc.devRef .tc main_call2_v4)) := by
  simp only [readOps, hostOps0_2, List.drop_succ_cons, List.drop_zero]
  after_results_entrywise [readTerm, cast_eq]
theorem after_sampled (V : Valuation τ sig (Elt Ideal)) : after hostOps0_2 (after hostOps0_1 V) (Proc.devRef .tc main_v12)
    = readTerm (V (Proc.devRef .tc main_v0)) (wrapTerm (idxTerm (V (Proc.devRef .tc main_v7_3)))) := by
  rw [show (hostOps0_2 : List (HloOp τ sig (Elt Ideal))) = wrapOps ++ readOps from rfl, after_append, after_read, after_wrap, after_wrap_v0,
    after_idx, after_idx_v0]

set_option maxRecDepth 65536 in
theorem idxTerm_at (x : IVec S1023x2 32) (w : Fin 2 → Nat → Fin 8192) (h0 : ∀ b, w b 0 = 0)
    (h : ∀ (j : Fin 1023) b, x (ix2 j b) = BitVec.ofNat 32 (w b (j.val + 1)).val) (b : Fin 2) (j : Fin 1024) :
    wrapTerm (idxTerm x) (ix3 b j 0) = BitVec.ofNat 32 (w b j.val).val := by
  have e : idxTerm x (ix3 b j 0) = BitVec.ofNat 32 (w b j.val).val := by
    unfold idxTerm
    pointwise
    by_cases hj : j.val < 1
    · rw [dif_pos hj, show j.val = 0 by omega, h0]; rfl
    · rw [dif_neg hj, h]
      exact congrArg (fun n => BitVec.ofNat 32 (w b n).val) (Nat.sub_add_cancel (by omega))
  unfold wrapTerm
  pointwise
  rw [e, (in_range _).1]; rfl

theorem gather_all {α : Type} (x : S2x8192x3.Idx → α) (idx : IVec S2x1024x1 32) (b : Fin 2) (j : Fin 1024) (c : Fin 3) (k : Fin 8192)
    (h : idx (ix3 b j (0 : Fin 1)) = BitVec.ofNat 32 k.val) :
    Host.gather gather_S2x8192x3_S2x1024x1_S2x1024x3_2_1_0_0_1_2_113 x idx (ix3 b j c) = x (ix3 b k c) := by
  unfold Host.gather
  refine congrArg x (funext fun a => Fin.ext ?_)
  match a with
  | ⟨0, _⟩ => exact (Nat.zero_add _).trans rfl
  | ⟨1, _⟩ =>
    have hk := k.isLt
    show min (idx (GatherDims.siIdx _ _ ⟨_, _⟩)).toInt.toNat 8191 + 0 + 0 = k.val
    rw [show (GatherDims.siIdx _ _ ⟨_, _⟩ : S2x1024x1.Idx) = ix3 b j (0 : Fin 1) from funext fun a => Fin.ext (by
      match a with
      | ⟨0, _⟩ => rfl
      | ⟨1, _⟩ => rfl
      | ⟨2, _⟩ => rfl)]
    rw [h, toInt_small (k := k.val) (by omega), Int.toNat_natCast]; omega
  | ⟨2, _⟩ => exact (Nat.zero_add _).trans rfl

set_option maxRecDepth 65536 in
theorem readTerm_at (p : FVec Ideal S2x8192x3 .f32) (x : IVec S2x1024x1 32) (w : Fin 2 → Nat → Fin 8192)
    (h : ∀ b (j : Fin 1024), x (ix3 b j 0) = BitVec.ofNat 32 (w b j.val).val) (b : Fin 2) (j : Fin 1024) (c : Fin 3) :
    readTerm p x (ix3 b j c) = p (ix3 b (w b j.val) c) := by
  have hg := gather_all p x b j c _ (h b j)
  unfold readTerm
  pointwise
  rw [fold_one, hg]
  · rfl
  · intro i
    rw [show i = 0 from Subsingleton.elim _ _, h b j, (in_range _).2.1, (in_range _).2.2]; rfl

variable (m : (ℓ : Loc nD τ sig) → Buf (Elt Ideal) ℓ)

/-- The coordinates of the points the reference is given. -/
def given (c : Dev nD) (b : Fin 2) : Fin 3 → Fin 8192 → EReal := fun a k =>
  (m ((c.tc : Thread nD τ).loc main_arg0) : FVec Ideal S2x3x8192 .f32) (ix3 b a k)

set_option maxRecDepth 8192 in
theorem entry_terms (V : Valuation τ sig (Elt Ideal)) :
    after hostOps0 V (Proc.devRef .tc main_v0) = transpose S2x8192x3 [0, 2, 1] (V (Proc.devRef .tc main_arg0) : FVec Ideal S2x3x8192 .f32) transposes_S2x3x8192_S2x8192x3_0_2_1
    ∧ after hostOps0 V (Proc.devRef .tc main_v7_0) = transpose S2x8192x3 [0, 2, 1] (V (Proc.devRef .tc main_arg0) : FVec Ideal S2x3x8192 .f32) transposes_S2x3x8192_S2x8192x3_0_2_1 := by
  refine ⟨?_, ?_⟩ <;> simp only [hostOps0] <;> after_results_entrywise [cast_eq, id]

/-- The first least distances of the transposed points. -/
def firstTerm (p : FVec Ideal S2x8192x3 .f32) : FVec Ideal S2x8192 .f32 :=
  Host.reduceAdd (mulf (subf p (broadcastInDim S2x8192x3 ![0, 1, 2] bcast_S2x1x3_S2x8192x3_0_1_2 (extractStridedSlice S2x1x3 ![0, 0, 0] p slices_S2x8192x3_S2x1x3_0_0_0)))
    (subf p (broadcastInDim S2x8192x3 ![0, 1, 2] bcast_S2x1x3_S2x8192x3_0_1_2 (extractStridedSlice S2x1x3 ![0, 0, 0] p slices_S2x8192x3_S2x1x3_0_0_0))))
    (constant S_ .f32 0x00000000#32) reducesTo_S2x8192x3_S2x8192_d2 h_S_

set_option maxRecDepth 8192 in
theorem entry_least (V : Valuation τ sig (Elt Ideal)) :
    after hostOps0 V (Proc.devRef .tc main_v7_2) = firstTerm (transpose S2x8192x3 [0, 2, 1] (V (Proc.devRef .tc main_arg0) : FVec Ideal S2x3x8192 .f32) transposes_S2x3x8192_S2x8192x3_0_2_1) := by
  simp only [hostOps0]
  after_results_entrywise [cast_eq, id, firstTerm]

theorem at_v0 (c : Dev nD) : ∀ k, atK m k c (Proc.devRef .tc main_v0) = entryContents preI m c (Proc.devRef .tc main_v0)
  | 0 => rfl
  | k + 1 => by
    rw [show atK m (k + 1) c = afterL bodyI (after condOps (atK m k c)) from rfl]
    simp only [bodyI, afterL_cons, afterL_nil]
    rw [after_of_writes_sub while0Ops0_4 _ while0Ops0_4_writes (by decide +kernel), after_of_writes_sub while0Ops0_3 _ while0Ops0_3_writes (by decide +kernel),
      after_of_writes_sub while0Ops0_2 _ while0Ops0_2_writes (by decide +kernel), after_of_writes_sub while0Ops0_1 _ while0Ops0_1_writes (by decide +kernel),
      after_of_writes_sub while0Ops0 _ while0Ops0_writes (by decide +kernel), after_of_writes_sub condOps _ condOps_writes (by decide +kernel), at_v0 c k]
    rfl

/-- Every buffer when the loop is over. -/
abbrev over (c : Dev nD) : Valuation τ sig (Elt Ideal) := after condOps (atK m 1023 c)

/-- The points, a row each. -/
theorem points_at (c : Dev nD) (b : Fin 2) (n : Fin 8192) (a : Fin 3) :
    (over m c (Proc.devRef .tc main_v0) : FVec Ideal S2x8192x3 .f32) (ix3 b n a) = given m c b a n := by
  have he := entry_terms (launchContents m c)
  rw [show over m c (Proc.devRef .tc main_v0) = _ from after_of_writes_sub condOps _ condOps_writes (by decide +kernel), at_v0]
  show (after hostOps0 (launchContents m c) (Proc.devRef .tc main_v0) : FVec Ideal S2x8192x3 .f32) (ix3 b n a) = _
  rw [he.1]
  pointwise
  rfl

/-- The points taken, a row each. -/
theorem taken_at (c : Dev nD) (b : Fin 2) (j : Fin 1024) (a : Fin 3) :
    (after hostOps0_2 (after hostOps0_1 (over m c)) (Proc.devRef .tc main_v12) : FVec Ideal S2x1024x3 .f32) (ix3 b j a)
      = given m c b a (walk (given m c b) j.val).1 := by
  have he := entry_terms (launchContents m c)
  have hl := entry_least (launchContents m c)
  have hs := steps (entryContents preI m c) (given m c) (ctr_entry m c)
    (fun b => by
      funext a k
      show (after hostOps0 (launchContents m c) (Proc.devRef .tc main_v7_0) : FVec Ideal S2x8192x3 .f32) (ix3 b k a) = _
      rw [he.2]
      pointwise
      rfl)
    (fun b x => by
      show (after hostOps0 (launchContents m c) (Proc.devRef .tc main_v7_2) : FVec Ideal S2x8192 .f32) (ix2 b x) = _
      rw [hl]
      unfold firstTerm
      pointwise
      rfl) 1023 le_rfl
  have hag := atK_agree m c 1023
  rw [after_sampled, show over m c (Proc.devRef .tc main_v7_3) = _ from after_of_writes_sub condOps _ condOps_writes (by decide +kernel),
    hag main_v7_3 (by decide)]
  rw [readTerm_at _ _ (fun b n => (walk (given m c b) n).1) (fun b' j' => idxTerm_at _ (fun b n => (walk (given m c b) n).1) (fun _ => rfl) (fun i b'' => hs.2.2.2 i b'' i.isLt) b' j')]
  exact points_at m c b _ a

end Cert.Proof.Sample
-- ==== Proof.Ended.lean ====
/-
  The reference's operations after its loop, in groups: what each group makes of the arrays it reads, and that it keeps
  every other array.
-/
module

public import proofs.«01_k».proof.Proof.Picked
public import proofs.«01_k».proof.Proof.Sorted

@[expose] public section

noncomputable section

namespace Cert.Proof.Ended

open Idealize.ShloMosaic Idealize.ShloMosaic.StableHlo Idealize.ShloMosaic.TcCoe
open Cert.Proof.Sample Cert.Proof.Near
open Cert.ReferenceIdeal Cert.ReferenceIdeal.Gen Cert.ReferenceIdeal.Value

abbrev sampledOps : List (HloOp τ sig (Elt Ideal)) := hostOps0_1 ++ hostOps0_2
abbrev sampledW : List (Ref sig .tc) := [main_c_1, main_v8, main_v9, main_v10, main_v11, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v12]
theorem sampled_keep (V : Valuation τ sig (Elt Ideal)) (r : Ref sig .tc) (h : r ∉ sampledW) : after sampledOps V (Proc.devRef .tc r) = V (Proc.devRef .tc r) :=
  after_of_writes_sub sampledOps V (forall_writes_sub_of_map rfl) h

abbrev markedOps : List (HloOp τ sig (Elt Ideal)) := hostOps0_3 ++ hostOps0_4
abbrev markedW : List (Ref sig .tc) := [main_v13, main_cst_2, main_v14, main_v15, main_v16, main_cst_3, main_v17, main_v18, main_v19, main_v20, main_v21, main_v22, main_cst_4, main_v23, main_v24, main_v25, main_cst_5, main_v26, main_v27, main_v28, main_v29, main_c_6, main_call3_v0, main_call3_v1, main_call3_v2, main_v30]
theorem marked_keep (V : Valuation τ sig (Elt Ideal)) (r : Ref sig .tc) (h : r ∉ markedW) : after markedOps V (Proc.devRef .tc r) = V (Proc.devRef .tc r) :=
  after_of_writes_sub markedOps V (forall_writes_sub_of_map rfl) h

abbrev namedOps : List (HloOp τ sig (Elt Ideal)) := hostOps0_5 ++ hostOps0_6 ++ hostOps0_7 ++ hostOps0_8
abbrev namedW : List (Ref sig .tc) := [main_v31, main_values, main_indices, main_v32, main_v33, main_c_7, main_v34, main_v35, main_c_8, main_call4_v0, main_call4_v1, main_v36, main_c_9, main_v37, main_v38, main_call5_v0, main_v39]
theorem named_keep (V : Valuation τ sig (Elt Ideal)) (r : Ref sig .tc) (h : r ∉ namedW) : after namedOps V (Proc.devRef .tc r) = V (Proc.devRef .tc r) :=
  after_of_writes_sub namedOps V (forall_writes_sub_of_map rfl) h

abbrev firstOps : List (HloOp τ sig (Elt Ideal)) := hostOps0_9
abbrev firstW : List (Ref sig .tc) := [main_c_10, main_v40, main_v41, main_c_11, main_v42, main_v43, main_v44, main_v45, main_v46, main_v47, main_v48, main_v49, main_v50, main_c_12, main_v51, main_v52, main_c_13, main_v53, main_v54, main_v55, main_v56, main_v57, main_v58, main_v59, main_v60, main_v61, main_v62, main_cst_14, main_v63, main_v64, main_cst_15, main_v65, main_v66, main_c_16]
theorem first_keep (V : Valuation τ sig (Elt Ideal)) (r : Ref sig .tc) (h : r ∉ firstW) : after firstOps V (Proc.devRef .tc r) = V (Proc.devRef .tc r) :=
  after_of_writes_sub firstOps V (forall_writes_sub_of_map rfl) h

abbrev normFirstOps : List (HloOp τ sig (Elt Ideal)) := hostOps0_10 ++ hostOps0_11 ++ hostOps0_12
abbrev normFirstW : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v67, main_v68, main_v69, main_cst_17, main_v70, main_v71, main_v72, main_v73, main_v74, main_v75, main_v76, main_v77, main_v78, main_v79, main_v80, main_call7_cst, main_call7_v0, main_v81]
theorem normFirst_keep (V : Valuation τ sig (Elt Ideal)) (r : Ref sig .tc) (h : r ∉ normFirstW) : after normFirstOps V (Proc.devRef .tc r) = V (Proc.devRef .tc r) :=
  after_of_writes_sub normFirstOps V (forall_writes_sub_of_map rfl) h

abbrev secondOps : List (HloOp τ sig (Elt Ideal)) := hostOps0_13
abbrev secondW : List (Ref sig .tc) := [main_v82, main_v83, main_v84, main_v85, main_cst_18, main_v86, main_v87, main_cst_19, main_v88, main_v89, main_c_20]
theorem second_keep (V : Valuation τ sig (Elt Ideal)) (r : Ref sig .tc) (h : r ∉ secondW) : after secondOps V (Proc.devRef .tc r) = V (Proc.devRef .tc r) :=
  after_of_writes_sub secondOps V (forall_writes_sub_of_map rfl) h

abbrev normSecondOps : List (HloOp τ sig (Elt Ideal)) := hostOps0_14 ++ hostOps0_15 ++ hostOps0_16
abbrev normSecondW : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v90, main_v91, main_v92, main_cst_21, main_v93, main_v94, main_v95, main_v96, main_v97, main_v98, main_v99, main_v100, main_v101, main_v102, main_v103, main_call9_cst, main_call9_v0, main_v104]
theorem normSecond_keep (V : Valuation τ sig (Elt Ideal)) (r : Ref sig .tc) (h : r ∉ normSecondW) : after normSecondOps V (Proc.devRef .tc r) = V (Proc.devRef .tc r) :=
  after_of_writes_sub normSecondOps V (forall_writes_sub_of_map rfl) h

abbrev thirdOps : List (HloOp τ sig (Elt Ideal)) := hostOps0_17
abbrev thirdW : List (Ref sig .tc) := [main_v105, main_v106, main_v107, main_v108, main_cst_22, main_v109, main_v110, main_cst_23, main_v111, main_v112, main_c_24]
theorem third_keep (V : Valuation τ sig (Elt Ideal)) (r : Ref sig .tc) (h : r ∉ thirdW) : after thirdOps V (Proc.devRef .tc r) = V (Proc.devRef .tc r) :=
  after_of_writes_sub thirdOps V (forall_writes_sub_of_map rfl) h

abbrev normThirdOps : List (HloOp τ sig (Elt Ideal)) := hostOps0_18 ++ hostOps0_19 ++ hostOps0_20
abbrev normThirdW : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_v12, main_call10_cst_3, main_call10_v13, main_call10_cst_4, main_call10_call0_v0, main_call10_call0_v1, main_v113, main_v114, main_v115, main_cst_25, main_v116, main_v117, main_v118, main_v119, main_v120, main_v121, main_v122, main_v123, main_v124, main_v125, main_v126, main_call11_cst, main_call11_v0, main_v127]
theorem normThird_keep (V : Valuation τ sig (Elt Ideal)) (r : Ref sig .tc) (h : r ∉ normThirdW) : after normThirdOps V (Proc.devRef .tc r) = V (Proc.devRef .tc r) :=
  after_of_writes_sub normThirdOps V (forall_writes_sub_of_map rfl) h

abbrev lastOps : List (HloOp τ sig (Elt Ideal)) := hostOps0_21
abbrev lastW : List (Ref sig .tc) := [main_v128, main_cst_26, main_v129, main_v130]
theorem last_keep (V : Valuation τ sig (Elt Ideal)) (r : Ref sig .tc) (h : r ∉ lastW) : after lastOps V (Proc.devRef .tc r) = V (Proc.devRef .tc r) :=
  after_of_writes_sub lastOps V (forall_writes_sub_of_map rfl) h

/-! ## What the groups make -/

/-- The neighbours' numbers, negative ones counted from the end of the cloud. -/
def wrapIdx (n : IVec S2x1024x32 32) : IVec S2x1024x32x1 32 :=
  broadcastInDim S2x1024x32x1 ![0, 1, 2] bcast_S2x1024x32_S2x1024x32x1_0_1_2 (select (cmpi .slt n (broadcastInDim S2x1024x32 ![] bcast_S_S2x1024x32 (constantI S_ 32 0#32)))
    (addi n (broadcastInDim S2x1024x32 ![] bcast_S_S2x1024x32 (constantI S_ 32 8192#32))) n)

/-- The rows of every neighbour: its place from the query, and its features. -/
def placeTerm (p : FVec Ideal S2x8192x3 .f32) (q : FVec Ideal S2x1024x3 .f32) (n : IVec S2x1024x32 32) : FVec Ideal S2x1024x32x3 .f32 :=
  subf (Host.gather gather_S2x8192x3_S2x1024x32x1_S2x1024x32x3_3_1_0_0_1_3_113 p (wrapIdx n))
    (broadcastInDim S2x1024x32x3 ![0, 1, 2, 3] bcast_S2x1024x1x3_S2x1024x32x3_0_1_2_3 (broadcastInDim S2x1024x1x3 ![0, 1, 3] bcast_S2x1024x3_S2x1024x1x3_0_1_3 q))

def featTerm (f : FVec Ideal S2x128x8192 .f32) (n : IVec S2x1024x32 32) : FVec Ideal S2x1024x32x128 .f32 :=
  Host.gather gather_S2x8192x128_S2x1024x32x1_S2x1024x32x128_3_1_0_0_1_3_11128 (transpose S2x8192x128 [0, 2, 1] f transposes_S2x128x8192_S2x8192x128_0_2_1) (wrapIdx n)

/-- The first layer's sums, -/
def firstSums (p : FVec Ideal S2x8192x3 .f32) (q : FVec Ideal S2x1024x3 .f32) (n : IVec S2x1024x32 32) (f : FVec Ideal S2x128x8192 .f32)
    (w : FVec Ideal S131x128 .f32) (bias : FVec Ideal S128 .f32) : FVec Ideal S2x1024x32x128 .f32 :=
  addf (Host.dotGeneral dot_S2x1024x32x131_S131x128_S2x1024x32x128_3_0_012_1_n_n none (concatenate S2x1024x32x131 3 [⟨S2x1024x32x3, placeTerm p q n⟩, ⟨S2x1024x32x128, featTerm f n⟩]
    concatenates_S2x1024x32x3_S2x1024x32x128_S2x1024x32x131_d3) w) (broadcastInDim S2x1024x32x128 ![0, 1, 2, 3] bcast_S1x1x1x128_S2x1024x32x128_0_1_2_3
    (broadcastInDim S1x1x1x128 ![3] bcast_S128_S1x1x1x128_3 bias))

/-- the second's, -/
def sums128 (X : FVec Ideal S2x1024x32x128 .f32) (w : FVec Ideal S128x128 .f32) (bias : FVec Ideal S128 .f32) : FVec Ideal S2x1024x32x128 .f32 :=
  addf (Host.dotGeneral dot_S2x1024x32x128_S128x128_S2x1024x32x128_3_0_012_1_n_n none X w) (broadcastInDim S2x1024x32x128 ![0, 1, 2, 3] bcast_S1x1x1x128_S2x1024x32x128_0_1_2_3
    (broadcastInDim S1x1x1x128 ![3] bcast_S128_S1x1x1x128_3 bias))

/-- The mean of every column, -/
def mean128 (H : FVec Ideal S2x1024x32x128 .f32) : FVec Ideal S1x1x1x128 .f32 :=
  Host.divf (broadcastInDim S1x1x1x128 ![3] bcast_S128_S1x1x1x128_3 (Host.reduceAdd H (constant (F := Ideal) S_ .f32 0x00000000#32) reducesTo_S2x1024x32x128_S128_d0_1_2 h_S_)) (broadcastInDim S1x1x1x128 ![] bcast_S_S1x1x1x128 (constant (F := Ideal) S_ .f32 0x47800000#32))

/-- and the array normalized. -/
def norm128 (H : FVec Ideal S2x1024x32x128 .f32) (mu : FVec Ideal S1x1x1x128 .f32) (z : IVec S_ 32) (g be : FVec Ideal S128 .f32) : FVec Ideal S2x1024x32x128 .f32 :=
  (maximumf (addf (mulf (Host.divf (subf H (broadcastInDim S2x1024x32x128 ![0, 1, 2, 3] bcast_S1x1x1x128_S2x1024x32x128_0_1_2_3 mu)) (broadcastInDim S2x1024x32x128 ![0, 1, 2, 3] bcast_S1x1x1x128_S2x1024x32x128_0_1_2_3 (Host.sqrt (addf (select (broadcastInDim S1x1x1x128 ![] bcast_S_S1x1x1x128 (cmpf (F := Ideal) (φ := .f32) .ogt (subf (constant (F := Ideal) S_ .f32 0x47800000#32) (sitofp (F := Ideal) .f32 z)) (constant (F := Ideal) S_ .f32 0x00000000#32))) (Host.divf (broadcastInDim S1x1x1x128 ![3] bcast_S128_S1x1x1x128_3 (Host.reduceAdd (mulf (subf H (broadcastInDim S2x1024x32x128 ![0, 1, 2, 3] bcast_S1x1x1x128_S2x1024x32x128_0_1_2_3 (mean128 H))) (subf H (broadcastInDim S2x1024x32x128 ![0, 1, 2, 3] bcast_S1x1x1x128_S2x1024x32x128_0_1_2_3 (mean128 H)))) (constant (F := Ideal) S_ .f32 0x00000000#32) reducesTo_S2x1024x32x128_S128_d0_1_2 h_S_)) (broadcastInDim S1x1x1x128 ![] bcast_S_S1x1x1x128 (subf (constant (F := Ideal) S_ .f32 0x47800000#32) (sitofp (F := Ideal) .f32 z)))) (broadcastInDim S1x1x1x128 ![] bcast_S_S1x1x1x128 (id (constant (F := Ideal) S_ .f32 0x7FC00000#32)))) (broadcastInDim S1x1x1x128 ![] bcast_S_S1x1x1x128 (constant (F := Ideal) S_ .f32 0x3727C5AC#32)))))) (broadcastInDim S2x1024x32x128 ![0, 1, 2, 3] bcast_S1x1x1x128_S2x1024x32x128_0_1_2_3 (broadcastInDim S1x1x1x128 ![3] bcast_S128_S1x1x1x128_3 g))) (broadcastInDim S2x1024x32x128 ![0, 1, 2, 3] bcast_S1x1x1x128_S2x1024x32x128_0_1_2_3 (broadcastInDim S1x1x1x128 ![3] bcast_S128_S1x1x1x128_3 be))) (broadcastInDim S2x1024x32x128 ![] bcast_S_S2x1024x32x128 (constant (F := Ideal) S_ .f32 0x00000000#32)))

/-- and the last's. -/
def sums256 (X : FVec Ideal S2x1024x32x128 .f32) (w : FVec Ideal S128x256 .f32) (bias : FVec Ideal S256 .f32) : FVec Ideal S2x1024x32x256 .f32 :=
  addf (Host.dotGeneral dot_S2x1024x32x128_S128x256_S2x1024x32x256_3_0_012_1_n_n none X w) (broadcastInDim S2x1024x32x256 ![0, 1, 2, 3] bcast_S1x1x1x256_S2x1024x32x256_0_1_2_3
    (broadcastInDim S1x1x1x256 ![3] bcast_S256_S1x1x1x256_3 bias))

/-- The mean of every column, -/
def mean256 (H : FVec Ideal S2x1024x32x256 .f32) : FVec Ideal S1x1x1x256 .f32 :=
  Host.divf (broadcastInDim S1x1x1x256 ![3] bcast_S256_S1x1x1x256_3 (Host.reduceAdd H (constant (F := Ideal) S_ .f32 0x00000000#32) reducesTo_S2x1024x32x256_S256_d0_1_2 h_S_)) (broadcastInDim S1x1x1x256 ![] bcast_S_S1x1x1x256 (constant (F := Ideal) S_ .f32 0x47800000#32))

/-- and the array normalized. -/
def norm256 (H : FVec Ideal S2x1024x32x256 .f32) (mu : FVec Ideal S1x1x1x256 .f32) (z : IVec S_ 32) (g be : FVec Ideal S256 .f32) : FVec Ideal S2x1024x32x256 .f32 :=
  (maximumf (addf (mulf (Host.divf (subf H (broadcastInDim S2x1024x32x256 ![0, 1, 2, 3] bcast_S1x1x1x256_S2x1024x32x256_0_1_2_3 mu)) (broadcastInDim S2x1024x32x256 ![0, 1, 2, 3] bcast_S1x1x1x256_S2x1024x32x256_0_1_2_3 (Host.sqrt (addf (select (broadcastInDim S1x1x1x256 ![] bcast_S_S1x1x1x256 (cmpf (F := Ideal) (φ := .f32) .ogt (subf (constant (F := Ideal) S_ .f32 0x47800000#32) (sitofp (F := Ideal) .f32 z)) (constant (F := Ideal) S_ .f32 0x00000000#32))) (Host.divf (broadcastInDim S1x1x1x256 ![3] bcast_S256_S1x1x1x256_3 (Host.reduceAdd (mulf (subf H (broadcastInDim S2x1024x32x256 ![0, 1, 2, 3] bcast_S1x1x1x256_S2x1024x32x256_0_1_2_3 (mean256 H))) (subf H (broadcastInDim S2x1024x32x256 ![0, 1, 2, 3] bcast_S1x1x1x256_S2x1024x32x256_0_1_2_3 (mean256 H)))) (constant (F := Ideal) S_ .f32 0x00000000#32) reducesTo_S2x1024x32x256_S256_d0_1_2 h_S_)) (broadcastInDim S1x1x1x256 ![] bcast_S_S1x1x1x256 (subf (constant (F := Ideal) S_ .f32 0x47800000#32) (sitofp (F := Ideal) .f32 z)))) (broadcastInDim S1x1x1x256 ![] bcast_S_S1x1x1x256 (id (constant (F := Ideal) S_ .f32 0x7FC00000#32)))) (broadcastInDim S1x1x1x256 ![] bcast_S_S1x1x1x256 (constant (F := Ideal) S_ .f32 0x3727C5AC#32)))))) (broadcastInDim S2x1024x32x256 ![0, 1, 2, 3] bcast_S1x1x1x256_S2x1024x32x256_0_1_2_3 (broadcastInDim S1x1x1x256 ![3] bcast_S256_S1x1x1x256_3 g))) (broadcastInDim S2x1024x32x256 ![0, 1, 2, 3] bcast_S1x1x1x256_S2x1024x32x256_0_1_2_3 (broadcastInDim S1x1x1x256 ![3] bcast_S256_S1x1x1x256_3 be))) (broadcastInDim S2x1024x32x256 ![] bcast_S_S2x1024x32x256 (constant (F := Ideal) S_ .f32 0x00000000#32)))

/-- The largest row of every query. -/
def lastTerm (X : FVec Ideal S2x1024x32x256 .f32) : FVec Ideal S2x256x1024 .f32 :=
  transpose S2x256x1024 [0, 2, 1] (Host.reduce (FloatOps.maximumf (F := Ideal) (φ := .f32)) X (constant (F := Ideal) S_ .f32 0xFF800000#32) reducesTo_S2x1024x32x256_S2x1024x256_d2 h_S_) transposes_S2x1024x256_S2x256x1024_0_2_1

section
variable (V : Valuation τ sig (Elt Ideal))

set_option maxRecDepth 8192 in
set_option maxHeartbeats 4000000 in
theorem marked_v30 : after markedOps V (Proc.devRef .tc main_v30) = marks (V (Proc.devRef .tc main_v12)) (V (Proc.devRef .tc main_v0)) := by
  simp only [markedOps, hostOps0_3, hostOps0_4, List.cons_append, List.nil_append]
  after_results_entrywise [marks, cast_eq, id]

set_option maxRecDepth 8192 in
set_option maxHeartbeats 4000000 in
theorem named_v39 : after namedOps V (Proc.devRef .tc main_v39) = padded (smallest (V (Proc.devRef .tc main_v30))) := by
  simp only [namedOps, hostOps0_5, hostOps0_6, hostOps0_7, hostOps0_8, List.cons_append, List.nil_append]
  after_results_entrywise [padded, smallest, cast_eq, id]

set_option maxRecDepth 8192 in
set_option maxHeartbeats 4000000 in
theorem first_v62 : after firstOps V (Proc.devRef .tc main_v62) = firstSums (V (Proc.devRef .tc main_v0)) (V (Proc.devRef .tc main_v12)) (V (Proc.devRef .tc main_v39)) (V (Proc.devRef .tc main_arg1)) (V (Proc.devRef .tc main_arg2)) (V (Proc.devRef .tc main_arg3)) := by
  simp only [firstOps, hostOps0_9]
  after_results_entrywise [firstSums, placeTerm, featTerm, wrapIdx, cast_eq, id]

set_option maxRecDepth 8192 in
set_option maxHeartbeats 4000000 in
theorem first_v66 : after firstOps V (Proc.devRef .tc main_v66) = mean128 (firstSums (V (Proc.devRef .tc main_v0)) (V (Proc.devRef .tc main_v12)) (V (Proc.devRef .tc main_v39)) (V (Proc.devRef .tc main_arg1)) (V (Proc.devRef .tc main_arg2)) (V (Proc.devRef .tc main_arg3))) := by
  simp only [firstOps, hostOps0_9]
  after_results_entrywise [mean128, firstSums, placeTerm, featTerm, wrapIdx, cast_eq, id]

set_option maxRecDepth 8192 in
set_option maxHeartbeats 4000000 in
theorem first_c : after firstOps V (Proc.devRef .tc main_c_16) = constantI S_ 32 0#32 := by
  simp only [firstOps, hostOps0_9]
  after_results_entrywise [cast_eq, id]

set_option maxRecDepth 8192 in
set_option maxHeartbeats 4000000 in
theorem normFirst_v81 : after normFirstOps V (Proc.devRef .tc main_v81) = norm128 (V (Proc.devRef .tc main_v62)) (V (Proc.devRef .tc main_v66)) (V (Proc.devRef .tc main_c_16)) (V (Proc.devRef .tc main_arg4)) (V (Proc.devRef .tc main_arg5)) := by
  simp only [normFirstOps, hostOps0_10, hostOps0_11, hostOps0_12, List.cons_append, List.nil_append]
  after_results_entrywise [norm128, mean128, cast_eq, id]

set_option maxRecDepth 8192 in
set_option maxHeartbeats 4000000 in
theorem second_v85 : after secondOps V (Proc.devRef .tc main_v85) = sums128 (V (Proc.devRef .tc main_v81)) (V (Proc.devRef .tc main_arg6)) (V (Proc.devRef .tc main_arg7)) := by
  simp only [secondOps, hostOps0_13]
  after_results_entrywise [sums128, cast_eq, id]

set_option maxRecDepth 8192 in
set_option maxHeartbeats 4000000 in
theorem second_v89 : after secondOps V (Proc.devRef .tc main_v89) = mean128 (sums128 (V (Proc.devRef .tc main_v81)) (V (Proc.devRef .tc main_arg6)) (V (Proc.devRef .tc main_arg7))) := by
  simp only [secondOps, hostOps0_13]
  after_results_entrywise [mean128, sums128, cast_eq, id]

set_option maxRecDepth 8192 in
set_option maxHeartbeats 4000000 in
theorem second_c : after secondOps V (Proc.devRef .tc main_c_20) = constantI S_ 32 0#32 := by
  simp only [secondOps, hostOps0_13]
  after_results_entrywise [cast_eq, id]

set_option maxRecDepth 8192 in
set_option maxHeartbeats 4000000 in
theorem normSecond_v104 : after normSecondOps V (Proc.devRef .tc main_v104) = norm128 (V (Proc.devRef .tc main_v85)) (V (Proc.devRef .tc main_v89)) (V (Proc.devRef .tc main_c_20)) (V (Proc.devRef .tc main_arg8)) (V (Proc.devRef .tc main_arg9)) := by
  simp only [normSecondOps, hostOps0_14, hostOps0_15, hostOps0_16, List.cons_append, List.nil_append]
  after_results_entrywise [norm128, mean128, cast_eq, id]

set_option maxRecDepth 8192 in
set_option maxHeartbeats 4000000 in
theorem third_v108 : after thirdOps V (Proc.devRef .tc main_v108) = sums256 (V (Proc.devRef .tc main_v104)) (V (Proc.devRef .tc main_arg10)) (V (Proc.devRef .tc main_arg11)) := by
  simp only [thirdOps, hostOps0_17]
  after_results_entrywise [sums256, cast_eq, id]

set_option maxRecDepth 8192 in
set_option maxHeartbeats 4000000 in
theorem third_v112 : after thirdOps V (Proc.devRef .tc main_v112) = mean256 (sums256 (V (Proc.devRef .tc main_v104)) (V (Proc.devRef .tc main_arg10)) (V (Proc.devRef .tc main_arg11))) := by
  simp only [thirdOps, hostOps0_17]
  after_results_entrywise [mean256, sums256, cast_eq, id]

set_option maxRecDepth 8192 in
set_option maxHeartbeats 4000000 in
theorem third_c : after thirdOps V (Proc.devRef .tc main_c_24) = constantI S_ 32 0#32 := by
  simp only [thirdOps, hostOps0_17]
  after_results_entrywise [cast_eq, id]

set_option maxRecDepth 8192 in
set_option maxHeartbeats 4000000 in
theorem normThird_v127 : after normThirdOps V (Proc.devRef .tc main_v127) = norm256 (V (Proc.devRef .tc main_v108)) (V (Proc.devRef .tc main_v112)) (V (Proc.devRef .tc main_c_24)) (V (Proc.devRef .tc main_arg12)) (V (Proc.devRef .tc main_arg13)) := by
  simp only [normThirdOps, hostOps0_18, hostOps0_19, hostOps0_20, List.cons_append, List.nil_append]
  after_results_entrywise [norm256, mean256, cast_eq, id]

set_option maxRecDepth 8192 in
set_option maxHeartbeats 4000000 in
theorem last_v128 : after lastOps V (Proc.devRef .tc main_v128) = transpose S2x3x1024 [0, 2, 1] (V (Proc.devRef .tc main_v12)) transposes_S2x1024x3_S2x3x1024_0_2_1 := by
  simp only [lastOps, hostOps0_21]
  after_results_entrywise [cast_eq, id]

set_option maxRecDepth 8192 in
set_option maxHeartbeats 4000000 in
theorem last_v130 : after lastOps V (Proc.devRef .tc main_v130) = lastTerm (V (Proc.devRef .tc main_v127)) := by
  simp only [lastOps, hostOps0_21]
  after_results_entrywise [lastTerm, cast_eq, id]

/-! ## One group after another -/

abbrev V1 := after sampledOps V
abbrev V2 := after markedOps (V1 V)
abbrev V3 := after namedOps (V2 V)
abbrev V4 := after firstOps (V3 V)
abbrev V5 := after normFirstOps (V4 V)
abbrev V6 := after secondOps (V5 V)
abbrev V7 := after normSecondOps (V6 V)
abbrev V8 := after thirdOps (V7 V)
abbrev V9 := after normThirdOps (V8 V)
abbrev V10 := after lastOps (V9 V)

theorem after_post : afterL postI V = V10 V := by
  simp only [postI, afterL_cons, afterL_nil, V10, V9, V8, V7, V6, V5, V4, V3, V2, V1, sampledOps, markedOps, namedOps, firstOps, normFirstOps, secondOps,
    normSecondOps, thirdOps, normThirdOps, lastOps, after_append]

/-- An array that no group writes is kept by them all. -/
theorem kept_all (r : Ref sig .tc) (h : r ∉ sampledW ++ markedW ++ namedW ++ firstW ++ normFirstW ++ secondW ++ normSecondW ++ thirdW ++ normThirdW ++ lastW) :
    V1 V (Proc.devRef .tc r) = V (Proc.devRef .tc r) ∧ V2 V (Proc.devRef .tc r) = V (Proc.devRef .tc r) ∧ V3 V (Proc.devRef .tc r) = V (Proc.devRef .tc r)
    ∧ V4 V (Proc.devRef .tc r) = V (Proc.devRef .tc r) ∧ V5 V (Proc.devRef .tc r) = V (Proc.devRef .tc r) ∧ V6 V (Proc.devRef .tc r) = V (Proc.devRef .tc r)
    ∧ V7 V (Proc.devRef .tc r) = V (Proc.devRef .tc r) ∧ V8 V (Proc.devRef .tc r) = V (Proc.devRef .tc r) ∧ V10 V (Proc.devRef .tc r) = V (Proc.devRef .tc r) := by
  simp only [List.mem_append, not_or] at h
  obtain ⟨⟨⟨⟨⟨⟨⟨⟨⟨h1, h2⟩, h3⟩, h4⟩, h5⟩, h6⟩, h7⟩, h8⟩, h9⟩, h10⟩ := h
  have k1 := sampled_keep V r h1
  have k2 := (marked_keep (V1 V) r h2).trans k1
  have k3 := (named_keep (V2 V) r h3).trans k2
  have k4 := (first_keep (V3 V) r h4).trans k3
  have k5 := (normFirst_keep (V4 V) r h5).trans k4
  have k6 := (second_keep (V5 V) r h6).trans k5
  have k7 := (normSecond_keep (V6 V) r h7).trans k6
  have k8 := (third_keep (V7 V) r h8).trans k7
  have k9 := (normThird_keep (V8 V) r h9).trans k8
  exact ⟨k1, k2, k3, k4, k5, k6, k7, k8, (last_keep (V9 V) r h10).trans k9⟩

/-- The points taken, -/
abbrev took : FVec Ideal S2x1024x3 .f32 := V1 V (Proc.devRef .tc main_v12)
/-- their neighbours, -/
def named : IVec S2x1024x32 32 := padded (smallest (marks (took V) (V (Proc.devRef .tc main_v0))))
/-- and the layers. -/
def H1 : FVec Ideal S2x1024x32x128 .f32 := firstSums (V (Proc.devRef .tc main_v0)) (took V) (named V) (V (Proc.devRef .tc main_arg1)) (V (Proc.devRef .tc main_arg2)) (V (Proc.devRef .tc main_arg3))
def N1 : FVec Ideal S2x1024x32x128 .f32 := norm128 (H1 V) (mean128 (H1 V)) (constantI S_ 32 0#32) (V (Proc.devRef .tc main_arg4)) (V (Proc.devRef .tc main_arg5))
def H2 : FVec Ideal S2x1024x32x128 .f32 := sums128 (N1 V) (V (Proc.devRef .tc main_arg6)) (V (Proc.devRef .tc main_arg7))
def N2 : FVec Ideal S2x1024x32x128 .f32 := norm128 (H2 V) (mean128 (H2 V)) (constantI S_ 32 0#32) (V (Proc.devRef .tc main_arg8)) (V (Proc.devRef .tc main_arg9))
def H3 : FVec Ideal S2x1024x32x256 .f32 := sums256 (N2 V) (V (Proc.devRef .tc main_arg10)) (V (Proc.devRef .tc main_arg11))
def N3 : FVec Ideal S2x1024x32x256 .f32 := norm256 (H3 V) (mean256 (H3 V)) (constantI S_ 32 0#32) (V (Proc.devRef .tc main_arg12)) (V (Proc.devRef .tc main_arg13))

theorem at_v39 : V3 V (Proc.devRef .tc main_v39) = named V := by
  refine (named_v39 (V2 V)).trans ?_
  rw [show V2 V (Proc.devRef .tc main_v30) = _ from marked_v30 (V1 V), (kept_all V main_v0 (by decide)).1]
  rfl

theorem at_v12 : V3 V (Proc.devRef .tc main_v12) = took V := by
  exact (named_keep (V2 V) main_v12 (by decide)).trans (marked_keep (V1 V) main_v12 (by decide))

theorem first_args : firstSums (V3 V (Proc.devRef .tc main_v0)) (V3 V (Proc.devRef .tc main_v12)) (V3 V (Proc.devRef .tc main_v39)) (V3 V (Proc.devRef .tc main_arg1)) (V3 V (Proc.devRef .tc main_arg2)) (V3 V (Proc.devRef .tc main_arg3)) = H1 V := by
  rw [(kept_all V main_v0 (by decide)).2.2.1, at_v12, at_v39, (kept_all V main_arg1 (by decide)).2.2.1, (kept_all V main_arg2 (by decide)).2.2.1, (kept_all V main_arg3 (by decide)).2.2.1]
  rfl

theorem at_v81 : V5 V (Proc.devRef .tc main_v81) = N1 V := by
  refine (normFirst_v81 (V4 V)).trans ?_
  rw [show V4 V (Proc.devRef .tc main_v62) = _ from first_v62 (V3 V), show V4 V (Proc.devRef .tc main_v66) = _ from first_v66 (V3 V), show V4 V (Proc.devRef .tc main_c_16) = _ from first_c (V3 V), first_args, (kept_all V main_arg4 (by decide)).2.2.2.1, (kept_all V main_arg5 (by decide)).2.2.2.1]
  rfl

theorem second_args : sums128 (V5 V (Proc.devRef .tc main_v81)) (V5 V (Proc.devRef .tc main_arg6)) (V5 V (Proc.devRef .tc main_arg7)) = H2 V := by
  rw [at_v81, (kept_all V main_arg6 (by decide)).2.2.2.2.1, (kept_all V main_arg7 (by decide)).2.2.2.2.1]
  rfl

theorem at_v104 : V7 V (Proc.devRef .tc main_v104) = N2 V := by
  refine (normSecond_v104 (V6 V)).trans ?_
  rw [show V6 V (Proc.devRef .tc main_v85) = _ from second_v85 (V5 V), show V6 V (Proc.devRef .tc main_v89) = _ from second_v89 (V5 V), show V6 V (Proc.devRef .tc main_c_20) = _ from second_c (V5 V), second_args, (kept_all V main_arg8 (by decide)).2.2.2.2.2.1, (kept_all V main_arg9 (by decide)).2.2.2.2.2.1]
  rfl

theorem third_args : sums256 (V7 V (Proc.devRef .tc main_v104)) (V7 V (Proc.devRef .tc main_arg10)) (V7 V (Proc.devRef .tc main_arg11)) = H3 V := by
  rw [at_v104, (kept_all V main_arg10 (by decide)).2.2.2.2.2.2.1, (kept_all V main_arg11 (by decide)).2.2.2.2.2.2.1]
  rfl

theorem at_v127 : V9 V (Proc.devRef .tc main_v127) = N3 V := by
  refine (normThird_v127 (V8 V)).trans ?_
  rw [show V8 V (Proc.devRef .tc main_v108) = _ from third_v108 (V7 V), show V8 V (Proc.devRef .tc main_v112) = _ from third_v112 (V7 V), show V8 V (Proc.devRef .tc main_c_24) = _ from third_c (V7 V), third_args, (kept_all V main_arg12 (by decide)).2.2.2.2.2.2.2.1, (kept_all V main_arg13 (by decide)).2.2.2.2.2.2.2.1]
  rfl

/-- The results at the end, -/
theorem at_v130 : afterL postI V (Proc.devRef .tc main_v130) = lastTerm (N3 V) := by
  rw [after_post]
  exact (last_v130 (V9 V)).trans (congrArg lastTerm (at_v127 V))

theorem at_v128 : afterL postI V (Proc.devRef .tc main_v128) = transpose S2x3x1024 [0, 2, 1] (took V) transposes_S2x1024x3_S2x3x1024_0_2_1 := by
  rw [after_post]
  refine (last_v128 (V9 V)).trans (congrArg (fun x => transpose S2x3x1024 [0, 2, 1] x transposes_S2x1024x3_S2x3x1024_0_2_1) ?_)
  exact (normThird_keep (V8 V) main_v12 (by decide)).trans ((third_keep (V7 V) main_v12 (by decide)).trans ((normSecond_keep (V6 V) main_v12 (by decide)).trans
    ((second_keep (V5 V) main_v12 (by decide)).trans ((normFirst_keep (V4 V) main_v12 (by decide)).trans ((first_keep (V3 V) main_v12 (by decide)).trans (at_v12 V))))))
end

/-- and the arguments kept, from the start of the run to its end. -/
theorem kept_trip (m : (ℓ : Loc nD τ sig) → Buf (Elt Ideal) ℓ) (c : Dev nD) (r : Ref sig .tc)
    (h : r ∉ hostOps0_W ++ while0Ops0_W ++ while0Ops0_1_W ++ while0Ops0_2_W ++ while0Ops0_3_W ++ while0Ops0_4_W ++ condOps_W) :
    over m c (Proc.devRef .tc r) = m ((c.tc : Thread nD τ).loc r) := by
  simp only [List.mem_append, not_or] at h
  obtain ⟨⟨⟨⟨⟨⟨h0, h1⟩, h2⟩, h3⟩, h4⟩, h5⟩, h6⟩ := h
  have hk : ∀ k, atK m k c (Proc.devRef .tc r) = launchContents m c (Proc.devRef .tc r) := by
    intro k
    induction k with
    | zero => exact (after_of_writes_sub hostOps0 (launchContents m c) hostOps0_writes (r := r) h0 :)
    | succ k ih =>
      rw [show atK m (k + 1) c = afterL bodyI (after condOps (atK m k c)) from rfl]
      simp only [bodyI, afterL_cons, afterL_nil]
      rw [after_of_writes_sub while0Ops0_4 _ while0Ops0_4_writes h5, after_of_writes_sub while0Ops0_3 _ while0Ops0_3_writes h4,
        after_of_writes_sub while0Ops0_2 _ while0Ops0_2_writes h3, after_of_writes_sub while0Ops0_1 _ while0Ops0_1_writes h2,
        after_of_writes_sub while0Ops0 _ while0Ops0_writes h1, after_of_writes_sub condOps _ condOps_writes h6, ih]
  exact (after_of_writes_sub condOps _ condOps_writes h6).trans (hk 1023)

end Cert.Proof.Ended

end
-- ==== Proof.Referred.lean ====
/- The reference's layers, read element by element. -/
module

public import proofs.«01_k».proof.Proof.Ended
public import proofs.«01_k».proof.Proof.Nearest
public import proofs.«01_k».proof.Proof.Rows
public import Idealize.ShloMosaic.Lib.StableHlo.Predicate

@[expose] public section

set_option maxRecDepth 65536

noncomputable section

namespace Cert.Proof.Tail

open Idealize.ShloMosaic Idealize.ShloMosaic.TcCoe
open Idealize.SL Idealize.SL.Sem
open Cert.ReferenceIdeal Cert.ReferenceIdeal.Gen Cert.ReferenceIdeal.Value

/-- The number of rows, less nothing, is the number of rows, -/
theorem rows_same : (Ideal.ofBits .f32 1199570944#32 - FloatOps.sitofp (F := Ideal) .f32 (0#32 : BitVec 32) : EReal) = cnt := by
  show cnt - (((0#32 : BitVec 32).toInt : ℝ) : EReal) = cnt
  simp

/-- and positive. -/
theorem rows_pos : (0 : EReal) < cnt := by
  rw [cnt_eq]
  exact_mod_cast (by norm_num : (0 : ℝ) < 65536)

theorem normed128 (H : FVec Ideal S2x1024x32x128 .f32) (g be : FVec Ideal S128 .f32) (b : Fin 2) (j : Fin 1024) (k : Fin 32) (d : Fin 128) :
    ((maximumf (addf (mulf (Host.divf (subf H (broadcastInDim S2x1024x32x128 ![0, 1, 2, 3] bcast_S1x1x1x128_S2x1024x32x128_0_1_2_3 (Host.divf (broadcastInDim S1x1x1x128 ![3] bcast_S128_S1x1x1x128_3 (Host.reduceAdd H (constant (F := Ideal) S_ .f32 0x00000000#32) reducesTo_S2x1024x32x128_S128_d0_1_2 h_S_)) (broadcastInDim S1x1x1x128 ![] bcast_S_S1x1x1x128 (constant (F := Ideal) S_ .f32 0x47800000#32))))) (broadcastInDim S2x1024x32x128 ![0, 1, 2, 3] bcast_S1x1x1x128_S2x1024x32x128_0_1_2_3 (Host.sqrt (addf (select (broadcastInDim S1x1x1x128 ![] bcast_S_S1x1x1x128 (cmpf (F := Ideal) (φ := .f32) .ogt (subf (constant (F := Ideal) S_ .f32 0x47800000#32) (sitofp (F := Ideal) .f32 (constantI S_ 32 0#32))) (constant (F := Ideal) S_ .f32 0x00000000#32))) (Host.divf (broadcastInDim S1x1x1x128 ![3] bcast_S128_S1x1x1x128_3 (Host.reduceAdd (mulf (subf H (broadcastInDim S2x1024x32x128 ![0, 1, 2, 3] bcast_S1x1x1x128_S2x1024x32x128_0_1_2_3 (Host.divf (broadcastInDim S1x1x1x128 ![3] bcast_S128_S1x1x1x128_3 (Host.reduceAdd H (constant (F := Ideal) S_ .f32 0x00000000#32) reducesTo_S2x1024x32x128_S128_d0_1_2 h_S_)) (broadcastInDim S1x1x1x128 ![] bcast_S_S1x1x1x128 (constant (F := Ideal) S_ .f32 0x47800000#32))))) (subf H (broadcastInDim S2x1024x32x128 ![0, 1, 2, 3] bcast_S1x1x1x128_S2x1024x32x128_0_1_2_3 (Host.divf (broadcastInDim S1x1x1x128 ![3] bcast_S128_S1x1x1x128_3 (Host.reduceAdd H (constant (F := Ideal) S_ .f32 0x00000000#32) reducesTo_S2x1024x32x128_S128_d0_1_2 h_S_)) (broadcastInDim S1x1x1x128 ![] bcast_S_S1x1x1x128 (constant (F := Ideal) S_ .f32 0x47800000#32)))))) (constant (F := Ideal) S_ .f32 0x00000000#32) reducesTo_S2x1024x32x128_S128_d0_1_2 h_S_)) (broadcastInDim S1x1x1x128 ![] bcast_S_S1x1x1x128 (subf (constant (F := Ideal) S_ .f32 0x47800000#32) (sitofp (F := Ideal) .f32 (constantI S_ 32 0#32))))) (broadcastInDim S1x1x1x128 ![] bcast_S_S1x1x1x128 (id (constant (F := Ideal) S_ .f32 0x7FC00000#32)))) (broadcastInDim S1x1x1x128 ![] bcast_S_S1x1x1x128 (constant (F := Ideal) S_ .f32 0x3727C5AC#32)))))) (broadcastInDim S2x1024x32x128 ![0, 1, 2, 3] bcast_S1x1x1x128_S2x1024x32x128_0_1_2_3 (broadcastInDim S1x1x1x128 ![3] bcast_S128_S1x1x1x128_3 g))) (broadcastInDim S2x1024x32x128 ![0, 1, 2, 3] bcast_S1x1x1x128_S2x1024x32x128_0_1_2_3 (broadcastInDim S1x1x1x128 ![3] bcast_S128_S1x1x1x128_3 be))) (broadcastInDim S2x1024x32x128 ![] bcast_S_S2x1024x32x128 (constant (F := Ideal) S_ .f32 0x00000000#32))) : FVec Ideal S2x1024x32x128 .f32) (ix4 b j k d)
      = rn (H (ix4 b j k d)) (∑ b, ∑ j, ∑ k, H (ix4 b j k d)) (∑ b, ∑ j, ∑ k, (H (ix4 b j k d) - Ideal.div (∑ b, ∑ j, ∑ k, H (ix4 b j k d)) cnt)
        * (H (ix4 b j k d) - Ideal.div (∑ b, ∑ j, ∑ k, H (ix4 b j k d)) cnt)) (g (ix1 d)) (be (ix1 d)) := by
  unfold rn
  pointwise
  rw [rows_same, if_pos rows_pos, sum012, sum012, zero_add, zero_add]
  have e (b : Fin 2) (j : Fin 1024) (k : Fin 32) : (mulf (subf H (broadcastInDim S2x1024x32x128 ![0, 1, 2, 3] bcast_S1x1x1x128_S2x1024x32x128_0_1_2_3 (Host.divf (broadcastInDim S1x1x1x128 ![3] bcast_S128_S1x1x1x128_3 (Host.reduceAdd H (constant (F := Ideal) S_ .f32 0x00000000#32) reducesTo_S2x1024x32x128_S128_d0_1_2 h_S_)) (broadcastInDim S1x1x1x128 ![] bcast_S_S1x1x1x128 (constant (F := Ideal) S_ .f32 0x47800000#32))))) (subf H (broadcastInDim S2x1024x32x128 ![0, 1, 2, 3] bcast_S1x1x1x128_S2x1024x32x128_0_1_2_3 (Host.divf (broadcastInDim S1x1x1x128 ![3] bcast_S128_S1x1x1x128_3 (Host.reduceAdd H (constant (F := Ideal) S_ .f32 0x00000000#32) reducesTo_S2x1024x32x128_S128_d0_1_2 h_S_)) (broadcastInDim S1x1x1x128 ![] bcast_S_S1x1x1x128 (constant (F := Ideal) S_ .f32 0x47800000#32))))) : FVec Ideal S2x1024x32x128 .f32) (ix4 b j k d)
      = ((H (ix4 b j k d) - Ideal.div (∑ b, ∑ j, ∑ k, H (ix4 b j k d)) cnt) * (H (ix4 b j k d) - Ideal.div (∑ b, ∑ j, ∑ k, H (ix4 b j k d)) cnt) : EReal) := by
    pointwise
    rw [sum012, zero_add]
  simp only [e]
theorem normed256 (H : FVec Ideal S2x1024x32x256 .f32) (g be : FVec Ideal S256 .f32) (b : Fin 2) (j : Fin 1024) (k : Fin 32) (d : Fin 256) :
    ((maximumf (addf (mulf (Host.divf (subf H (broadcastInDim S2x1024x32x256 ![0, 1, 2, 3] bcast_S1x1x1x256_S2x1024x32x256_0_1_2_3 (Host.divf (broadcastInDim S1x1x1x256 ![3] bcast_S256_S1x1x1x256_3 (Host.reduceAdd H (constant (F := Ideal) S_ .f32 0x00000000#32) reducesTo_S2x1024x32x256_S256_d0_1_2 h_S_)) (broadcastInDim S1x1x1x256 ![] bcast_S_S1x1x1x256 (constant (F := Ideal) S_ .f32 0x47800000#32))))) (broadcastInDim S2x1024x32x256 ![0, 1, 2, 3] bcast_S1x1x1x256_S2x1024x32x256_0_1_2_3 (Host.sqrt (addf (select (broadcastInDim S1x1x1x256 ![] bcast_S_S1x1x1x256 (cmpf (F := Ideal) (φ := .f32) .ogt (subf (constant (F := Ideal) S_ .f32 0x47800000#32) (sitofp (F := Ideal) .f32 (constantI S_ 32 0#32))) (constant (F := Ideal) S_ .f32 0x00000000#32))) (Host.divf (broadcastInDim S1x1x1x256 ![3] bcast_S256_S1x1x1x256_3 (Host.reduceAdd (mulf (subf H (broadcastInDim S2x1024x32x256 ![0, 1, 2, 3] bcast_S1x1x1x256_S2x1024x32x256_0_1_2_3 (Host.divf (broadcastInDim S1x1x1x256 ![3] bcast_S256_S1x1x1x256_3 (Host.reduceAdd H (constant (F := Ideal) S_ .f32 0x00000000#32) reducesTo_S2x1024x32x256_S256_d0_1_2 h_S_)) (broadcastInDim S1x1x1x256 ![] bcast_S_S1x1x1x256 (constant (F := Ideal) S_ .f32 0x47800000#32))))) (subf H (broadcastInDim S2x1024x32x256 ![0, 1, 2, 3] bcast_S1x1x1x256_S2x1024x32x256_0_1_2_3 (Host.divf (broadcastInDim S1x1x1x256 ![3] bcast_S256_S1x1x1x256_3 (Host.reduceAdd H (constant (F := Ideal) S_ .f32 0x00000000#32) reducesTo_S2x1024x32x256_S256_d0_1_2 h_S_)) (broadcastInDim S1x1x1x256 ![] bcast_S_S1x1x1x256 (constant (F := Ideal) S_ .f32 0x47800000#32)))))) (constant (F := Ideal) S_ .f32 0x00000000#32) reducesTo_S2x1024x32x256_S256_d0_1_2 h_S_)) (broadcastInDim S1x1x1x256 ![] bcast_S_S1x1x1x256 (subf (constant (F := Ideal) S_ .f32 0x47800000#32) (sitofp (F := Ideal) .f32 (constantI S_ 32 0#32))))) (broadcastInDim S1x1x1x256 ![] bcast_S_S1x1x1x256 (id (constant (F := Ideal) S_ .f32 0x7FC00000#32)))) (broadcastInDim S1x1x1x256 ![] bcast_S_S1x1x1x256 (constant (F := Ideal) S_ .f32 0x3727C5AC#32)))))) (broadcastInDim S2x1024x32x256 ![0, 1, 2, 3] bcast_S1x1x1x256_S2x1024x32x256_0_1_2_3 (broadcastInDim S1x1x1x256 ![3] bcast_S256_S1x1x1x256_3 g))) (broadcastInDim S2x1024x32x256 ![0, 1, 2, 3] bcast_S1x1x1x256_S2x1024x32x256_0_1_2_3 (broadcastInDim S1x1x1x256 ![3] bcast_S256_S1x1x1x256_3 be))) (broadcastInDim S2x1024x32x256 ![] bcast_S_S2x1024x32x256 (constant (F := Ideal) S_ .f32 0x00000000#32))) : FVec Ideal S2x1024x32x256 .f32) (ix4 b j k d)
      = rn (H (ix4 b j k d)) (∑ b, ∑ j, ∑ k, H (ix4 b j k d)) (∑ b, ∑ j, ∑ k, (H (ix4 b j k d) - Ideal.div (∑ b, ∑ j, ∑ k, H (ix4 b j k d)) cnt)
        * (H (ix4 b j k d) - Ideal.div (∑ b, ∑ j, ∑ k, H (ix4 b j k d)) cnt)) (g (ix1 d)) (be (ix1 d)) := by
  unfold rn
  pointwise
  rw [rows_same, if_pos rows_pos, sum012, sum012, zero_add, zero_add]
  have e (b : Fin 2) (j : Fin 1024) (k : Fin 32) : (mulf (subf H (broadcastInDim S2x1024x32x256 ![0, 1, 2, 3] bcast_S1x1x1x256_S2x1024x32x256_0_1_2_3 (Host.divf (broadcastInDim S1x1x1x256 ![3] bcast_S256_S1x1x1x256_3 (Host.reduceAdd H (constant (F := Ideal) S_ .f32 0x00000000#32) reducesTo_S2x1024x32x256_S256_d0_1_2 h_S_)) (broadcastInDim S1x1x1x256 ![] bcast_S_S1x1x1x256 (constant (F := Ideal) S_ .f32 0x47800000#32))))) (subf H (broadcastInDim S2x1024x32x256 ![0, 1, 2, 3] bcast_S1x1x1x256_S2x1024x32x256_0_1_2_3 (Host.divf (broadcastInDim S1x1x1x256 ![3] bcast_S256_S1x1x1x256_3 (Host.reduceAdd H (constant (F := Ideal) S_ .f32 0x00000000#32) reducesTo_S2x1024x32x256_S256_d0_1_2 h_S_)) (broadcastInDim S1x1x1x256 ![] bcast_S_S1x1x1x256 (constant (F := Ideal) S_ .f32 0x47800000#32))))) : FVec Ideal S2x1024x32x256 .f32) (ix4 b j k d)
      = ((H (ix4 b j k d) - Ideal.div (∑ b, ∑ j, ∑ k, H (ix4 b j k d)) cnt) * (H (ix4 b j k d) - Ideal.div (∑ b, ∑ j, ∑ k, H (ix4 b j k d)) cnt) : EReal) := by
    pointwise
    rw [sum012, zero_add]
  simp only [e]

theorem timed128 (X : FVec Ideal S2x1024x32x128 .f32) (w : FVec Ideal S128x128 .f32) (bias : FVec Ideal S128 .f32) (b : Fin 2) (j : Fin 1024) (k : Fin 32) (d : Fin 128) :
    (addf (Host.dotGeneral dot_S2x1024x32x128_S128x128_S2x1024x32x128_3_0_012_1_n_n none X w) (broadcastInDim S2x1024x32x128 ![0, 1, 2, 3] bcast_S1x1x1x128_S2x1024x32x128_0_1_2_3
      (broadcastInDim S1x1x1x128 ![3] bcast_S128_S1x1x1x128_3 bias)) : FVec Ideal S2x1024x32x128 .f32) (ix4 b j k d)
      = ((∑ a : Fin 128, X (ix4 b j k a) * w (ix2 a d) : EReal) + bias (ix1 d) : EReal) := by
  pointwise

theorem sums128 (H : FVec Ideal S2x1024x32x128 .f32) (M : Mat 128) (hM : ∀ b j k d, H (ix4 b j k d) = M (at_ b j k) d) (b : Fin 2) (j : Fin 1024) (k : Fin 32) (d : Fin 128) (g be : Arr1 128) :
    rn (H (ix4 b j k d)) (∑ b, ∑ j, ∑ k, H (ix4 b j k d)) (∑ b, ∑ j, ∑ k, (H (ix4 b j k d) - Ideal.div (∑ b, ∑ j, ∑ k, H (ix4 b j k d)) cnt)
        * (H (ix4 b j k d) - Ideal.div (∑ b, ∑ j, ∑ k, H (ix4 b j k d)) cnt)) (g (ix1 d)) (be (ix1 d)) = rnorm M g be (at_ b j k) d := by
  unfold rnorm
  have h1 : (∑ b, ∑ j, ∑ k, H (ix4 b j k d) : EReal) = ∑ r, M r d :=
    Eq.trans (Finset.sum_congr (M := EReal) rfl fun b _ => Finset.sum_congr (M := EReal) rfl fun j _ => Finset.sum_congr (M := EReal) rfl fun k _ => hM b j k d)
      (sum_rows 2 1024 32 65536 rfl (fun r => M r d) fun b j k => by omega)
  rw [h1, hM b j k d]
  refine congrArg (fun v => rn (M (at_ b j k) d) (∑ r, M r d) v (g (ix1 d)) (be (ix1 d))) ?_
  exact Eq.trans (Finset.sum_congr (M := EReal) rfl fun b _ => Finset.sum_congr (M := EReal) rfl fun j _ => Finset.sum_congr (M := EReal) rfl fun k _ => by rw [hM b j k d])
      (sum_rows 2 1024 32 65536 rfl (fun r => (M r d - Ideal.div (∑ r, M r d) cnt) * (M r d - Ideal.div (∑ r, M r d) cnt)) fun b j k => by omega)

theorem timed256 (X : FVec Ideal S2x1024x32x128 .f32) (w : FVec Ideal S128x256 .f32) (bias : FVec Ideal S256 .f32) (b : Fin 2) (j : Fin 1024) (k : Fin 32) (d : Fin 256) :
    (addf (Host.dotGeneral dot_S2x1024x32x128_S128x256_S2x1024x32x256_3_0_012_1_n_n none X w) (broadcastInDim S2x1024x32x256 ![0, 1, 2, 3] bcast_S1x1x1x256_S2x1024x32x256_0_1_2_3
      (broadcastInDim S1x1x1x256 ![3] bcast_S256_S1x1x1x256_3 bias)) : FVec Ideal S2x1024x32x256 .f32) (ix4 b j k d)
      = ((∑ a : Fin 128, X (ix4 b j k a) * w (ix2 a d) : EReal) + bias (ix1 d) : EReal) := by
  pointwise

theorem sums256 (H : FVec Ideal S2x1024x32x256 .f32) (M : Mat 256) (hM : ∀ b j k d, H (ix4 b j k d) = M (at_ b j k) d) (b : Fin 2) (j : Fin 1024) (k : Fin 32) (d : Fin 256) (g be : Arr1 256) :
    rn (H (ix4 b j k d)) (∑ b, ∑ j, ∑ k, H (ix4 b j k d)) (∑ b, ∑ j, ∑ k, (H (ix4 b j k d) - Ideal.div (∑ b, ∑ j, ∑ k, H (ix4 b j k d)) cnt)
        * (H (ix4 b j k d) - Ideal.div (∑ b, ∑ j, ∑ k, H (ix4 b j k d)) cnt)) (g (ix1 d)) (be (ix1 d)) = rnorm M g be (at_ b j k) d := by
  unfold rnorm
  have h1 : (∑ b, ∑ j, ∑ k, H (ix4 b j k d) : EReal) = ∑ r, M r d :=
    Eq.trans (Finset.sum_congr (M := EReal) rfl fun b _ => Finset.sum_congr (M := EReal) rfl fun j _ => Finset.sum_congr (M := EReal) rfl fun k _ => hM b j k d)
      (sum_rows 2 1024 32 65536 rfl (fun r => M r d) fun b j k => by omega)
  rw [h1, hM b j k d]
  refine congrArg (fun v => rn (M (at_ b j k) d) (∑ r, M r d) v (g (ix1 d)) (be (ix1 d))) ?_
  exact Eq.trans (Finset.sum_congr (M := EReal) rfl fun b _ => Finset.sum_congr (M := EReal) rfl fun j _ => Finset.sum_congr (M := EReal) rfl fun k _ => by rw [hM b j k d])
      (sum_rows 2 1024 32 65536 rfl (fun r => (M r d - Ideal.div (∑ r, M r d) cnt) * (M r d - Ideal.div (∑ r, M r d) cnt)) fun b j k => by omega)

theorem largest (X : FVec Ideal S2x1024x32x256 .f32) (b : Fin 2) (d : Fin 256) (j : Fin 1024) :
    (transpose S2x256x1024 [0, 2, 1] (Host.reduce (FloatOps.maximumf (F := Ideal) (φ := .f32)) X (constant (F := Ideal) S_ .f32 0xFF800000#32) reducesTo_S2x1024x32x256_S2x1024x256_d2 h_S_) transposes_S2x1024x256_S2x256x1024_0_2_1 : FVec Ideal S2x256x1024 .f32) (ix3 b d j)
      = (Finset.univ.fold max (Ideal.ofBits .f32 0xFF800000#32) fun k : Fin 32 => X (ix4 b j k d) : EReal) := by
  pointwise

/-- A number of a point of the cloud is left as it is by the wrapping of negative ones. -/
theorem wrapped (v : BitVec 32) (h : v.toNat < 8192) : Scalar.select (IntOp.cmpi .slt v 0#32) (IntOp.addi v 8192#32) v = v := by
  have e : IntOp.cmpi .slt v 0#32 = 0#1 := by
    simp only [IntOp.cmpi, BitVec.slt_eq_decide, BitVec.toInt_eq_toNat_cond, BitVec.toNat_ofNat]
    rw [decide_eq_false (by omega)]; rfl
  rw [e]; rfl

theorem wrapped_at (n : IVec S2x1024x32 32) (b : Fin 2) (j : Fin 1024) (k : Fin 32) (h : (n (ix3 b j k)).toNat < 8192) :
    Ended.wrapIdx n (ix4 b j k (0 : Fin 1)) = n (ix3 b j k) := by
  have e : Ended.wrapIdx n (ix4 b j k (0 : Fin 1)) = Scalar.select (IntOp.cmpi .slt (n (ix3 b j k)) 0#32) (IntOp.addi (n (ix3 b j k)) 8192#32) (n (ix3 b j k)) := by
    unfold Ended.wrapIdx
    pointwise
  exact e.trans (wrapped _ h)

/-- The points of the cloud that the numbers name, -/
theorem taken3 (t : FVec Ideal S2x8192x3 .f32) (ws : IVec S2x1024x32x1 32) (b : Fin 2) (j : Fin 1024) (k : Fin 32) (a : Fin 3) (v : BitVec 32)
    (hv : ws (ix4 b j k (0 : Fin 1)) = v) (h : v.toNat < 8192) :
    Host.gather gather_S2x8192x3_S2x1024x32x1_S2x1024x32x3_3_1_0_0_1_3_113 t ws (ix4 b j k a) = t (ix3 b (⟨v.toNat, h⟩ : Fin 8192) a) := by
  unfold Host.gather
  refine congrArg t (funext fun x => Fin.ext ?_)
  match x with
  | ⟨0, _⟩ => exact (Nat.zero_add _).trans rfl
  | ⟨1, _⟩ =>
    show min (ws (GatherDims.siIdx _ _ ⟨_, _⟩)).toInt.toNat 8191 + 0 + 0 = v.toNat
    rw [show (GatherDims.siIdx _ _ ⟨_, _⟩ : S2x1024x32x1.Idx) = ix4 b j k (0 : Fin 1) from funext fun x => Fin.ext (by
      match x with
      | ⟨0, _⟩ => rfl
      | ⟨1, _⟩ => rfl
      | ⟨2, _⟩ => rfl
      | ⟨3, _⟩ => rfl)]
    rw [hv, BitVec.toInt_eq_toNat_cond]
    omega
  | ⟨2, _⟩ => exact (Nat.zero_add _).trans rfl

/-- and their features. -/
theorem taken128 (t : FVec Ideal S2x8192x128 .f32) (ws : IVec S2x1024x32x1 32) (b : Fin 2) (j : Fin 1024) (k : Fin 32) (a : Fin 128) (v : BitVec 32)
    (hv : ws (ix4 b j k (0 : Fin 1)) = v) (h : v.toNat < 8192) :
    Host.gather gather_S2x8192x128_S2x1024x32x1_S2x1024x32x128_3_1_0_0_1_3_11128 t ws (ix4 b j k a) = t (ix3 b (⟨v.toNat, h⟩ : Fin 8192) a) := by
  unfold Host.gather
  refine congrArg t (funext fun x => Fin.ext ?_)
  match x with
  | ⟨0, _⟩ => exact (Nat.zero_add _).trans rfl
  | ⟨1, _⟩ =>
    show min (ws (GatherDims.siIdx _ _ ⟨_, _⟩)).toInt.toNat 8191 + 0 + 0 = v.toNat
    rw [show (GatherDims.siIdx _ _ ⟨_, _⟩ : S2x1024x32x1.Idx) = ix4 b j k (0 : Fin 1) from funext fun x => Fin.ext (by
      match x with
      | ⟨0, _⟩ => rfl
      | ⟨1, _⟩ => rfl
      | ⟨2, _⟩ => rfl
      | ⟨3, _⟩ => rfl)]
    rw [hv, BitVec.toInt_eq_toNat_cond]
    omega
  | ⟨2, _⟩ => exact (Nat.zero_add _).trans rfl

theorem feats_at (f : FVec Ideal S2x128x8192 .f32) (b : Fin 2) (n : Fin 8192) (a : Fin 128) :
    (transpose S2x8192x128 [0, 2, 1] f transposes_S2x128x8192_S2x8192x128_0_2_1 : FVec Ideal S2x8192x128 .f32) (ix3 b n a) = f (ix3 b a n) := by
  pointwise

theorem centres_at (q : FVec Ideal S2x1024x3 .f32) (b : Fin 2) (j : Fin 1024) (k : Fin 32) (a : Fin 3) :
    (broadcastInDim S2x1024x32x3 ![0, 1, 2, 3] bcast_S2x1024x1x3_S2x1024x32x3_0_1_2_3 (broadcastInDim S2x1024x1x3 ![0, 1, 3] bcast_S2x1024x3_S2x1024x1x3_0_1_3 q)
      : FVec Ideal S2x1024x32x3 .f32) (ix4 b j k a) = q (ix3 b j a) := by
  pointwise

theorem first_read (X : FVec Ideal S2x1024x32x3 .f32) (Y : FVec Ideal S2x1024x32x128 .f32) (w : FVec Ideal S131x128 .f32) (bias : FVec Ideal S128 .f32)
    (b : Fin 2) (j : Fin 1024) (k : Fin 32) (d : Fin 128) :
    (addf (Host.dotGeneral dot_S2x1024x32x131_S131x128_S2x1024x32x128_3_0_012_1_n_n none (concatenate S2x1024x32x131 3 [⟨S2x1024x32x3, X⟩, ⟨S2x1024x32x128, Y⟩]
      concatenates_S2x1024x32x3_S2x1024x32x128_S2x1024x32x131_d3) w) (broadcastInDim S2x1024x32x128 ![0, 1, 2, 3] bcast_S1x1x1x128_S2x1024x32x128_0_1_2_3
      (broadcastInDim S1x1x1x128 ![3] bcast_S128_S1x1x1x128_3 bias)) : FVec Ideal S2x1024x32x128 .f32) (ix4 b j k d)
      = ((∑ a : Fin 3, X (ix4 b j k a) * w (ix2 (⟨a.val, by omega⟩ : Fin 131) d) : EReal)
        + (∑ a : Fin 128, Y (ix4 b j k a) * w (ix2 (⟨3 + a.val, by omega⟩ : Fin 131) d) : EReal) : EReal) + bias (ix1 d) := by
  pointwise

section
variable (V : Valuation τ sig (Elt Ideal))

abbrev p1 : FVec Ideal S2x128x8192 .f32 := V (Proc.devRef .tc main_arg1)
abbrev r2 : FVec Ideal S131x128 .f32 := V (Proc.devRef .tc main_arg2)
abbrev r3 : FVec Ideal S128 .f32 := V (Proc.devRef .tc main_arg3)
abbrev r4 : FVec Ideal S128 .f32 := V (Proc.devRef .tc main_arg4)
abbrev r5 : FVec Ideal S128 .f32 := V (Proc.devRef .tc main_arg5)
abbrev r6 : FVec Ideal S128x128 .f32 := V (Proc.devRef .tc main_arg6)
abbrev r7 : FVec Ideal S128 .f32 := V (Proc.devRef .tc main_arg7)
abbrev r8 : FVec Ideal S128 .f32 := V (Proc.devRef .tc main_arg8)
abbrev r9 : FVec Ideal S128 .f32 := V (Proc.devRef .tc main_arg9)
abbrev r10 : FVec Ideal S128x256 .f32 := V (Proc.devRef .tc main_arg10)
abbrev r11 : FVec Ideal S256 .f32 := V (Proc.devRef .tc main_arg11)
abbrev r12 : FVec Ideal S256 .f32 := V (Proc.devRef .tc main_arg12)
abbrev r13 : FVec Ideal S256 .f32 := V (Proc.devRef .tc main_arg13)

variable (p : FVec Ideal S2x3x8192 .f32) (q : FVec Ideal S2x3x1024 .f32)

/-- The rows of products that the neighbours name. -/
abbrev r0 : Arr2 65536 128 := taken p (p1 V) (r2 V) (Near.found q p)

def R1 : Mat 128 := rfirst (r0 V p q) q (r2 V) (r3 V)
def R2 : Mat 128 := times (rnorm (R1 V p q) (r4 V) (r5 V)) (r6 V) (r7 V)
def R3 : Mat 256 := times (rnorm (R2 V p q) (r8 V) (r9 V)) (r10 V) (r11 V)

variable {V p q} (hP : ∀ b n a, (V (Proc.devRef .tc main_v0) : FVec Ideal S2x8192x3 .f32) (ix3 b n a) = p (ix3 b a n))
  (hQ : ∀ b j a, Ended.took V (ix3 b j a) = q (ix3 b a j))
  (hp : ∀ i, Fin_ (p i)) (hf : ∀ i, Fin_ (p1 V i)) (hq : ∀ i, Fin_ (q i)) (hw : ∀ i, Fin_ (r2 V i))

include hP hQ in
/-- The neighbours' numbers in the reference are those within reach, in order, the first of them in place of what is missing. -/
theorem named_filled (b : Fin 2) (j : Fin 1024) (k : Fin 32) : Ended.named V (ix3 b j k) = Near.filled (Near.Close q p b j) ⟨k.val, by omega⟩ :=
  Near.nidx_at q p (Ended.took V) (V (Proc.devRef .tc main_v0)) hQ hP b j k

include hP hQ in
theorem named_lt (b : Fin 2) (j : Fin 1024) (k : Fin 32) : (Ended.named V (ix3 b j k)).toNat < 8192 := by
  rw [named_filled hP hQ]
  exact Near.filled_lt _ _

include hP hQ in
/-- The row of the table that the kernel names is the reference's neighbour in its cloud. -/
theorem found_named (b : Fin 2) (j : Fin 1024) (k : Fin 32) :
    (Near.found q p (ix3 b j k)).toNat = (Ended.named V (ix3 b j k)).toNat + 8192 * b.val := by
  have h := named_lt hP hQ b j k
  have hb := b.isLt
  show (Near.filled (Near.Close q p b j) ⟨k.val, by omega⟩ + 8192#32 * BitVec.ofNat 32 b.val).toNat = _
  rw [← named_filled hP hQ b j k, BitVec.toNat_add, BitVec.toNat_mul, BitVec.toNat_ofNat, BitVec.toNat_ofNat]
  omega

include hP hQ hp hf hq hw in
theorem read1 (b : Fin 2) (j : Fin 1024) (k : Fin 32) (d : Fin 128) : Ended.H1 V (ix4 b j k d) = R1 V p q (at_ b j k) d := by
  have hn := named_lt hP hQ b j k
  have hb := b.isLt
  have hr := found_named hP hQ b j k
  refine Eq.trans ?_ (first_of (r3 V) hp hf hq hw (Near.found q p) b j k d ⟨(Ended.named V (ix3 b j k)).toNat + 8192 * b.val, by omega⟩ hr)
  have hc : cloud ⟨(Ended.named V (ix3 b j k)).toNat + 8192 * b.val, by omega⟩ = b := Fin.ext (by simp only; omega)
  have hv : point ⟨(Ended.named V (ix3 b j k)).toNat + 8192 * b.val, by omega⟩ = ⟨(Ended.named V (ix3 b j k)).toNat, hn⟩ := Fin.ext (by simp only; omega)
  rw [hc, hv]
  unfold Ended.H1 Ended.firstSums
  refine (first_read _ _ _ _ b j k d).trans ?_
  refine congrArg (fun z : EReal => z + r3 V (ix1 d)) (congrArg₂ (fun u v : EReal => u + v)
    (Finset.sum_congr (M := EReal) rfl fun a _ => congrArg (fun z : EReal => z * _) ?_) (Finset.sum_congr (M := EReal) rfl fun a _ => congrArg (fun z : EReal => z * _) ?_))
  · exact congrArg₂ (fun u v : EReal => u - v) ((taken3 _ _ b j k a _ (wrapped_at _ b j k hn) hn).trans (hP b _ a)) ((centres_at _ b j k a).trans (hQ b j a))
  · exact (taken128 _ _ b j k a _ (wrapped_at _ b j k hn) hn).trans (feats_at (p1 V) b _ a)

include hP hQ hp hf hq hw in
theorem read2 (b : Fin 2) (j : Fin 1024) (k : Fin 32) (d : Fin 128) : Ended.H2 V (ix4 b j k d) = R2 V p q (at_ b j k) d := by
  unfold R2 times Ended.H2 Ended.sums128
  refine (timed128 _ _ _ b j k d).trans ?_
  refine congrArg (fun z : EReal => z + _) (Finset.sum_congr (M := EReal) rfl fun a _ => congrArg (fun z : EReal => z * _) ?_)
  unfold Ended.N1 Ended.norm128 Ended.mean128
  exact (normed128 (Ended.H1 V) _ _ b j k a).trans (sums128 _ (R1 V p q) (read1 hP hQ hp hf hq hw) b j k a (r4 V) (r5 V))

include hP hQ hp hf hq hw in
theorem read3 (b : Fin 2) (j : Fin 1024) (k : Fin 32) (d : Fin 256) : Ended.H3 V (ix4 b j k d) = R3 V p q (at_ b j k) d := by
  unfold R3 times Ended.H3 Ended.sums256
  refine (timed256 _ _ _ b j k d).trans ?_
  refine congrArg (fun z : EReal => z + _) (Finset.sum_congr (M := EReal) rfl fun a _ => congrArg (fun z : EReal => z * _) ?_)
  unfold Ended.N2 Ended.norm128 Ended.mean128
  exact (normed128 (Ended.H2 V) _ _ b j k a).trans (sums128 _ (R2 V p q) (read2 hP hQ hp hf hq hw) b j k a (r8 V) (r9 V))

include hP hQ hp hf hq hw in
theorem reference_at : Ended.lastTerm (Ended.N3 V) = fun i => best (rnorm (R3 V p q) (r12 V) (r13 V)) (i 0) (i 1) (i 2) := by
  funext i
  obtain ⟨b, d, j, rfl⟩ : ∃ (b : Fin 2) (d : Fin 256) (j : Fin 1024), i = ix3 b d j := ⟨i 0, i 1, i 2, funext fun x => by
    match x with
    | ⟨0, _⟩ => rfl
    | ⟨1, _⟩ => rfl
    | ⟨2, _⟩ => rfl⟩
  unfold Ended.lastTerm
  refine (largest _ b d j).trans ?_
  refine congrArg (fun f => Finset.univ.fold max (Ideal.ofBits .f32 0xFF800000#32 : EReal) f) (funext fun k => ?_)
  unfold Ended.N3 Ended.norm256 Ended.mean256
  exact (normed256 (Ended.H3 V) _ _ b j k d).trans (sums256 _ (R3 V p q) (read3 hP hQ hp hf hq hw) b j k d (r12 V) (r13 V))
end

end Cert.Proof.Tail

end
-- ==== Proof.Whole.lean ====
/- The claims of the kernel: its calls run, and make of finite arguments what the reference makes. -/
module

public import proofs.«01_k».proof.Defs
public import proofs.«01_k».proof.Proof.Array
public import proofs.«01_k».proof.Proof.Bound
public import proofs.«01_k».proof.Proof.Chained
public import proofs.«01_k».proof.Proof.Tabled
public import proofs.«01_k».proof.Proof.Referred
public import proofs.«01_k».proof.Proof.Gen.Kernel
public import proofs.«01_k».proof.Proof.Gen.Pre_finite_inputs
public import Idealize.ShloMosaic.Lib.ReduceAll
public import Idealize.ShloMosaic.Lib.KernelVsHost

@[expose] public section

set_option maxRecDepth 65536

noncomputable section

namespace Cert.Proof.Tail

open Idealize.ShloMosaic Idealize.ShloMosaic.TcCoe
open Idealize.SL Idealize.SL.Sem

/-- A number whose magnitude compares below infinity is finite. -/
theorem fin_of (x : EReal) (h : FloatOps.cmpf (F := Ideal) (φ := .f32) .olt (FloatOps.hostAbsf (F := Ideal) (φ := .f32) x) (FloatOps.ofBits (F := Ideal) .f32 0x7F800000#32) = 1#1) :
    Fin_ x := by
  rw [← Ideal.xori_weird_eq_hostAbsf_olt_inf] at h
  change IntOp.xori (BitVec.ofBool (decide (x = ⊤ ∨ x = ⊥))) 1#1 = 1#1 at h
  have hx : ¬ (x = ⊤ ∨ x = ⊥) := fun hx => by
    rw [decide_eq_true hx] at h
    exact absurd h (by decide)
  push Not at hx
  exact ⟨x.toReal, (EReal.coe_toReal hx.1 hx.2).symm⟩

/-- What the precondition says of one array. -/
theorem all_fin {s : Shape} {ax : List (Fin s.rank)} (x : FVec Ideal s .f32) (hb : Cert.Pre_finite_inputs.S_.BroadcastsInDim s (![] : Fin 0 → Fin s.rank))
    (hr : s.ReducesTo ax Cert.Pre_finite_inputs.S_) (hu : 0 < Cert.Pre_finite_inputs.S_.numel)
    (e : Host.reduce IntOp.andi (cmpf .olt (Host.absf x) (broadcastInDim s ![] hb (constant Cert.Pre_finite_inputs.S_ .f32 0x7F800000#32))) (constantI Cert.Pre_finite_inputs.S_ 1 1#1) hr hu ix0 = 1#1)
    (i : s.Idx) : Fin_ (x i) :=
  haveI : Subsingleton Cert.Pre_finite_inputs.S_.Idx := ⟨fun a b => funext fun i => i.elim0⟩
  fin_of (x i) (Host.reduce_andi_all _ _ hr hu ix0 e i)

open Cert.Pre_finite_inputs in
open Facts in
set_option maxHeartbeats 4000000 in
/-- The precondition, as it prints, says that each of these is finite. -/
theorem inputs_ok (p : FVec Ideal S2x3x8192 .f32) (f : FVec Ideal S2x128x8192 .f32) (w1 : FVec Ideal S131x128 .f32) (b1 : FVec Ideal S128 .f32) (g1 : FVec Ideal S128 .f32) (be1 : FVec Ideal S128 .f32) (w2 : FVec Ideal S128x128 .f32) (b2 : FVec Ideal S128 .f32) (g2 : FVec Ideal S128 .f32) (be2 : FVec Ideal S128 .f32) (w3 : FVec Ideal S128x256 .f32) (b3 : FVec Ideal S256 .f32) (g3 : FVec Ideal S256 .f32) (be3 : FVec Ideal S256 .f32)
    (h : Cert.Pre_finite_inputs.fn (F := Ideal) p f w1 b1 g1 be1 w2 b2 g2 be2 w3 b3 g3 be3 = fun _ => 1#1) :
    (∀ i, Fin_ (p i)) ∧ (∀ i, Fin_ (f i)) ∧ (∀ i, Fin_ (w1 i)) ∧ (∀ i, Fin_ (b1 i)) ∧ (∀ i, Fin_ (g1 i)) ∧ (∀ i, Fin_ (be1 i)) ∧ (∀ i, Fin_ (w2 i)) ∧ (∀ i, Fin_ (b2 i)) ∧ (∀ i, Fin_ (g2 i)) ∧ (∀ i, Fin_ (be2 i)) ∧ (∀ i, Fin_ (w3 i)) ∧ (∀ i, Fin_ (b3 i)) ∧ (∀ i, Fin_ (g3 i)) := by
  have e := congrFun h ix0
  unfold Cert.Pre_finite_inputs.fn fn_part1 fn_part2 fn_part3 at e
  simp only [andi, IntOp.andi_eq_one] at e
  obtain ⟨⟨⟨⟨⟨⟨⟨⟨⟨⟨⟨⟨h0, h1⟩, h2⟩, h3⟩, h4⟩, h5⟩, h6⟩, h7⟩, h8⟩, h9⟩, h10⟩, h11⟩, h12⟩ := e
  exact ⟨all_fin p _ _ _ h0, all_fin f _ _ _ h1, all_fin w1 _ _ _ h2, all_fin b1 _ _ _ h3, all_fin g1 _ _ _ h4, all_fin be1 _ _ _ h5, all_fin w2 _ _ _ h6, all_fin b2 _ _ _ h7, all_fin g2 _ _ _ h8, all_fin be2 _ _ _ h9, all_fin w3 _ _ _ h10, all_fin b3 _ _ _ h11, all_fin g3 _ _ _ h12⟩

/-! ## The runs -/

section
open Cert.KernelIdeal Cert.KernelIdeal.Gen
variable {F : FTy → Type} [FloatOps F] (m : (ℓ : Loc nD τ sig) → Buf (Elt F) ℓ)

/-- The row numbers are what the third call's window gathers. -/
theorem numbers (c : Dev nD) : M6 m c main_v4 = (dat2 (own (M5 m)) c).arrAt 2 cfg2.N :=
  Pipeline.afterRegion_arr (dat2 (own (M5 m)) c) (M5 m c) winFacts2.arr_inj 2
end

section
open Cert.KernelIdeal Cert.KernelIdeal.Gen
variable (m : (ℓ : Loc nD τ sig) → Buf (Elt Ideal) ℓ)

/-- They are the rows of the points within reach of the points taken. -/
theorem found_at (c : Dev nD) : s3 m c = Near.found (Sample.sampled m c) (s0 m c) := by
  refine (numbers m c).trans ((Near.kernel_at (own (M5 m)) c).trans ?_)
  have h0 : (M5 m c main_v0 : FVec Ideal S2x3x1024 .f32) = Sample.sampled m c :=
    (StableHlo.after_of_writes_sub hostOps2 _ hostOps2_writes (by decide)).trans ((kept1 m c main_v0 (by decide) (by decide)).trans (Sample.sampled_at m c))
  have h1 : (M5 m c main_arg0 : FVec Ideal S2x3x8192 .f32) = s0 m c :=
    (StableHlo.after_of_writes_sub hostOps2 _ hostOps2_writes (by decide)).trans ((kept1 m c main_arg0 (by decide) (by decide)).trans (kept0 m c main_arg0 (by decide) (by decide)))
  exact congrArg₂ Near.found h0 h1

/-- The gather may run, over the reals -/
theorem words_ideal : PreOK (mem (M7 m)) := words_in m fun c i => by
  obtain ⟨b, j, k, rfl⟩ : ∃ (b : Fin 2) (j : Fin 1024) (k : Fin 32), i = ix3 b j k := ⟨i 0, i 1, i 2, funext fun x => by
    match x with
    | ⟨0, _⟩ => rfl
    | ⟨1, _⟩ => rfl
    | ⟨2, _⟩ => rfl⟩
  rw [show (M6 m c main_v4 : IVec S2x1024x32 32) = _ from found_at m c]
  exact Near.found_lt _ _ _ _ _
end

section
open Cert.KernelIdeal Cert.KernelIdeal.Gen
variable (m : (ℓ : Loc nD τ sig) → Buf (Elt Bits) ℓ)

/-- and over the floats. -/
theorem words_bits : PreOK (mem (M7 m)) := words_in m fun c i => by
  rw [show (M6 m c main_v4 : IVec S2x1024x32 32) = _ from numbers m c]
  exact Near.bits_lt (own (M5 m)) c i
end

theorem frame_ideal : Cert.quiescent_KernelIdeal := fun m ρ _ =>
  (θ_run Cert.KernelIdeal.defs _ _).mono (fun _ h => h.1) (run (F := Ideal) m ρ (words_ideal m))

theorem frame_ideal_pre : Cert.quiescent_KernelIdeal_pre_finite_inputs := fun m ρ _ => frame_ideal m ρ trivial

theorem frame_kernel : Cert.quiescent_Kernel := by
  have h : ∀ (m : (ℓ : Loc Cert.KernelIdeal.nD Cert.KernelIdeal.τ Cert.KernelIdeal.sig) → Buf (Elt Bits) ℓ) (ρ : Dev Cert.KernelIdeal.nD → PrngReg), True → _ :=
    fun m ρ _ => (θ_run Cert.KernelIdeal.defs _ _).mono (fun _ h => h.1) (run (F := Bits) m ρ (words_bits m))
  refine Eq.mp ?_ h
  sl_kernel_rfl

section
open Cert.ReferenceIdeal Cert.ReferenceIdeal.Gen Cert.ReferenceIdeal.Value
variable (m : (ℓ : Loc nD τ sig) → Buf (Elt Ideal) ℓ) (ρ : Dev nD → PrngReg)

/-- What every operation leaves alone is kept to the end of the reference's run. -/
theorem kept_end (c : Dev nD) (r : Ref sig .tc)
    (h : r ∉ Ended.sampledW ++ Ended.markedW ++ Ended.namedW ++ Ended.firstW ++ Ended.normFirstW ++ Ended.secondW ++ Ended.normSecondW ++ Ended.thirdW ++ Ended.normThirdW ++ Ended.lastW)
    (h' : r ∉ Value.hostOps0_W ++ while0Ops0_W ++ while0Ops0_1_W ++ while0Ops0_2_W ++ while0Ops0_3_W ++ while0Ops0_4_W ++ condOps_W) :
    StableHlo.finalContents condOps preI bodyI postI 1023 m c (Proc.devRef .tc r) = m ((c.tc : Thread nD τ).loc r) := by
  show StableHlo.afterL postI (Sample.over m c) (Proc.devRef .tc r) = _
  rw [Ended.after_post]
  exact (Ended.kept_all (Sample.over m c) r h).2.2.2.2.2.2.2.2.trans (Ended.kept_trip m c r h')

/-- The reference's run, read at the results and the arguments. -/
theorem reference_run : θ_run (defs (F := Ideal)) (onTc (τ := τ) (main (F := Ideal))) ⟨m, fun _ => 0, ρ⟩ (fun r => ∀ c : Dev nD,
    r.2.mem ((c.tc : Thread nD τ).loc main_v128) = transpose S2x3x1024 [0, 2, 1] (Ended.took (Sample.over m c)) transposes_S2x1024x3_S2x3x1024_0_2_1
    ∧ r.2.mem ((c.tc : Thread nD τ).loc main_v130) = Ended.lastTerm (Ended.N3 (Sample.over m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)) := by
  refine (θ_run (defs (F := Ideal)) _ _).mono (fun r h c => ?_) (run_fold m ρ)
  have arg (x : Ref sig .tc) (hs : (Proc.devRef .tc x : DevRef τ sig).isScoped = false)
      (h1 : x ∉ Ended.sampledW ++ Ended.markedW ++ Ended.namedW ++ Ended.firstW ++ Ended.normFirstW ++ Ended.secondW ++ Ended.normSecondW ++ Ended.thirdW ++ Ended.normThirdW ++ Ended.lastW)
      (h2 : x ∉ Value.hostOps0_W ++ while0Ops0_W ++ while0Ops0_1_W ++ while0Ops0_2_W ++ while0Ops0_3_W ++ while0Ops0_4_W ++ condOps_W) :
      r.2.mem ((c.tc : Thread nD τ).loc x) = m ((c.tc : Thread nD τ).loc x) := (h c x hs).trans (kept_end m c x h1 h2)
  exact ⟨(h c main_v128 (by decide)).trans (Ended.at_v128 (Sample.over m c)), (h c main_v130 (by decide)).trans (Ended.at_v130 (Sample.over m c)),
    arg main_arg0 (by decide) (by decide) (by decide), arg main_arg1 (by decide) (by decide) (by decide), arg main_arg2 (by decide) (by decide) (by decide), arg main_arg3 (by decide) (by decide) (by decide), arg main_arg4 (by decide) (by decide) (by decide), arg main_arg5 (by decide) (by decide) (by decide), arg main_arg6 (by decide) (by decide) (by decide), arg main_arg7 (by decide) (by decide) (by decide), arg main_arg8 (by decide) (by decide) (by decide), arg main_arg9 (by decide) (by decide) (by decide), arg main_arg10 (by decide) (by decide) (by decide), arg main_arg11 (by decide) (by decide) (by decide), arg main_arg12 (by decide) (by decide) (by decide), arg main_arg13 (by decide) (by decide) (by decide)⟩

/-- The points the reference takes. -/
theorem took_at (c : Dev nD) (b : Fin 2) (j : Fin 1024) (a : Fin 3) :
    Ended.took (Sample.over m c) (ix3 b j a) = Sample.given m c b a (Sample.walk (Sample.given m c b) j.val).1 := by
  have e : Ended.took (Sample.over m c) = StableHlo.after hostOps0_2 (StableHlo.after hostOps0_1 (Sample.over m c)) (Proc.devRef .tc main_v12) :=
    congrFun (StableHlo.after_append hostOps0_1 hostOps0_2 (Sample.over m c)) _
  rw [e]
  exact Sample.taken_at m c b j a

/-- An argument before the first operation after the loop. -/
theorem arg_over (c : Dev nD) (r : Ref sig .tc)
    (h : r ∉ Value.hostOps0_W ++ while0Ops0_W ++ while0Ops0_1_W ++ while0Ops0_2_W ++ while0Ops0_3_W ++ while0Ops0_4_W ++ condOps_W) :
    Sample.over m c (Proc.devRef .tc r) = m ((c.tc : Thread nD τ).loc r) := Ended.kept_trip m c r h
end

theorem frame_reference : Cert.quiescent_ReferenceIdeal := fun m ρ _ =>
  (θ_run Cert.ReferenceIdeal.defs _ _).mono (fun r h => ⟨fun c => (h c).2.2, sem_eq_zero_of_no_sems (by decide) r.2⟩) (reference_run m ρ)

theorem frame_reference_pre : Cert.quiescent_ReferenceIdeal_pre_finite_inputs := fun m ρ _ => frame_reference m ρ trivial

/-- With the same points given, the reference returns the points that the kernel takes. -/
theorem same_points (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (eg : Sample.given m' c = Sample.entered m c) :
    (transpose Cert.ReferenceIdeal.S2x3x1024 [0, 2, 1] (Ended.took (Sample.over m' c)) Cert.ReferenceIdeal.Gen.transposes_S2x1024x3_S2x3x1024_0_2_1 : FVec Ideal Cert.ReferenceIdeal.S2x3x1024 .f32)
      = Sample.sampled m c := by
  funext i
  obtain ⟨b, a, j, rfl⟩ : ∃ (b : Fin 2) (a : Fin 3) (j : Fin 1024), i = ix3 b a j := ⟨i 0, i 1, i 2, funext fun x => by
    match x with
    | ⟨0, _⟩ => rfl
    | ⟨1, _⟩ => rfl
    | ⟨2, _⟩ => rfl⟩
  have e : (transpose Cert.ReferenceIdeal.S2x3x1024 [0, 2, 1] (Ended.took (Sample.over m' c)) Cert.ReferenceIdeal.Gen.transposes_S2x1024x3_S2x3x1024_0_2_1 : FVec Ideal Cert.ReferenceIdeal.S2x3x1024 .f32) (ix3 b a j)
      = Ended.took (Sample.over m' c) (ix3 b j a) := by
    pointwise
  rw [e, took_at m' c b j a, eg]
  rfl

/-- The two programs take the same points and make the same features of their neighbours. -/
theorem algebraic : Cert.algebraic_KernelIdeal_ReferenceIdeal_pre_finite_inputs := by
  intro m ρ m' ρ' hpre hag
  refine ⟨fun c => M16 m c Cert.KernelIdeal.main_v0, fun c => M16 m c Cert.KernelIdeal.main_v26, ?_, ?_⟩
  · exact (θ_run Cert.KernelIdeal.defs _ _).mono (fun r h c => ⟨(h.2 c).1.trans (result0 m c).symm, (h.2 c).2.trans (result m c).symm, h.1.1 c⟩) (run (F := Ideal) m ρ (words_ideal m))
  · refine (θ_run Cert.ReferenceIdeal.defs _ _).mono (fun r h c => ⟨(h c).1.trans ?_, (h c).2.1.trans ?_, (h c).2.2⟩) (reference_run m' ρ')
    · obtain ⟨ep, -⟩ := hag c
      have eg : Sample.given m' c = Sample.entered m c := by unfold Sample.given Sample.entered; rw [ep]
      refine Eq.trans ?_ ((result0 m c).trans (Sample.kernel_at m c)).symm
      exact same_points m m' c eg
    · obtain ⟨fp, ff, f2, f3, f4, f5, f6, f7, f8, f9, f10, f11, f12⟩ := inputs_ok _ _ _ _ _ _ _ _ _ _ _ _ _ _ (hpre c)
      obtain ⟨ep, ef, e2, e3, e4, e5, e6, e7, e8, e9, e10, e11, e12, e13⟩ := hag c
      have eg : Sample.given m' c = Sample.entered m c := by unfold Sample.given Sample.entered; rw [ep]
      have gf : p1 (Sample.over m' c) = s1 m c := (arg_over m' c Cert.ReferenceIdeal.main_arg1 (by decide)).trans ef
      have g2 : r2 (Sample.over m' c) = a2 m c := (arg_over m' c Cert.ReferenceIdeal.main_arg2 (by decide)).trans e2
      have g3 : r3 (Sample.over m' c) = a3 m c := (arg_over m' c Cert.ReferenceIdeal.main_arg3 (by decide)).trans e3
      have g4 : r4 (Sample.over m' c) = a4 m c := (arg_over m' c Cert.ReferenceIdeal.main_arg4 (by decide)).trans e4
      have g5 : r5 (Sample.over m' c) = a5 m c := (arg_over m' c Cert.ReferenceIdeal.main_arg5 (by decide)).trans e5
      have g6 : r6 (Sample.over m' c) = a6 m c := (arg_over m' c Cert.ReferenceIdeal.main_arg6 (by decide)).trans e6
      have g7 : r7 (Sample.over m' c) = a7 m c := (arg_over m' c Cert.ReferenceIdeal.main_arg7 (by decide)).trans e7
      have g8 : r8 (Sample.over m' c) = a8 m c := (arg_over m' c Cert.ReferenceIdeal.main_arg8 (by decide)).trans e8
      have g9 : r9 (Sample.over m' c) = a9 m c := (arg_over m' c Cert.ReferenceIdeal.main_arg9 (by decide)).trans e9
      have g10 : r10 (Sample.over m' c) = a10 m c := (arg_over m' c Cert.ReferenceIdeal.main_arg10 (by decide)).trans e10
      have g11 : r11 (Sample.over m' c) = a11 m c := (arg_over m' c Cert.ReferenceIdeal.main_arg11 (by decide)).trans e11
      have g12 : r12 (Sample.over m' c) = a12 m c := (arg_over m' c Cert.ReferenceIdeal.main_arg12 (by decide)).trans e12
      have g13 : r13 (Sample.over m' c) = a13 m c := (arg_over m' c Cert.ReferenceIdeal.main_arg13 (by decide)).trans e13
      have fq : ∀ i, Fin_ (Sample.sampled m c i) := fun i => fp _
      have hP : ∀ b n a, (Sample.over m' c (Proc.devRef .tc Cert.ReferenceIdeal.main_v0) : FVec Ideal Cert.ReferenceIdeal.S2x8192x3 .f32) (ix3 b n a) = s0 m c (ix3 b a n) := fun b n a =>
        (Sample.points_at m' c b n a).trans (congrFun (congrFun (congrFun eg b) a) n)
      have hQ : ∀ b j a, Ended.took (Sample.over m' c) (ix3 b j a) = Sample.sampled m c (ix3 b a j) := fun b j a => by
        rw [took_at m' c b j a, eg]; rfl
      refine (reference_at hP hQ fp (fun i => by rw [gf]; exact ff i) fq (fun i => by rw [g2]; exact f2 i)).trans ?_
      refine Eq.trans ?_ (kernel_at m c).symm
      refine congrArg (fun (M : Mat 256) => (fun i => best M (i 0) (i 1) (i 2) : FVec Ideal Cert.KernelIdeal.S2x256x1024 .f32)) ?_
      have fx : ∀ i, Fin_ (a0 m c i) := fun i => by
        rw [gathered_at m c]
        exact fin_taken fp ff f2 _ i
      have q1 : a1 m c = Sample.sampled m c := Sample.sampled_at m c
      have key := layers_eq (a0 m c) (a1 m c) (a2 m c) (a3 m c) (a4 m c) (a5 m c) (a6 m c) (a7 m c) (a8 m c) (a9 m c) (a10 m c) (a11 m c) (a12 m c) (a13 m c) fx (fun i => by rw [q1]; exact fq i) (fun a d => f2 _) f3 f4 f5 f6 f7 f8 f9 f10 f11 f12
      refine Eq.trans ?_ key.symm
      unfold R3 R2 R1 r0
      rw [gf, g2, g3, g4, g5, g6, g7, g8, g9, g10, g11, g12, g13, ← found_at m c, ← gathered_at m c, q1]

end Cert.Proof.Tail

end
-- ==== Proof.Taken.lean ====
/- The sampling by itself, the reference's side: its loop carries what the loop of the whole reference carries. -/
module

public import proofs.«01_k».proof.Proof.Gen.SampleReferenceIdeal.Run
public import proofs.«01_k».proof.Proof.Picked
@[expose] public section
noncomputable section
namespace Cert.Proof.Taken
open Idealize.ShloMosaic Idealize.ShloMosaic.StableHlo
open Cert.SampleReferenceIdeal Cert.SampleReferenceIdeal.Gen Cert.SampleReferenceIdeal.Value
open Cert.Proof.Sample (idxTerm wrapTerm readTerm firstTerm idxTerm_at readTerm_at walk)

/-- The whole reference's buffers hold, in the four the loop carries, what this reference's hold. -/
structure Alike (V : Valuation τ sig (Elt Ideal)) (W : Valuation Cert.ReferenceIdeal.τ Cert.ReferenceIdeal.sig (Elt Ideal)) : Prop where
  points : (W (Proc.devRef .tc Cert.ReferenceIdeal.main_v7_0) : FVec Ideal S2x8192x3 .f32) = V (Proc.devRef .tc main_v7_0)
  count : (W (Proc.devRef .tc Cert.ReferenceIdeal.main_v7_1) : IVec S_ 32) = V (Proc.devRef .tc main_v7_1)
  least : (W (Proc.devRef .tc Cert.ReferenceIdeal.main_v7_2) : FVec Ideal S2x8192 .f32) = V (Proc.devRef .tc main_v7_2)
  rows : (W (Proc.devRef .tc Cert.ReferenceIdeal.main_v7_3) : IVec S1023x2 32) = V (Proc.devRef .tc main_v7_3)

theorem exists_alike (V : Valuation τ sig (Elt Ideal)) : ∃ W, Alike V W :=
  ⟨Function.update (Function.update (Function.update (Function.update (fun r _ => Classical.choice inferInstance)
      (Proc.devRef .tc Cert.ReferenceIdeal.main_v7_0) (V (Proc.devRef .tc main_v7_0)))
      (Proc.devRef .tc Cert.ReferenceIdeal.main_v7_1) (V (Proc.devRef .tc main_v7_1)))
      (Proc.devRef .tc Cert.ReferenceIdeal.main_v7_2) (V (Proc.devRef .tc main_v7_2)))
      (Proc.devRef .tc Cert.ReferenceIdeal.main_v7_3) (V (Proc.devRef .tc main_v7_3)),
    by rw [Function.update_of_ne (by decide), Function.update_of_ne (by decide), Function.update_of_ne (by decide), Function.update_self],
    by rw [Function.update_of_ne (by decide), Function.update_of_ne (by decide), Function.update_self],
    by rw [Function.update_of_ne (by decide), Function.update_self],
    by rw [Function.update_self]⟩

set_option maxRecDepth 65536 in
/-- One trip of each loop keeps them alike. -/
theorem Alike.step {V : Valuation τ sig (Elt Ideal)} {W : Valuation Cert.ReferenceIdeal.τ Cert.ReferenceIdeal.sig (Elt Ideal)} (h : Alike V W) :
    Alike (STEP V) (Cert.ReferenceIdeal.Value.STEP W) := by
  obtain ⟨h0, h1, h2, h3⟩ := h
  refine ⟨?_, ?_, ?_, ?_⟩
  · rw [STEP_main_v7_0, Cert.ReferenceIdeal.Value.STEP_main_v7_0]; exact h0
  · rw [STEP_main_v7_1, Cert.ReferenceIdeal.Value.STEP_main_v7_1]
    unfold step_main_v7_1 Cert.ReferenceIdeal.Value.step_main_v7_1
    rw [h1]
  · rw [STEP_main_v7_2, Cert.ReferenceIdeal.Value.STEP_main_v7_2]
    unfold step_main_v7_2 Cert.ReferenceIdeal.Value.step_main_v7_2
    unfold res_main_while0b_v18 Cert.ReferenceIdeal.Value.res_main_while0b_v135
    unfold res_main_while0b_call0_v4 Cert.ReferenceIdeal.Value.res_main_while0b_call0_v4
    unfold res_main_while0b_v15 Cert.ReferenceIdeal.Value.res_main_while0b_v132
    unfold res_main_while0b_v14 Cert.ReferenceIdeal.Value.res_main_while0b_v131
    rw [h0, h2]; rfl
  · rw [STEP_main_v7_3, Cert.ReferenceIdeal.Value.STEP_main_v7_3]
    unfold step_main_v7_3 Cert.ReferenceIdeal.Value.step_main_v7_3
    unfold res_main_while0b_v14 Cert.ReferenceIdeal.Value.res_main_while0b_v131
    rw [h1, h2, h3]; rfl

theorem Alike.trips {V : Valuation τ sig (Elt Ideal)} {W : Valuation Cert.ReferenceIdeal.τ Cert.ReferenceIdeal.sig (Elt Ideal)} (h : Alike V W) :
    ∀ k, Alike (STEP^[k] V) (Cert.ReferenceIdeal.Value.STEP^[k] W)
  | 0 => h
  | k + 1 => by
    rw [Function.iterate_succ_apply', Function.iterate_succ_apply']
    exact (h.trips k).step

/-- The operations that wrap the picked indices, and those that read the points at them. -/
abbrev wrapOps : List (HloOp τ sig (Elt Ideal)) := hostOps0_2.take 7
abbrev readOps : List (HloOp τ sig (Elt Ideal)) := hostOps0_2.drop 7

set_option maxRecDepth 8192 in
theorem after_idx (V : Valuation τ sig (Elt Ideal)) :
    after hostOps0_1 V (Proc.devRef .tc main_v11) = idxTerm (V (Proc.devRef .tc main_v7_3)) := by
  simp only [hostOps0_1]
  after_results_entrywise [idxTerm, cast_eq]
theorem after_idx_v0 (V : Valuation τ sig (Elt Ideal)) :
    after hostOps0_1 V (Proc.devRef .tc main_v0) = V (Proc.devRef .tc main_v0) := by
  simp only [hostOps0_1]
  after_results_entrywise [cast_eq]
set_option maxRecDepth 8192 in
theorem after_wrap (V : Valuation τ sig (Elt Ideal)) :
    after wrapOps V (Proc.devRef .tc main_call2_v4) = wrapTerm (V (Proc.devRef .tc main_v11)) := by
  simp only [wrapOps, hostOps0_2, List.take_succ_cons, List.take_zero]
  after_results_entrywise [wrapTerm, cast_eq]
set_option maxRecDepth 8192 in
theorem after_wrap_v0 (V : Valuation τ sig (Elt Ideal)) :
    after wrapOps V (Proc.devRef .tc main_v0) = V (Proc.devRef .tc main_v0) := by
  simp only [wrapOps, hostOps0_2, List.take_succ_cons, List.take_zero]
  after_results_entrywise [cast_eq]
set_option maxRecDepth 8192 in
set_option maxHeartbeats 2000000 in
theorem after_read (V : Valuation τ sig (Elt Ideal)) :
    after readOps V (Proc.devRef .tc main_v12) = readTerm (V (Proc.devRef .tc main_v0)) (V (Proc.devRef .tc main_call2_v4)) := by
  simp only [readOps, hostOps0_2, List.drop_succ_cons, List.drop_zero]
  after_results_entrywise [readTerm, cast_eq]
theorem after_last (V : Valuation τ sig (Elt Ideal)) :
    after hostOps0_3 V (Proc.devRef .tc main_v13)
      = transpose S2x3x1024 [0, 2, 1] (V (Proc.devRef .tc main_v12) : FVec Ideal S2x1024x3 .f32) transposes_S2x1024x3_S2x3x1024_0_2_1 := by
  simp only [hostOps0_3]
  after_results_entrywise [cast_eq]

theorem after_post (V : Valuation τ sig (Elt Ideal)) : afterL postI V (Proc.devRef .tc main_v13)
    = transpose S2x3x1024 [0, 2, 1] (readTerm (V (Proc.devRef .tc main_v0)) (wrapTerm (idxTerm (V (Proc.devRef .tc main_v7_3)))))
        transposes_S2x1024x3_S2x3x1024_0_2_1 := by
  simp only [postI, afterL_cons, afterL_nil]
  rw [after_last, show (hostOps0_2 : List (HloOp τ sig (Elt Ideal))) = wrapOps ++ readOps from rfl, after_append, after_read, after_wrap, after_wrap_v0,
    after_idx, after_idx_v0]

variable (m : (ℓ : Loc nD τ sig) → Buf (Elt Ideal) ℓ)

/-- The coordinates of the points the reference is given. -/
def given (c : Dev nD) (b : Fin 2) : Fin 3 → Fin 8192 → EReal := fun a k =>
  (m ((c.tc : Thread nD τ).loc main_arg0) : FVec Ideal S2x3x8192 .f32) (ix3 b a k)

set_option maxRecDepth 8192 in
theorem entry_terms (V : Valuation τ sig (Elt Ideal)) :
    after hostOps0 V (Proc.devRef .tc main_v0) = transpose S2x8192x3 [0, 2, 1] (V (Proc.devRef .tc main_arg0) : FVec Ideal S2x3x8192 .f32) transposes_S2x3x8192_S2x8192x3_0_2_1
    ∧ after hostOps0 V (Proc.devRef .tc main_v7_0) = transpose S2x8192x3 [0, 2, 1] (V (Proc.devRef .tc main_arg0) : FVec Ideal S2x3x8192 .f32) transposes_S2x3x8192_S2x8192x3_0_2_1 := by
  refine ⟨?_, ?_⟩ <;> simp only [hostOps0] <;> after_results_entrywise [cast_eq, id]

set_option maxRecDepth 8192 in
theorem entry_least (V : Valuation τ sig (Elt Ideal)) :
    after hostOps0 V (Proc.devRef .tc main_v7_2) = firstTerm (transpose S2x8192x3 [0, 2, 1] (V (Proc.devRef .tc main_arg0) : FVec Ideal S2x3x8192 .f32) transposes_S2x3x8192_S2x8192x3_0_2_1) := by
  simp only [hostOps0]
  after_results_entrywise [cast_eq, id, firstTerm]

theorem at_v0 (c : Dev nD) : ∀ k, atK m k c (Proc.devRef .tc main_v0) = entryContents preI m c (Proc.devRef .tc main_v0)
  | 0 => rfl
  | k + 1 => by
    rw [show atK m (k + 1) c = afterL bodyI (after condOps (atK m k c)) from rfl]
    simp only [bodyI, afterL_cons, afterL_nil]
    rw [after_of_writes_sub while0Ops0_4 _ while0Ops0_4_writes (by decide +kernel), after_of_writes_sub while0Ops0_3 _ while0Ops0_3_writes (by decide +kernel),
      after_of_writes_sub while0Ops0_2 _ while0Ops0_2_writes (by decide +kernel), after_of_writes_sub while0Ops0_1 _ while0Ops0_1_writes (by decide +kernel),
      after_of_writes_sub while0Ops0 _ while0Ops0_writes (by decide +kernel), after_of_writes_sub condOps _ condOps_writes (by decide +kernel), at_v0 c k]
    rfl

set_option maxRecDepth 65536 in
theorem reference_at (c : Dev nD) (b : Fin 2) (a : Fin 3) (j : Fin 1024) :
    (finalContents condOps preI bodyI postI 1023 m c (Proc.devRef .tc main_v13) : FVec Ideal S2x3x1024 .f32) (ix3 b a j)
      = given m c b a (walk (given m c b) j.val).1 := by
  have he := entry_terms (launchContents m c)
  have hl := entry_least (launchContents m c)
  have hv := ctr_entry m c
  obtain ⟨W, hW⟩ := exists_alike (entryContents preI m c)
  have hs := Cert.Proof.Sample.steps W (given m c) (hW.count.trans hv)
    (fun b => by
      funext a k
      refine (congrFun hW.points (ix3 b k a)).trans ?_
      show (after hostOps0 (launchContents m c) (Proc.devRef .tc main_v7_0) : FVec Ideal S2x8192x3 .f32) (ix3 b k a) = _
      rw [he.2]
      pointwise
      rfl)
    (fun b x => by
      refine (congrFun hW.least (ix2 b x)).trans ?_
      show (after hostOps0 (launchContents m c) (Proc.devRef .tc main_v7_2) : FVec Ideal S2x8192 .f32) (ix2 b x) = _
      rw [hl]
      unfold firstTerm
      pointwise
      rfl) 1023 le_rfl
  have hr := (hW.trips 1023).rows
  have hag := atK_agree m c 1023
  show (afterL postI (after condOps (atK m 1023 c)) (Proc.devRef .tc main_v13) : FVec Ideal S2x3x1024 .f32) (ix3 b a j) = _
  rw [after_post, after_of_writes_sub condOps _ condOps_writes (by decide +kernel), after_of_writes_sub condOps _ condOps_writes (by decide +kernel),
    hag main_v7_3 (by decide), at_v0]
  pointwise
  rw [readTerm_at _ _ (fun b n => (walk (given m c b) n).1) (fun b' j' => idxTerm_at _ (fun b n => (walk (given m c b) n).1) (fun _ => rfl) (fun i b'' => (congrFun hr (ix2 i b'')).symm.trans (hs.2.2.2 i b'' i.isLt)) b' j')]
  show (after hostOps0 (launchContents m c) (Proc.devRef .tc main_v0) : FVec Ideal S2x8192x3 .f32) (ix3 b _ a) = _
  rw [he.1]
  pointwise
  rfl

end Cert.Proof.Taken
-- ==== Proof.Sampling.lean ====
/- The sampling of points by itself: both programs take the same points, so their results are equal. -/
module

public import proofs.«01_k».proof.Defs
public import proofs.«01_k».proof.Proof.Gen.Sample.Frame
public import proofs.«01_k».proof.Proof.Gen.SampleIdeal.Value
public import proofs.«01_k».proof.Proof.Array
public import proofs.«01_k».proof.Proof.Taken
public import Idealize.ShloMosaic.Lib.Pipeline.ValueKit
public import Idealize.ShloMosaic.Adequacy
public import Idealize.ShloMosaic.Init

@[expose] public section

noncomputable section

namespace Cert.Proof.Taken

open Idealize.ShloMosaic Idealize.ShloMosaic.TcCoe Idealize.ShloMosaic.StableHlo
open Cert.Proof.Sample (walk dist ptsOf Holds holds_zero holds_succ pay8_at fold_inv)
open Idealize.SL Idealize.SL.Sem

section
open Cert.SampleIdeal Cert.SampleIdeal.Gen

variable (m : (ℓ : Loc nD τ sig) → Buf (Elt Ideal) ℓ)

/-- The coordinates of the points the kernel is given. -/
def entered (c : Dev nD) (b : Fin 2) : Fin 3 → Fin 8192 → EReal := fun a k =>
  (m ((c.tc : Thread nD τ).loc main_arg0) : FVec Ideal S2x3x8192 .f32) (ix3 b a k)

theorem iblk_at (c : Dev nD) (t : Fin cfg0.N) (b : Fin 2) (hb : win0_0.index t 0 = b.val) : ptsOf (iblk m c 0 t) = entered m c b := by
  funext a x
  show (m ((c.tc : Thread nD τ).loc main_arg0) : FVec Ideal S2x3x8192 .f32) (((View.whole main_arg0).slice (win0_0.rect t)).emb (ix3 (0 : Fin 1) a x)) = _
  unfold entered
  refine congrArg (m ((c.tc : Thread nD τ).loc main_arg0) : FVec Ideal S2x3x8192 .f32) (funext fun d => Fin.ext ?_)
  blk_simp
  have hi := (by decide +kernel : ∀ t : Fin grid0.N, win0_0.index t 1 = 0 ∧ win0_0.index t 2 = 0) t
  match d with
  | ⟨0, _⟩ => exact (congrArg (· * 1 + 0) hb).trans (Nat.mul_one _)
  | ⟨1, _⟩ => exact (congrArg (· * 3 + a.val) hi.1).trans (Nat.zero_add _)
  | ⟨2, _⟩ => exact (congrArg (· * 8192 + x.val) hi.2).trans (Nat.zero_add _)

/-- The points the walk takes, batch by batch. -/
def sampled (c : Dev nD) : S2x3x1024.Idx → EReal := fun i => entered m c (i 0) (i 1) (walk (entered m c (i 0)) (i 2).val).1

theorem kernel_at (c : Dev nD) :
    (dats m 0 c).arrAt 1 cfg0.N = sampled m c := by
  refine (dats m 0 c).arrAt_eq_of_covers 1 _ (by decide +kernel) fun t hf y => ?_
  blk_simp
  rw [after0_1]
  unfold outsAt0
  frame_out
  have h := fold_inv (fun a a_1 => (Cert.KernelIdeal.Gen.k0_pay7 (iblk m c 0 t) a_1.1, Cert.KernelIdeal.Gen.k0_pay6 (iblk m c 0 t) a a_1.1 a_1.2))
    (Cert.KernelIdeal.Gen.k0_pay3 (iblk m c 0 t), Cert.KernelIdeal.Gen.k0_pay4 (iblk m c 0 t)) (Holds (iblk m c 0 t)) (holds_zero _) (fun k s h => holds_succ _ k s h)
  obtain ⟨a, k, rfl⟩ : ∃ (a : Fin 3) (k : Fin 1024), y = ix3 (0 : Fin 1) a k := ⟨y 1, y 2, funext fun d => by
    match d with
    | ⟨0, _⟩ => exact Subsingleton.elim (α := Fin 1) _ _
    | ⟨1, _⟩ => rfl
    | ⟨2, _⟩ => rfl⟩
  refine (pay8_at _ a k).trans ((h.2 a k).trans ?_)
  rw [if_pos (show k.val ≤ k0_t1_loop.trips from (show k.val ≤ 1023 by omega))]
  obtain ⟨b, hb, hb0, h1, h2⟩ := (by decide +kernel : ∀ t : Fin grid0.N, ∃ b : Fin 2, win0_1.index t 0 = b.val ∧ win0_0.index t 0 = b.val
    ∧ win0_1.index t 1 = 0 ∧ win0_1.index t 2 = 0) t
  have hE : (((View.whole main_v0).slice (win0_1.rect t)).emb (ix3 (0 : Fin 1) a k) : S2x3x1024.Idx) = ix3 b a k := funext fun d => Fin.ext (by
    blk_simp
    match d with
    | ⟨0, _⟩ => exact (congrArg (· * 1 + 0) hb).trans (Nat.mul_one _)
    | ⟨1, _⟩ => exact (congrArg (· * 3 + a.val) h1).trans (Nat.zero_add _)
    | ⟨2, _⟩ => exact (congrArg (· * 1024 + k.val) h2).trans (Nat.zero_add _))
  rw [iblk_at m c t b hb0]
  exact (congrArg (sampled m c) hE).symm

end

section
open Cert.SampleReferenceIdeal Cert.SampleReferenceIdeal.Gen Cert.SampleReferenceIdeal.Value

variable (m : (ℓ : Loc nD τ sig) → Buf (Elt Ideal) ℓ)

theorem trip_arg0 (c : Dev nD) : ∀ k, atK m k c (Proc.devRef .tc main_arg0) = launchContents m c (Proc.devRef .tc main_arg0)
  | 0 => (after_of_writes_sub hostOps0 (launchContents m c) hostOps0_writes (r := main_arg0) (by decide +kernel) :)
  | k + 1 => by
    rw [show atK m (k + 1) c = afterL bodyI (after condOps (atK m k c)) from rfl]
    simp only [bodyI, afterL_cons, afterL_nil]
    rw [after_of_writes_sub while0Ops0_4 _ while0Ops0_4_writes (by decide +kernel), after_of_writes_sub while0Ops0_3 _ while0Ops0_3_writes (by decide +kernel),
      after_of_writes_sub while0Ops0_2 _ while0Ops0_2_writes (by decide +kernel), after_of_writes_sub while0Ops0_1 _ while0Ops0_1_writes (by decide +kernel),
      after_of_writes_sub while0Ops0 _ while0Ops0_writes (by decide +kernel), after_of_writes_sub condOps _ condOps_writes (by decide +kernel), trip_arg0 c k]

set_option maxRecDepth 8192 in
theorem post_arg0 (V : Valuation τ sig (Elt Ideal)) : after hostOps0_3 (after hostOps0_2 (after hostOps0_1 V)) (Proc.devRef .tc main_arg0) = V (Proc.devRef .tc main_arg0) := by
  simp only [hostOps0_1, hostOps0_2, hostOps0_3]
  after_results_entrywise [cast_eq]

theorem final_arg0 (c : Dev nD) : finalContents condOps preI bodyI postI 1023 m c (Proc.devRef .tc main_arg0) = m ((c.tc : Thread nD τ).loc main_arg0) := by
  show afterL postI (after condOps (atK m 1023 c)) (Proc.devRef .tc main_arg0) = _
  simp only [postI, afterL_cons, afterL_nil]
  rw [post_arg0, after_of_writes_sub condOps _ condOps_writes (by decide +kernel), trip_arg0]

/-- The reference ends with the walk's points, its argument as it was. -/
theorem reference_run (ρ : Dev nD → PrngReg) : θ_run (defs (F := Ideal)) (onTc (τ := τ) (main (F := Ideal))) ⟨m, fun _ => 0, ρ⟩ fun r => ∀ c : Dev nD,
    r.2.mem ((c.tc : Thread nD τ).loc main_v13) = (fun i : S2x3x1024.Idx => given m c (i 0) (i 1) (walk (given m c (i 0)) (i 2).val).1)
      ∧ r.2.mem ((c.tc : Thread nD τ).loc main_arg0) = m ((c.tc : Thread nD τ).loc main_arg0) :=
  (θ_run defs _ _).mono (fun r h c => ⟨(h c main_v13 rfl).trans (funext fun i => by
      obtain ⟨b, a, j, rfl⟩ : ∃ (b : Fin 2) (a : Fin 3) (j : Fin 1024), i = ix3 b a j := ⟨i 0, i 1, i 2, funext fun d => by
        match d with
        | ⟨0, _⟩ => rfl
        | ⟨1, _⟩ => rfl
        | ⟨2, _⟩ => rfl⟩
      exact reference_at m c b a j), (h c main_arg0 rfl).trans (final_arg0 m c)⟩) (run_fold m ρ)
end

theorem frame_sample : Cert.quiescent_Sample := fun m ρ _ => Cert.Sample.Gen.frame m ρ

theorem frame_sampleIdeal : Cert.quiescent_SampleIdeal := fun m ρ _ => Cert.SampleIdeal.Gen.frame m ρ

theorem frame_sampleReference : Cert.quiescent_SampleReferenceIdeal := fun m ρ _ =>
  (θ_run Cert.SampleReferenceIdeal.defs _ _).mono (fun r h => ⟨fun c => (h c).2, sem_eq_zero_of_no_sems (by decide) r.2⟩) (reference_run m ρ)

/-- The two programs return the same points. -/
theorem algebraic : Cert.algebraic_SampleIdeal_SampleReferenceIdeal := by
  intro m ρ m' ρ' _ hag
  refine ⟨fun c => sampled m c, ?_, ?_⟩
  · exact (θ_run Cert.SampleIdeal.defs _ _).mono (fun r h c => ⟨(h c).1.trans (kernel_at m c), (h c).2⟩) (Cert.SampleIdeal.Value.run_blocks m ρ)
  · refine (θ_run Cert.SampleReferenceIdeal.defs _ _).mono (fun r h c => ⟨(h c).1.trans ?_, (h c).2⟩) (reference_run m' ρ')
    have e : given m' c = entered m c := by unfold given entered; rw [hag c]
    rw [e]; rfl

end Cert.Proof.Taken

end
-- ==== Proof.Nearby.lean ====
/- The ball query by itself: the kernel and the reference return the same neighbours. -/
module

public import proofs.«01_k».proof.Defs
public import proofs.«01_k».proof.Proof.Gen.Near
public import proofs.«01_k».proof.Proof.Gen.Near.Frame
public import proofs.«01_k».proof.Proof.Gen.NearIdeal.Value
public import proofs.«01_k».proof.Proof.Gen.NearReferenceIdeal.Run
public import proofs.«01_k».proof.Proof.Nearest
public import proofs.«01_k».proof.Proof.Sorted
public import Idealize.ShloMosaic.Adequacy
public import Idealize.ShloMosaic.Init

@[expose] public section

noncomputable section

namespace Cert.Proof.Nearby

open Idealize.ShloMosaic Idealize.ShloMosaic.Pipeline Idealize.SL.Sem
open Cert.Proof.Near (marks smallest padded nidx_at found foundAt filled Close Near filled_congr block_at beside column out_eq)

section
open Cert.NearIdeal Cert.NearIdeal.Gen

/-- The block this kernel stores is the one the same call stores in the whole kernel. -/
theorem same_out (i : grid0.Coords) (x0 : FVec Ideal S1x3x128 .f32) (x1 : FVec Ideal S1x3x8192 .f32) :
    out0_2 (F := Ideal) i x0 x1 = Cert.Proof.Tail.out2_2 (F := Ideal) i x0 x1 := rfl

variable (m : (ℓ : Loc nD τ sig) → Buf (Elt Ideal) ℓ)

theorem fetch1 (c : Dev nD) (t : Fin cfg0.N) (b : Fin 2) (hb : win0_1.index t 0 = b.val) (a : Fin 3) (n : Fin 8192) :
    iblk m c 1 t (ix3 (0 : Fin 1) a n) = (V m c main_arg1 : FVec Ideal S2x3x8192 .f32) (ix3 b a n) := by
  show (V m c main_arg1 : FVec Ideal S2x3x8192 .f32) (((View.whole main_arg1).slice (win0_1.rect t)).emb (ix3 (0 : Fin 1) a n)) = _
  refine congrArg (V m c main_arg1 : FVec Ideal S2x3x8192 .f32) (funext fun d => Fin.ext ?_)
  blk_simp
  have hi := (by decide +kernel : ∀ t : Fin grid0.N, win0_1.index t 1 = 0 ∧ win0_1.index t 2 = 0) t
  match d with
  | ⟨0, _⟩ => exact (congrArg (· * 1 + 0) hb).trans (Nat.mul_one _)
  | ⟨1, _⟩ => exact (congrArg (· * 3 + a.val) hi.1).trans (Nat.zero_add _)
  | ⟨2, _⟩ => exact (congrArg (· * 8192 + n.val) hi.2).trans (Nat.zero_add _)

theorem fetch0 (c : Dev nD) (t : Fin cfg0.N) (b : Fin 2) (j : Fin 8) (hb : win0_0.index t 0 = b.val) (hj : win0_0.index t 2 = j.val) (a : Fin 3) (r : Fin 128) :
    iblk m c 0 t (ix3 (0 : Fin 1) a r) = (V m c main_arg0 : FVec Ideal S2x3x1024 .f32) (ix3 b a (⟨j.val * 128 + r.val, by omega⟩ : Fin 1024)) := by
  show (V m c main_arg0 : FVec Ideal S2x3x1024 .f32) (((View.whole main_arg0).slice (win0_0.rect t)).emb (ix3 (0 : Fin 1) a r)) = _
  refine congrArg (V m c main_arg0 : FVec Ideal S2x3x1024 .f32) (funext fun d => Fin.ext ?_)
  blk_simp
  have hi := (by decide +kernel : ∀ t : Fin grid0.N, win0_0.index t 1 = 0) t
  match d with
  | ⟨0, _⟩ => exact (congrArg (· * 1 + 0) hb).trans (Nat.mul_one _)
  | ⟨1, _⟩ => exact (congrArg (· * 3 + a.val) hi).trans (Nat.zero_add _)
  | ⟨2, _⟩ => exact congrArg (· * 128 + r.val) hj

theorem kernel_at (c : Dev nD) : (dats m 0 c).arrAt 2 cfg0.N
    = found (V m c main_arg0) (V m c main_arg1) := by
  refine (dats m 0 c).arrAt_eq_of_covers 2 _ (by decide +kernel) fun t hf y => ?_
  blk_simp
  rw [after0_2, same_out, out_eq]
  frame_out
  obtain ⟨r, k, rfl⟩ : ∃ (r : Fin 128) (k : Fin 32), y = ix3 (0 : Fin 1) r k := ⟨y 1, y 2, funext fun d => by
    match d with
    | ⟨0, _⟩ => exact Subsingleton.elim (α := Fin 1) _ _
    | ⟨1, _⟩ => rfl
    | ⟨2, _⟩ => rfl⟩
  obtain ⟨b, j, hb, hb0, hj0, hb1, h1, h2, hc⟩ := (by decide +kernel : ∀ t : Fin grid0.N, ∃ (b : Fin 2) (j : Fin 8), win0_2.index t 0 = b.val ∧ win0_0.index t 0 = b.val
    ∧ win0_0.index t 2 = j.val ∧ win0_1.index t 0 = b.val ∧ win0_2.index t 1 = j.val ∧ win0_2.index t 2 = 0 ∧ (grid0.coords t 0).val = b.val) t
  have hE : (((View.whole main_v0).slice (win0_2.rect t)).emb (ix3 (0 : Fin 1) r k) : S2x1024x32.Idx) = ix3 b (⟨j.val * 128 + r.val, by omega⟩ : Fin 1024) k := funext fun x => Fin.ext (by
    blk_simp
    match x with
    | ⟨0, _⟩ => exact (congrArg (· * 1 + 0) hb).trans (Nat.mul_one _)
    | ⟨1, _⟩ => exact congrArg (· * 128 + r.val) h1
    | ⟨2, _⟩ => exact (congrArg (· * 32 + k.val) h2).trans (Nat.zero_add _))
  refine (block_at _ (iblk m c 0 t) (iblk m c 1 t) r k).trans ?_
  refine Eq.trans ?_ (congrArg (found _ _) hE).symm
  show _ = foundAt (V m c main_arg0) (V m c main_arg1) b (⟨j.val * 128 + r.val, by omega⟩ : Fin 1024) k
  unfold foundAt
  refine congrArg₂ (fun u v : BitVec 32 => u + 8192#32 * v) (filled_congr (fun n => ?_) _) (congrArg (BitVec.ofNat 32) hc)
  unfold Near Close
  simp only [fetch0 m c t b j hb0 hj0, fetch1 m c t b hb1]
end

section
open Cert.NearReferenceIdeal Cert.NearReferenceIdeal.Gen Cert.NearReferenceIdeal.Value

/-- The number of the first point of each query's cloud. -/
def first : IVec S2x1024x32 32 :=
  broadcastInDim S2x1024x32 ![0, 1, 2] bcast_S2x1x1_S2x1024x32_0_1_2 (muli (broadcastInDim S2x1x1 ![] bcast_S_S2x1x1 (constantI S_ 32 8192#32))
    (broadcastInDim S2x1x1 ![0] bcast_S2_S2x1x1_0 (iotaInDim S2 32 0)))

set_option maxRecDepth 65536 in
theorem first_at (b : Fin 2) (r : Fin 1024) (k : Fin 32) : first (ix3 b r k) = 8192#32 * BitVec.ofNat 32 b.val := by
  unfold first
  pointwise
  rfl

/-- What the reference returns, of the points a row each. -/
theorem res_eq (m : (ℓ : Loc nD τ sig) → Buf (Elt Ideal) ℓ) (c : Dev nD) : res_main_v34 m c
    = addi (padded (smallest (marks
        (transpose S2x1024x3 [0, 2, 1] (m ((c.tc : Thread nD τ).loc main_arg0) : FVec Ideal S2x3x1024 .f32) transposes_S2x3x1024_S2x1024x3_0_2_1)
        (transpose S2x8192x3 [0, 2, 1] (m ((c.tc : Thread nD τ).loc main_arg1) : FVec Ideal S2x3x8192 .f32) transposes_S2x3x8192_S2x8192x3_0_2_1)))) first := rfl

set_option maxRecDepth 65536 in
theorem reference_found (q : FVec Ideal S2x3x1024 .f32) (p : FVec Ideal S2x3x8192 .f32) :
    addi (padded (smallest (marks (transpose S2x1024x3 [0, 2, 1] q transposes_S2x3x1024_S2x1024x3_0_2_1)
      (transpose S2x8192x3 [0, 2, 1] p transposes_S2x3x8192_S2x8192x3_0_2_1)))) first = found q p := by
  funext i
  obtain ⟨b, r, k, rfl⟩ : ∃ (b : Fin 2) (r : Fin 1024) (k : Fin 32), i = ix3 b r k := ⟨i 0, i 1, i 2, funext fun d => by
    match d with
    | ⟨0, _⟩ => rfl
    | ⟨1, _⟩ => rfl
    | ⟨2, _⟩ => rfl⟩
  exact congrArg₂ (fun u v : BitVec 32 => u + v) (nidx_at q p _ _ (fun b r a => by pointwise) (fun b n a => by pointwise) b r k) (first_at b r k)
end

theorem frame_near : Cert.quiescent_Near := fun m ρ _ => Cert.Near.Gen.frame m ρ

theorem frame_nearIdeal : Cert.quiescent_NearIdeal := fun m ρ _ => Cert.NearIdeal.Gen.frame m ρ

theorem frame_nearReference : Cert.quiescent_NearReferenceIdeal := fun m ρ _ =>
  (θ_run Cert.NearReferenceIdeal.defs _ _).mono (fun r h => ⟨fun c => (h c).2, sem_eq_zero_of_no_sems (by decide) r.2⟩)
    (Cert.NearReferenceIdeal.Value.run m ρ)

/-- The two programs return the same neighbours. -/
theorem algebraic : Cert.algebraic_NearIdeal_NearReferenceIdeal := by
  intro m ρ m' ρ' _ hag
  refine ⟨fun c => found (m ((c.tc : Thread _ _).loc Cert.NearIdeal.main_arg0)) (m ((c.tc : Thread _ _).loc Cert.NearIdeal.main_arg1)), ?_, ?_⟩
  · exact (θ_run Cert.NearIdeal.defs _ _).mono (fun r h c => ⟨(h c).1.trans (kernel_at m c), (h c).2⟩) (Cert.NearIdeal.Value.run_blocks m ρ)
  · refine (θ_run Cert.NearReferenceIdeal.defs _ _).mono (fun r h c => ⟨(h c).1.trans ((res_eq m' c).trans ((reference_found _ _).trans ?_)), (h c).2⟩)
      (Cert.NearReferenceIdeal.Value.run m' ρ')
    rw [(hag c).1, (hag c).2]

end Cert.Proof.Nearby

end
-- ==== Proof.GatherTile.lean ====
/-
  The gather kernel on one tile of the SparseCores. Tile `s` of SparseCore `c` has number `2 s + c`; it fetches sixteen
  chunks of 128 row numbers, gathers the 128 rows they name out of the table, and writes them to its 2048 rows of the
  result. The run is over any float values, and carries what the tile has written: after `k` chunks its first `128 k` rows
  of the result are the table's rows that the row numbers name.
-/
module

public import proofs.«01_k».proof.Defs
public import proofs.«01_k».proof.Proof.Shares
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.GatherIdeal
public import proofs.«01_k».proof.Proof.Gen.GatherIdeal.Skeleton

@[expose] public section

noncomputable section

namespace Cert.Proof.Gather

open Cert.GatherIdeal Cert.GatherIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

abbrev tLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

abbrev tV : Memref Cert.GatherIdeal.sig Kind.scVector Space.hbm Cert.GatherIdeal.S16384x128 EltTy.f32 := Memref.whole Cert.GatherIdeal.main_arg0_scv
abbrev iV : Memref Cert.GatherIdeal.sig Kind.scVector Space.hbm Cert.GatherIdeal.S65536 EltTy.i32 := Memref.whole Cert.GatherIdeal.main_arg1_scv
abbrev oV : Memref Cert.GatherIdeal.sig Kind.scVector Space.hbm Cert.GatherIdeal.S65536x128 EltTy.f32 := Memref.whole Cert.GatherIdeal.main_v0_scv
abbrev sV : Memref Cert.GatherIdeal.sig Kind.scVector Space.vmem Cert.GatherIdeal.S128 EltTy.i32 := Memref.whole Cert.GatherIdeal.cc0_scratch0
abbrev rV : Memref Cert.GatherIdeal.sig Kind.scVector Space.vmem Cert.GatherIdeal.S128x128 EltTy.f32 := Memref.whole Cert.GatherIdeal.cc0_scratch1

/-! ## The gathered rows -/

/-- Row `y 0` of the gathered array: the table's row that word `y 0` names, a word past the table naming its last row. -/
def rowsOf {e : EltTy} (t : S16384x128.Idx → Elt F e) (ix : S65536.Idx → BitVec 32) : S65536x128.Idx → Elt F e := fun y =>
  t (ix2 (n0 := 16384) (n1 := 128) ⟨min (ix (ix1 (n := 65536) (y 0))).toNat 16383, by omega⟩ (y 1))

/-- The rows of the result that tile number `w` writes. -/
def tileSet (w : ℕ) : Finset S65536x128.Idx := Finset.univ.filter fun y => (y 0).val / 2048 = w

/-- Every row number is in the table. -/
def PreOK : Prop := ∀ (d : Dev nD) (j : S65536.Idx), (m (iLoc d) j : BitVec 32).toNat < 16384

abbrev gath (d : Dev nD) : Buf (Elt F) (oLoc d) := rowsOf (F := F) (e := .f32) (m (tLoc d)) (m (iLoc d))

/-! ## The task -/

section Tile

variable (d : Dev nD) (L : grid0.Coords)

abbrev cV (L : grid0.Coords) : Fin τ.nSC := (L 0).castLE hcore0
abbrev jV (L : grid0.Coords) : Fin τ.nSub := (L 1).castLE hsub0

/-- The tile's number. -/
abbrev wid (L : grid0.Coords) : ℕ := 2 * (L 1).val + (L 0).val

/-- Trip `k`'s chunk of the row numbers, its chunk of the result, and all of the table, as the task addresses them. -/
abbrev iChunk (L : grid0.Coords) (k : Fin k0_t1_loop.trips) : Memref sig .scVector .hbm S128 .i32 :=
  (iV).slice (Rect.unit (s := S65536) (k0_off1 L k) S128.size (k0_off1_inb L k)) (fun _ => rfl)
abbrev oChunk (L : grid0.Coords) (k : Fin k0_t1_loop.trips) : Memref sig .scVector .hbm S128x128 .f32 :=
  (oV).slice (Rect.unit (s := S65536x128) (k0_off2 L k) S128x128.size (k0_off2_inb L k)) (fun _ => rfl)
abbrev tAll : Memref sig .scVector .hbm S16384x128 .f32 :=
  (tV).slice (Rect.unit (s := S16384x128) ![0, 0] S16384x128.size inb_S16384x128_S16384x128_0_0) (fun _ => rfl)

theorem trips_eq : k0_t1_loop.trips = 16 := by decide

/-- Element `j` of the chunk of row numbers is word `4096 s + 2048 c + 128 k + j` of them. -/
theorem iChunk_emb (k : Fin k0_t1_loop.trips) (j : S128.Idx) :
    (((iChunk L k).view.emb j : S65536.Idx) 0).val = 2048 * wid L + 128 * k.val + (j 0).val := by
  show ((Rect.unit (s := S65536) (k0_off1 L k) S128.size (k0_off1_inb L k)).emb j 0).val = _
  have h : ∀ a, ((Rect.unit (s := S65536) (k0_off1 L k) S128.size (k0_off1_inb L k)).emb j a).val = (k0_off1 L k) a + 1 * (j a).val := fun a => rfl
  rw [h, k0_off1_eq]
  show (4096 * (L 1).val + 2048 * (L 0).val + 128 * k.val) + 1 * (j 0).val = _
  unfold wid; omega

/-- Element `(j, l)` of the chunk of the result is its row `4096 s + 2048 c + 128 k + j`, column `l`. -/
theorem oChunk_emb_row (k : Fin k0_t1_loop.trips) (j : S128x128.Idx) :
    (((oChunk L k).view.emb j : S65536x128.Idx) 0).val = 2048 * wid L + 128 * k.val + (j 0).val := by
  have h : ∀ a, ((Rect.unit (s := S65536x128) (k0_off2 L k) S128x128.size (k0_off2_inb L k)).emb j a).val = (k0_off2 L k) a + 1 * (j a).val := fun a => rfl
  show ((Rect.unit (s := S65536x128) (k0_off2 L k) S128x128.size (k0_off2_inb L k)).emb j 0).val = _
  rw [h, k0_off2_eq]
  show (4096 * (L 1).val + 2048 * (L 0).val + 128 * k.val) + 1 * (j 0).val = _
  unfold wid; omega
theorem oChunk_emb_col (k : Fin k0_t1_loop.trips) (j : S128x128.Idx) :
    (((oChunk L k).view.emb j : S65536x128.Idx) 1).val = (j 1).val := by
  have h : ∀ a, ((Rect.unit (s := S65536x128) (k0_off2 L k) S128x128.size (k0_off2_inb L k)).emb j a).val = (k0_off2 L k) a + 1 * (j a).val := fun a => rfl
  show ((Rect.unit (s := S65536x128) (k0_off2 L k) S128x128.size (k0_off2_inb L k)).emb j 1).val = _
  rw [h, k0_off2_eq]
  show 0 + 1 * (j 1).val = _
  omega

/-- The chunk's elements are the rows from `2048 w + 128 k`, 128 of them. -/
theorem mem_oChunk (k : Fin k0_t1_loop.trips) (y : S65536x128.Idx) :
    y ∈ (oChunk L k).view.set ↔ 2048 * wid L + 128 * k.val ≤ (y 0).val ∧ (y 0).val < 2048 * wid L + 128 * k.val + 128 := by
  constructor
  · intro h
    obtain ⟨j, -, rfl⟩ := Finset.mem_map.mp h
    rw [oChunk_emb_row]
    have := (j 0).isLt
    change (j 0).val < 128 at this
    omega
  · rintro ⟨h1, h2⟩
    refine Finset.mem_map.mpr ⟨ix2 (n0 := 128) (n1 := 128) ⟨(y 0).val - (2048 * wid L + 128 * k.val), by omega⟩ (y 1), Finset.mem_univ _, ?_⟩
    funext a
    apply Fin.ext
    match a with
    | 0 => rw [oChunk_emb_row]; show _ + ((y 0).val - (2048 * wid L + 128 * k.val)) = _; omega
    | 1 => rw [oChunk_emb_col]

theorem oChunk_subset (k : Fin k0_t1_loop.trips) : (oChunk L k).view.set ⊆ tileSet (wid L) := by
  intro y hy
  rw [mem_oChunk] at hy
  have hk : k.val < 16 := trips_eq ▸ k.isLt
  simp only [tileSet, Finset.mem_filter, Finset.mem_univ, true_and]
  omega

variable [FloatOps F]

theorem pts_iV (q : PosShare TreeShare) (f : Buf (Elt F) (iLoc d)) :
    ((iV).view.loc (V d (cV L) (jV L)) ↦{q} f : sProp 𝕄) = iLoc d ↦{q} f := rfl
theorem pts_tV (q : PosShare TreeShare) (f : Buf (Elt F) (tLoc d)) :
    ((tV).view.loc (V d (cV L) (jV L)) ↦{q} f : sProp 𝕄) = tLoc d ↦{q} f := rfl
theorem pts_oV (S : Finset (Idx (oLoc d))) (f : Buf (Elt F) (oLoc d)) :
    ((oV).view.loc (V d (cV L) (jV L)) ↦[S]{fullShare} f : sProp 𝕄) = oLoc d ↦[S]{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

/-- The table at this tile's share of it. -/
abbrev qw (L : grid0.Coords) : PosShare TreeShare := cut fullShare 5 (wid L)

/-- The first `128 k` rows of the tile's block hold the gathered rows. -/
def Done (f : Buf (Elt F) (oLoc d)) (k : ℕ) : Prop := ∀ y ∈ tileSet (wid L), (y 0).val < 2048 * wid L + 128 * k → f y = gath m d y

/-- Before trip `k`. -/
def inv (O : CellTallies nD τ sig (HIx 1)) (W : Waits sig (HIx 1)) (k : ℕ) (_ : Unit) : sProp 𝕄 :=
  iprop(Transfers.MayWaits (V d (cV L) (jV L)) (default : HIx 1) O
    ∗ ((tV).view.loc (V d (cV L) (jV L)) ↦{qw L} m (tLoc d))
    ∗ ((iV).view.loc (V d (cV L) (jV L)) ↦{qw L} m (iLoc d))
    ∗ (∃ f, ⌜Done m d L f k⌝ ∗ ((oV).view.loc (V d (cV L) (jV L)) ↦[tileSet (wid L)]{fullShare} f))
    ∗ (∃ f, (sV).view.loc (V d (cV L) (jV L)) ↦{fullShare} f)
    ∗ (∃ f, (rV).view.loc (V d (cV L) (jV L)) ↦{fullShare} f)
    ∗ semVal (cAcell d (cV L) (jV L)) 0 ∗ semVal (cBcell d (cV L) (jV L)) 0 ∗ semVal (cCcell d (cV L) (jV L)) 0
    ∗ ∃ W', ⌜∀ p ∈ W', p ∈ W ∨ p.2 = none⌝ ∗ owes (V d (cV L) (jV L)) O W')

/-- What the fetch leaves in the list: word `j` of the chunk of row numbers. -/
theorem list_val (k : Fin k0_t1_loop.trips) (j : S128.Idx) :
    (iChunk L k).view.read (Elt F) (m (iLoc d)) j = m (iLoc d) (ix1 (n := 65536) (((iChunk L k).view.emb j : S65536.Idx) 0)) := by
  refine ((View.read_apply _ _).trans (cast_eq _ _)).trans ?_
  exact congrArg (m (iLoc d)) (eq_ix1 (n := 65536) _)

theorem tAll_read (f : Buf (Elt F) (tLoc d)) : (tAll).view.read (Elt F) f = f := by
  funext j
  refine ((View.read_apply _ _).trans (cast_eq _ _)).trans ?_
  refine congrArg f ?_
  funext a
  apply Fin.ext
  have h : ∀ a, ((Rect.unit (s := S16384x128) ![0, 0] S16384x128.size inb_S16384x128_S16384x128_0_0).emb j a).val = (![0, 0] : Fin 2 → ℕ) a + 1 * (j a).val := fun a => rfl
  show ((Rect.unit (s := S16384x128) ![0, 0] S16384x128.size inb_S16384x128_S16384x128_0_0).emb j a).val = _
  rw [h]
  match a with
  | 0 => show 0 + 1 * _ = _; omega
  | 1 => show 0 + 1 * _ = _; omega

/-- The gathered chunk is the chunk of the gathered rows. -/
theorem chunk_val (hpre : PreOK m) (k : Fin k0_t1_loop.trips) (ls : S128.Idx → Elt F .i32)
    (hls : ls = (iChunk L k).view.read (Elt F) (m (iLoc d))) (hn : S128.numel = S128x128.size gathers_S16384x128_S128x128.axis')
    (hin : ∀ x, (ls x).toNat < S16384x128.size gathers_S16384x128_S128x128.axis) (j : S128x128.Idx) :
    SparseCore.gatherPayload (F := F) (e := .f32) gathers_S16384x128_S128x128 ((tAll).view.read (Elt F) (m (tLoc d)))
        (SparseCore.rows ls hn hin) j = gath m d ((oChunk L k).view.emb j) := by
  rw [tAll_read]
  unfold SparseCore.gatherPayload gath rowsOf
  refine congrArg (m (tLoc d)) ?_
  have hw : ∀ x : S128.Idx, (x 0).val = (j 0).val → (ls x).toNat
      = min (BitVec.toNat (w := 32) (m (iLoc d) (ix1 (n := 65536) (((oChunk L k).view.emb j : S65536x128.Idx) 0)))) 16383 := by
    intro x hx
    have e : (((iChunk L k).view.emb x : S65536.Idx) 0) = (((oChunk L k).view.emb j : S65536x128.Idx) 0) :=
      Fin.ext (by rw [iChunk_emb, oChunk_emb_row, hx])
    rw [hls, list_val, e]
    have := hpre d (ix1 (n := 65536) (((oChunk L k).view.emb j : S65536x128.Idx) 0))
    omega
  funext a
  apply Fin.ext
  match a with
  | 0 =>
    refine (congrArg Fin.val (Shape.Gathers.idx_axis gathers_S16384x128_S128x128 (SparseCore.rows ls hn hin) j)).trans ?_
    unfold SparseCore.rows
    refine hw _ ?_
    refine (Shape.rowMajor_val_one (d := ![128]) _).symm.trans ?_
    rw [Equiv.apply_symm_apply]
    rfl
  | 1 =>
    refine (Shape.Gathers.idx_of_ne gathers_S16384x128_S128x128 (SparseCore.rows ls hn hin) j 1 (by decide)).trans ?_
    exact (oChunk_emb_col L k j).symm

/-- The rows written at trip `k` added to those written before. -/
theorem done_succ (k : Fin k0_t1_loop.trips) (f : Buf (Elt F) (oLoc d)) (hf : Done m d L f k.val)
    (w : S128x128.Idx → Elt F .f32) (hw : ∀ j, w j = gath m d ((oChunk L k).view.emb j)) :
    Done m d L ((oChunk L k).view.write (Elt F) f w Finset.univ) (k.val + 1) := by
  intro y hy hlt
  by_cases hm : y ∈ (oChunk L k).view.set
  · obtain ⟨j, -, rfl⟩ := Finset.mem_map.mp hm
    refine (View.write_emb_of_mem _ _ (Finset.mem_univ j)).trans ?_
    exact (cast_eq _ _).trans (hw j)
  · rw [View.write_of_not_mem _ _ _ (by rw [View.setOn_univ]; exact hm)]
    refine hf y hy ?_
    rw [mem_oChunk] at hm
    simp only [tileSet, Finset.mem_filter, Finset.mem_univ, true_and] at hy
    omega

set_option maxHeartbeats 4000000 in
/-- One trip: a chunk of row numbers fetched, the rows they name gathered, the rows written out. -/
theorem trip (hpre : PreOK m) (O : CellTallies nD τ sig (HIx 1)) (W : Waits sig (HIx 1)) (k : Fin k0_t1_loop.trips) (u : Unit) :
    inv m d L O W k.val u ⊢ wp frame (wpE (defs₀ (F := F)) 𝒱₀ (V d (cV L) (jV L)) none) Set.univ
      (k0_t1_body L tV (Memref.isWhole_whole _) iV (Memref.isWhole_whole _) oV (Memref.isWhole_whole _)
            sV (Memref.isWhole_whole _) rV (Memref.isWhole_whole _) cc0_scratch2 cc0_scoped0 cc0_scoped1 k u)
      (inv m d L O W (k.val + 1)) := by
  unfold inv k0_t1_body
  iintro ⟨#Hmw, Ht, Hi, ⟨%fo, %hfo, Ho⟩, ⟨%fs, Hs⟩, ⟨%fr, Hr⟩, HA, HB, HC, %W', %hW', HO⟩
  ihave Hos := (pointsTo_split_subset (q := fullShare) (f := fo) (oChunk_subset L k)).1 $$ Ho
  icases Hos with ⟨Hoc', Hor⟩
  ihave Hoc := (Entails.of_eq (show (oLoc d ↦[(oChunk L k).view.set]{fullShare} fo : sProp 𝕄)
      = (oChunk L k).view.loc (V d (cV L) (jV L)) ↦[(oChunk L k).view.set]{fullShare} fo from rfl)) $$ Hoc'
  sl_exec
  ihave Hts := (pointsTo_split_subset (q := qw L) (f := m (tLoc d)) (S := Finset.univ) (Finset.subset_univ (tAll).view.set)).1 $$ Ht
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr
  ihave Hs'' := (Entails.of_eq (show ((sV).view.loc (V d (cV L) (jV L)) ↦{fullShare} View.write (Elt F) (sV).view fs (trip.sl.dma0 m d L k) Finset.univ : sProp 𝕄)
      = (sV).view.loc (V d (cV L) (jV L)) ↦[(sV).view.set]{fullShare} trip.sl.dma0 m d L k
      by rw [hss, View.write_whole_univ])) $$ Hs
  have hN : ∀ h : S16384x128.Gathers 0 S128x128, ∑ j, ((rV).slice (S128x128.rowRect h.axis' j) (S128x128.stride_rowRect h.axis' j)).view.dmaCredit
      = (rV).view.dmaCredit := by decide
  have hin : ∀ x, ((sV).view.read (Elt F) (trip.sl.dma0 m d L k) x).toNat < S16384x128.size gathers_S16384x128_S128x128.axis := by
    intro x
    simp only [Memref.view_whole, View.read_whole]
    rw [show trip.sl.dma0 m d L k = (iChunk L k).view.read (Elt F) (m (iLoc d)) from rfl, list_val]
    exact hpre d _
  iapply (SparseCore.wp_indirectGatherLocal countersEmb 𝒱₀ (V d (cV L) (jV L)) none (hg := gathers_S16384x128_S128x128) (default : HIx 1)
      (rV).view.dmaCredit (hN _) (by decide) hin) $$ [Hts Hr'' Hs'' HB]
  · isplitl [Hts]; · iexact Hts
    isplitl [Hr'']; · iexact Hr''
    isplitl [Hs'']; · iexact Hs''
    iexact HB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HB, HO⟩
  ihave Ht := (pointsTo_split_subset (q := qw L) (f := m (tLoc d)) (S := Finset.univ) (Finset.subset_univ (tAll).view.set)).2 $$ [Hts Htr]; · isplitl [Hts] <;> iassumption
  -- the row buffer holds the chunk of the gathered rows
  obtain ⟨gr, hgr, hgr'⟩ : ∃ gr : S128x128.Idx → Elt F .f32, (∀ j, gr j = gath m d ((oChunk L k).view.emb j)) ∧
      gr = SparseCore.gatherPayload (F := F) (e := .f32) gathers_S16384x128_S128x128 ((tAll).view.read (Elt F) (m (tLoc d)))
        (SparseCore.rows (View.read (Elt F) (sV).view (trip.sl.dma0 m d L k)) k0_t1_body._proof_8 hin) :=
    ⟨_, chunk_val m d L hpre k _ rfl _ hin, rfl⟩
  ihave Hr3 := (Entails.of_eq (show ((rV).view.loc (V d (cV L) (jV L)) ↦[(rV).view.set]{fullShare} View.write (Elt F) (rV).view fr
        (SparseCore.gatherPayload (F := F) (e := .f32) gathers_S16384x128_S128x128 ((tAll).view.read (Elt F) (m (tLoc d)))
        (SparseCore.rows (View.read (Elt F) (sV).view (trip.sl.dma0 m d L k)) k0_t1_body._proof_8 hin)) Finset.univ : sProp 𝕄)
      = (rV).view.loc (V d (cV L) (jV L)) ↦{fullShare} gr by rw [hrs, ← hgr', View.write_whole_univ])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitr; · iexact Hmw
  isplitl [Ht]; · iexact Ht
  isplitl [Hi]; · iexact Hi
  isplitl [Hoc Hor]
  · iexists ((oChunk L k).view.write (Elt F) fo gr Finset.univ)
    isplitr
    · ipureintro; exact done_succ m d L k fo hfo gr hgr
    · iapply (pointsTo_split_subset (q := fullShare) (f := (oChunk L k).view.write (Elt F) fo gr Finset.univ) (oChunk_subset L k)).2
      isplitl [Hoc]
      · iapply (Entails.of_eq (show ((oChunk L k).view.loc (V d (cV L) (jV L)) ↦[(oChunk L k).view.set]{fullShare}
            (oChunk L k).view.writes (Elt F) fo [⟨Rect.whole S128x128, gr⟩] : sProp 𝕄)
            = oLoc d ↦[(oChunk L k).view.set]{fullShare} (oChunk L k).view.write (Elt F) fo gr Finset.univ from
              pointsTo_congr fun i hi => by
                obtain ⟨j, -, rfl⟩ := Finset.mem_map.mp hi
                rw [View.writes_singleton]
                have e : (oChunk L k).view.emb j = ((oChunk L k).view.slice (Rect.whole S128x128)).emb j := by
                  show _ = (oChunk L k).view.emb ((Rect.whole S128x128).emb j)
                  exact congrArg _ (funext fun a => Fin.ext (by show (j a).val = 0 + 1 * (j a).val; omega))
                refine Eq.trans ?_ (View.write_emb_of_mem (v := (oChunk L k).view) fo gr (Finset.mem_univ j)).symm
                rw [e]
                exact View.write_emb_of_mem (v := (oChunk L k).view.slice (Rect.whole S128x128)) fo gr (Finset.mem_univ j)))
        iexact Hoc
      · iapply (Entails.of_eq (show (oLoc d ↦[tileSet (wid L) \ (oChunk L k).view.set]{fullShare} fo : sProp 𝕄)
            = oLoc d ↦[tileSet (wid L) \ (oChunk L k).view.set]{fullShare} (oChunk L k).view.write (Elt F) fo gr Finset.univ from
              pointsTo_congr fun i hi => (View.write_of_not_mem _ _ _ (by
                rw [View.setOn_univ]; exact (Finset.mem_sdiff.mp hi).2)).symm))
        iexact Hor
  isplitl [Hs3]; · iexists _; iexact Hs3
  isplitl [Hr3]; · iexists _; iexact Hr3
  isplitl [HA]; · iexact HA
  isplitl [HB]; · iexact HB
  isplitl [HC]; · iexact HC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The tile's own buffers and semaphores -/

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What a task is given, and what it brings back: its shares of the table and of the row numbers, and its block of the
    result, first at what the launch found there, then at the gathered rows. -/
abbrev tPts (d : Dev nD) (w : ℕ) : sProp 𝕄 := tLoc d ↦{cut fullShare 5 w} m (tLoc d)
abbrev iPts (d : Dev nD) (w : ℕ) : sProp 𝕄 := iLoc d ↦{cut fullShare 5 w} m (iLoc d)
abbrev oPts (d : Dev nD) (w : ℕ) (f : Buf (Elt F) (oLoc d)) : sProp 𝕄 := oLoc d ↦[tileSet w]{fullShare} f

set_option maxHeartbeats 4000000 in
/-- The task on tile `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (tPts m d (wid L) ∗ iPts m d (wid L) ∗ oPts d (wid L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gk L tV (Memref.isWhole_whole _) iV (Memref.isWhole_whole _) oV (Memref.isWhole_whole _)
            sV (Memref.isWhole_whole _) rV (Memref.isWhole_whole _) cc0_scratch2 cc0_scoped0 cc0_scoped1)
          fun _ => iprop((tPts m d (wid L) ∗ iPts m d (wid L) ∗ oPts d (wid L) (gath m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gk_eq_skeleton]; unfold cc0_gk_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (inv m d L O W) $$ [Ht Hi Ho Hs Hr HsemA HsemB HsemC HO Hmw]
  case region =>
    intro k u
    exact trip m d L hpre O W k u
  · unfold inv
    isplitl [Hmw]; · iexact Hmw
    isplitl [Ht]; · iexact Ht
    isplitl [Hi]; · iexact Hi
    isplitl [Ho]
    · iexists (m (oLoc d)); isplitr
      · ipureintro
        intro y hy hlt
        simp only [tileSet, Finset.mem_filter, Finset.mem_univ, true_and] at hy
        omega
      · iexact Ho
    isplitl [Hs]; · iexists fs; iexact Hs
    isplitl [Hr]; · iexists fr; iexact Hr
    isplitl [HsemA]; · iexact HsemA
    isplitl [HsemB]; · iexact HsemB
    isplitl [HsemC]; · iexact HsemC
    iexists W; isplitr
    · ipureintro; exact fun p hp => .inl hp
    · iexact HO
  unfold inv
  iintro %_ ⟨-, Ht, Hi, ⟨%fo, %hfo, Ho⟩, ⟨%fs, Hs⟩, ⟨%fr, Hr⟩, HsemA, HsemB, HsemC, %W', %hW', HO⟩
  have hfo' : Done m d L fo 16 := by rw [← trips_eq]; exact hfo
  sl_exec
  sl_step
  isplitl [Ht Hi Ho]
  · isplitl [Ht]; · iexact Ht
    isplitl [Hi]; · iexact Hi
    iapply (Entails.of_eq (show ((oV).view.loc (V d (cV L) (jV L)) ↦[tileSet (wid L)]{fullShare} fo : sProp 𝕄)
      = oLoc d ↦[tileSet (wid L)]{fullShare} gath m d from pointsTo_congr fun y hy => hfo' y hy (by
        simp only [tileSet, Finset.mem_filter, Finset.mem_univ, true_and] at hy
        omega)))
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.Gather

end
-- ==== Proof.GatherLaunch.lean ====
/-
  The launch of the gather: the table, the row numbers and the result dealt to the thirty-two tiles and joined again, the
  run of the whole program, and the frames of the two programs.
-/
module

public import proofs.«01_k».proof.Proof.GatherTile
public import proofs.«01_k».proof.Proof.Gen.Gather
public import proofs.«01_k».proof.Proof.Gen.Pre_rows_in_table

@[expose] public section

noncomputable section

namespace Cert.Proof.Gather

open Cert.GatherIdeal Cert.GatherIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## What the handshakes carry -/

/-- One task's operands before it, and after it. -/
abbrev goP (d : Dev nD) (w : ℕ) : sProp 𝕄 := iprop(tPts m d w ∗ iPts m d w ∗ oPts d w (m (oLoc d)))
abbrev tdP (d : Dev nD) (w : ℕ) : sProp 𝕄 := iprop(tPts m d w ∗ iPts m d w ∗ oPts d w (gath m d))

/-- A SparseCore takes its sixteen tasks' operands, task `i` of core `c` being tile number `2 i + c`. -/
def P : (K (F := F)).Pay (nD := nD) (Val := Elt F) (Name := ℕ) (U := UU) where
  st := fun q d c => match q with | 0 => bigSep Finset.univ fun i : Fin ((K (F := F)).nSub 0) => goP m d (2 * i.val + c.val)
  dn := fun q d c => match q with | 0 => bigSep Finset.univ fun i : Fin ((K (F := F)).nSub 0) => tdP m d (2 * i.val + c.val)
  go := fun q d c i => match q with | 0 => goP m d (2 * i.val + c.val)
  td := fun q d c i => match q with | 0 => tdP m d (2 * i.val + c.val)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goP m d (2 * i.val + c.val)))
  dn q d c := match q with
    | 0 => (inferInstance : BI.Storable (upEmb : UEmb _ 𝕄) (bigSep Finset.univ fun i : Fin ((K (F := F)).nSub 0) => tdP m d (2 * i.val + c.val)))
  go q d c i := match q with
    | 0 => (inferInstance : BI.Storable (upEmb : UEmb _ 𝕄) (goP m d (2 * i.val + c.val)))
  td q d c i := match q with
    | 0 => (inferInstance : BI.Storable (upEmb : UEmb _ 𝕄) (tdP m d (2 * i.val + c.val)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gk (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-- The sequencer hands its tasks what it was given, and their results back. -/
theorem vecSplit : (K (F := F)).VecSplit' (P m) 0 := by
  intro d c
  show (bigSep Finset.univ fun i : Fin ((K (F := F)).nSub 0) => goP m d (2 * i.val + c.val)) ⊢ |={Set.univ}=> iprop(
      (bigSep Finset.univ fun i : Fin ((K (F := F)).nSub 0) => goP m d (2 * i.val + c.val))
      ∗ ((bigSep Finset.univ fun i : Fin ((K (F := F)).nSub 0) => tdP m d (2 * i.val + c.val))
          -∗ (bigSep Finset.univ fun i : Fin ((K (F := F)).nSub 0) => tdP m d (2 * i.val + c.val))))
  iintro H; imodintro
  isplitl [H]; · iexact H
  iintro H; iexact H

/-! ## The whole arrays dealt to the tiles -/

/-- The tiles' numbers are those below 32, core by core. -/
theorem tiles_eq (Φ : ℕ → sProp 𝕄) :
    (bigSep (Finset.range 32) Φ) = bigSep Finset.univ fun c : Fin ((K (F := F)).nCore 0) => bigSep Finset.univ fun i : Fin ((K (F := F)).nSub 0) => Φ (2 * i.val + c.val) := by
  have e : (Finset.range 32) = ((Finset.univ : Finset (Fin 2)) ×ˢ (Finset.univ : Finset (Fin 16))).image (fun p => 2 * p.2.val + p.1.val) := by decide
  rw [e, SparseCore.bigSep_image_of_injOn (f := fun p : Fin 2 × Fin 16 => 2 * p.2.val + p.1.val) (fun a _ b _ h => by
    have h' : 2 * a.2.val + a.1.val = 2 * b.2.val + b.1.val := h
    have ha := a.1.isLt; have hb := b.1.isLt
    exact Prod.ext (Fin.ext (by omega)) (Fin.ext (by omega))), SparseCore.bigSep_product]

/-- The result's rows are its thirty-two blocks'. -/
theorem oPts_tiles (d : Dev nD) (f : Buf (Elt F) (oLoc d)) :
    (oLoc d ↦{fullShare} f : sProp 𝕄) = bigSep (Finset.range 32) fun w => oPts d w f := by
  have hc : (Finset.range 32).biUnion tileSet = Finset.univ := by
    ext y
    simp only [tileSet, Finset.mem_biUnion, Finset.mem_range, Finset.mem_filter, Finset.mem_univ, true_and, iff_true]
    refine ⟨(y 0).val / 2048, ?_, rfl⟩
    have : (y 0).val < 65536 := (y 0).isLt
    omega
  have hd : ∀ w ∈ Finset.range 32, ∀ w' ∈ Finset.range 32, w ≠ w' → Disjoint (tileSet w) (tileSet w') := by
    intro w _ w' _ h
    rw [Finset.disjoint_left]
    intro y h1 h2
    simp only [tileSet, Finset.mem_filter, Finset.mem_univ, true_and] at h1 h2
    exact h (h1.symm.trans h2)
  unfold oPts
  rw [← pointsTo_biUnion (Finset.range 32) (ℓ := oLoc d) tileSet hd, hc]

theorem deal (d : Dev nD) (f : Buf (Elt F) (oLoc d)) :
    iprop((tLoc d ↦{fullShare} m (tLoc d)) ∗ (iLoc d ↦{fullShare} m (iLoc d)) ∗ oLoc d ↦{fullShare} f)
      = (bigSep Finset.univ fun c : Fin ((K (F := F)).nCore 0) => bigSep Finset.univ fun i : Fin ((K (F := F)).nSub 0) =>
          iprop(tPts m d (2 * i.val + c.val) ∗ iPts m d (2 * i.val + c.val) ∗ oPts d (2 * i.val + c.val) f) : sProp 𝕄) := by
  rw [← tiles_eq (F := F) (fun w => iprop(tPts m d w ∗ iPts m d w ∗ oPts d w f)), bigSep_sep', bigSep_sep', oPts_tiles,
    pointsTo_cut Finset.univ (m (tLoc d)) 5 fullShare, pointsTo_cut Finset.univ (m (iLoc d)) 5 fullShare]
  rfl

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((tLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 := iprop((tLoc d ↦{fullShare} m (tLoc d)) ∗ (iLoc d ↦{fullShare} m (iLoc d)) ∗ oLoc d ↦{fullShare} gath m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hall, Hts, -⟩, -⟩
  iapply ((K (F := F)).wp_run (D (F := F)) 𝒱 (EH := EH) (P := P m) κ d 0) $$ [Hst Hall Hb Hts]
  isplitr; · iexact Hctx
  isplitl [Hst]; · iexact Hst
  isplitl [Hall]
  · iapply (Entails.of_eq (deal m d (m (oLoc d)))); iexact Hall
  iintro ⟨Hst, Hdn⟩
  ihave Hdn' := (Entails.of_eq (show (bigSep Finset.univ fun c : Fin ((K (F := F)).nCore 0) => (P m).dn 0 d c) = _ from (deal m d (gath m d)).symm)) $$ Hdn
  imodintro
  isplitl [Hst]; · iexact Hst
  isplitr [Hb Hts]
  · iexact Hdn'
  isplitl [Hb] <;> iassumption

/-- The memory at the end: the arguments unchanged, the result the gathered rows. -/
def fq (d : Dev nD) (s' : Phys nD τ sig (Elt F)) : Prop :=
  s'.mem.mem (tLoc d) = m (tLoc d) ∧ s'.mem.mem (iLoc d) = m (iLoc d) ∧ s'.mem.mem (oLoc d) = gath m d

set_option maxRecDepth 16384 in
theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := gath m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (tLoc c) = m (tLoc c) ∧ r.2.mem (iLoc c) = m (iLoc c) ∧ r.2.mem (oLoc c) = gath m c) ∧ r.2.sem = fun _ => 0

theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The precondition and the frames -/

/-- A word that is at least zero and below 16384 as a signed word is its own value, below 16384. -/
theorem word_lt (v : BitVec 32) (e : IntOp.andi (IntOp.cmpi .sge v 0#32) (IntOp.cmpi .slt v 16384#32) = 1#1) : v.toNat < 16384 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, as it prints, says that every row number is in the table. -/
theorem words_ok (t : S16384x128.Idx → Elt F .f32) (ix : S65536.Idx → BitVec 32)
    (h : Cert.Pre_rows_in_table.fn (F := F) t ix = fun _ => 1#1) (j : S65536.Idx) : (ix j).toNat < 16384 := by
  have e := congrFun h j
  simp only [Cert.Pre_rows_in_table.fn, andi, cmpi, broadcastInDim, constantI] at e
  exact word_lt _ e

theorem frame_ideal : Cert.quiescent_GatherIdeal := fun m ρ hpre =>
  (θ_run Cert.GatherIdeal.defs _ _).mono (fun _ h => ⟨fun c => ⟨(h.1 c).1, (h.1 c).2.1⟩, h.2⟩)
    (run_main (F := Ideal) m ρ (fun d j => words_ok (F := Ideal) _ _ (hpre d) j))

theorem frame_kernel : Cert.quiescent_Gather := fun m ρ hpre =>
  (θ_run Cert.GatherIdeal.defs _ _).mono (fun _ h => ⟨fun c => ⟨(h.1 c).1, (h.1 c).2.1⟩, h.2⟩)
    (run_main (F := Bits) m ρ (fun d j => words_ok (F := Bits) _ _ (hpre d) j))

end Cert.Proof.Gather

end
-- ==== Proof.GatherRows.lean ====
/-
  The plain indexing `table[index]` of the reference read at an index, and the two sides' agreement.
-/
module

public import proofs.«01_k».proof.Proof.GatherLaunch
public import proofs.«01_k».proof.Proof.Gen.GatherReferenceIdeal.Run
public import Idealize.ShloMosaic.Lib.Routing.Ops

@[expose] public section

noncomputable section

namespace Cert.Proof.Gather

open Idealize.ShloMosaic Idealize.SL.Sem
open Idealize.ShloMosaic.ValueIdx

/-- Where every row number is in the table, the reference's wrapped index is the row number itself. -/
theorem wrapped (v : BitVec 32) (h : v.toNat < 16384) : Scalar.select (IntOp.cmpi .slt v 0#32) (IntOp.addi v 16384#32) v = v := by
  have e : IntOp.cmpi .slt v 0#32 = 0#1 := by
    simp only [IntOp.cmpi, BitVec.slt_eq_decide, BitVec.toInt_eq_toNat_cond, BitVec.toNat_ofNat]
    rw [decide_eq_false (by omega)]; rfl
  rw [e]; rfl

/-- The reference's gather takes the rows that the indices name. -/
theorem gather_rows {F : FTy → Type} (t : (⟨2, ![16384, 128]⟩ : Shape).Idx → Elt F .f32) (ix : (⟨1, ![65536]⟩ : Shape).Idx → BitVec 32)
    (ws : (⟨2, ![65536, 1]⟩ : Shape).Idx → BitVec 32) (hw : ∀ c : Fin 65536, ws (ix2 c (0 : Fin 1)) = ix (ix1 c))
    (h : ∀ j, (ix j).toNat < 16384) :
    Host.gather Cert.GatherReferenceIdeal.gather_S16384x128_S65536x1_S65536x128_1_0_n_n_0_1_1128 t ws = rowsOf (F := F) (e := .f32) t ix := by
  funext y
  have hy := h (ix1 (n := 65536) (y 0))
  rw [show y = ix2 (n0 := 65536) (n1 := 128) (y 0) (y 1) from eq_ix2 y]
  refine (Routing.gather_row _ rfl rfl rfl rfl rfl t ws (y 0) (y 1) ⟨(ix (ix1 (n := 65536) (y 0))).toNat, hy⟩ ?_ (by norm_num)).trans ?_
  · exact (hw (y 0)).trans (BitVec.eq_of_toNat_eq (by rw [BitVec.toNat_ofNat]; exact (Nat.mod_eq_of_lt (ix (ix1 (n := 65536) (y 0))).isLt).symm))
  · refine congrArg t ?_
    refine congrArg (fun r : Fin 16384 => ix2 (n0 := 16384) (n1 := 128) r (y 1)) (Fin.ext ?_)
    show (ix (ix1 (n := 65536) (y 0))).toNat = min (ix (ix1 (n := 65536) (y 0))).toNat 16383
    omega

theorem frame_ref : Cert.quiescent_GatherReferenceIdeal := fun m ρ _ =>
  (θ_run Cert.GatherReferenceIdeal.defs _ _).mono (fun r h => ⟨fun c => (h c).2, sem_eq_zero_of_no_sems (by decide) r.2⟩)
    (Cert.GatherReferenceIdeal.Value.run (F := Ideal) m ρ)

theorem frame_ref_pre : Cert.quiescent_GatherReferenceIdeal_pre_rows_in_table := fun m ρ _ =>
  (θ_run Cert.GatherReferenceIdeal.defs _ _).mono (fun r h => ⟨fun c => (h c).2, sem_eq_zero_of_no_sems (by decide) r.2⟩)
    (Cert.GatherReferenceIdeal.Value.run (F := Ideal) m ρ)

/-- The two programs return the same rows. -/
theorem algebraic : Cert.algebraic_GatherIdeal_GatherReferenceIdeal := by
  intro m ρ m' ρ' hpre hag
  have hok : PreOK m := fun d j => words_ok (F := Ideal) _ _ (hpre d) j
  refine ⟨fun c => gath m c, ?_, ?_⟩
  · exact (θ_run Cert.GatherIdeal.defs _ _).mono (fun _ h c => ⟨(h.1 c).2.2, (h.1 c).1, (h.1 c).2.1⟩) (run_main (F := Ideal) m ρ hok)
  · refine (θ_run Cert.GatherReferenceIdeal.defs _ _).mono (fun r h c => ⟨?_, (h c).2⟩) (Cert.GatherReferenceIdeal.Value.run (F := Ideal) m' ρ')
    refine (h c).1.trans ?_
    rw [(hag c).1, (hag c).2]
    refine gather_rows _ (m (iLoc c)) _ (fun j => ?_) (hok c)
    exact (congrFun (show _ = fun i => Scalar.select (IntOp.cmpi .slt (m (iLoc c) i) 0#32) (IntOp.addi (m (iLoc c) i) 16384#32) (m (iLoc c) i) from rfl) _).trans
      ((wrapped _ (hok c _)).trans (congrArg _ (funext fun a => by match a with | ⟨0, _⟩ => rfl)))

end Cert.Proof.Gather

end
-- ==== Proof.TableCall.lean ====
/- The table of products: both programs write the same two sums at every point and channel. -/
module

public import proofs.«01_k».proof.Defs
public import proofs.«01_k».proof.Proof.Gen.Table.Frame
public import proofs.«01_k».proof.Proof.Gen.TableIdeal.Value
public import proofs.«01_k».proof.Proof.Gen.TableReferenceIdeal.Run
public import Idealize.ShloMosaic.Lib.Pipeline.ValueKit
public import Idealize.ShloMosaic.Lib.Pointwise
public import Idealize.ShloMosaic.Adequacy
public import Idealize.ShloMosaic.Init

@[expose] public section

noncomputable section

namespace Cert.Proof.Table

open Idealize.ShloMosaic Idealize.ShloMosaic.TcCoe Idealize.ShloMosaic.StableHlo
open Idealize.SL Idealize.SL.Sem

section
open Cert.TableIdeal Cert.TableIdeal.Gen

/-- The row of the table for batch `b` and point `n` at channel `d`. -/
def row (p : FVec Ideal S2x3x8192 .f32) (f : FVec Ideal S2x128x8192 .f32) (w : FVec Ideal S131x128 .f32) : FVec Ideal S2x8192x128 .f32 := fun i =>
  ((∑ k : Fin 128, f (ix3 (i 0) k (i 1)) * w (ix2 (⟨3 + k.val, by omega⟩ : Fin 131) (i 2)) : EReal)
    + ∑ k : Fin 3, p (ix3 (i 0) k (i 1)) * w (ix2 (⟨k.val, by omega⟩ : Fin 131) (i 2)) : EReal)

set_option maxRecDepth 65536 in
theorem pay1_at (v0 : FVec Ideal S1x3x8192 .f32) (v2 : FVec Ideal S1x128x8192 .f32) (v4 : FVec Ideal S128x128 .f32) (v7 : FVec Ideal S3x128 .f32)
    (n : Fin 8192) (d : Fin 128) : k0_pay1 (F := Ideal) v0 v2 v4 v7 (ix3 (0 : Fin 1) n d)
      = ((∑ k : Fin 128, v2 (ix3 (0 : Fin 1) k n) * v4 (ix2 k d) : EReal) + ∑ k : Fin 3, v0 (ix3 (0 : Fin 1) k n) * v7 (ix2 k d) : EReal) := by
  unfold k0_pay1
  pointwise

variable (m : (ℓ : Loc nD τ sig) → Buf (Elt Ideal) ℓ)

theorem fetch0 (c : Dev nD) (t : Fin cfg0.N) (b : Fin 2) (hb : win0_0.index t 0 = b.val) (a : Fin 3) (n : Fin 8192) :
    iblk m c 0 t (ix3 (0 : Fin 1) a n) = (V m c main_arg0 : FVec Ideal S2x3x8192 .f32) (ix3 b a n) := by
  show (V m c main_arg0 : FVec Ideal S2x3x8192 .f32) (((View.whole main_arg0).slice (win0_0.rect t)).emb (ix3 (0 : Fin 1) a n)) = _
  refine congrArg (V m c main_arg0 : FVec Ideal S2x3x8192 .f32) (funext fun d => Fin.ext ?_)
  blk_simp
  have hi := (by decide +kernel : ∀ t : Fin grid0.N, win0_0.index t 1 = 0 ∧ win0_0.index t 2 = 0) t
  match d with
  | ⟨0, _⟩ => exact (congrArg (· * 1 + 0) hb).trans (Nat.mul_one _)
  | ⟨1, _⟩ => exact (congrArg (· * 3 + a.val) hi.1).trans (Nat.zero_add _)
  | ⟨2, _⟩ => exact (congrArg (· * 8192 + n.val) hi.2).trans (Nat.zero_add _)

theorem fetch1 (c : Dev nD) (t : Fin cfg0.N) (b : Fin 2) (hb : win0_1.index t 0 = b.val) (a : Fin 128) (n : Fin 8192) :
    iblk m c 1 t (ix3 (0 : Fin 1) a n) = (V m c main_arg1 : FVec Ideal S2x128x8192 .f32) (ix3 b a n) := by
  show (V m c main_arg1 : FVec Ideal S2x128x8192 .f32) (((View.whole main_arg1).slice (win0_1.rect t)).emb (ix3 (0 : Fin 1) a n)) = _
  refine congrArg (V m c main_arg1 : FVec Ideal S2x128x8192 .f32) (funext fun d => Fin.ext ?_)
  blk_simp
  have hi := (by decide +kernel : ∀ t : Fin grid0.N, win0_1.index t 1 = 0 ∧ win0_1.index t 2 = 0) t
  match d with
  | ⟨0, _⟩ => exact (congrArg (· * 1 + 0) hb).trans (Nat.mul_one _)
  | ⟨1, _⟩ => exact (congrArg (· * 128 + a.val) hi.1).trans (Nat.zero_add _)
  | ⟨2, _⟩ => exact (congrArg (· * 8192 + n.val) hi.2).trans (Nat.zero_add _)

theorem fetch2 (c : Dev nD) (t : Fin cfg0.N) (a : Fin 3) (d : Fin 128) :
    iblk m c 2 t (ix2 a d) = (V m c main_v0 : FVec Ideal S3x128 .f32) (ix2 a d) := by
  show (V m c main_v0 : FVec Ideal S3x128 .f32) (((View.whole main_v0).slice (win0_2.rect t)).emb (ix2 a d)) = _
  refine congrArg (V m c main_v0 : FVec Ideal S3x128 .f32) (funext fun x => Fin.ext ?_)
  blk_simp
  have hi := (by decide +kernel : ∀ t : Fin grid0.N, win0_2.index t 0 = 0 ∧ win0_2.index t 1 = 0) t
  match x with
  | ⟨0, _⟩ => exact (congrArg (· * 3 + a.val) hi.1).trans (Nat.zero_add _)
  | ⟨1, _⟩ => exact (congrArg (· * 128 + d.val) hi.2).trans (Nat.zero_add _)

theorem fetch3 (c : Dev nD) (t : Fin cfg0.N) (a : Fin 128) (d : Fin 128) :
    iblk m c 3 t (ix2 a d) = (V m c main_v1 : FVec Ideal S128x128 .f32) (ix2 a d) := by
  show (V m c main_v1 : FVec Ideal S128x128 .f32) (((View.whole main_v1).slice (win0_3.rect t)).emb (ix2 a d)) = _
  refine congrArg (V m c main_v1 : FVec Ideal S128x128 .f32) (funext fun x => Fin.ext ?_)
  blk_simp
  have hi := (by decide +kernel : ∀ t : Fin grid0.N, win0_3.index t 0 = 0 ∧ win0_3.index t 1 = 0) t
  match x with
  | ⟨0, _⟩ => exact (congrArg (· * 128 + a.val) hi.1).trans (Nat.zero_add _)
  | ⟨1, _⟩ => exact (congrArg (· * 128 + d.val) hi.2).trans (Nat.zero_add _)

set_option maxRecDepth 65536 in
theorem top_rows (c : Dev nD) (a : Fin 3) (d : Fin 128) : (V m c main_v0 : FVec Ideal S3x128 .f32) (ix2 a d)
    = (m ((c.tc : Thread nD τ).loc main_arg2) : FVec Ideal S131x128 .f32) (ix2 (⟨a.val, by omega⟩ : Fin 131) d) := by
  have e : V m c main_v0 = (extractStridedSlice S3x128 ![0, 0] (m ((c.tc : Thread nD τ).loc main_arg2)) slices_S131x128_S3x128_0_0 : FVec Ideal S3x128 .f32) := by
    simp only [V, hostOps0]
    after_results
  refine (congrFun e _).trans ?_
  pointwise

set_option maxRecDepth 65536 in
theorem low_rows (c : Dev nD) (a : Fin 128) (d : Fin 128) : (V m c main_v1 : FVec Ideal S128x128 .f32) (ix2 a d)
    = (m ((c.tc : Thread nD τ).loc main_arg2) : FVec Ideal S131x128 .f32) (ix2 (⟨3 + a.val, by omega⟩ : Fin 131) d) := by
  have e : V m c main_v1 = (extractStridedSlice S128x128 ![3, 0] (m ((c.tc : Thread nD τ).loc main_arg2)) slices_S131x128_S128x128_3_0 : FVec Ideal S128x128 .f32) := by
    simp only [V, hostOps0]
    after_results
  refine (congrFun e _).trans ?_
  pointwise

theorem kernel_at (c : Dev nD) : (dats m 0 c).arrAt 4 cfg0.N
    = row (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  frame_out
  obtain ⟨n, d, rfl⟩ : ∃ (n : Fin 8192) (d : Fin 128), y = ix3 (0 : Fin 1) n d := ⟨y 1, y 2, funext fun d => by
    match d with
    | ⟨0, _⟩ => exact Subsingleton.elim (α := Fin 1) _ _
    | ⟨1, _⟩ => rfl
    | ⟨2, _⟩ => rfl⟩
  obtain ⟨b, hb, hb0, hb1, h1, h2⟩ := (by decide +kernel : ∀ t : Fin grid0.N, ∃ b : Fin 2, win0_4.index t 0 = b.val ∧ win0_0.index t 0 = b.val
    ∧ win0_1.index t 0 = b.val ∧ win0_4.index t 1 = 0 ∧ win0_4.index t 2 = 0) t
  have hE : (((View.whole main_v2).slice (win0_4.rect t)).emb (ix3 (0 : Fin 1) n d) : S2x8192x128.Idx) = ix3 b n d := funext fun x => Fin.ext (by
    blk_simp
    match x with
    | ⟨0, _⟩ => exact (congrArg (· * 1 + 0) hb).trans (Nat.mul_one _)
    | ⟨1, _⟩ => exact (congrArg (· * 8192 + n.val) h1).trans (Nat.zero_add _)
    | ⟨2, _⟩ => exact (congrArg (· * 128 + d.val) h2).trans (Nat.zero_add _))
  refine (pay1_at _ _ _ _ n d).trans ?_
  refine Eq.trans ?_ (congrArg (row _ _ _) hE).symm
  refine congrArg₂ (fun u v : EReal => u + v) (Finset.sum_congr (M := EReal) rfl fun k _ => congrArg₂ (fun u v : EReal => u * v) ?_ ?_)
    (Finset.sum_congr (M := EReal) rfl fun k _ => congrArg₂ (fun u v : EReal => u * v) ?_ ?_)
  · exact (fetch1 m c t b hb1 k n).trans (congrFun (V_main_arg1 m c) _)
  · exact (fetch3 m c t k d).trans (low_rows m c k d)
  · exact (fetch0 m c t b hb0 k n).trans (congrFun (V_main_arg0 m c) _)
  · exact (fetch2 m c t k d).trans (top_rows m c k d)

end
section
open Cert.TableReferenceIdeal Cert.TableReferenceIdeal.Gen Cert.TableReferenceIdeal.Value

set_option maxRecDepth 65536 in
theorem reference_at (p : FVec Ideal S2x3x8192 .f32) (f : FVec Ideal S2x128x8192 .f32) (w : FVec Ideal S131x128 .f32) :
   (addf (Host.dotGeneral dot_S2x128x8192_S128x128_S2x8192x128_1_0_02_1_n_n none f (extractStridedSlice S128x128 ![3, 0] w slices_S131x128_S128x128_3_0)) (Host.dotGeneral dot_S2x3x8192_S3x128_S2x8192x128_1_0_02_1_n_n none p (extractStridedSlice S3x128 ![0, 0] w slices_S131x128_S3x128_0_0))
    : FVec Ideal S2x8192x128 .f32) = row p f w := by
  funext i
  obtain ⟨b, n, d, rfl⟩ : ∃ (b : Fin 2) (n : Fin 8192) (d : Fin 128), i = ix3 b n d := ⟨i 0, i 1, i 2, funext fun d => by
        match d with
        | ⟨0, _⟩ => rfl
        | ⟨1, _⟩ => rfl
        | ⟨2, _⟩ => rfl⟩
  unfold row
  pointwise
end

theorem frame_table : Cert.quiescent_Table := fun m ρ _ => Cert.Table.Gen.frame m ρ

theorem frame_tableIdeal : Cert.quiescent_TableIdeal := fun m ρ _ => Cert.TableIdeal.Gen.frame m ρ

theorem frame_tableReference : Cert.quiescent_TableReferenceIdeal := fun m ρ _ =>
  (θ_run Cert.TableReferenceIdeal.defs _ _).mono (fun r h => ⟨fun c => (h c).2, sem_eq_zero_of_no_sems (by decide) r.2⟩)
    (Cert.TableReferenceIdeal.Value.run m ρ)

/-- The two programs write the same table. -/
theorem algebraic : Cert.algebraic_TableIdeal_TableReferenceIdeal := by
  intro m ρ m' ρ' _ hag
  refine ⟨fun c => row (m ((c.tc : Thread _ _).loc Cert.TableIdeal.main_arg0)) (m ((c.tc : Thread _ _).loc Cert.TableIdeal.main_arg1))
    (m ((c.tc : Thread _ _).loc Cert.TableIdeal.main_arg2)), ?_, ?_⟩
  · exact (θ_run Cert.TableIdeal.defs _ _).mono (fun r h c => ⟨(h c).1.trans (kernel_at m c), (h c).2⟩) (Cert.TableIdeal.Value.run_blocks m ρ)
  · refine (θ_run Cert.TableReferenceIdeal.defs _ _).mono (fun r h c => ⟨(h c).1.trans ((reference_at _ _ _).trans ?_), (h c).2⟩)
      (Cert.TableReferenceIdeal.Value.run m' ρ')
    rw [(hag c).1, (hag c).2.1, (hag c).2.2]

end Cert.Proof.Table

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Pre_finite_inputs
public import proofs.«01_k».proof.Proof.Gen.Sample.Frame
public import proofs.«01_k».proof.Proof.Gen.SampleIdeal.Value
public import proofs.«01_k».proof.Proof.Gen.SampleReferenceIdeal.Run
public import proofs.«01_k».proof.Proof.Gen.Near.Frame
public import proofs.«01_k».proof.Proof.Gen.NearIdeal.Value
public import proofs.«01_k».proof.Proof.Gen.NearReferenceIdeal.Run
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal.Run
public import proofs.«01_k».proof.Proof.Gen.Pre_rows_in_table
public import proofs.«01_k».proof.Proof.Gen.Table.Frame
public import proofs.«01_k».proof.Proof.Gen.TableIdeal.Value
public import proofs.«01_k».proof.Proof.Gen.TableReferenceIdeal.Run
public import proofs.«01_k».proof.Proof.Whole
public import proofs.«01_k».proof.Proof.Sampling
public import proofs.«01_k».proof.Proof.Nearby
public import proofs.«01_k».proof.Proof.GatherRows
public import proofs.«01_k».proof.Proof.TableCall
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  Cert.Sample.Gen.facts, Cert.SampleIdeal.Gen.facts, Cert.SampleReferenceIdeal.Gen.facts,
  Cert.Near.Gen.facts, Cert.NearIdeal.Gen.facts, Cert.NearReferenceIdeal.Gen.facts,
  Cert.Gather.Gen.facts, Cert.GatherIdeal.Gen.facts, Cert.GatherReferenceIdeal.Gen.facts,
  Cert.Table.Gen.facts, Cert.TableIdeal.Gen.facts, Cert.TableReferenceIdeal.Gen.facts,
  Cert.Pre_finite_inputs.Gen.facts, Cert.Pre_rows_in_table.Gen.facts,
  Tail.frame_kernel, Tail.frame_ideal, Tail.frame_ideal_pre, Tail.frame_reference, Tail.frame_reference_pre,
  Taken.frame_sample, Taken.frame_sampleIdeal, Taken.frame_sampleReference,
  Nearby.frame_near, Nearby.frame_nearIdeal, Nearby.frame_nearReference,
  Gather.frame_kernel, Gather.frame_ideal, Gather.frame_ref, Gather.frame_ref_pre,
  Table.frame_table, Table.frame_tableIdeal, Table.frame_tableReference,
  trivial, Tail.algebraic, trivial, Taken.algebraic, trivial, Nearby.algebraic,
  trivial, Gather.algebraic, trivial, Table.algebraic⟩

end Cert.Proof

end
